-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v278)) (v1 : (c : Dev Cert.Kernel2Ideal.nD) → Buf (Elt Ideal) ((c.tc : Thread Cert.Kernel2Ideal.nD Cert.Kernel2Ideal.τ).loc Cert.Kernel2Ideal.main_v282)) (v2 : (c : Dev Cert.Kernel2Ideal.nD) → Buf (Elt Ideal) ((c.tc : Thread Cert.Kernel2Ideal.nD Cert.Kernel2Ideal.τ).loc Cert.Kernel2Ideal.main_v284)) (v3 : (c : Dev Cert.Kernel2Ideal.nD) → Buf (Elt Ideal) ((c.tc : Thread Cert.Kernel2Ideal.nD Cert.Kernel2Ideal.τ).loc Cert.Kernel2Ideal.main_v274)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v278) = v0 c
          ∧ r.2.mem ((c.tc : Thread Cert.Kernel2Ideal.nD Cert.Kernel2Ideal.τ).loc Cert.Kernel2Ideal.main_v282) = v1 c
          ∧ r.2.mem ((c.tc : Thread Cert.Kernel2Ideal.nD Cert.Kernel2Ideal.τ).loc Cert.Kernel2Ideal.main_v284) = v2 c
          ∧ r.2.mem ((c.tc : Thread Cert.Kernel2Ideal.nD Cert.Kernel2Ideal.τ).loc Cert.Kernel2Ideal.main_v274) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v304) = v0 c
          ∧ r.2.mem ((c.tc : Thread Cert.Reference2Ideal.nD Cert.Reference2Ideal.τ).loc Cert.Reference2Ideal.main_v302) = v1 c
          ∧ r.2.mem ((c.tc : Thread Cert.Reference2Ideal.nD Cert.Reference2Ideal.τ).loc Cert.Reference2Ideal.main_v300) = v2 c
          ∧ r.2.mem ((c.tc : Thread Cert.Reference2Ideal.nD Cert.Reference2Ideal.τ).loc Cert.Reference2Ideal.main_v298) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v86) = v0 c
          ∧ r.2.mem ((c.tc : Thread Cert.Reference11Ideal.nD Cert.Reference11Ideal.τ).loc Cert.Reference11Ideal.main_v83) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite9 : Cert.Pre_finite9.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v16 : IVec S_ 1) (main_v17 : FVec F S8192x2816 .f32) : IVec S_ 1 :=
  let main_v18 : FVec F S8192x2816 .f32 := Host.absf main_v17
  let main_cst_4 : FVec F S_ .f32 := constant S_ .f32 0x7F800000#32
  let main_v19 : FVec F S8192x2816 .f32 := broadcastInDim S8192x2816 ![] bcast_S_S8192x2816 main_cst_4
  let main_v20 : IVec S8192x2816 1 := cmpf .olt main_v18 main_v19
  let main_c_5 : IVec S_ 1 := constantI S_ 1 1#1
  let main_v21 : IVec S_ 1 := (fun x v => Host.reduce IntOp.andi x v reducesTo_S8192x2816_S_d0_1 h_S_) main_v20 main_c_5
  let main_v22 : IVec S_ 1 := andi main_v16 main_v21
  main_v22

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg2
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  let main_v17 : FVec F S8192x2816 .f32 := (extf .f32 · bitsLt_bf16_f32) main_arg3
  fn_part1 (F := F) main_v16 main_v17
-- ==== Pre_finite10.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3200 : S_.BroadcastsInDim S8192x3200 (![] : Fin 0 → Fin S8192x3200.rank)
  reducesTo_S8192x3200_S_d0_1 : S8192x3200.ReducesTo [0, 1] S_
  h_S_ : 0 < S_.numel
  bcast_S_S3200x1024 : S_.BroadcastsInDim S3200x1024 (![] : Fin 0 → Fin S3200x1024.rank)
  reducesTo_S3200x1024_S_d0_1 : S3200x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .bf16) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S8192x1024 .f32 := (extf .f32 · bitsLt_bf16_f32) main_arg4
  let main_v23 : FVec F S8192x1024 .f32 := Host.absf main_v22
  let main_cst_6 : FVec F S_ .f32 := constant S_ .f32 0x7F800000#32
  let main_v24 : FVec F S8192x1024 .f32 := broadcastInDim S8192x1024 ![] bcast_S_S8192x1024 main_cst_6
  let main_v25 : IVec S8192x1024 1 := cmpf .olt main_v23 main_v24
  let main_c_7 : IVec S_ 1 := constantI S_ 1 1#1
  let main_v26 : IVec S_ 1 := (fun x v => Host.reduce IntOp.andi x v reducesTo_S8192x1024_S_d0_1 h_S_) main_v25 main_c_7
  let main_v27 : IVec S_ 1 := andi main_v21 main_v26
  main_v27

def fn {F : FTy → Type} [FloatOps F] (main_arg0 : FVec F S8192x3200 .bf16) (main_arg1 : FVec F S3200x1024 .bf16) (main_arg2 : FVec F S8192x1024 .bf16) (main_arg3 : FVec F S1x1024 .f32) (main_arg4 : FVec F S8192x1024 .bf16) : IVec S_ 1 :=
  let main_v0 : FVec F S8192x3200 .f32 := (extf .f32 · bitsLt_bf16_f32) main_arg0
  let main_v1 : FVec F S8192x3200 .f32 := Host.absf main_v0
  let main_cst : FVec F S_ .f32 := constant S_ .f32 0x7F800000#32
  let main_v2 : FVec F S8192x3200 .f32 := broadcastInDim S8192x3200 ![] bcast_S_S8192x3200 main_cst
  let main_v3 : IVec S8192x3200 1 := cmpf .olt main_v1 main_v2
  let main_c : IVec S_ 1 := constantI S_ 1 1#1
  let main_v4 : IVec S_ 1 := (fun x v => Host.reduce IntOp.andi x v reducesTo_S8192x3200_S_d0_1 h_S_) main_v3 main_c
  let main_v5 : FVec F S3200x1024 .f32 := (extf .f32 · bitsLt_bf16_f32) main_arg1
  let main_v6 : FVec F S3200x1024 .f32 := Host.absf main_v5
  let main_cst_0 : FVec F S_ .f32 := constant S_ .f32 0x7F800000#32
  let main_v7 : FVec F S3200x1024 .f32 := broadcastInDim S3200x1024 ![] bcast_S_S3200x1024 main_cst_0
  let main_v8 : IVec S3200x1024 1 := cmpf .olt main_v6 main_v7
  let main_c_1 : IVec S_ 1 := constantI S_ 1 1#1
  let main_v9 : IVec S_ 1 := (fun x v => Host.reduce IntOp.andi x v reducesTo_S3200x1024_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S1x1024 .f32 := Host.absf main_arg3
  fn_part1 (F := F) main_arg4 main_v16 main_v17
-- ==== Pre_finite11.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  main_v21

def fn {F : FTy → Type} [FloatOps F] (main_arg0 : FVec F S8192x1024 .bf16) (main_arg1 : FVec F S1024x1024 .bf16) (main_arg2 : FVec F S8192x1024 .bf16) (main_arg3 : FVec F S1x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S1x1024 .f32 := Host.absf main_arg3
  fn_part1 (F := F) main_v16 main_v17
-- ==== Pre_finite2.lean ====
abbrev S4x2048x16x64 : Shape := ⟨4, ![4, 2048, 16, 64]⟩
abbrev S4x2048x8 : Shape := ⟨3, ![4, 2048, 8]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn_part1 {F : FTy → Type} [FloatOps F] (main_arg4 : FVec F S4x2048x16x64 .f32) (main_v13 : IVec S_ 1) (main_v16 : IVec S4x2048x8 1) : IVec S_ 1 :=
  let main_c_5 : IVec S_ 1 := constantI S_ 1 1#1
  let main_v17 : IVec S_ 1 := (fun x v => Host.reduce IntOp.andi x v reducesTo_S4x2048x8_S_d0_1_2 h_S_) main_v16 main_c_5
  let main_v18 : IVec S_ 1 := andi main_v13 main_v17
  let main_v19 : FVec F S4x2048x16x64 .f32 := Host.absf main_arg4
  let main_cst_6 : FVec F S_ .f32 := constant S_ .f32 0x7F800000#32
  let main_v20 : FVec F S4x2048x16x64 .f32 := broadcastInDim S4x2048x16x64 ![] bcast_S_S4x2048x16x64 main_cst_6
  let main_v21 : IVec S4x2048x16x64 1 := cmpf .olt main_v19 main_v20
  let main_c_7 : IVec S_ 1 := constantI S_ 1 1#1
  let main_v22 : IVec S_ 1 := (fun x v => Host.reduce IntOp.andi x v reducesTo_S4x2048x16x64_S_d0_1_2_3 h_S_) main_v21 main_c_7
  let main_v23 : IVec S_ 1 := andi main_v18 main_v22
  main_v23

def fn {F : FTy → Type} [FloatOps F] (main_arg0 : FVec F S4x2048x16x64 .f32) (main_arg1 : FVec F S4x2048x16x64 .f32) (main_arg2 : FVec F S4x2048x16x64 .f32) (main_arg3 : FVec F S4x2048x8 .f32) (main_arg4 : FVec F S4x2048x16x64 .f32) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : IVec S_ 1 := andi main_v8 main_v12
  let main_v14 : FVec F S4x2048x8 .f32 := Host.absf main_arg3
  let main_cst_4 : FVec F S_ .f32 := constant S_ .f32 0x7F800000#32
  let main_v15 : FVec F S4x2048x8 .f32 := broadcastInDim S4x2048x8 ![] bcast_S_S4x2048x8 main_cst_4
  let main_v16 : IVec S4x2048x8 1 := cmpf .olt main_v14 main_v15
  fn_part1 (F := F) main_arg4 main_v13 main_v16
-- ==== Pre_finite9.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .bf16) (main_arg5 : FVec F S8192x1024 .bf16) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S8192x1024 .f32 := (extf .f32 · bitsLt_bf16_f32) main_arg4
  let main_v23 : FVec F S8192x1024 .f32 := Host.absf main_v22
  let main_cst_6 : FVec F S_ .f32 := constant S_ .f32 0x7F800000#32
  let main_v24 : FVec F S8192x1024 .f32 := broadcastInDim S8192x1024 ![] bcast_S_S8192x1024 main_cst_6
  let main_v25 : IVec S8192x1024 1 := cmpf .olt main_v23 main_v24
  let main_c_7 : IVec S_ 1 := constantI S_ 1 1#1
  let main_v26 : IVec S_ 1 := (fun x v => Host.reduce IntOp.andi x v reducesTo_S8192x1024_S_d0_1 h_S_) main_v25 main_c_7
  let main_v27 : IVec S_ 1 := andi main_v21 main_v26
  let main_v28 : FVec F S8192x1024 .f32 := (extf .f32 · bitsLt_bf16_f32) main_arg5
  let main_v29 : FVec F S8192x1024 .f32 := Host.absf main_v28
  let main_cst_8 : FVec F S_ .f32 := constant S_ .f32 0x7F800000#32
  let main_v30 : FVec F S8192x1024 .f32 := broadcastInDim S8192x1024 ![] bcast_S_S8192x1024 main_cst_8
  let main_v31 : IVec S8192x1024 1 := cmpf .olt main_v29 main_v30
  let main_c_9 : IVec S_ 1 := constantI S_ 1 1#1
  let main_v32 : IVec S_ 1 := (fun x v => Host.reduce IntOp.andi x v reducesTo_S8192x1024_S_d0_1 h_S_) main_v31 main_c_9
  let main_v33 : IVec S_ 1 := andi main_v27 main_v32
  main_v33

def fn {F : FTy → Type} [FloatOps F] (main_arg0 : FVec F S8192x2816 .bf16) (main_arg1 : FVec F S2816x1024 .bf16) (main_arg2 : FVec F S8192x1024 .bf16) (main_arg3 : FVec F S1x1024 .f32) (main_arg4 : FVec F S8192x1024 .bf16) (main_arg5 : FVec F S8192x1024 .bf16) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S1x1024 .f32 := Host.absf main_arg3
  fn_part1 (F := F) main_arg4 main_arg5 main_v16 main_v17
-- ==== Kernel.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S4x2048x16x64 : Shape := ⟨4, ![4, 2048, 16, 64]⟩
abbrev S4x2048x8 : Shape := ⟨3, ![4, 2048, 8]⟩
abbrev S_ : Shape := ⟨0, ![]⟩
abbrev S4x2048x8x64 : Shape := ⟨4, ![4, 2048, 8, 64]⟩
abbrev S8x4x2048 : Shape := ⟨3, ![8, 4, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x4x2048x64 : Shape := ⟨4, ![8, 4, 2048, 64]⟩
abbrev S16x4x2048x64 : Shape := ⟨4, ![16, 4, 2048, 64]⟩
abbrev S16x4x2048 : Shape := ⟨3, ![16, 4, 2048]⟩
abbrev S4x2048x16 : Shape := ⟨3, ![4, 2048, 16]⟩
abbrev S8192x8x1 : Shape := ⟨3, ![8192, 8, 1]⟩
abbrev S8192x8x3 : Shape := ⟨3, ![8192, 8, 3]⟩
abbrev S8192x8x6 : Shape := ⟨3, ![8192, 8, 6]⟩
abbrev S8192x16x64 : Shape := ⟨3, ![8192, 16, 64]⟩
abbrev S8192x8x2x64 : Shape := ⟨4, ![8192, 8, 2, 64]⟩
abbrev S8192x8x1x64 : Shape := ⟨4, ![8192, 8, 1, 64]⟩
abbrev S8192x8x64 : Shape := ⟨3, ![8192, 8, 64]⟩
abbrev S8192x8x256 : Shape := ⟨3, ![8192, 8, 256]⟩
abbrev S8192x2048 : Shape := ⟨2, ![8192, 2048]⟩
abbrev S8192x4096 : Shape := ⟨2, ![8192, 4096]⟩
abbrev S8192x1024 : Shape := ⟨2, ![8192, 1024]⟩
abbrev S8192x3072 : Shape := ⟨2, ![8192, 3072]⟩
abbrev S8192x16x1 : Shape := ⟨3, ![8192, 16, 1]⟩
abbrev S512 : Shape := ⟨1, ![512]⟩
abbrev S4 : Shape := ⟨1, ![4]⟩
abbrev S4x1x1 : Shape := ⟨3, ![4, 1, 1]⟩
abbrev S1x1x512 : Shape := ⟨3, ![1, 1, 512]⟩
abbrev S4x1x512 : Shape := ⟨3, ![4, 1, 512]⟩
abbrev S1x512x1 : Shape := ⟨3, ![1, 512, 1]⟩
abbrev S4x512x512 : Shape := ⟨3, ![4, 512, 512]⟩
abbrev S1x4x512x512 : Shape := ⟨4, ![1, 4, 512, 512]⟩
abbrev S2x4x512x512 : Shape := ⟨4, ![2, 4, 512, 512]⟩
abbrev S2048x256 : Shape := ⟨2, ![2048, 256]⟩
abbrev S2048x128 : Shape := ⟨2, ![2048, 128]⟩
abbrev S2x2048x128 : Shape := ⟨3, ![2, 2048, 128]⟩
abbrev S512x128 : Shape := ⟨2, ![512, 128]⟩
abbrev S128x512 : Shape := ⟨2, ![128, 512]⟩
abbrev S8x128 : Shape := ⟨2, ![8, 128]⟩
abbrev S8x512 : Shape := ⟨2, ![8, 512]⟩
abbrev S1x512 : Shape := ⟨2, ![1, 512]⟩
abbrev S512x512 : Shape := ⟨2, ![512, 512]⟩
abbrev S1x1x512x512 : Shape := ⟨4, ![1, 1, 512, 512]⟩
abbrev S256x128 : Shape := ⟨2, ![256, 128]⟩
abbrev S1x512x128 : Shape := ⟨3, ![1, 512, 128]⟩
abbrev S256x512 : Shape := ⟨2, ![256, 512]⟩
abbrev S1x1x256x512 : Shape := ⟨4, ![1, 1, 256, 512]⟩
abbrev S256x256 : Shape := ⟨2, ![256, 256]⟩
abbrev S1x1x256x256 : Shape := ⟨4, ![1, 1, 256, 256]⟩
abbrev S1x256 : Shape := ⟨2, ![1, 256]⟩
abbrev S128x256 : Shape := ⟨2, ![128, 256]⟩
abbrev S1x2048x128 : Shape := ⟨3, ![1, 2048, 128]⟩
abbrev S8192x4x2x1 : Shape := ⟨4, ![8192, 4, 2, 1]⟩
abbrev S8192x4x2 : Shape := ⟨3, ![8192, 4, 2]⟩
abbrev S8192x4x1 : Shape := ⟨3, ![8192, 4, 1]⟩
abbrev S8192x4 : Shape := ⟨2, ![8192, 4]⟩

abbrev nBuf : Space → Nat
  | .hbm => 375
  | .vmem => 26
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S4x2048x16x64, .f32⟩
  | 5 => ⟨S_, .f32⟩
  | 6 => ⟨S_, .f32⟩
  | 7 => ⟨S4x2048x8x64, .f32⟩
  | 8 => ⟨S4x2048x8x64, .f32⟩
  | 9 => ⟨S4x2048x8x64, .f32⟩
  | 10 => ⟨S8x4x2048, .f32⟩
  | 11 => ⟨S8x4x2048x1, .f32⟩
  | 12 => ⟨S8x4x1x2048, .f32⟩
  | 13 => ⟨S8x4x2048x2048, .f32⟩
  | 14 => ⟨S8x4x2048x2048, .f32⟩
  | 15 => ⟨S8x4x2048x2048, .f32⟩
  | 16 => ⟨S2048, .i32⟩
  | 17 => ⟨S2048x1, .i32⟩
  | 18 => ⟨S1x2048, .i32⟩
  | 19 => ⟨S2048x2048, .i32⟩
  | 20 => ⟨S2048x2048, .i32⟩
  | 21 => ⟨S2048x2048, .i32⟩
  | 22 => ⟨S_, .i32⟩
  | 23 => ⟨S2048x2048, .i32⟩
  | 24 => ⟨S2048x2048, .i1⟩
  | 25 => ⟨S8x4x2048x2048, .f32⟩
  | 26 => ⟨S_, .f32⟩
  | 27 => ⟨S8x4x2048x2048, .f32⟩
  | 28 => ⟨S8x4x2048x2048, .f32⟩
  | 29 => ⟨S8x4x2048x2048, .f32⟩
  | 30 => ⟨S1x1x2048x2048, .i1⟩
  | 31 => ⟨S8x4x2048x2048, .f32⟩
  | 32 => ⟨S_, .f32⟩
  | 33 => ⟨S_, .f32⟩
  | 34 => ⟨S8x4x2048x2048, .i1⟩
  | 35 => ⟨S8x4x2048x2048, .f32⟩
  | 36 => ⟨S8x4x2048x2048, .f32⟩
  | 37 => ⟨S_, .f32⟩
  | 38 => ⟨S8x4x2048, .f32⟩
  | 39 => ⟨S8x4x2048x64, .f32⟩
  | 40 => ⟨S8x4x2048x1, .f32⟩
  | 41 => ⟨S8x4x2048x64, .f32⟩
  | 42 => ⟨S8x4x2048x64, .f32⟩
  | 43 => ⟨S4x2048x8x64, .f32⟩
  | 44 => ⟨S4x2048x8x64, .f32⟩
  | 45 => ⟨S4x2048x8x64, .f32⟩
  | 46 => ⟨S2048, .i32⟩
  | 47 => ⟨S2048x1, .i32⟩
  | 48 => ⟨S1x2048, .i32⟩
  | 49 => ⟨S2048x2048, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S_, .i32⟩
  | 56 => ⟨S2048x2048, .i32⟩
  | 57 => ⟨S2048x2048, .i1⟩
  | 58 => ⟨S2048x2048, .i1⟩
  | 59 => ⟨S_, .i32⟩
  | 60 => ⟨S2048x2048, .i32⟩
  | 61 => ⟨S2048x2048, .i32⟩
  | 62 => ⟨S_, .i32⟩
  | 63 => ⟨S2048x2048, .i32⟩
  | 64 => ⟨S2048x2048, .i1⟩
  | 65 => ⟨S2048x2048, .i1⟩
  | 66 => ⟨S8x4x2048x2048, .f32⟩
  | 67 => ⟨S_, .f32⟩
  | 68 => ⟨S8x4x2048x2048, .f32⟩
  | 69 => ⟨S8x4x2048x2048, .f32⟩
  | 70 => ⟨S_, .f32⟩
  | 71 => ⟨S8x4x2048x2048, .f32⟩
  | 72 => ⟨S8x4x2048x2048, .f32⟩
  | 73 => ⟨S1x1x2048x2048, .i1⟩
  | 74 => ⟨S8x4x2048x2048, .f32⟩
  | 75 => ⟨S_, .f32⟩
  | 76 => ⟨S_, .f32⟩
  | 77 => ⟨S8x4x2048x2048, .i1⟩
  | 78 => ⟨S8x4x2048x2048, .f32⟩
  | 79 => ⟨S8x4x2048x2048, .f32⟩
  | 80 => ⟨S_, .f32⟩
  | 81 => ⟨S8x4x2048, .f32⟩
  | 82 => ⟨S8x4x2048x64, .f32⟩
  | 83 => ⟨S8x4x2048x1, .f32⟩
  | 84 => ⟨S8x4x2048x64, .f32⟩
  | 85 => ⟨S8x4x2048x64, .f32⟩
  | 86 => ⟨S_, .i32⟩
  | 87 => ⟨S2048x2048, .i32⟩
  | 88 => ⟨S2048x2048, .i1⟩
  | 89 => ⟨S_, .i32⟩
  | 90 => ⟨S2048x2048, .i32⟩
  | 91 => ⟨S2048x2048, .i1⟩
  | 92 => ⟨S2048x2048, .i1⟩
  | 93 => ⟨S_, .i32⟩
  | 94 => ⟨S2048x2048, .i32⟩
  | 95 => ⟨S2048x2048, .i32⟩
  | 96 => ⟨S_, .i32⟩
  | 97 => ⟨S2048x2048, .i32⟩
  | 98 => ⟨S2048x2048, .i1⟩
  | 99 => ⟨S2048x2048, .i1⟩
  | 100 => ⟨S8x4x2048x2048, .f32⟩
  | 101 => ⟨S_, .f32⟩
  | 102 => ⟨S8x4x2048x2048, .f32⟩
  | 103 => ⟨S8x4x2048x2048, .f32⟩
  | 104 => ⟨S_, .f32⟩
  | 105 => ⟨S8x4x2048x2048, .f32⟩
  | 106 => ⟨S8x4x2048x2048, .f32⟩
  | 107 => ⟨S1x1x2048x2048, .i1⟩
  | 108 => ⟨S8x4x2048x2048, .f32⟩
  | 109 => ⟨S_, .f32⟩
  | 110 => ⟨S_, .f32⟩
  | 111 => ⟨S8x4x2048x2048, .i1⟩
  | 112 => ⟨S8x4x2048x2048, .f32⟩
  | 113 => ⟨S8x4x2048x2048, .f32⟩
  | 114 => ⟨S_, .f32⟩
  | 115 => ⟨S8x4x2048, .f32⟩
  | 116 => ⟨S8x4x2048x64, .f32⟩
  | 117 => ⟨S8x4x2048x1, .f32⟩
  | 118 => ⟨S8x4x2048x64, .f32⟩
  | 119 => ⟨S8x4x2048x64, .f32⟩
  | 120 => ⟨S_, .i32⟩
  | 121 => ⟨S2048x2048, .i32⟩
  | 122 => ⟨S2048x2048, .i1⟩
  | 123 => ⟨S_, .i32⟩
  | 124 => ⟨S2048x2048, .i32⟩
  | 125 => ⟨S2048x2048, .i1⟩
  | 126 => ⟨S2048x2048, .i1⟩
  | 127 => ⟨S_, .i32⟩
  | _ => ⟨S4x2048x16x64, .f32⟩

abbrev hbmTy0_1 (i : Nat) : BufTy := match i % 128 with
  | 0 => ⟨S2048x2048, .i32⟩
  | 1 => ⟨S2048x2048, .i32⟩
  | 2 => ⟨S_, .i32⟩
  | 3 => ⟨S2048x2048, .i32⟩
  | 4 => ⟨S2048x2048, .i1⟩
  | 5 => ⟨S2048x2048, .i1⟩
  | 6 => ⟨S8x4x2048x2048, .f32⟩
  | 7 => ⟨S_, .f32⟩
  | 8 => ⟨S8x4x2048x2048, .f32⟩
  | 9 => ⟨S8x4x2048x2048, .f32⟩
  | 10 => ⟨S_, .f32⟩
  | 11 => ⟨S8x4x2048x2048, .f32⟩
  | 12 => ⟨S8x4x2048x2048, .f32⟩
  | 13 => ⟨S1x1x2048x2048, .i1⟩
  | 14 => ⟨S8x4x2048x2048, .f32⟩
  | 15 => ⟨S_, .f32⟩
  | 16 => ⟨S_, .f32⟩
  | 17 => ⟨S8x4x2048x2048, .i1⟩
  | 18 => ⟨S8x4x2048x2048, .f32⟩
  | 19 => ⟨S8x4x2048x2048, .f32⟩
  | 20 => ⟨S_, .f32⟩
  | 21 => ⟨S8x4x2048, .f32⟩
  | 22 => ⟨S8x4x2048x64, .f32⟩
  | 23 => ⟨S8x4x2048x1, .f32⟩
  | 24 => ⟨S8x4x2048x64, .f32⟩
  | 25 => ⟨S8x4x2048x64, .f32⟩
  | 26 => ⟨S_, .f32⟩
  | 27 => ⟨S8x4x2048, .f32⟩
  | 28 => ⟨S8x4x2048, .f32⟩
  | 29 => ⟨S8x4x2048, .f32⟩
  | 30 => ⟨S8x4x2048, .f32⟩
  | 31 => ⟨S8x4x2048, .f32⟩
  | 32 => ⟨S8x4x2048x1, .f32⟩
  | 33 => ⟨S8x4x2048x64, .f32⟩
  | 34 => ⟨S8x4x2048x64, .f32⟩
  | 35 => ⟨S_, .f32⟩
  | 36 => ⟨S8x4x2048x64, .f32⟩
  | 37 => ⟨S8x4x2048x64, .f32⟩
  | 38 => ⟨S8x4x2048, .f32⟩
  | 39 => ⟨S8x4x2048x1, .f32⟩
  | 40 => ⟨S8x4x2048x64, .f32⟩
  | 41 => ⟨S8x4x2048x64, .f32⟩
  | 42 => ⟨S8x4x2048x64, .f32⟩
  | 43 => ⟨S8x4x2048, .f32⟩
  | 44 => ⟨S8x4x2048x1, .f32⟩
  | 45 => ⟨S8x4x2048x64, .f32⟩
  | 46 => ⟨S8x4x2048x64, .f32⟩
  | 47 => ⟨S8x4x2048x64, .f32⟩
  | 48 => ⟨S16x4x2048x64, .f32⟩
  | 49 => ⟨S16x4x2048, .f32⟩
  | 50 => ⟨S4x2048x16x64, .f32⟩
  | 51 => ⟨S4x2048x16, .f32⟩
  | 52 => ⟨S8192x8x1, .f32⟩
  | 53 => ⟨S_, .f32⟩
  | 54 => ⟨S_, .f32⟩
  | 55 => ⟨S8192x8x1, .f32⟩
  | 56 => ⟨S8192x8x1, .f32⟩
  | 57 => ⟨S8192x8x1, .bf16⟩
  | 58 => ⟨S8192x8x1, .f32⟩
  | 59 => ⟨S8192x8x1, .f32⟩
  | 60 => ⟨S8192x8x1, .bf16⟩
  | 61 => ⟨S8192x8x1, .f32⟩
  | 62 => ⟨S8192x8x1, .f32⟩
  | 63 => ⟨S8192x8x1, .bf16⟩
  | 64 => ⟨S8192x8x1, .f32⟩
  | 65 => ⟨S8192x8x1, .f32⟩
  | 66 => ⟨S8192x8x3, .f32⟩
  | 67 => ⟨S_, .f32⟩
  | 68 => ⟨S8192x8x3, .f32⟩
  | 69 => ⟨S8192x8x6, .f32⟩
  | 70 => ⟨S_, .i32⟩
  | 71 => ⟨S_, .f32⟩
  | 72 => ⟨S8192x16x64, .f32⟩
  | 73 => ⟨S8192x8x3, .f32⟩
  | 74 => ⟨S8192x8x6, .f32⟩
  | 75 => ⟨S_, .i32⟩
  | 76 => ⟨S_, .f32⟩
  | 77 => ⟨S8192x16x64, .f32⟩
  | 78 => ⟨S_, .f32⟩
  | 79 => ⟨S4x2048x16x64, .f32⟩
  | 80 => ⟨S4x2048x16x64, .f32⟩
  | 81 => ⟨S4x2048x16x64, .f32⟩
  | 82 => ⟨S4x2048x16x64, .f32⟩
  | 83 => ⟨S8192x8x2x64, .f32⟩
  | 84 => ⟨S8192x8x2x64, .f32⟩
  | 85 => ⟨S8192x8x1x64, .f32⟩
  | 86 => ⟨S8192x8x64, .f32⟩
  | 87 => ⟨S8192x8x1x64, .f32⟩
  | 88 => ⟨S8192x8x64, .f32⟩
  | 89 => ⟨S8192x8x1x64, .f32⟩
  | 90 => ⟨S8192x8x64, .f32⟩
  | 91 => ⟨S8192x8x1x64, .f32⟩
  | 92 => ⟨S8192x8x64, .f32⟩
  | 93 => ⟨S8192x8x256, .f32⟩
  | 94 => ⟨S8192x2048, .f32⟩
  | 95 => ⟨S8192x8x2x64, .f32⟩
  | 96 => ⟨S8192x8x2x64, .f32⟩
  | 97 => ⟨S8192x8x1x64, .f32⟩
  | 98 => ⟨S8192x8x64, .f32⟩
  | 99 => ⟨S8192x8x1x64, .f32⟩
  | 100 => ⟨S8192x8x64, .f32⟩
  | 101 => ⟨S8192x8x1x64, .f32⟩
  | 102 => ⟨S8192x8x64, .f32⟩
  | 103 => ⟨S8192x8x1x64, .f32⟩
  | 104 => ⟨S8192x8x64, .f32⟩
  | 105 => ⟨S8192x8x256, .f32⟩
  | 106 => ⟨S8192x2048, .f32⟩
  | 107 => ⟨S8192x4096, .f32⟩
  | 108 => ⟨S8192x4096, .bf16⟩
  | 109 => ⟨S8192x1024, .f32⟩
  | 110 => ⟨S8192x1024, .bf16⟩
  | 111 => ⟨S_, .bf16⟩
  | 112 => ⟨S8192x2048, .bf16⟩
  | 113 => ⟨S8192x3072, .bf16⟩
  | 114 => ⟨S4x2048x16, .f32⟩
  | 115 => ⟨S4x2048x16, .f32⟩
  | 116 => ⟨S4x2048x16, .f32⟩
  | 117 => ⟨S8192x16x1, .f32⟩
  | 118 => ⟨S8192x16x64, .f32⟩
  | 119 => ⟨S512, .i32⟩
  | 120 => ⟨S4, .i32⟩
  | 121 => ⟨S4x1x1, .i32⟩
  | 122 => ⟨S_, .i32⟩
  | 123 => ⟨S4x1x1, .i32⟩
  | 124 => ⟨S4x1x1, .i32⟩
  | 125 => ⟨S1x1x512, .i32⟩
  | 126 => ⟨S4x1x512, .i32⟩
  | 127 => ⟨S4x1x512, .i32⟩
  | _ => ⟨S4x2048x16x64, .f32⟩

abbrev hbmTy0_2 (i : Nat) : BufTy := match i % 128 with
  | 0 => ⟨S4x1x512, .i32⟩
  | 1 => ⟨S1x512x1, .i32⟩
  | 2 => ⟨S4x512x512, .i32⟩
  | 3 => ⟨S4x512x512, .i32⟩
  | 4 => ⟨S4x512x512, .i32⟩
  | 5 => ⟨S_, .i32⟩
  | 6 => ⟨S4x512x512, .i32⟩
  | 7 => ⟨S4x512x512, .i1⟩
  | 8 => ⟨S_, .i32⟩
  | 9 => ⟨S4x512x512, .i32⟩
  | 10 => ⟨S_, .i32⟩
  | 11 => ⟨S4x512x512, .i32⟩
  | 12 => ⟨S4x512x512, .i32⟩
  | 13 => ⟨S_, .i32⟩
  | 14 => ⟨S4x512x512, .i32⟩
  | 15 => ⟨S4x512x512, .i1⟩
  | 16 => ⟨S4x512x512, .i1⟩
  | 17 => ⟨S_, .i32⟩
  | 18 => ⟨S4x512x512, .i32⟩
  | 19 => ⟨S4x512x512, .i1⟩
  | 20 => ⟨S4x512x512, .i1⟩
  | 21 => ⟨S4x512x512, .i32⟩
  | 22 => ⟨S4x512x512, .i32⟩
  | 23 => ⟨S_, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S4x512x512, .i1⟩
  | 30 => ⟨S_, .i32⟩
  | 31 => ⟨S4x512x512, .i32⟩
  | 32 => ⟨S4x512x512, .i1⟩
  | 33 => ⟨S4x512x512, .i1⟩
  | 34 => ⟨S4x512x512, .i32⟩
  | 35 => ⟨S4x512x512, .i32⟩
  | 36 => ⟨S_, .i32⟩
  | 37 => ⟨S4x512x512, .i32⟩
  | 38 => ⟨S4x512x512, .i32⟩
  | 39 => ⟨S_, .i32⟩
  | 40 => ⟨S4x512x512, .i32⟩
  | 41 => ⟨S4x512x512, .i1⟩
  | 42 => ⟨S4x512x512, .i1⟩
  | 43 => ⟨S_, .i32⟩
  | 44 => ⟨S4x512x512, .i32⟩
  | 45 => ⟨S4x512x512, .i1⟩
  | 46 => ⟨S4x512x512, .i1⟩
  | 47 => ⟨S4x512x512, .i32⟩
  | 48 => ⟨S4x512x512, .i32⟩
  | 49 => ⟨S_, .f32⟩
  | 50 => ⟨S_, .f32⟩
  | 51 => ⟨S4x512x512, .f32⟩
  | 52 => ⟨S4x512x512, .f32⟩
  | 53 => ⟨S4x512x512, .f32⟩
  | 54 => ⟨S_, .f32⟩
  | 55 => ⟨S_, .f32⟩
  | 56 => ⟨S_, .f32⟩
  | 57 => ⟨S_, .f32⟩
  | 58 => ⟨S_, .f32⟩
  | 59 => ⟨S_, .i32⟩
  | 60 => ⟨S4x512x512, .i32⟩
  | 61 => ⟨S4x512x512, .i1⟩
  | 62 => ⟨S_, .i32⟩
  | 63 => ⟨S4x512x512, .i32⟩
  | 64 => ⟨S4x512x512, .i1⟩
  | 65 => ⟨S_, .i32⟩
  | 66 => ⟨S4x512x512, .i32⟩
  | 67 => ⟨S4x512x512, .i1⟩
  | 68 => ⟨S_, .f32⟩
  | 69 => ⟨S_, .f32⟩
  | 70 => ⟨S4x512x512, .f32⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S4x512x512, .f32⟩
  | 77 => ⟨S4x512x512, .f32⟩
  | 78 => ⟨S4x512x512, .f32⟩
  | 79 => ⟨S4x512x512, .f32⟩
  | 80 => ⟨S1x4x512x512, .f32⟩
  | 81 => ⟨S1x4x512x512, .f32⟩
  | 82 => ⟨S2x4x512x512, .f32⟩
  | 83 => ⟨S8192x1024, .f32⟩
  | 84 => ⟨S8192x1024, .bf16⟩
  | 85 => ⟨S8192x1024, .f32⟩
  | 86 => ⟨S8192x1024, .f32⟩
  | 87 => ⟨S8192x1024, .bf16⟩
  | 88 => ⟨S8192x1024, .bf16⟩
  | 89 => ⟨S8192x1024, .bf16⟩
  | 90 => ⟨S8192x1024, .bf16⟩
  | 91 => ⟨S8192x1024, .f32⟩
  | 92 => ⟨S8192x1024, .f32⟩
  | 93 => ⟨S8192x8x2x64, .f32⟩
  | 94 => ⟨S8192x4x2x1, .f32⟩
  | 95 => ⟨S8192x4x2, .f32⟩
  | 96 => ⟨S8192x8x2x64, .f32⟩
  | 97 => ⟨S8192x4x2x1, .f32⟩
  | 98 => ⟨S8192x4x2, .f32⟩
  | 99 => ⟨S8192x4x2, .f32⟩
  | 100 => ⟨S8192x4x1, .f32⟩
  | 101 => ⟨S8192x4, .f32⟩
  | 102 => ⟨S8192x4x1, .f32⟩
  | 103 => ⟨S8192x4, .f32⟩
  | 104 => ⟨S8192x4x1, .f32⟩
  | 105 => ⟨S8192x4x1, .f32⟩
  | 106 => ⟨S8192x4x2, .f32⟩
  | 107 => ⟨S4x2048x8, .f32⟩
  | 108 => ⟨S8192x1024, .f32⟩
  | 109 => ⟨S4x2048x16x64, .f32⟩
  | 110 => ⟨S_, .f32⟩
  | 111 => ⟨S4x2048x16x64, .f32⟩
  | 112 => ⟨S4x2048x16x64, .f32⟩
  | 113 => ⟨S8192x1024, .f32⟩
  | 114 => ⟨S4x2048x16x64, .f32⟩
  | 115 => ⟨S4x2048x16x64, .f32⟩
  | 116 => ⟨S4x2048x16x64, .f32⟩
  | 117 => ⟨S8192x1024, .f32⟩
  | 118 => ⟨S4x2048x16x64, .f32⟩
  | _ => ⟨S4x2048x16x64, .f32⟩

abbrev hbmTy (i : Nat) : BufTy := match i / 128 with
  | 0 => hbmTy0_0 i
  | 1 => hbmTy0_1 i
  | 2 => hbmTy0_2 i
  | _ => ⟨S4x2048x16x64, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x4x512x512, .f32⟩
  | .local _ .vmem, ⟨7, _⟩ => ⟨S1x4x512x512, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2x2048x128, .f32⟩
  | .local _ .vmem, ⟨25, _⟩ => ⟨S2048x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_21 : Ref sig .tc := ⟨.hbm, 127, rfl⟩
abbrev main_v90 : Ref sig .tc := ⟨.hbm, 128, rfl⟩
abbrev main_v91 : Ref sig .tc := ⟨.hbm, 129, rfl⟩
abbrev main_c_22 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_25 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v102 : Ref sig .tc := ⟨.hbm, 147, rfl⟩
abbrev main_cst_26 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_27 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_28 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_29 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_30 : Ref sig .tc := ⟨.hbm, 195, rfl⟩
abbrev main_v146 : Ref sig .tc := ⟨.hbm, 196, rfl⟩
abbrev main_v147 : Ref sig .tc := ⟨.hbm, 197, rfl⟩
abbrev main_c_31 : Ref sig .tc := ⟨.hbm, 198, rfl⟩
abbrev main_call4_v0 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_32 : Ref sig .tc := ⟨.hbm, 203, rfl⟩
abbrev main_call5_v0 : Ref sig .tc := ⟨.hbm, 204, rfl⟩
abbrev main_v151 : Ref sig .tc := ⟨.hbm, 205, rfl⟩
abbrev main_cst_33 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_34 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_35 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_c_36 : Ref sig .tc := ⟨.hbm, 261, rfl⟩
abbrev main_v204 : Ref sig .tc := ⟨.hbm, 262, rfl⟩
abbrev main_v205 : Ref sig .tc := ⟨.hbm, 263, rfl⟩
abbrev main_c_37 : Ref sig .tc := ⟨.hbm, 264, rfl⟩
abbrev main_v206 : Ref sig .tc := ⟨.hbm, 265, rfl⟩
abbrev main_c_38 : Ref sig .tc := ⟨.hbm, 266, rfl⟩
abbrev main_v207 : Ref sig .tc := ⟨.hbm, 267, rfl⟩
abbrev main_v208 : Ref sig .tc := ⟨.hbm, 268, rfl⟩
abbrev main_c_39 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_c_40 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_c_41 : Ref sig .tc := ⟨.hbm, 279, rfl⟩
abbrev main_v217 : Ref sig .tc := ⟨.hbm, 280, rfl⟩
abbrev main_v218 : Ref sig .tc := ⟨.hbm, 281, rfl⟩
abbrev main_c_42 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_c_43 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_c_44 : Ref sig .tc := ⟨.hbm, 292, rfl⟩
abbrev main_v227 : Ref sig .tc := ⟨.hbm, 293, rfl⟩
abbrev main_v228 : Ref sig .tc := ⟨.hbm, 294, rfl⟩
abbrev main_c_45 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_c_46 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_cst_47 : Ref sig .tc := ⟨.hbm, 305, rfl⟩
abbrev main_cst_48 : Ref sig .tc := ⟨.hbm, 306, rfl⟩
abbrev main_call6_v0 : Ref sig .tc := ⟨.hbm, 307, rfl⟩
abbrev main_call6_v1 : Ref sig .tc := ⟨.hbm, 308, rfl⟩
abbrev main_v237 : Ref sig .tc := ⟨.hbm, 309, rfl⟩
abbrev main_cst_49 : Ref sig .tc := ⟨.hbm, 310, rfl⟩
abbrev main_v238 : Ref sig .tc := ⟨.hbm, 311, rfl⟩
abbrev main_cst_50 : Ref sig .tc := ⟨.hbm, 312, rfl⟩
abbrev main_v239 : Ref sig .tc := ⟨.hbm, 313, rfl⟩
abbrev main_v240 : Ref sig .tc := ⟨.hbm, 314, rfl⟩
abbrev main_c_51 : Ref sig .tc := ⟨.hbm, 315, rfl⟩
abbrev main_v241 : Ref sig .tc := ⟨.hbm, 316, rfl⟩
abbrev main_v242 : Ref sig .tc := ⟨.hbm, 317, rfl⟩
abbrev main_c_52 : Ref sig .tc := ⟨.hbm, 318, rfl⟩
abbrev main_v243 : Ref sig .tc := ⟨.hbm, 319, rfl⟩
abbrev main_v244 : Ref sig .tc := ⟨.hbm, 320, rfl⟩
abbrev main_c_53 : Ref sig .tc := ⟨.hbm, 321, rfl⟩
abbrev main_v245 : Ref sig .tc := ⟨.hbm, 322, rfl⟩
abbrev main_v246 : Ref sig .tc := ⟨.hbm, 323, rfl⟩
abbrev main_cst_54 : Ref sig .tc := ⟨.hbm, 324, rfl⟩
abbrev main_cst_55 : Ref sig .tc := ⟨.hbm, 325, rfl⟩
abbrev main_call7_v0 : Ref sig .tc := ⟨.hbm, 326, rfl⟩
abbrev main_call7_v1 : Ref sig .tc := ⟨.hbm, 327, rfl⟩
abbrev main_v247 : Ref sig .tc := ⟨.hbm, 328, rfl⟩
abbrev main_cst_56 : Ref sig .tc := ⟨.hbm, 329, rfl⟩
abbrev main_call8_v0 : Ref sig .tc := ⟨.hbm, 330, rfl⟩
abbrev main_v248 : Ref sig .tc := ⟨.hbm, 331, rfl⟩
abbrev main_call9_v0 : Ref sig .tc := ⟨.hbm, 332, rfl⟩
abbrev main_call9_v1 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259_0 : Ref sig .tc := ⟨.hbm, 344, rfl⟩
abbrev main_v259_1 : Ref sig .tc := ⟨.hbm, 345, rfl⟩
abbrev main_v259_2 : Ref sig .tc := ⟨.hbm, 346, rfl⟩
abbrev main_v259_3 : Ref sig .tc := ⟨.hbm, 347, rfl⟩
abbrev main_v259_4 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_cst_57 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_mult1 : BitVec 32 :=
  let c0_i32_12 : BitVec 32 := 0#32
  let c4_i32 : BitVec 32 := 4#32
  let v47 : BitVec 32 := Scalar.muli c0_i32_12 c4_i32
  let c0_i32_13 : BitVec 32 := 0#32
  let v48 : BitVec 32 := Scalar.addi v47 c0_i32_13
  let c512_i32 : BitVec 32 := 512#32
  let v49 : BitVec 32 := Scalar.muli v48 c512_i32
  v49
def k0_off1 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v51 : Index := Scalar.indexCast v50
  let c0_14 : Index := 0#32
  ![v51.toNat, 0]
def k0_off2 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v54 : Index := Scalar.indexCast v50
  let c128 : Index := 128#32
  ![v54.toNat, 128]
def k0_off3 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v57 : Index := Scalar.indexCast v50
  let c0_15 : Index := 0#32
  ![v57.toNat, 0]
def k0_mult2 : BitVec 32 :=
  let c0_i32_12 : BitVec 32 := 0#32
  let c4_i32 : BitVec 32 := 4#32
  let v47 : BitVec 32 := Scalar.muli c0_i32_12 c4_i32
  let c1_i32_27 : BitVec 32 := 1#32
  let v103 : BitVec 32 := Scalar.addi v47 c1_i32_27
  let c512_i32_28 : BitVec 32 := 512#32
  let v104 : BitVec 32 := Scalar.muli v103 c512_i32_28
  v104
def k0_mult3 : BitVec 32 :=
  let c0_i32_12 : BitVec 32 := 0#32
  let c4_i32 : BitVec 32 := 4#32
  let v47 : BitVec 32 := Scalar.muli c0_i32_12 c4_i32
  let c2_i32 : BitVec 32 := 2#32
  let v158 : BitVec 32 := Scalar.addi v47 c2_i32
  let c512_i32_43 : BitVec 32 := 512#32
  let v159 : BitVec 32 := Scalar.muli v158 c512_i32_43
  v159
def k0_mult4 : BitVec 32 :=
  let c0_i32_12 : BitVec 32 := 0#32
  let c4_i32 : BitVec 32 := 4#32
  let v47 : BitVec 32 := Scalar.muli c0_i32_12 c4_i32
  let c3_i32 : BitVec 32 := 3#32
  let v213 : BitVec 32 := Scalar.addi v47 c3_i32
  let c512_i32_58 : BitVec 32 := 512#32
  let v214 : BitVec 32 := Scalar.muli v213 c512_i32_58
  v214
@[reducible] def k0_t1_loop : Scf.Loop 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_76 : BitVec 32 := 1#32
  ⟨c0_i32_74, v273, c1_i32_76⟩
def k0_mult5 (k0_t1 : Fin k0_t1_loop.trips) : BitVec 32 :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  v1171
def k0_off4 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1173 : Index := Scalar.indexCast v1172
  let c0_429 : Index := 0#32
  ![v1173.toNat, 0]
def k0_off5 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1176 : Index := Scalar.indexCast v1172
  let c0_430 : Index := 0#32
  ![v1176.toNat, 0]
def k0_off6 (k0_t1 : Fin k0_t1_loop.trips) (c0_i32_424 : BitVec 32) : Fin 4 → Nat :=
  let c0_432 : Index := 0#32
  let c0_i32_12 : BitVec 32 := 0#32
  let c4_i32 : BitVec 32 := 4#32
  let v47 : BitVec 32 := Scalar.muli c0_i32_12 c4_i32
  let v1163 : BitVec 32 := Scalar.addi v47 c0_i32_424
  let c0_i32_74 : BitVec 32 := 0#32
  let c1_i32_76 : BitVec 32 := 1#32
  let arg16 : BitVec 32 := Scf.iv c0_i32_74 c1_i32_76 k0_t1
  let v1164 : BitVec 32 := Scalar.subi v1163 arg16
  let v1180 : Index := Scalar.indexCast v1164
  let c0_433 : Index := 0#32
  let c0_434 : Index := 0#32
  ![0, v1180.toNat, 0, 0]
def k0_off7 (k0_t1 : Fin k0_t1_loop.trips) : Fin 3 → Nat :=
  let c0_463 : Index := 0#32
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1279 : Index := Scalar.indexCast v1172
  let c0_464 : Index := 0#32
  ![0, v1279.toNat, 0]
def k0_off8 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1288 : Index := Scalar.indexCast v1172
  let c128_467 : Index := 128#32
  ![v1288.toNat, 128]
def k0_off9 (k0_t1 : Fin k0_t1_loop.trips) : Fin 3 → Nat :=
  let c1_500 : Index := 1#32
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1393 : Index := Scalar.indexCast v1172
  let c0_501 : Index := 0#32
  ![1, v1393.toNat, 0]
@[reducible] def k0_t2_loop : Scf.Loop 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let v270 : BitVec 32 := Scalar.addi c0_i32_74 v269
  let c1_i32_77 : BitVec 32 := 1#32
  ⟨v273, v270, c1_i32_77⟩
def k0_mult6 (k0_t2 : Fin k0_t2_loop.trips) : BitVec 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  v1171
def k0_off10 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1173 : Index := Scalar.indexCast v1172
  let c0_429 : Index := 0#32
  ![v1173.toNat, 0]
def k0_off11 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1176 : Index := Scalar.indexCast v1172
  let c0_430 : Index := 0#32
  ![v1176.toNat, 0]
def k0_off12 (k0_t2 : Fin k0_t2_loop.trips) (c0_i32_424 : BitVec 32) : Fin 4 → Nat :=
  let c0_432 : Index := 0#32
  let c0_i32_12 : BitVec 32 := 0#32
  let c4_i32 : BitVec 32 := 4#32
  let v47 : BitVec 32 := Scalar.muli c0_i32_12 c4_i32
  let v1163 : BitVec 32 := Scalar.addi v47 c0_i32_424
  let c0_i32_74 : BitVec 32 := 0#32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let v1164 : BitVec 32 := Scalar.subi v1163 arg16
  let v1180 : Index := Scalar.indexCast v1164
  let c0_433 : Index := 0#32
  let c0_434 : Index := 0#32
  ![0, v1180.toNat, 0, 0]
def k0_off13 (k0_t2 : Fin k0_t2_loop.trips) : Fin 3 → Nat :=
  let c0_463 : Index := 0#32
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1279 : Index := Scalar.indexCast v1172
  let c0_464 : Index := 0#32
  ![0, v1279.toNat, 0]
def k0_off14 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1288 : Index := Scalar.indexCast v1172
  let c128_467 : Index := 128#32
  ![v1288.toNat, 128]
def k0_off15 (k0_t2 : Fin k0_t2_loop.trips) : Fin 3 → Nat :=
  let c1_500 : Index := 1#32
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1393 : Index := Scalar.indexCast v1172
  let c0_501 : Index := 0#32
  ![1, v1393.toNat, 0]
def k0_mult7 : BitVec 32 :=
  let c0_i32_12 : BitVec 32 := 0#32
  let c4_i32 : BitVec 32 := 4#32
  let v47 : BitVec 32 := Scalar.muli c0_i32_12 c4_i32
  let c0_i32_78 : BitVec 32 := 0#32
  let v276 : BitVec 32 := Scalar.addi v47 c0_i32_78
  let c512_i32_79 : BitVec 32 := 512#32
  let v277 : BitVec 32 := Scalar.muli v276 c512_i32_79
  v277
def k0_off16 (c0_i32_78 : BitVec 32) : Fin 3 → Nat :=
  let c0_123 : Index := 0#32
  let c0_i32_12 : BitVec 32 := 0#32
  let c4_i32 : BitVec 32 := 4#32
  let v47 : BitVec 32 := Scalar.muli c0_i32_12 c4_i32
  let v276 : BitVec 32 := Scalar.addi v47 c0_i32_78
  let c512_i32_79 : BitVec 32 := 512#32
  let v277 : BitVec 32 := Scalar.muli v276 c512_i32_79
  let v278 : BitVec 32 := v277
  let v405 : Index := Scalar.indexCast v278
  let c0_124 : Index := 0#32
  ![0, v405.toNat, 0]
def k0_off17 (c0_i32_78 : BitVec 32) : Fin 3 → Nat :=
  let c1_173 : Index := 1#32
  let c0_i32_12 : BitVec 32 := 0#32
  let c4_i32 : BitVec 32 := 4#32
  let v47 : BitVec 32 := Scalar.muli c0_i32_12 c4_i32
  let v276 : BitVec 32 := Scalar.addi v47 c0_i32_78
  let c512_i32_79 : BitVec 32 := 512#32
  let v277 : BitVec 32 := Scalar.muli v276 c512_i32_79
  let v278 : BitVec 32 := v277
  let v539 : Index := Scalar.indexCast v278
  let c0_174 : Index := 0#32
  ![1, v539.toNat, 0]
def k0_mult8 : BitVec 32 :=
  let c0_i32_12 : BitVec 32 := 0#32
  let c4_i32 : BitVec 32 := 4#32
  let v47 : BitVec 32 := Scalar.muli c0_i32_12 c4_i32
  let c1_i32_179 : BitVec 32 := 1#32
  let v556 : BitVec 32 := Scalar.addi v47 c1_i32_179
  let c512_i32_180 : BitVec 32 := 512#32
  let v557 : BitVec 32 := Scalar.muli v556 c512_i32_180
  v557
def k0_mult9 : BitVec 32 :=
  let c0_i32_12 : BitVec 32 := 0#32
  let c4_i32 : BitVec 32 := 4#32
  let v47 : BitVec 32 := Scalar.muli c0_i32_12 c4_i32
  let c2_i32_266 : BitVec 32 := 2#32
  let v786 : BitVec 32 := Scalar.addi v47 c2_i32_266
  let c512_i32_267 : BitVec 32 := 512#32
  let v787 : BitVec 32 := Scalar.muli v786 c512_i32_267
  v787
def k0_mult10 : BitVec 32 :=
  let c0_i32_12 : BitVec 32 := 0#32
  let c4_i32 : BitVec 32 := 4#32
  let v47 : BitVec 32 := Scalar.muli c0_i32_12 c4_i32
  let c3_i32_335 : BitVec 32 := 3#32
  let v966 : BitVec 32 := Scalar.addi v47 c3_i32_335
  let c512_i32_336 : BitVec 32 := 512#32
  let v967 : BitVec 32 := Scalar.muli v966 c512_i32_336
  v967
def k0_mult11 : BitVec 32 :=
  let c0_i32_12 : BitVec 32 := 0#32
  let c4_i32 : BitVec 32 := 4#32
  let v47 : BitVec 32 := Scalar.muli c0_i32_12 c4_i32
  let c0_i32_386 : BitVec 32 := 0#32
  let v1096 : BitVec 32 := Scalar.addi v47 c0_i32_386
  let c512_i32_387 : BitVec 32 := 512#32
  let v1097 : BitVec 32 := Scalar.muli v1096 c512_i32_387
  v1097
def k0_mult12 : BitVec 32 :=
  let c0_i32_12 : BitVec 32 := 0#32
  let c4_i32 : BitVec 32 := 4#32
  let v47 : BitVec 32 := Scalar.muli c0_i32_12 c4_i32
  let c1_i32_390 : BitVec 32 := 1#32
  let v1108 : BitVec 32 := Scalar.addi v47 c1_i32_390
  let c512_i32_391 : BitVec 32 := 512#32
  let v1109 : BitVec 32 := Scalar.muli v1108 c512_i32_391
  v1109
def k0_mult13 : BitVec 32 :=
  let c0_i32_12 : BitVec 32 := 0#32
  let c4_i32 : BitVec 32 := 4#32
  let v47 : BitVec 32 := Scalar.muli c0_i32_12 c4_i32
  let c2_i32_394 : BitVec 32 := 2#32
  let v1120 : BitVec 32 := Scalar.addi v47 c2_i32_394
  let c512_i32_395 : BitVec 32 := 512#32
  let v1121 : BitVec 32 := Scalar.muli v1120 c512_i32_395
  v1121
def k0_mult14 : BitVec 32 :=
  let c0_i32_12 : BitVec 32 := 0#32
  let c4_i32 : BitVec 32 := 4#32
  let v47 : BitVec 32 := Scalar.muli c0_i32_12 c4_i32
  let c3_i32_398 : BitVec 32 := 3#32
  let v1132 : BitVec 32 := Scalar.addi v47 c3_i32_398
  let c512_i32_399 : BitVec 32 := 512#32
  let v1133 : BitVec 32 := Scalar.muli v1132 c512_i32_399
  v1133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x2048x16x64 : Shape := ⟨4, ![4, 2048, 16, 64]⟩
abbrev S4x2048x8 : Shape := ⟨3, ![4, 2048, 8]⟩
abbrev S4x2048x8x64 : Shape := ⟨4, ![4, 2048, 8, 64]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x1x2048x2048 : Shape := ⟨4, ![1, 1, 2048, 2048]⟩
abbrev S4x8x2048x64 : Shape := ⟨4, ![4, 8, 2048, 64]⟩
abbrev S4x16x2048x64 : Shape := ⟨4, ![4, 16, 2048, 64]⟩
abbrev S4x16x2048 : Shape := ⟨3, ![4, 16, 2048]⟩
abbrev S4x2048x16 : Shape := ⟨3, ![4, 2048, 16]⟩
abbrev S4x8x64x2048 : Shape := ⟨4, ![4, 8, 64, 2048]⟩

abbrev nBuf : Space → Nat
  | .hbm => 403
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S4x2048x16x64, .f32⟩
  | 5 => ⟨S4x2048x8x64, .f32⟩
  | 6 => ⟨S4x2048x8x64, .f32⟩
  | 7 => ⟨S4x2048x8x64, .f32⟩
  | 8 => ⟨S4x8x2048, .f32⟩
  | 9 => ⟨S4x8x2048x1, .f32⟩
  | 10 => ⟨S4x8x1x2048, .f32⟩
  | 11 => ⟨S4x8x2048x2048, .f32⟩
  | 12 => ⟨S4x8x2048x2048, .f32⟩
  | 13 => ⟨S4x8x2048x2048, .f32⟩
  | 14 => ⟨S2048, .i32⟩
  | 15 => ⟨S2048x1, .i32⟩
  | 16 => ⟨S1x2048, .i32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S4x8x2048x2048, .f32⟩
  | 24 => ⟨S_, .f32⟩
  | 25 => ⟨S4x8x2048x2048, .f32⟩
  | 26 => ⟨S4x8x2048x2048, .f32⟩
  | 27 => ⟨S4x8x2048x2048, .f32⟩
  | 28 => ⟨S1x1x2048x2048, .i1⟩
  | 29 => ⟨S4x8x2048x2048, .f32⟩
  | 30 => ⟨S_, .f32⟩
  | 31 => ⟨S_, .f32⟩
  | 32 => ⟨S4x8x2048x2048, .i1⟩
  | 33 => ⟨S4x8x2048x2048, .f32⟩
  | 34 => ⟨S4x8x2048x2048, .f32⟩
  | 35 => ⟨S_, .f32⟩
  | 36 => ⟨S4x8x2048x2048, .f32⟩
  | 37 => ⟨S_, .f32⟩
  | 38 => ⟨S4x8x2048, .f32⟩
  | 39 => ⟨S4x8x2048x64, .f32⟩
  | 40 => ⟨S4x8x2048x1, .f32⟩
  | 41 => ⟨S4x8x2048x64, .f32⟩
  | 42 => ⟨S4x8x2048x64, .f32⟩
  | 43 => ⟨S4x8x2048x1, .f32⟩
  | 44 => ⟨S_, .f32⟩
  | 45 => ⟨S4x8x2048x1, .f32⟩
  | 46 => ⟨S4x8x2048x1, .f32⟩
  | 47 => ⟨S4x2048x8x64, .f32⟩
  | 48 => ⟨S4x2048x8x64, .f32⟩
  | 49 => ⟨S4x2048x8x64, .f32⟩
  | 50 => ⟨S2048, .i32⟩
  | 51 => ⟨S2048x1, .i32⟩
  | 52 => ⟨S1x2048, .i32⟩
  | 53 => ⟨S2048x2048, .i32⟩
  | 54 => ⟨S2048x2048, .i32⟩
  | 55 => ⟨S2048x2048, .i32⟩
  | 56 => ⟨S_, .i32⟩
  | 57 => ⟨S2048x2048, .i32⟩
  | 58 => ⟨S2048x2048, .i1⟩
  | 59 => ⟨S_, .i32⟩
  | 60 => ⟨S2048x2048, .i32⟩
  | 61 => ⟨S2048x2048, .i1⟩
  | 62 => ⟨S2048x2048, .i1⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S4x8x2048x2048, .f32⟩
  | 71 => ⟨S_, .f32⟩
  | 72 => ⟨S4x8x2048x2048, .f32⟩
  | 73 => ⟨S4x8x2048x2048, .f32⟩
  | 74 => ⟨S_, .f32⟩
  | 75 => ⟨S4x8x2048x2048, .f32⟩
  | 76 => ⟨S4x8x2048x2048, .f32⟩
  | 77 => ⟨S1x1x2048x2048, .i1⟩
  | 78 => ⟨S4x8x2048x2048, .f32⟩
  | 79 => ⟨S_, .f32⟩
  | 80 => ⟨S_, .f32⟩
  | 81 => ⟨S4x8x2048x2048, .i1⟩
  | 82 => ⟨S4x8x2048x2048, .f32⟩
  | 83 => ⟨S4x8x2048x2048, .f32⟩
  | 84 => ⟨S_, .f32⟩
  | 85 => ⟨S4x8x2048x2048, .f32⟩
  | 86 => ⟨S_, .f32⟩
  | 87 => ⟨S4x8x2048, .f32⟩
  | 88 => ⟨S4x8x2048x64, .f32⟩
  | 89 => ⟨S4x8x2048x1, .f32⟩
  | 90 => ⟨S4x8x2048x64, .f32⟩
  | 91 => ⟨S4x8x2048x64, .f32⟩
  | 92 => ⟨S4x8x2048x1, .f32⟩
  | 93 => ⟨S_, .f32⟩
  | 94 => ⟨S4x8x2048x1, .f32⟩
  | 95 => ⟨S4x8x2048x1, .f32⟩
  | 96 => ⟨S_, .i32⟩
  | 97 => ⟨S2048x2048, .i32⟩
  | 98 => ⟨S2048x2048, .i1⟩
  | 99 => ⟨S_, .i32⟩
  | 100 => ⟨S2048x2048, .i32⟩
  | 101 => ⟨S2048x2048, .i1⟩
  | 102 => ⟨S2048x2048, .i1⟩
  | 103 => ⟨S_, .i32⟩
  | 104 => ⟨S2048x2048, .i32⟩
  | 105 => ⟨S2048x2048, .i32⟩
  | 106 => ⟨S_, .i32⟩
  | 107 => ⟨S2048x2048, .i32⟩
  | 108 => ⟨S2048x2048, .i1⟩
  | 109 => ⟨S2048x2048, .i1⟩
  | 110 => ⟨S4x8x2048x2048, .f32⟩
  | 111 => ⟨S_, .f32⟩
  | 112 => ⟨S4x8x2048x2048, .f32⟩
  | 113 => ⟨S4x8x2048x2048, .f32⟩
  | 114 => ⟨S_, .f32⟩
  | 115 => ⟨S4x8x2048x2048, .f32⟩
  | 116 => ⟨S4x8x2048x2048, .f32⟩
  | 117 => ⟨S1x1x2048x2048, .i1⟩
  | 118 => ⟨S4x8x2048x2048, .f32⟩
  | 119 => ⟨S_, .f32⟩
  | 120 => ⟨S_, .f32⟩
  | 121 => ⟨S4x8x2048x2048, .i1⟩
  | 122 => ⟨S4x8x2048x2048, .f32⟩
  | 123 => ⟨S4x8x2048x2048, .f32⟩
  | 124 => ⟨S_, .f32⟩
  | 125 => ⟨S4x8x2048x2048, .f32⟩
  | 126 => ⟨S_, .f32⟩
  | 127 => ⟨S4x8x2048, .f32⟩
  | _ => ⟨S4x2048x16x64, .f32⟩

abbrev hbmTy0_1 (i : Nat) : BufTy := match i % 128 with
  | 0 => ⟨S4x8x2048x64, .f32⟩
  | 1 => ⟨S4x8x2048x1, .f32⟩
  | 2 => ⟨S4x8x2048x64, .f32⟩
  | 3 => ⟨S4x8x2048x64, .f32⟩
  | 4 => ⟨S4x8x2048x1, .f32⟩
  | 5 => ⟨S_, .f32⟩
  | 6 => ⟨S4x8x2048x1, .f32⟩
  | 7 => ⟨S4x8x2048x1, .f32⟩
  | 8 => ⟨S_, .i32⟩
  | 9 => ⟨S2048x2048, .i32⟩
  | 10 => ⟨S2048x2048, .i1⟩
  | 11 => ⟨S_, .i32⟩
  | 12 => ⟨S2048x2048, .i32⟩
  | 13 => ⟨S2048x2048, .i1⟩
  | 14 => ⟨S2048x2048, .i1⟩
  | 15 => ⟨S_, .i32⟩
  | 16 => ⟨S2048x2048, .i32⟩
  | 17 => ⟨S2048x2048, .i32⟩
  | 18 => ⟨S_, .i32⟩
  | 19 => ⟨S2048x2048, .i32⟩
  | 20 => ⟨S2048x2048, .i1⟩
  | 21 => ⟨S2048x2048, .i1⟩
  | 22 => ⟨S4x8x2048x2048, .f32⟩
  | 23 => ⟨S_, .f32⟩
  | 24 => ⟨S4x8x2048x2048, .f32⟩
  | 25 => ⟨S4x8x2048x2048, .f32⟩
  | 26 => ⟨S_, .f32⟩
  | 27 => ⟨S4x8x2048x2048, .f32⟩
  | 28 => ⟨S4x8x2048x2048, .f32⟩
  | 29 => ⟨S1x1x2048x2048, .i1⟩
  | 30 => ⟨S4x8x2048x2048, .f32⟩
  | 31 => ⟨S_, .f32⟩
  | 32 => ⟨S_, .f32⟩
  | 33 => ⟨S4x8x2048x2048, .i1⟩
  | 34 => ⟨S4x8x2048x2048, .f32⟩
  | 35 => ⟨S4x8x2048x2048, .f32⟩
  | 36 => ⟨S_, .f32⟩
  | 37 => ⟨S4x8x2048x2048, .f32⟩
  | 38 => ⟨S_, .f32⟩
  | 39 => ⟨S4x8x2048, .f32⟩
  | 40 => ⟨S4x8x2048x64, .f32⟩
  | 41 => ⟨S4x8x2048x1, .f32⟩
  | 42 => ⟨S4x8x2048x64, .f32⟩
  | 43 => ⟨S4x8x2048x64, .f32⟩
  | 44 => ⟨S4x8x2048x1, .f32⟩
  | 45 => ⟨S_, .f32⟩
  | 46 => ⟨S4x8x2048x1, .f32⟩
  | 47 => ⟨S4x8x2048x1, .f32⟩
  | 48 => ⟨S_, .f32⟩
  | 49 => ⟨S4x8x2048, .f32⟩
  | 50 => ⟨S4x8x2048, .f32⟩
  | 51 => ⟨S4x8x2048, .f32⟩
  | 52 => ⟨S4x8x2048, .f32⟩
  | 53 => ⟨S4x8x2048, .f32⟩
  | 54 => ⟨S4x8x2048, .f32⟩
  | 55 => ⟨S_, .f32⟩
  | 56 => ⟨S4x8x2048, .f32⟩
  | 57 => ⟨S4x8x2048, .f32⟩
  | 58 => ⟨S4x8x2048x1, .f32⟩
  | 59 => ⟨S4x8x2048x64, .f32⟩
  | 60 => ⟨S4x8x2048x64, .f32⟩
  | 61 => ⟨S_, .f32⟩
  | 62 => ⟨S4x8x2048x64, .f32⟩
  | 63 => ⟨S4x8x2048x64, .f32⟩
  | 64 => ⟨S4x8x2048, .f32⟩
  | 65 => ⟨S4x8x2048, .f32⟩
  | 66 => ⟨S_, .f32⟩
  | 67 => ⟨S4x8x2048, .f32⟩
  | 68 => ⟨S4x8x2048, .f32⟩
  | 69 => ⟨S4x8x2048x1, .f32⟩
  | 70 => ⟨S4x8x2048x64, .f32⟩
  | 71 => ⟨S4x8x2048x64, .f32⟩
  | 72 => ⟨S4x8x2048x64, .f32⟩
  | 73 => ⟨S4x8x2048, .f32⟩
  | 74 => ⟨S4x8x2048, .f32⟩
  | 75 => ⟨S_, .f32⟩
  | 76 => ⟨S4x8x2048, .f32⟩
  | 77 => ⟨S4x8x2048, .f32⟩
  | 78 => ⟨S4x8x2048x1, .f32⟩
  | 79 => ⟨S4x8x2048x64, .f32⟩
  | 80 => ⟨S4x8x2048x64, .f32⟩
  | 81 => ⟨S4x8x2048x64, .f32⟩
  | 82 => ⟨S4x16x2048x64, .f32⟩
  | 83 => ⟨S4x16x2048, .f32⟩
  | 84 => ⟨S4x2048x16x64, .f32⟩
  | 85 => ⟨S4x2048x16, .f32⟩
  | 86 => ⟨S4x16x2048x64, .f32⟩
  | 87 => ⟨S4x8x2048x64, .f32⟩
  | 88 => ⟨S4x8x2048x64, .f32⟩
  | 89 => ⟨S4x8x2048x64, .f32⟩
  | 90 => ⟨S4x8x2048x64, .f32⟩
  | 91 => ⟨S4x8x2048x64, .f32⟩
  | 92 => ⟨S_, .f32⟩
  | 93 => ⟨S4x8x2048, .f32⟩
  | 94 => ⟨S4x8x2048x1, .f32⟩
  | 95 => ⟨S_, .f32⟩
  | 96 => ⟨S4x8x2048, .f32⟩
  | 97 => ⟨S4x8x2048, .f32⟩
  | 98 => ⟨S4x8x2048, .f32⟩
  | 99 => ⟨S4x8x2048, .f32⟩
  | 100 => ⟨S4x8x2048, .f32⟩
  | 101 => ⟨S4x8x2048x64, .f32⟩
  | 102 => ⟨S4x8x2048x64, .f32⟩
  | 103 => ⟨S4x8x2048x64, .f32⟩
  | 104 => ⟨S_, .f32⟩
  | 105 => ⟨S4x8x2048, .f32⟩
  | 106 => ⟨S4x8x2048x1, .f32⟩
  | 107 => ⟨S_, .f32⟩
  | 108 => ⟨S4x8x2048, .f32⟩
  | 109 => ⟨S4x8x2048, .f32⟩
  | 110 => ⟨S4x8x2048, .f32⟩
  | 111 => ⟨S4x8x2048, .f32⟩
  | 112 => ⟨S4x8x2048, .f32⟩
  | 113 => ⟨S4x8x2048, .f32⟩
  | 114 => ⟨S4x8x2048x64, .f32⟩
  | 115 => ⟨S4x8x2048x64, .f32⟩
  | 116 => ⟨S4x8x2048x64, .f32⟩
  | 117 => ⟨S_, .f32⟩
  | 118 => ⟨S4x8x2048, .f32⟩
  | 119 => ⟨S4x8x2048x1, .f32⟩
  | 120 => ⟨S_, .f32⟩
  | 121 => ⟨S4x8x2048, .f32⟩
  | 122 => ⟨S4x8x2048, .f32⟩
  | 123 => ⟨S4x8x2048, .f32⟩
  | 124 => ⟨S4x8x2048, .f32⟩
  | 125 => ⟨S4x8x2048, .f32⟩
  | 126 => ⟨S4x8x2048, .f32⟩
  | 127 => ⟨S4x8x2048, .f32⟩
  | _ => ⟨S4x2048x16x64, .f32⟩

abbrev hbmTy0_2 (i : Nat) : BufTy := match i % 128 with
  | 0 => ⟨S4x8x2048, .f32⟩
  | 1 => ⟨S4x8x2048, .f32⟩
  | 2 => ⟨S4x8x2048x64, .f32⟩
  | 3 => ⟨S4x8x2048x64, .f32⟩
  | 4 => ⟨S4x8x2048x64, .f32⟩
  | 5 => ⟨S_, .f32⟩
  | 6 => ⟨S4x8x2048, .f32⟩
  | 7 => ⟨S4x8x2048x1, .f32⟩
  | 8 => ⟨S4x8x2048x1, .f32⟩
  | 9 => ⟨S4x8x2048x64, .f32⟩
  | 10 => ⟨S4x8x2048x64, .f32⟩
  | 11 => ⟨S_, .f32⟩
  | 12 => ⟨S4x8x2048, .f32⟩
  | 13 => ⟨S4x8x2048, .f32⟩
  | 14 => ⟨S4x8x64x2048, .f32⟩
  | 15 => ⟨S4x2048x8x64, .f32⟩
  | 16 => ⟨S4x8x2048x2048, .f32⟩
  | 17 => ⟨S4x8x2048x2048, .f32⟩
  | 18 => ⟨S4x8x2048x2048, .f32⟩
  | 19 => ⟨S_, .f32⟩
  | 20 => ⟨S4x8x2048x2048, .f32⟩
  | 21 => ⟨S4x8x2048x2048, .f32⟩
  | 22 => ⟨S4x8x2048x2048, .f32⟩
  | 23 => ⟨S_, .f32⟩
  | 24 => ⟨S4x8x2048x2048, .f32⟩
  | 25 => ⟨S4x8x2048x2048, .f32⟩
  | 26 => ⟨S4x8x2048x64, .f32⟩
  | 27 => ⟨S4x2048x8x64, .f32⟩
  | 28 => ⟨S4x8x2048x64, .f32⟩
  | 29 => ⟨S4x2048x8x64, .f32⟩
  | 30 => ⟨S4x8x2048x64, .f32⟩
  | 31 => ⟨S4x8x2048x64, .f32⟩
  | 32 => ⟨S4x8x2048x64, .f32⟩
  | 33 => ⟨S_, .f32⟩
  | 34 => ⟨S4x8x2048, .f32⟩
  | 35 => ⟨S4x8x2048x1, .f32⟩
  | 36 => ⟨S4x8x2048x1, .f32⟩
  | 37 => ⟨S4x8x2048x64, .f32⟩
  | 38 => ⟨S4x8x2048x64, .f32⟩
  | 39 => ⟨S_, .f32⟩
  | 40 => ⟨S4x8x2048, .f32⟩
  | 41 => ⟨S4x8x2048, .f32⟩
  | 42 => ⟨S4x8x64x2048, .f32⟩
  | 43 => ⟨S4x2048x8x64, .f32⟩
  | 44 => ⟨S4x2048x8x64, .f32⟩
  | 45 => ⟨S4x8x2048x2048, .f32⟩
  | 46 => ⟨S4x8x2048x2048, .f32⟩
  | 47 => ⟨S4x8x2048x2048, .f32⟩
  | 48 => ⟨S_, .f32⟩
  | 49 => ⟨S4x8x2048x2048, .f32⟩
  | 50 => ⟨S4x8x2048x2048, .f32⟩
  | 51 => ⟨S4x8x2048x2048, .f32⟩
  | 52 => ⟨S_, .f32⟩
  | 53 => ⟨S4x8x2048x2048, .f32⟩
  | 54 => ⟨S4x8x2048x2048, .f32⟩
  | 55 => ⟨S4x8x2048x64, .f32⟩
  | 56 => ⟨S4x2048x8x64, .f32⟩
  | 57 => ⟨S4x2048x8x64, .f32⟩
  | 58 => ⟨S4x8x2048x64, .f32⟩
  | 59 => ⟨S4x2048x8x64, .f32⟩
  | 60 => ⟨S4x2048x8x64, .f32⟩
  | 61 => ⟨S4x8x2048x64, .f32⟩
  | 62 => ⟨S4x8x2048x64, .f32⟩
  | 63 => ⟨S4x8x2048x64, .f32⟩
  | 64 => ⟨S_, .f32⟩
  | 65 => ⟨S4x8x2048, .f32⟩
  | 66 => ⟨S4x8x2048x1, .f32⟩
  | 67 => ⟨S4x8x2048x1, .f32⟩
  | 68 => ⟨S4x8x2048x64, .f32⟩
  | 69 => ⟨S4x8x2048x64, .f32⟩
  | 70 => ⟨S_, .f32⟩
  | 71 => ⟨S4x8x2048, .f32⟩
  | 72 => ⟨S4x8x2048, .f32⟩
  | 73 => ⟨S4x8x64x2048, .f32⟩
  | 74 => ⟨S4x2048x8x64, .f32⟩
  | 75 => ⟨S4x2048x8x64, .f32⟩
  | 76 => ⟨S4x8x2048x2048, .f32⟩
  | 77 => ⟨S4x8x2048x2048, .f32⟩
  | 78 => ⟨S4x8x2048x2048, .f32⟩
  | 79 => ⟨S_, .f32⟩
  | 80 => ⟨S4x8x2048x2048, .f32⟩
  | 81 => ⟨S4x8x2048x2048, .f32⟩
  | 82 => ⟨S4x8x2048x2048, .f32⟩
  | 83 => ⟨S_, .f32⟩
  | 84 => ⟨S4x8x2048x2048, .f32⟩
  | 85 => ⟨S4x8x2048x2048, .f32⟩
  | 86 => ⟨S4x8x2048x64, .f32⟩
  | 87 => ⟨S4x2048x8x64, .f32⟩
  | 88 => ⟨S4x2048x8x64, .f32⟩
  | 89 => ⟨S4x8x2048x64, .f32⟩
  | 90 => ⟨S4x2048x8x64, .f32⟩
  | 91 => ⟨S4x2048x8x64, .f32⟩
  | 92 => ⟨S_, .f32⟩
  | 93 => ⟨S4x2048x16x64, .f32⟩
  | 94 => ⟨S_, .f32⟩
  | 95 => ⟨S4x2048x16x64, .f32⟩
  | 96 => ⟨S_, .f32⟩
  | 97 => ⟨S4x2048x16x64, .f32⟩
  | 98 => ⟨S4x8x2048x64, .f32⟩
  | 99 => ⟨S4x8x2048x64, .f32⟩
  | 100 => ⟨S4x8x2048x64, .f32⟩
  | 101 => ⟨S_, .f32⟩
  | 102 => ⟨S4x8x2048, .f32⟩
  | 103 => ⟨S4x8x2048x1, .f32⟩
  | 104 => ⟨S4x8x2048x1, .f32⟩
  | 105 => ⟨S4x8x2048x64, .f32⟩
  | 106 => ⟨S4x8x2048x64, .f32⟩
  | 107 => ⟨S_, .f32⟩
  | 108 => ⟨S4x8x2048, .f32⟩
  | 109 => ⟨S4x8x64x2048, .f32⟩
  | 110 => ⟨S4x2048x8x64, .f32⟩
  | 111 => ⟨S4x8x2048x2048, .f32⟩
  | 112 => ⟨S4x8x2048x2048, .f32⟩
  | 113 => ⟨S4x8x2048x2048, .f32⟩
  | 114 => ⟨S_, .f32⟩
  | 115 => ⟨S4x8x2048x2048, .f32⟩
  | 116 => ⟨S4x8x2048x2048, .f32⟩
  | 117 => ⟨S4x8x2048x2048, .f32⟩
  | 118 => ⟨S_, .f32⟩
  | 119 => ⟨S4x8x2048x2048, .f32⟩
  | 120 => ⟨S4x8x2048x2048, .f32⟩
  | 121 => ⟨S4x8x2048x64, .f32⟩
  | 122 => ⟨S4x2048x8x64, .f32⟩
  | 123 => ⟨S4x8x2048x64, .f32⟩
  | 124 => ⟨S4x2048x8x64, .f32⟩
  | 125 => ⟨S_, .f32⟩
  | 126 => ⟨S4x8x2048, .f32⟩
  | 127 => ⟨S4x8x2048x1, .f32⟩
  | _ => ⟨S4x2048x16x64, .f32⟩

abbrev hbmTy0_3 (i : Nat) : BufTy := match i % 128 with
  | 0 => ⟨S4x8x2048x2048, .f32⟩
  | 1 => ⟨S_, .f32⟩
  | 2 => ⟨S4x8x2048, .f32⟩
  | 3 => ⟨S4x8x1x2048, .f32⟩
  | 4 => ⟨S_, .f32⟩
  | 5 => ⟨S4x8x2048, .f32⟩
  | 6 => ⟨S_, .f32⟩
  | 7 => ⟨S4x8x2048, .f32⟩
  | 8 => ⟨S4x8x2048, .f32⟩
  | 9 => ⟨S4x2048x8, .f32⟩
  | 10 => ⟨S_, .f32⟩
  | 11 => ⟨S4x2048x16x64, .f32⟩
  | 12 => ⟨S4x2048x16x64, .f32⟩
  | 13 => ⟨S_, .f32⟩
  | 14 => ⟨S4x2048x16x64, .f32⟩
  | 15 => ⟨S4x2048x16x64, .f32⟩
  | 16 => ⟨S_, .f32⟩
  | 17 => ⟨S4x2048x16x64, .f32⟩
  | 18 => ⟨S4x2048x16x64, .f32⟩
  | _ => ⟨S4x2048x16x64, .f32⟩

abbrev hbmTy (i : Nat) : BufTy := match i / 128 with
  | 0 => hbmTy0_0 i
  | 1 => hbmTy0_1 i
  | 2 => hbmTy0_2 i
  | 3 => hbmTy0_3 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_v23_1 : Ref sig .tc := ⟨.hbm, 32, rfl⟩
abbrev main_call0_v2 : Ref sig .tc := ⟨.hbm, 33, rfl⟩
abbrev main_v23_0 : Ref sig .tc := ⟨.hbm, 34, rfl⟩
abbrev main_call0_cst : Ref sig .tc := ⟨.hbm, 35, rfl⟩
abbrev main_v23_2 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_3 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_c_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_call1_v0 : Ref sig .tc := ⟨.hbm, 80, rfl⟩
abbrev main_v58_1 : Ref sig .tc := ⟨.hbm, 81, rfl⟩
abbrev main_call1_v2 : Ref sig .tc := ⟨.hbm, 82, rfl⟩
abbrev main_v58_0 : Ref sig .tc := ⟨.hbm, 83, rfl⟩
abbrev main_call1_cst : Ref sig .tc := ⟨.hbm, 84, rfl⟩
abbrev main_v58_2 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_call2_v0 : Ref sig .tc := ⟨.hbm, 120, rfl⟩
abbrev main_v84_1 : Ref sig .tc := ⟨.hbm, 121, rfl⟩
abbrev main_call2_v2 : Ref sig .tc := ⟨.hbm, 122, rfl⟩
abbrev main_v84_0 : Ref sig .tc := ⟨.hbm, 123, rfl⟩
abbrev main_call2_cst : Ref sig .tc := ⟨.hbm, 124, rfl⟩
abbrev main_v84_2 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92 : Ref sig .tc := ⟨.hbm, 135, rfl⟩
abbrev main_c_21 : Ref sig .tc := ⟨.hbm, 136, rfl⟩
abbrev main_v93 : Ref sig .tc := ⟨.hbm, 137, rfl⟩
abbrev main_v94 : Ref sig .tc := ⟨.hbm, 138, rfl⟩
abbrev main_c_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_23 : Ref sig .tc := ⟨.hbm, 143, rfl⟩
abbrev main_v98 : Ref sig .tc := ⟨.hbm, 144, rfl⟩
abbrev main_v99 : Ref sig .tc := ⟨.hbm, 145, rfl⟩
abbrev main_c_24 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_25 : Ref sig .tc := ⟨.hbm, 151, rfl⟩
abbrev main_v104 : Ref sig .tc := ⟨.hbm, 152, rfl⟩
abbrev main_v105 : Ref sig .tc := ⟨.hbm, 153, rfl⟩
abbrev main_cst_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_27 : Ref sig .tc := ⟨.hbm, 159, rfl⟩
abbrev main_call3_v0 : Ref sig .tc := ⟨.hbm, 160, rfl⟩
abbrev main_v110_1 : Ref sig .tc := ⟨.hbm, 161, rfl⟩
abbrev main_call3_v2 : Ref sig .tc := ⟨.hbm, 162, rfl⟩
abbrev main_v110_0 : Ref sig .tc := ⟨.hbm, 163, rfl⟩
abbrev main_call3_cst : Ref sig .tc := ⟨.hbm, 164, rfl⟩
abbrev main_v110_2 : Ref sig .tc := ⟨.hbm, 165, rfl⟩
abbrev main_cst_28 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_29 : Ref sig .tc := ⟨.hbm, 173, rfl⟩
abbrev main_v117 : Ref sig .tc := ⟨.hbm, 174, rfl⟩
abbrev main_v118 : Ref sig .tc := ⟨.hbm, 175, rfl⟩
abbrev main_cst_30 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_31 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_32 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_33 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_34 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_35 : Ref sig .tc := ⟨.hbm, 220, rfl⟩
abbrev main_v158 : Ref sig .tc := ⟨.hbm, 221, rfl⟩
abbrev main_v159 : Ref sig .tc := ⟨.hbm, 222, rfl⟩
abbrev main_cst_36 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_37 : Ref sig .tc := ⟨.hbm, 232, rfl⟩
abbrev main_v168 : Ref sig .tc := ⟨.hbm, 233, rfl⟩
abbrev main_v169 : Ref sig .tc := ⟨.hbm, 234, rfl⟩
abbrev main_cst_38 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_39 : Ref sig .tc := ⟨.hbm, 245, rfl⟩
abbrev main_v179 : Ref sig .tc := ⟨.hbm, 246, rfl⟩
abbrev main_v180 : Ref sig .tc := ⟨.hbm, 247, rfl⟩
abbrev main_cst_40 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_cst_41 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_42 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_call4_cst : Ref sig .tc := ⟨.hbm, 275, rfl⟩
abbrev main_call4_v0 : Ref sig .tc := ⟨.hbm, 276, rfl⟩
abbrev main_v205 : Ref sig .tc := ⟨.hbm, 277, rfl⟩
abbrev main_v206 : Ref sig .tc := ⟨.hbm, 278, rfl⟩
abbrev main_cst_43 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_cst_44 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_cst_45 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_call5_cst : Ref sig .tc := ⟨.hbm, 304, rfl⟩
abbrev main_call5_v0 : Ref sig .tc := ⟨.hbm, 305, rfl⟩
abbrev main_v229 : Ref sig .tc := ⟨.hbm, 306, rfl⟩
abbrev main_v230 : Ref sig .tc := ⟨.hbm, 307, rfl⟩
abbrev main_cst_46 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_cst_47 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_48 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_call6_cst : Ref sig .tc := ⟨.hbm, 335, rfl⟩
abbrev main_call6_v0 : Ref sig .tc := ⟨.hbm, 336, rfl⟩
abbrev main_v255 : Ref sig .tc := ⟨.hbm, 337, rfl⟩
abbrev main_v256 : Ref sig .tc := ⟨.hbm, 338, rfl⟩
abbrev main_cst_49 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_cst_50 : Ref sig .tc := ⟨.hbm, 348, rfl⟩
abbrev main_v265 : Ref sig .tc := ⟨.hbm, 349, rfl⟩
abbrev main_cst_51 : Ref sig .tc := ⟨.hbm, 350, rfl⟩
abbrev main_v266 : Ref sig .tc := ⟨.hbm, 351, rfl⟩
abbrev main_cst_52 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_53 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_cst_54 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_call7_cst : Ref sig .tc := ⟨.hbm, 370, rfl⟩
abbrev main_call7_v0 : Ref sig .tc := ⟨.hbm, 371, rfl⟩
abbrev main_v282 : Ref sig .tc := ⟨.hbm, 372, rfl⟩
abbrev main_v283 : Ref sig .tc := ⟨.hbm, 373, rfl⟩
abbrev main_cst_55 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_cst_56 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_cst_57 : Ref sig .tc := ⟨.hbm, 385, rfl⟩
abbrev main_v293 : Ref sig .tc := ⟨.hbm, 386, rfl⟩
abbrev main_v294 : Ref sig .tc := ⟨.hbm, 387, rfl⟩
abbrev main_cst_58 : Ref sig .tc := ⟨.hbm, 388, rfl⟩
abbrev main_v295 : Ref sig .tc := ⟨.hbm, 389, rfl⟩
abbrev main_cst_59 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_cst_60 : Ref sig .tc := ⟨.hbm, 394, rfl⟩
abbrev main_v299 : Ref sig .tc := ⟨.hbm, 395, rfl⟩
abbrev main_v300 : Ref sig .tc := ⟨.hbm, 396, rfl⟩
abbrev main_cst_61 : Ref sig .tc := ⟨.hbm, 397, rfl⟩
abbrev main_v301 : Ref sig .tc := ⟨.hbm, 398, rfl⟩
abbrev main_v302 : Ref sig .tc := ⟨.hbm, 399, rfl⟩
abbrev main_cst_62 : Ref sig .tc := ⟨.hbm, 400, rfl⟩
abbrev main_v303 : Ref sig .tc := ⟨.hbm, 401, rfl⟩
abbrev main_v304 : Ref sig .tc := ⟨.hbm, 402, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x3200 : Shape := ⟨2, ![8192, 3200]⟩
abbrev S8192x1024 : Shape := ⟨2, ![8192, 1024]⟩
abbrev S3200x1024 : Shape := ⟨2, ![3200, 1024]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x3200 : Shape := ⟨2, ![8192, 3200]⟩
abbrev S8192x1024 : Shape := ⟨2, ![8192, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S_, .f32⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel10.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S512x3200 : Shape := ⟨2, ![512, 3200]⟩
abbrev S512x1024 : Shape := ⟨2, ![512, 1024]⟩
abbrev S256x3200 : Shape := ⟨2, ![256, 3200]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .bf16⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S3200x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference10Ideal.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x3200 : Shape := ⟨2, ![1024, 3200]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .bf16⟩
  | .hbm, ⟨3, _⟩ => ⟨S1x1024, .f32⟩
  | .hbm, ⟨4, _⟩ => ⟨S8192x1024, .bf16⟩
  | .hbm, ⟨5, _⟩ => ⟨S8192x3200, .f32⟩
  | .hbm, ⟨6, _⟩ => ⟨S3200x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x3200, .f32⟩
  | .hbm, ⟨29, _⟩ => ⟨S8192x3200, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference11Ideal.lean ====
abbrev S8192x1024 : Shape := ⟨2, ![8192, 1024]⟩
abbrev S1024x1024 : Shape := ⟨2, ![1024, 1024]⟩
abbrev S1x1024 : Shape := ⟨2, ![1, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x512, .f32⟩
  | .hbm, ⟨65, _⟩ => ⟨S8192x512, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S1x1024, .f32⟩
  | .hbm, ⟨79, _⟩ => ⟨S_, .f32⟩
  | .hbm, ⟨80, _⟩ => ⟨S8192x1024, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x512, .f32⟩
  | .hbm, ⟨92, _⟩ => ⟨S8192x512, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S_, .f32⟩
  | .hbm, ⟨108, _⟩ => ⟨S8192x1024, .f32⟩
  | .hbm, ⟨109, _⟩ => ⟨S8192x1024, .f32⟩
  | .hbm, ⟨110, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_17 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Proof.Reals.lean ====
/-
  Real numbers among the extended reals: what a printed finiteness test says of an element, and how finite sums of
  real numbers behave under the inclusion.
-/
module

public import Idealize.ShloMosaic.Lib.Pointwise
public import Idealize.ShloMosaic.Lib.ReduceAll

@[expose] public section

noncomputable section

namespace Cert.Proof

open Idealize.ShloMosaic

/-- The extended real is a real number. -/
abbrev IsReal (x : EReal) : Prop := ∃ r : ℝ, x = r

/-- An extended real whose absolute value is below infinity is a real number. -/
theorem IsReal.of_abs_lt {x : EReal} (h : max x (-x) < ⊤) : IsReal x := by
  induction x using EReal.rec with
  | bot => simp at h
  | top => simp at h
  | coe r => exact ⟨r, rfl⟩

/-- What a printed comparison `|x| < inf` says at an element. -/
theorem IsReal.of_cmp {x : EReal} (h : Ideal.cmp .olt (max x (-x)) ⊤ = 1#1) : IsReal x := by
  refine IsReal.of_abs_lt ?_
  by_contra hc
  simp [Ideal.cmp, hc] at h

/-- The inclusion of the reals goes through finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) {f : ι → EReal} (hf : ∀ k, IsReal (f k)) : IsReal (∑ k ∈ s, f k) := by
  choose a ha using hf
  exact ⟨∑ k ∈ s, a k, by simp only [ha, coe_sum]⟩

theorem IsReal.mul {x y : EReal} (hx : IsReal x) (hy : IsReal y) : IsReal (x * y) := by
  obtain ⟨a, rfl⟩ := hx; obtain ⟨b, rfl⟩ := hy
  exact ⟨a * b, by norm_cast⟩

theorem IsReal.add {x y : EReal} (hx : IsReal x) (hy : IsReal y) : IsReal (x + y) := by
  obtain ⟨a, rfl⟩ := hx; obtain ⟨b, rfl⟩ := hy
  exact ⟨a + b, by norm_cast⟩

theorem IsReal.sub {x y : EReal} (hx : IsReal x) (hy : IsReal y) : IsReal (x - y) := by
  obtain ⟨a, rfl⟩ := hx; obtain ⟨b, rfl⟩ := hy
  exact ⟨a - b, by norm_cast⟩

theorem div_real {x y : ℝ} (h : y ≠ 0) : Ideal.div (x : EReal) (y : EReal) = ((x / y : ℝ) : EReal) := by
  rw [Ideal.div_coe h, ← EReal.coe_mul, mul_one_div]

end Cert.Proof

end
-- ==== Proof.FfnDown.lean ====
/-
  The gated FFN's backward through the down projection: the kernel's two gradients are those of the plain backward.
-/
module

public import proofs.«01_k».proof.Defs
public import proofs.«01_k».proof.Proof.Gen.Pre_finite
public import proofs.«01_k».proof.Proof.Gen.KernelIdeal.Value
public import proofs.«01_k».proof.Proof.Gen.ReferenceIdeal.Run
public import proofs.«01_k».proof.Proof.Reals
public import Idealize.ShloMosaic.Lib.Pointwise
public import Idealize.ShloMosaic.Lib.Claim
public import Idealize.ShloMosaic.Lib.ReduceAll
public import Idealize.ShloMosaic.Lib.Pipeline.Value
public import Idealize.ShloMosaic.Lib.Pipeline.ValueKit

@[expose] public section

noncomputable section

namespace Cert.Proof.FfnDown

open Idealize.ShloMosaic Idealize.ShloMosaic.TcCoe Idealize.SL.Sem
open Cert.KernelIdeal Cert.KernelIdeal.Gen

variable (m : (ℓ : Loc nD τ sig) → Buf (Elt Ideal) ℓ) (g : Dev nD → PrngReg)

abbrev aDy (c : Dev nD) : FVec Ideal S8192x1024 .bf16 := m ((c : Thread nD τ).loc main_arg0)
abbrev aW (c : Dev nD) : FVec Ideal S2816x1024 .bf16 := m ((c : Thread nD τ).loc main_arg1)
abbrev aA (c : Dev nD) : FVec Ideal S8192x2816 .bf16 := m ((c : Thread nD τ).loc main_arg2)
abbrev aU (c : Dev nD) : FVec Ideal S8192x2816 .bf16 := m ((c : Thread nD τ).loc main_arg3)

/-- The gradient that flows into the gated product. -/
def dF (c : Dev nD) (i : S8192x2816.Idx) : EReal :=
  ∑ k : Fin 1024, aDy m c (ix2 (i 0) k) * aW m c (ix2 (i 1) k)

/-- The gradient by the gate's activation, as the kernel spells it. -/
def kDa (c : Dev nD) : FVec Ideal S8192x2816 .bf16 := fun i =>
  dF m c i * aU m c i * Ideal.logistic (aA m c i) * (1 + aA m c i * (1 - Ideal.logistic (aA m c i)))

/-- The gradient by the up activation. -/
def kDu (c : Dev nD) : FVec Ideal S8192x2816 .bf16 := fun i =>
  dF m c i * aA m c i * Ideal.logistic (aA m c i)

/-- The blocks that each grid point reads and writes. -/
theorem idx : ∀ t : Fin grid0.N, win0_0.index t = ![t.val % 8, 0] ∧ win0_1.index t = ![t.val / 8, 0]
    ∧ win0_2.index t = ![t.val % 8, t.val / 8] ∧ win0_3.index t = ![t.val % 8, t.val / 8]
    ∧ win0_4.index t = ![t.val % 8, t.val / 8] ∧ win0_5.index t = ![t.val % 8, t.val / 8] := by decide +kernel

theorem final_da (c : Dev nD) : (dats m 0 c).arrAt 4 (cfgs 0).N = kDa m c := by
  refine (dats m 0 c).arrAt_eq_of_covers 4 _ (by decide +kernel) fun t hf y => ?_
  blk_simp
  rw [after0_4]
  frame_out
  pointwise [k0_pay4, k0_pay3, k0_pay2, k0_pay1, kDa, dF]
  blk_point [iblk, V, idx t]

theorem final_du (c : Dev nD) : (dats m 0 c).arrAt 5 (cfgs 0).N = kDu m c := by
  refine (dats m 0 c).arrAt_eq_of_covers 5 _ (by decide +kernel) fun t hf y => ?_
  blk_simp
  rw [after0_5]
  frame_out
  pointwise [k0_pay5, k0_pay3, k0_pay2, k0_pay1, kDu, dF]
  blk_point [iblk, V, idx t]

/-! ## The arithmetic -/

/-- The two spellings of the gated activation's gradient in its gate, on real numbers. -/
theorem silu_grad {d u a : EReal} (hd : IsReal d) (hu : IsReal u) (ha : IsReal a) :
    d * u * Ideal.logistic a * (1 + a * (1 - Ideal.logistic a))
      = d * u * Ideal.logistic a + a * (d * u) * (Ideal.logistic a * (1 - Ideal.logistic a)) := by
  obtain ⟨d, rfl⟩ := hd; obtain ⟨u, rfl⟩ := hu; obtain ⟨a, rfl⟩ := ha
  rw [Ideal.logistic_coe]
  norm_cast
  ring

/-! ## The precondition -/

/-- Every element of the four arguments is a real number. -/
structure RealArgs (c : Dev nD) : Prop where
  dy : ∀ i, IsReal (aDy m c i)
  w : ∀ i, IsReal (aW m c i)
  a : ∀ i, IsReal (aA m c i)
  u : ∀ i, IsReal (aU m c i)

instance : Subsingleton Cert.Pre_finite.S_.Idx := ⟨fun a b => funext fun i => i.elim0⟩

theorem real_of_pre (h : Cert.Pre_KernelIdeal_finite m) (c : Dev nD) : RealArgs m c := by
  have e := h c
  simp only [Cert.Pre_finite.fn, Cert.Pre_finite.fn_part1] at e
  have e := congrFun e (fun i => i.elim0)
  simp only [andi] at e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_⟩
  · have := Host.reduce_andi_all _ _ _ _ _ e0 i
    pointwise at this
    exact IsReal.of_cmp this
  · have := Host.reduce_andi_all _ _ _ _ _ e1 i
    pointwise at this
    exact IsReal.of_cmp this
  · have := Host.reduce_andi_all _ _ _ _ _ e2 i
    pointwise at this
    exact IsReal.of_cmp this
  · have := Host.reduce_andi_all _ _ _ _ _ e3 i
    pointwise at this
    exact IsReal.of_cmp this

/-! ## The claims -/

theorem run_kernel : θ_run defs (onTc (τ := τ) (main (F := Ideal))) ⟨m, fun _ => 0, g⟩ fun r => ∀ c : Dev nD,
      r.2.mem ((c : Thread nD τ).loc main_v0_0) = kDa m c
      ∧ r.2.mem ((c : Thread nD τ).loc main_v0_1) = kDu m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_da m c), (h c).2.1.trans (final_du m c), (h c).2.2⟩)
    (Cert.KernelIdeal.Value.run_blocks m g)

theorem algebraic : Cert.algebraic_KernelIdeal_ReferenceIdeal_pre_finite := by
  intro m g m' g' hpre hagree
  refine ⟨fun c => kDa m c, fun c => kDu m c, run_kernel m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · obtain ⟨e0, e1, e2, e3⟩ := hagree c
    rw [e0, e1, e2, e3]
    have R := real_of_pre m hpre c
    funext i
    pointwise [kDa, dF]
    exact (silu_grad (IsReal.sum _ fun k => (R.dy _).mul (R.w _)) (R.u _) (R.a _)).symm
  · obtain ⟨e0, e1, e2, e3⟩ := hagree c
    rw [e0, e1, e2]
    funext i
    pointwise [kDu, dF]
    rw [mul_comm, ← mul_assoc]
    rfl

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

end Cert.Proof.FfnDown
end
-- ==== Proof.AttnRun.lean ====
/-
  The attention-backward kernel's run, at any scalars: its body once, the arrays' contents it leaves, and the frame.
-/
module

public import proofs.«01_k».proof.Proof.Gen.Kernel2Ideal.Frame
public import proofs.«01_k».proof.Proof.Gen.Kernel2Ideal.Loops
public import Idealize.ShloMosaic.Lib.Tactic
public import Idealize.ShloMosaic.Lib.Claim
public import Idealize.ShloMosaic.Lib.Pipeline.TableIdle

@[expose] public section

set_option maxRecDepth 65536

noncomputable section

namespace AttnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple on whole staging memrefs: from the inputs' at read contents `xK` and the outputs' and the two
    accumulators' at anything, it runs to the inputs as they were and the outputs at `oK`. -/
def Runs (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec F S2048x256 .bf16) (x1 : Vec F S2048x256 .bf16) (x2 : Vec F S2048x128 .bf16) (x3 : Vec F S1x4x512x512 .f32) (x4 : Vec F S2048x128 .bf16) (x5 : Vec F S2048x128 .f32) (x6 : Vec F S2048x128 .bf16) (o7 : Vec F S2048x128 .bf16) (o8 : Vec F S2048x128 .bf16) (o9 : Vec F S2048x128 .bf16) (o10 : Vec F S2048x128 .f32) (o11 : Vec F S2048x128 .f32) : Prop :=
  ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare o11 ∗ (∃ d, owns (c : Thread nD τ) arg14 fullShare d) ∗ (∃ d, owns (c : Thread nD τ) arg15 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K

/-- Five contents satisfying `P`, packed. -/
def pack {A B C D E : Type} (P : A → B → C → D → E → Prop) {a : A} {b : B} {c : C} {d : D} {e : E} (h : P a b c d e) :
    { out : A × B × C × D × E // P out.1 out.2.1 out.2.2.1 out.2.2.2.1 out.2.2.2.2 } := ⟨(a, b, c, d, e), h⟩

set_option sl_exec.resultNames true in
set_option maxHeartbeats 0 in
/-- The run of the body: the five arrays it leaves (dq, dk, dv and the two half-swapped copies), and the triple. Its two
    counted loops make no trip. -/
def run (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec F S2048x256 .bf16) (x1 : Vec F S2048x256 .bf16) (x2 : Vec F S2048x128 .bf16) (x3 : Vec F S1x4x512x512 .f32) (x4 : Vec F S2048x128 .bf16) (x5 : Vec F S2048x128 .f32) (x6 : Vec F S2048x128 .bf16) :
    { out : Vec F S2048x128 .bf16 × Vec F S2048x128 .bf16 × Vec F S2048x128 .bf16 × Vec F S2048x128 .f32 × Vec F S2048x128 .f32 // Runs c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 out.1 out.2.1 out.2.2.1 out.2.2.2.1 out.2.2.2.2 } := by
    apply pack (Runs c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)
    intro E K
    simp only [cc0_attn_bwd_eq_skeleton]; unfold cc0_attn_bwd_skel
    have htr1 : k0_t1_loop.trips = 0 := by decide
    have htr2 : k0_t2_loop.trips = 0 := by decide
    iintro ⟨H0, H1, H2, H3, H4, H5, H6, ⟨%d7, H7⟩, ⟨%d8, H8⟩, ⟨%d9, H9⟩, ⟨%d10, H10⟩, ⟨%d11, H11⟩, ⟨%d12, H12⟩, ⟨%d13, H13⟩, Hk⟩
    ihave H0 := (rep_of_owns (c : Thread nD τ) arg2 fullShare x0) $$ H0
    ihave H1 := (rep_of_owns (c : Thread nD τ) arg3 fullShare x1) $$ H1
    ihave H2 := (rep_of_owns (c : Thread nD τ) arg4 fullShare x2) $$ H2
    ihave H3 := (rep_of_owns (c : Thread nD τ) arg5 fullShare x3) $$ H3
    ihave H4 := (rep_of_owns (c : Thread nD τ) arg6 fullShare x4) $$ H4
    ihave H5 := (rep_of_owns (c : Thread nD τ) arg7 fullShare x5) $$ H5
    ihave H6 := (rep_of_owns (c : Thread nD τ) arg8 fullShare x6) $$ H6
    unfold owns
    icases H7 with ⟨%f7, -, H7⟩; icases H8 with ⟨%f8, -, H8⟩; icases H9 with ⟨%f9, -, H9⟩; icases H10 with ⟨%f10, -, H10⟩
    icases H11 with ⟨%f11, -, H11⟩; icases H12 with ⟨%f12, -, H12⟩; icases H13 with ⟨%f13, -, H13⟩
    sl_exec
    sl_step
    iapply Hk
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    isplitl [H7]
    · iexists _; isplitr
      swap; · iexact H7
      ipureintro
      exact View.read_writes_eq_canon _ _ _ (View.cover_of_tiled _ ![512, 128] (by rfl))
    isplitl [H8]
    · iexists _; isplitr
      swap; · iexact H8
      ipureintro
      exact View.read_writes_eq_canon _ _ _ (View.cover_of_tiled _ ![2048, 128] (by rfl))
    isplitl [H9]
    · iexists _; isplitr
      swap; · iexact H9
      ipureintro
      exact View.read_writes_eq_canon _ _ _ (View.cover_of_tiled _ ![2048, 128] (by rfl))
    isplitl [H10]
    · iexists _; isplitr
      swap; · iexact H10
      ipureintro
      exact View.read_writes_eq_canon _ _ _ (View.cover_of_tiled _ ![512, 128] (by rfl))
    isplitl [H11]
    · iexists _; isplitr
      swap; · iexact H11
      ipureintro
      exact View.read_writes_eq_canon _ _ _ (View.cover_of_tiled _ ![2048, 128] (by rfl))
    isplitl [H12]
    · iexists _; iexists _; isplitr
      swap; · iexact H12
      ipureintro; rfl
    iexists _; iexists _; isplitr
    swap; · iexact H13
    ipureintro; rfl

/-- The run at point `t`, on the point's staging buffers and the two scratch arrays, the inputs at their blocks. -/
def runAt (c : Dev nD) (t : Fin cfg0.N) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t)

/-- The proof data of the pipeline on core `c`: the arrays as the region finds them; after the body at point `t` each
    input's buffer at its block and each output's at what the run leaves; the invariant the scoped rest (the two
    accumulators at anything) and the generator register; nothing owed; the shares of an array two windows read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (runAt m c t).1.1
    | ⟨8, _⟩ => (runAt m c t).1.2.1
    | ⟨9, _⟩ => (runAt m c t).1.2.2.1
    | ⟨10, _⟩ => (runAt m c t).1.2.2.2.1
    | ⟨11, _⟩ => (runAt m c t).1.2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (runAt m c t).1.1 := by dsimp only [dats]
theorem after0_8 (c : Dev nD) (t : Fin cfg0.N) : (dats m 0 c).after 8 t = (runAt m c t).1.2.1 := by dsimp only [dats]
theorem after0_9 (c : Dev nD) (t : Fin cfg0.N) : (dats m 0 c).after 9 t = (runAt m c t).1.2.2.1 := by dsimp only [dats]
theorem after0_10 (c : Dev nD) (t : Fin cfg0.N) : (dats m 0 c).after 10 t = (runAt m c t).1.2.2.2.1 := by dsimp only [dats]
theorem after0_11 (c : Dev nD) (t : Fin cfg0.N) : (dats m 0 c).after 11 t = (runAt m c t).1.2.2.2.2 := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the run applies; the two accumulators come out of
    the invariant and go back into it at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨⟨%a0, Hs0⟩, ⟨%a1, Hs1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [Hs0]; · iexists a0; rw [owns_whole]; iexact Hs0
  isplitl [Hs1]; · iexists a1; rw [owns_whole]; iexact Hs1
  iintro ⟨H0, H1, H2, H3, H4, H5, H6, H7, H8, H9, H10, H11, ⟨%b0, Hs0⟩, ⟨%b1, Hs1⟩⟩
  ihave Hs0 := (Entails.of_eq (owns_whole (c : Thread nD τ) cc0_scratch0 fullShare b0)) $$ Hs0
  ihave Hs1 := (Entails.of_eq (owns_whole (c : Thread nD τ) cc0_scratch1 fullShare b1)) $$ Hs1
  isplitl [Hs0 Hs1 Hr]
  · isplitl [Hs0 Hs1]
    · isplitl [Hs0]; · iexists b0; iexact Hs0
      iexists b1; iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The launch: every array of the pipeline at what the proof data says, every other buffer as the lines after the region
    leave it, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame, at any scalars: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end AttnRun

end
-- ==== Proof.Products.lean ====
module

public import proofs.«01_k».proof.Defs
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import Idealize.ShloMosaic.Lib.Pointwise
public import Idealize.ShloMosaic.Lib.Claim
public import Idealize.ShloMosaic.Lib.Pipeline.Value
public import Idealize.ShloMosaic.Lib.Pipeline.ValueKit

/-! Products that run in blocks: the weight gradients (a scratch sum carried over four token blocks and written out after
the last one) and the gate's input gradient. No precondition: over the extended reals a sum of products may be cut into
blocks freely. -/

@[expose] public section

noncomputable section

open Idealize.ShloMosaic Idealize.ShloMosaic.TcCoe Idealize.SL.Sem

/-! ## The down projection's weight gradient -/

namespace Cert.Proof.GwDown

open Cert.Kernel3Ideal Cert.Kernel3Ideal.Gen

variable (m : (ℓ : Loc nD τ sig) → Buf (Elt Ideal) ℓ) (g : Dev nD → PrngReg)

/-- The first factor: one row per token. -/
abbrev aX (c : Dev nD) : FVec Ideal S8192x2816 .bf16 := m ((c : Thread nD τ).loc main_arg0)
/-- The second factor: one row per token. -/
abbrev aY (c : Dev nD) : FVec Ideal S8192x1024 .bf16 := m ((c : Thread nD τ).loc main_arg1)

/-- The result: the sum over all tokens of the products of the two rows. -/
def prod (c : Dev nD) : FVec Ideal S2816x1024 .bf16 := fun i =>
  ∑ k : Fin 8192, aX m c (ix2 k (i 0)) * aY m c (ix2 k (i 1))

/-- The two blocks a grid point reads. -/
abbrev bX (c : Dev nD) (t : Fin cfg0.N) : FVec Ideal S2048x1408 .bf16 := iblk m c 0 t
abbrev bY (c : Dev nD) (t : Fin cfg0.N) : FVec Ideal S2048x1024 .bf16 := iblk m c 1 t

/-- What one token block adds to an entry of the scratch sum. -/
def part (c : Dev nD) (t : Fin cfg0.N) (j : S1408x1024.Idx) : EReal :=
  ∑ k : Fin 2048, bX m c t (ix2 k (j 0)) * bY m c t (ix2 k (j 1))

theorem idx : ∀ t : Fin grid0.N, win0_0.index t = ![t.val % 4, t.val / 4] ∧ win0_1.index t = ![t.val % 4, 0]
    ∧ win0_2.index t = ![t.val / 4, 0] := by decide +kernel

/-- The scratch after the last token block of a run holds the sum over the run's four blocks. -/
theorem scratch (c : Dev nD) (t : Fin cfg0.N) (h : t.val % 4 = 4 - 1) (j : S1408x1024.Idx) :
    (outsAt0 m c t.val t.isLt).2 j
      = 0 + ∑ s : Fin 4, part m c ⟨4 * (t.val / 4) + s.val, by have := t.isLt; have := s.isLt; omega⟩ j := by
  rw [Pipeline.eq_sum_fin_of_reset_step_apply_of_flush (fun n h => (outsAt0 m c n h).2) 4 (fun _ => (0 : EReal)) (part m c)
    (fun t h j => by
      rw [outsAt0_A m c t h (by omega)]
      frame_out
      pointwise [k0_pay1, k0_pay2, part])
    (fun t h j => by
      by_cases h1 : t.val % 4 = 3
      · rw [outsAt0_C m c t h h1]
        frame_out
        pointwise [k0_pay2, part]
        exact congrArg (· + _) (congrFun (Memref.IsWhole.read_unread _ _) j)
      · rw [outsAt0_B m c t h h1]
        frame_out
        pointwise [k0_pay2, part]
        exact congrArg (· + _) (congrFun (Memref.IsWhole.read_unread _ _) j)) t h j]

theorem final (c : Dev nD) : (dats m 0 c).arrAt 2 (cfgs 0).N = prod m c := by
  refine (dats m 0 c).arrAt_eq_of_covers 2 _ (by decide +kernel) fun t hf y => ?_
  have h3 : t.val % 4 = 3 := (flush0_2 t).mp hf
  have hout : (outsAt0 m c t.val t.isLt).1 = fun j => (outsAt0 m c t.val t.isLt).2 j := by
    rw [outsAt0_C m c t (by omega) h3]
    frame_out
    funext j
    pointwise [k0_pay3]
  blk_simp
  rw [after0_2, hout]
  dsimp only
  rw [scratch m c t h3, zero_add]
  refine Fin.sum_mul_add_congr (S := 4) (n := 2048) (f := fun k : Fin 8192 => aX m c (ix2 k (_ : Fin 2816)) * aY m c (ix2 k (_ : Fin 1024))) fun s k hl => ?_
  generalize hp : (⟨4 * (t.val / 4) + s.val, _⟩ : Fin cfg0.N) = p
  have hv : p.val = 4 * (t.val / 4) + s.val := by rw [← hp]
  congr 1 <;> blk_point [bX, bY, iblk, V, idx t, idx p, hv]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel3Ideal.Value.run_blocks m g)

theorem algebraic : Cert.algebraic_Kernel3Ideal_Reference3Ideal := by
  intro m g m' g' _ hagree
  refine ⟨fun c => prod m c, run_kernel m g, ?_⟩
  refine (θ_run Cert.Reference3Ideal.defs _ _).mono (fun _ h c => ⟨(h c).1.trans ?_, (h c).2⟩)
    (Cert.Reference3Ideal.Value.run (F := Ideal) m' g')
  obtain ⟨e0, e1⟩ := hagree c
  rw [e0, e1]
  funext i
  pointwise [prod]
  exact Finset.sum_congr rfl fun k _ => mul_comm _ _

theorem frame_ref (m : (ℓ : Loc Cert.Reference3Ideal.nD Cert.Reference3Ideal.τ Cert.Reference3Ideal.sig) → Buf (Elt Ideal) ℓ)
    (g : Dev Cert.Reference3Ideal.nD → PrngReg) :
    θ_run Cert.Reference3Ideal.defs (onTc (τ := Cert.Reference3Ideal.τ) (Cert.Reference3Ideal.main (F := Ideal))) ⟨m, fun _ => 0, g⟩
      fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0 :=
  (θ_run Cert.Reference3Ideal.defs _ _).mono (fun r h => ⟨fun c => (h c).2,
      Idealize.ShloMosaic.sem_eq_zero_of_no_sems (by decide) r.2⟩)
    (Cert.Reference3Ideal.Value.run (F := Ideal) m g)

end Cert.Proof.GwDown

/-! ## The gate projection's weight gradient -/

namespace Cert.Proof.GwGate

open Cert.Kernel4Ideal Cert.Kernel4Ideal.Gen

variable (m : (ℓ : Loc nD τ sig) → Buf (Elt Ideal) ℓ) (g : Dev nD → PrngReg)

/-- The first factor: one row per token. -/
abbrev aX (c : Dev nD) : FVec Ideal S8192x2816 .bf16 := m ((c : Thread nD τ).loc main_arg0)
/-- The second factor: one row per token. -/
abbrev aY (c : Dev nD) : FVec Ideal S8192x1024 .bf16 := m ((c : Thread nD τ).loc main_arg1)

/-- The result: the sum over all tokens of the products of the two rows. -/
def prod (c : Dev nD) : FVec Ideal S2816x1024 .bf16 := fun i =>
  ∑ k : Fin 8192, aX m c (ix2 k (i 0)) * aY m c (ix2 k (i 1))

/-- The two blocks a grid point reads. -/
abbrev bX (c : Dev nD) (t : Fin cfg0.N) : FVec Ideal S2048x1408 .bf16 := iblk m c 0 t
abbrev bY (c : Dev nD) (t : Fin cfg0.N) : FVec Ideal S2048x1024 .bf16 := iblk m c 1 t

/-- What one token block adds to an entry of the scratch sum. -/
def part (c : Dev nD) (t : Fin cfg0.N) (j : S1408x1024.Idx) : EReal :=
  ∑ k : Fin 2048, bX m c t (ix2 k (j 0)) * bY m c t (ix2 k (j 1))

theorem idx : ∀ t : Fin grid0.N, win0_0.index t = ![t.val % 4, t.val / 4] ∧ win0_1.index t = ![t.val % 4, 0]
    ∧ win0_2.index t = ![t.val / 4, 0] := by decide +kernel

/-- The scratch after the last token block of a run holds the sum over the run's four blocks. -/
theorem scratch (c : Dev nD) (t : Fin cfg0.N) (h : t.val % 4 = 4 - 1) (j : S1408x1024.Idx) :
    (outsAt0 m c t.val t.isLt).2 j
      = 0 + ∑ s : Fin 4, part m c ⟨4 * (t.val / 4) + s.val, by have := t.isLt; have := s.isLt; omega⟩ j := by
  rw [Pipeline.eq_sum_fin_of_reset_step_apply_of_flush (fun n h => (outsAt0 m c n h).2) 4 (fun _ => (0 : EReal)) (part m c)
    (fun t h j => by
      rw [outsAt0_A m c t h (by omega)]
      frame_out
      pointwise [k0_pay1, k0_pay2, part])
    (fun t h j => by
      by_cases h1 : t.val % 4 = 3
      · rw [outsAt0_C m c t h h1]
        frame_out
        pointwise [k0_pay2, part]
        exact congrArg (· + _) (congrFun (Memref.IsWhole.read_unread _ _) j)
      · rw [outsAt0_B m c t h h1]
        frame_out
        pointwise [k0_pay2, part]
        exact congrArg (· + _) (congrFun (Memref.IsWhole.read_unread _ _) j)) t h j]

theorem final (c : Dev nD) : (dats m 0 c).arrAt 2 (cfgs 0).N = prod m c := by
  refine (dats m 0 c).arrAt_eq_of_covers 2 _ (by decide +kernel) fun t hf y => ?_
  have h3 : t.val % 4 = 3 := (flush0_2 t).mp hf
  have hout : (outsAt0 m c t.val t.isLt).1 = fun j => (outsAt0 m c t.val t.isLt).2 j := by
    rw [outsAt0_C m c t (by omega) h3]
    frame_out
    funext j
    pointwise [k0_pay3]
  blk_simp
  rw [after0_2, hout]
  dsimp only
  rw [scratch m c t h3, zero_add]
  refine Fin.sum_mul_add_congr (S := 4) (n := 2048) (f := fun k : Fin 8192 => aX m c (ix2 k (_ : Fin 2816)) * aY m c (ix2 k (_ : Fin 1024))) fun s k hl => ?_
  generalize hp : (⟨4 * (t.val / 4) + s.val, _⟩ : Fin cfg0.N) = p
  have hv : p.val = 4 * (t.val / 4) + s.val := by rw [← hp]
  congr 1 <;> blk_point [bX, bY, iblk, V, idx t, idx p, hv]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel4Ideal.Value.run_blocks m g)

theorem algebraic : Cert.algebraic_Kernel4Ideal_Reference4Ideal := by
  intro m g m' g' _ hagree
  refine ⟨fun c => prod m c, run_kernel m g, ?_⟩
  refine (θ_run Cert.Reference4Ideal.defs _ _).mono (fun _ h c => ⟨(h c).1.trans ?_, (h c).2⟩)
    (Cert.Reference4Ideal.Value.run (F := Ideal) m' g')
  obtain ⟨e0, e1⟩ := hagree c
  rw [e0, e1]
  funext i
  pointwise [prod]

theorem frame_ref (m : (ℓ : Loc Cert.Reference4Ideal.nD Cert.Reference4Ideal.τ Cert.Reference4Ideal.sig) → Buf (Elt Ideal) ℓ)
    (g : Dev Cert.Reference4Ideal.nD → PrngReg) :
    θ_run Cert.Reference4Ideal.defs (onTc (τ := Cert.Reference4Ideal.τ) (Cert.Reference4Ideal.main (F := Ideal))) ⟨m, fun _ => 0, g⟩
      fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
        ∧ r.2.sem = fun _ => 0 :=
  (θ_run Cert.Reference4Ideal.defs _ _).mono (fun r h => ⟨fun c => (h c).2,
      Idealize.ShloMosaic.sem_eq_zero_of_no_sems (by decide) r.2⟩)
    (Cert.Reference4Ideal.Value.run (F := Ideal) m g)

end Cert.Proof.GwGate

/-! ## The up projection's weight gradient -/

namespace Cert.Proof.GwUp

open Cert.Kernel5Ideal Cert.Kernel5Ideal.Gen

variable (m : (ℓ : Loc nD τ sig) → Buf (Elt Ideal) ℓ) (g : Dev nD → PrngReg)

/-- The first factor: one row per token. -/
abbrev aX (c : Dev nD) : FVec Ideal S8192x2816 .bf16 := m ((c : Thread nD τ).loc main_arg0)
/-- The second factor: one row per token. -/
abbrev aY (c : Dev nD) : FVec Ideal S8192x1024 .bf16 := m ((c : Thread nD τ).loc main_arg1)

/-- The result: the sum over all tokens of the products of the two rows. -/
def prod (c : Dev nD) : FVec Ideal S2816x1024 .bf16 := fun i =>
  ∑ k : Fin 8192, aX m c (ix2 k (i 0)) * aY m c (ix2 k (i 1))

/-- The two blocks a grid point reads. -/
abbrev bX (c : Dev nD) (t : Fin cfg0.N) : FVec Ideal S2048x1408 .bf16 := iblk m c 0 t
abbrev bY (c : Dev nD) (t : Fin cfg0.N) : FVec Ideal S2048x1024 .bf16 := iblk m c 1 t

/-- What one token block adds to an entry of the scratch sum. -/
def part (c : Dev nD) (t : Fin cfg0.N) (j : S1408x1024.Idx) : EReal :=
  ∑ k : Fin 2048, bX m c t (ix2 k (j 0)) * bY m c t (ix2 k (j 1))

theorem idx : ∀ t : Fin grid0.N, win0_0.index t = ![t.val % 4, t.val / 4] ∧ win0_1.index t = ![t.val % 4, 0]
    ∧ win0_2.index t = ![t.val / 4, 0] := by decide +kernel

/-- The scratch after the last token block of a run holds the sum over the run's four blocks. -/
theorem scratch (c : Dev nD) (t : Fin cfg0.N) (h : t.val % 4 = 4 - 1) (j : S1408x1024.Idx) :
    (outsAt0 m c t.val t.isLt).2 j
      = 0 + ∑ s : Fin 4, part m c ⟨4 * (t.val / 4) + s.val, by have := t.isLt; have := s.isLt; omega⟩ j := by
  rw [Pipeline.eq_sum_fin_of_reset_step_apply_of_flush (fun n h => (outsAt0 m c n h).2) 4 (fun _ => (0 : EReal)) (part m c)
    (fun t h j => by
      rw [outsAt0_A m c t h (by omega)]
      frame_out
      pointwise [k0_pay1, k0_pay2, part])
    (fun t h j => by
      by_cases h1 : t.val % 4 = 3
      · rw [outsAt0_C m c t h h1]
        frame_out
        pointwise [k0_pay2, part]
        exact congrArg (· + _) (congrFun (Memref.IsWhole.read_unread _ _) j)
      · rw [outsAt0_B m c t h h1]
        frame_out
        pointwise [k0_pay2, part]
        exact congrArg (· + _) (congrFun (Memref.IsWhole.read_unread _ _) j)) t h j]

theorem final (c : Dev nD) : (dats m 0 c).arrAt 2 (cfgs 0).N = prod m c := by
  refine (dats m 0 c).arrAt_eq_of_covers 2 _ (by decide +kernel) fun t hf y => ?_
  have h3 : t.val % 4 = 3 := (flush0_2 t).mp hf
  have hout : (outsAt0 m c t.val t.isLt).1 = fun j => (outsAt0 m c t.val t.isLt).2 j := by
    rw [outsAt0_C m c t (by omega) h3]
    frame_out
    funext j
    pointwise [k0_pay3]
  blk_simp
  rw [after0_2, hout]
  dsimp only
  rw [scratch m c t h3, zero_add]
  refine Fin.sum_mul_add_congr (S := 4) (n := 2048) (f := fun k : Fin 8192 => aX m c (ix2 k (_ : Fin 2816)) * aY m c (ix2 k (_ : Fin 1024))) fun s k hl => ?_
  generalize hp : (⟨4 * (t.val / 4) + s.val, _⟩ : Fin cfg0.N) = p
  have hv : p.val = 4 * (t.val / 4) + s.val := by rw [← hp]
  congr 1 <;> blk_point [bX, bY, iblk, V, idx t, idx p, hv]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel5Ideal.Value.run_blocks m g)

theorem algebraic : Cert.algebraic_Kernel5Ideal_Reference5Ideal := by
  intro m g m' g' _ hagree
  refine ⟨fun c => prod m c, run_kernel m g, ?_⟩
  refine (θ_run Cert.Reference5Ideal.defs _ _).mono (fun _ h c => ⟨(h c).1.trans ?_, (h c).2⟩)
    (Cert.Reference5Ideal.Value.run (F := Ideal) m' g')
  obtain ⟨e0, e1⟩ := hagree c
  rw [e0, e1]
  funext i
  pointwise [prod]

theorem frame_ref (m : (ℓ : Loc Cert.Reference5Ideal.nD Cert.Reference5Ideal.τ Cert.Reference5Ideal.sig) → Buf (Elt Ideal) ℓ)
    (g : Dev Cert.Reference5Ideal.nD → PrngReg) :
    θ_run Cert.Reference5Ideal.defs (onTc (τ := Cert.Reference5Ideal.τ) (Cert.Reference5Ideal.main (F := Ideal))) ⟨m, fun _ => 0, g⟩
      fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
        ∧ r.2.sem = fun _ => 0 :=
  (θ_run Cert.Reference5Ideal.defs _ _).mono (fun r h => ⟨fun c => (h c).2,
      Idealize.ShloMosaic.sem_eq_zero_of_no_sems (by decide) r.2⟩)
    (Cert.Reference5Ideal.Value.run (F := Ideal) m g)

end Cert.Proof.GwUp

/-! ## The output projection's weight gradient -/

namespace Cert.Proof.GwOut

open Cert.Kernel6Ideal Cert.Kernel6Ideal.Gen

variable (m : (ℓ : Loc nD τ sig) → Buf (Elt Ideal) ℓ) (g : Dev nD → PrngReg)

/-- The first factor: one row per token. -/
abbrev aX (c : Dev nD) : FVec Ideal S8192x1024 .bf16 := m ((c : Thread nD τ).loc main_arg0)
/-- The second factor: one row per token. -/
abbrev aY (c : Dev nD) : FVec Ideal S8192x1024 .bf16 := m ((c : Thread nD τ).loc main_arg1)

/-- The result: the sum over all tokens of the products of the two rows. -/
def prod (c : Dev nD) : FVec Ideal S1024x1024 .bf16 := fun i =>
  ∑ k : Fin 8192, aX m c (ix2 k (i 0)) * aY m c (ix2 k (i 1))

/-- The two blocks a grid point reads. -/
abbrev bX (c : Dev nD) (t : Fin cfg0.N) : FVec Ideal S2048x1024 .bf16 := iblk m c 0 t
abbrev bY (c : Dev nD) (t : Fin cfg0.N) : FVec Ideal S2048x1024 .bf16 := iblk m c 1 t

/-- What one token block adds to an entry of the scratch sum. -/
def part (c : Dev nD) (t : Fin cfg0.N) (j : S1024x1024.Idx) : EReal :=
  ∑ k : Fin 2048, bX m c t (ix2 k (j 0)) * bY m c t (ix2 k (j 1))

theorem idx : ∀ t : Fin grid0.N, win0_0.index t = ![t.val % 4, t.val / 4] ∧ win0_1.index t = ![t.val % 4, 0]
    ∧ win0_2.index t = ![t.val / 4, 0] := by decide +kernel

/-- The scratch after the last token block of a run holds the sum over the run's four blocks. -/
theorem scratch (c : Dev nD) (t : Fin cfg0.N) (h : t.val % 4 = 4 - 1) (j : S1024x1024.Idx) :
    (outsAt0 m c t.val t.isLt).2 j
      = 0 + ∑ s : Fin 4, part m c ⟨4 * (t.val / 4) + s.val, by have := t.isLt; have := s.isLt; omega⟩ j := by
  rw [Pipeline.eq_sum_fin_of_reset_step_apply_of_flush (fun n h => (outsAt0 m c n h).2) 4 (fun _ => (0 : EReal)) (part m c)
    (fun t h j => by
      rw [outsAt0_A m c t h (by omega)]
      frame_out
      pointwise [k0_pay1, k0_pay2, part])
    (fun t h j => by
      by_cases h1 : t.val % 4 = 3
      · rw [outsAt0_C m c t h h1]
        frame_out
        pointwise [k0_pay2, part]
        exact congrArg (· + _) (congrFun (Memref.IsWhole.read_unread _ _) j)
      · rw [outsAt0_B m c t h h1]
        frame_out
        pointwise [k0_pay2, part]
        exact congrArg (· + _) (congrFun (Memref.IsWhole.read_unread _ _) j)) t h j]

theorem final (c : Dev nD) : (dats m 0 c).arrAt 2 (cfgs 0).N = prod m c := by
  refine (dats m 0 c).arrAt_eq_of_covers 2 _ (by decide +kernel) fun t hf y => ?_
  have h3 : t.val % 4 = 3 := (flush0_2 t).mp hf
  have hout : (outsAt0 m c t.val t.isLt).1 = fun j => (outsAt0 m c t.val t.isLt).2 j := by
    rw [outsAt0_C m c t (by omega) h3]
    frame_out
    funext j
    pointwise [k0_pay3]
  blk_simp
  rw [after0_2, hout]
  dsimp only
  rw [scratch m c t h3, zero_add]
  refine Fin.sum_mul_add_congr (S := 4) (n := 2048) (f := fun k : Fin 8192 => aX m c (ix2 k (_ : Fin 1024)) * aY m c (ix2 k (_ : Fin 1024))) fun s k hl => ?_
  generalize hp : (⟨4 * (t.val / 4) + s.val, _⟩ : Fin cfg0.N) = p
  have hv : p.val = 4 * (t.val / 4) + s.val := by rw [← hp]
  congr 1 <;> blk_point [bX, bY, iblk, V, idx t, idx p, hv]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel6Ideal.Value.run_blocks m g)

theorem algebraic : Cert.algebraic_Kernel6Ideal_Reference6Ideal := by
  intro m g m' g' _ hagree
  refine ⟨fun c => prod m c, run_kernel m g, ?_⟩
  refine (θ_run Cert.Reference6Ideal.defs _ _).mono (fun _ h c => ⟨(h c).1.trans ?_, (h c).2⟩)
    (Cert.Reference6Ideal.Value.run (F := Ideal) m' g')
  obtain ⟨e0, e1⟩ := hagree c
  rw [e0, e1]
  funext i
  pointwise [prod]
  exact Finset.sum_congr rfl fun k _ => mul_comm _ _

theorem frame_ref (m : (ℓ : Loc Cert.Reference6Ideal.nD Cert.Reference6Ideal.τ Cert.Reference6Ideal.sig) → Buf (Elt Ideal) ℓ)
    (g : Dev Cert.Reference6Ideal.nD → PrngReg) :
    θ_run Cert.Reference6Ideal.defs (onTc (τ := Cert.Reference6Ideal.τ) (Cert.Reference6Ideal.main (F := Ideal))) ⟨m, fun _ => 0, g⟩
      fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
        ∧ r.2.sem = fun _ => 0 :=
  (θ_run Cert.Reference6Ideal.defs _ _).mono (fun r h => ⟨fun c => (h c).2,
      Idealize.ShloMosaic.sem_eq_zero_of_no_sems (by decide) r.2⟩)
    (Cert.Reference6Ideal.Value.run (F := Ideal) m g)

end Cert.Proof.GwOut

/-! ## The input projection's weight gradient -/

namespace Cert.Proof.GwIn

open Cert.Kernel7Ideal Cert.Kernel7Ideal.Gen

variable (m : (ℓ : Loc nD τ sig) → Buf (Elt Ideal) ℓ) (g : Dev nD → PrngReg)

/-- The first factor: one row per token. -/
abbrev aX (c : Dev nD) : FVec Ideal S8192x3200 .bf16 := m ((c : Thread nD τ).loc main_arg0)
/-- The second factor: one row per token. -/
abbrev aY (c : Dev nD) : FVec Ideal S8192x1024 .bf16 := m ((c : Thread nD τ).loc main_arg1)

/-- The result: the sum over all tokens of the products of the two rows. -/
def prod (c : Dev nD) : FVec Ideal S3200x1024 .bf16 := fun i =>
  ∑ k : Fin 8192, aX m c (ix2 k (i 0)) * aY m c (ix2 k (i 1))

/-- The two blocks a grid point reads. -/
abbrev bX (c : Dev nD) (t : Fin cfg0.N) : FVec Ideal S2048x640 .bf16 := iblk m c 0 t
abbrev bY (c : Dev nD) (t : Fin cfg0.N) : FVec Ideal S2048x1024 .bf16 := iblk m c 1 t

/-- What one token block adds to an entry of the scratch sum. -/
def part (c : Dev nD) (t : Fin cfg0.N) (j : S640x1024.Idx) : EReal :=
  ∑ k : Fin 2048, bX m c t (ix2 k (j 0)) * bY m c t (ix2 k (j 1))

theorem idx : ∀ t : Fin grid0.N, win0_0.index t = ![t.val % 4, t.val / 4] ∧ win0_1.index t = ![t.val % 4, 0]
    ∧ win0_2.index t = ![t.val / 4, 0] := by decide +kernel

/-- The scratch after the last token block of a run holds the sum over the run's four blocks. -/
theorem scratch (c : Dev nD) (t : Fin cfg0.N) (h : t.val % 4 = 4 - 1) (j : S640x1024.Idx) :
    (outsAt0 m c t.val t.isLt).2 j
      = 0 + ∑ s : Fin 4, part m c ⟨4 * (t.val / 4) + s.val, by have := t.isLt; have := s.isLt; omega⟩ j := by
  rw [Pipeline.eq_sum_fin_of_reset_step_apply_of_flush (fun n h => (outsAt0 m c n h).2) 4 (fun _ => (0 : EReal)) (part m c)
    (fun t h j => by
      rw [outsAt0_A m c t h (by omega)]
      frame_out
      pointwise [k0_pay1, k0_pay2, part])
    (fun t h j => by
      by_cases h1 : t.val % 4 = 3
      · rw [outsAt0_C m c t h h1]
        frame_out
        pointwise [k0_pay2, part]
        exact congrArg (· + _) (congrFun (Memref.IsWhole.read_unread _ _) j)
      · rw [outsAt0_B m c t h h1]
        frame_out
        pointwise [k0_pay2, part]
        exact congrArg (· + _) (congrFun (Memref.IsWhole.read_unread _ _) j)) t h j]

theorem final (c : Dev nD) : (dats m 0 c).arrAt 2 (cfgs 0).N = prod m c := by
  refine (dats m 0 c).arrAt_eq_of_covers 2 _ (by decide +kernel) fun t hf y => ?_
  have h3 : t.val % 4 = 3 := (flush0_2 t).mp hf
  have hout : (outsAt0 m c t.val t.isLt).1 = fun j => (outsAt0 m c t.val t.isLt).2 j := by
    rw [outsAt0_C m c t (by omega) h3]
    frame_out
    funext j
    pointwise [k0_pay3]
  blk_simp
  rw [after0_2, hout]
  dsimp only
  rw [scratch m c t h3, zero_add]
  refine Fin.sum_mul_add_congr (S := 4) (n := 2048) (f := fun k : Fin 8192 => aX m c (ix2 k (_ : Fin 3200)) * aY m c (ix2 k (_ : Fin 1024))) fun s k hl => ?_
  generalize hp : (⟨4 * (t.val / 4) + s.val, _⟩ : Fin cfg0.N) = p
  have hv : p.val = 4 * (t.val / 4) + s.val := by rw [← hp]
  congr 1 <;> blk_point [bX, bY, iblk, V, idx t, idx p, hv]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel7Ideal.Value.run_blocks m g)

theorem algebraic : Cert.algebraic_Kernel7Ideal_Reference7Ideal := by
  intro m g m' g' _ hagree
  refine ⟨fun c => prod m c, run_kernel m g, ?_⟩
  refine (θ_run Cert.Reference7Ideal.defs _ _).mono (fun _ h c => ⟨(h c).1.trans ?_, (h c).2⟩)
    (Cert.Reference7Ideal.Value.run (F := Ideal) m' g')
  obtain ⟨e0, e1⟩ := hagree c
  rw [e0, e1]
  funext i
  pointwise [prod]

theorem frame_ref (m : (ℓ : Loc Cert.Reference7Ideal.nD Cert.Reference7Ideal.τ Cert.Reference7Ideal.sig) → Buf (Elt Ideal) ℓ)
    (g : Dev Cert.Reference7Ideal.nD → PrngReg) :
    θ_run Cert.Reference7Ideal.defs (onTc (τ := Cert.Reference7Ideal.τ) (Cert.Reference7Ideal.main (F := Ideal))) ⟨m, fun _ => 0, g⟩
      fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
        ∧ r.2.sem = fun _ => 0 :=
  (θ_run Cert.Reference7Ideal.defs _ _).mono (fun r h => ⟨fun c => (h c).2,
      Idealize.ShloMosaic.sem_eq_zero_of_no_sems (by decide) r.2⟩)
    (Cert.Reference7Ideal.Value.run (F := Ideal) m g)

end Cert.Proof.GwIn

/-! ## The gate's input gradient -/

namespace Cert.Proof.DGate

open Cert.Kernel8Ideal Cert.Kernel8Ideal.Gen

variable (m : (ℓ : Loc nD τ sig) → Buf (Elt Ideal) ℓ) (g : Dev nD → PrngReg)

/-- The gradient in the gate's activation: one row per token. -/
abbrev aX (c : Dev nD) : FVec Ideal S8192x2816 .bf16 := m ((c : Thread nD τ).loc main_arg0)
/-- The gate's weight, one row per gate column. -/
abbrev aW (c : Dev nD) : FVec Ideal S2816x1024 .bf16 := m ((c : Thread nD τ).loc main_arg1)

/-- The result: the rows of the gradient times the weight. -/
def prod (c : Dev nD) : FVec Ideal S8192x1024 .bf16 := fun i =>
  ∑ k : Fin 2816, aX m c (ix2 (i 0) k) * aW m c (ix2 k (i 1))

theorem idx : ∀ t : Fin grid0.N, win0_0.index t = ![t.val, 0] ∧ win0_1.index t = ![0, 0]
    ∧ win0_2.index t = ![t.val, 0] := by decide +kernel

theorem final (c : Dev nD) : (dats m 0 c).arrAt 2 (cfgs 0).N = prod m c := by
  refine (dats m 0 c).arrAt_eq_of_covers 2 _ (by decide +kernel) fun t hf y => ?_
  blk_simp
  rw [after0_2]
  frame_out
  pointwise [k0_pay1, prod]
  blk_point [iblk, V, idx t]

theorem run_kernel : θ_run defs (onTc (τ := τ) (main (F := Ideal))) ⟨m, fun _ => 0, g⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel8Ideal.Value.run_blocks m g)

theorem algebraic : Cert.algebraic_Kernel8Ideal_Reference8Ideal := by
  intro m g m' g' _ hagree
  refine ⟨fun c => prod m c, run_kernel m g, ?_⟩
  refine (θ_run Cert.Reference8Ideal.defs _ _).mono (fun _ h c => ⟨(h c).1.trans ?_, (h c).2⟩)
    (Cert.Reference8Ideal.Value.run (F := Ideal) m' g')
  obtain ⟨e0, e1⟩ := hagree c
  rw [e0, e1]
  funext i
  pointwise [prod]

theorem frame_ref (m : (ℓ : Loc Cert.Reference8Ideal.nD Cert.Reference8Ideal.τ Cert.Reference8Ideal.sig) → Buf (Elt Ideal) ℓ)
    (g : Dev Cert.Reference8Ideal.nD → PrngReg) :
    θ_run Cert.Reference8Ideal.defs (onTc (τ := Cert.Reference8Ideal.τ) (Cert.Reference8Ideal.main (F := Ideal))) ⟨m, fun _ => 0, g⟩
      fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
        ∧ r.2.sem = fun _ => 0 :=
  (θ_run Cert.Reference8Ideal.defs _ _).mono (fun r h => ⟨fun c => (h c).2,
      Idealize.ShloMosaic.sem_eq_zero_of_no_sems (by decide) r.2⟩)
    (Cert.Reference8Ideal.Value.run (F := Ideal) m g)

end Cert.Proof.DGate

end
-- ==== Proof.AttnHead.lean ====
/-
  One attention head over the real numbers: the weights, the output, and the gradients by the queries, keys, values and
  the gate, with the identities the two programs' spellings of the gradients come to.
-/
module

public import proofs.«01_k».proof.Proof.Reals

@[expose] public section

noncomputable section

namespace Attn

open Idealize.ShloMosaic Cert.Proof

/-- A head's inputs: queries, keys, values, the output's cotangent, the gate's cumulative sums, and how many times a
    query position takes a key position. -/
structure Head where
  q : Fin 2048 → Fin 64 → ℝ
  k : Fin 2048 → Fin 64 → ℝ
  v : Fin 2048 → Fin 64 → ℝ
  d : Fin 2048 → Fin 64 → ℝ
  c : Fin 2048 → ℝ
  n : Fin 2048 → Fin 2048 → ℝ

namespace Head

variable (H : Head)

/-- The logit of query `t` at key `s`, -/
def X (t s : Fin 2048) : ℝ := (∑ i, H.q t i * H.k s i) * (1 / 8) + (H.c t - H.c s)
/-- its weight, -/
def w (t s : Fin 2048) : ℝ := H.n t s * Real.exp (H.X t s)
/-- the weights' sum, -/
def tot (t : Fin 2048) : ℝ := ∑ s, H.w t s
/-- the weighted values, -/
def num (t : Fin 2048) (i : Fin 64) : ℝ := ∑ s, H.w t s * H.v s i
/-- the output. -/
def o (t : Fin 2048) (i : Fin 64) : ℝ := H.num t i / H.tot t
/-- The cotangent along the output, -/
def del (t : Fin 2048) : ℝ := ∑ i, H.d t i * H.o t i
/-- and along a value. -/
def g (t s : Fin 2048) : ℝ := ∑ i, H.d t i * H.v s i
/-- The gradient by a logit. -/
def ds (t s : Fin 2048) : ℝ := H.w t s / H.tot t * (H.g t s - H.del t)
/-- The gradients by the queries, keys, values and the gate. -/
def dq (t : Fin 2048) (i : Fin 64) : ℝ := (∑ s, H.ds t s * H.k s i) * (1 / 8)
def dk (s : Fin 2048) (i : Fin 64) : ℝ := (∑ t, H.ds t s * H.q t i) * (1 / 8)
def dv (s : Fin 2048) (i : Fin 64) : ℝ := ∑ t, H.w t s / H.tot t * H.d t i
def dc (t : Fin 2048) : ℝ := (∑ s, H.ds t s) - ∑ t', H.ds t' t

/-- A query takes keys no negative number of times and its own position at least once. -/
structure Pos : Prop where
  nonneg : ∀ t s, 0 ≤ H.n t s
  diag : ∀ t, 0 < H.n t t

variable {H}

theorem Pos.tot (h : H.Pos) (t : Fin 2048) : 0 < H.tot t :=
  Finset.sum_pos' (fun s _ => mul_nonneg (h.nonneg t s) (Real.exp_pos _).le)
    ⟨t, Finset.mem_univ _, mul_pos (h.diag t) (Real.exp_pos _)⟩

theorem Pos.tot_ne (h : H.Pos) (t : Fin 2048) : H.tot t ≠ 0 := (h.tot t).ne'

end Head

end Attn

namespace Cert.Proof

open Idealize.ShloMosaic

theorem log_real {x : ℝ} (h : 0 < x) : Ideal.log (x : EReal) = ((Real.log x : ℝ) : EReal) := by
  rw [Ideal.log_coe, if_neg (not_le.2 h)]

theorem ofBits_eighth : Ideal.ofBits .f32 1040187392#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_ninf : Ideal.ofBits .f32 0xFF800000#32 = ⊥ := by
  simp [Ideal.ofBits, Ideal.ieee]

theorem ite_coe (p : Prop) [Decidable p] (a b : ℝ) : (if p then (a : EReal) else (b : EReal)) = ((if p then a else b : ℝ) : EReal) := by
  split <;> rfl

end Cert.Proof

end
-- ==== Proof.AttnMask.lean ====
/-
  The heads of the attention's arrays, and the printed masks read as conditions on positions.
-/
module

public import proofs.«01_k».proof.Proof.AttnHead
public import Idealize.ShloMosaic.Lib.Pointwise

@[expose] public section

set_option maxRecDepth 65536

noncomputable section

namespace Attn

open Idealize.ShloMosaic Cert.Proof

/-- The attention's arguments over the real numbers: batch, position, head, lane. -/
structure Arrays where
  q : Fin 4 → Fin 2048 → Fin 16 → Fin 64 → ℝ
  k : Fin 4 → Fin 2048 → Fin 16 → Fin 64 → ℝ
  v : Fin 4 → Fin 2048 → Fin 16 → Fin 64 → ℝ
  c : Fin 4 → Fin 2048 → Fin 8 → ℝ
  d : Fin 4 → Fin 2048 → Fin 16 → Fin 64 → ℝ

/-- One of the dilated patterns takes the key: at most `W` behind, at a multiple of `r`. -/
def near (W r : ℕ) (t s : Fin 2048) : Prop := s ≤ t ∧ t.val - s.val ≤ W ∧ (t.val - s.val) % r = 0

instance (W r : ℕ) (t s : Fin 2048) : Decidable (near W r t s) := by unfold near; infer_instance

namespace Arrays

variable (A : Arrays) (b : Fin 4) (h : Fin 8)

/-- The head of the first eight, with the forget gate, -/
def fox : Head where
  q t i := A.q b t ⟨h, by omega⟩ i
  k t i := A.k b t ⟨h, by omega⟩ i
  v t i := A.v b t ⟨h, by omega⟩ i
  d t i := A.d b t ⟨h, by omega⟩ i
  c t := A.c b t h
  n t s := if s ≤ t then 1 else 0

/-- a head of the last eight, under the weights `n`, -/
def dil (n : Fin 2048 → Fin 2048 → ℝ) : Head where
  q t i := A.q b t ⟨8 + h, by omega⟩ i
  k t i := A.k b t ⟨8 + h, by omega⟩ i
  v t i := A.v b t ⟨8 + h, by omega⟩ i
  d t i := A.d b t ⟨8 + h, by omega⟩ i
  c _ := 0
  n := n

end Arrays

/-- one pattern's weights, -/
def one (W r : ℕ) (t s : Fin 2048) : ℝ := if near W r t s then 1 else 0
/-- and the three patterns' together. -/
def three (t s : Fin 2048) : ℝ := one 128 1 t s + one 512 4 t s + one 2048 16 t s

theorem Arrays.fox_pos (A : Arrays) (b : Fin 4) (h : Fin 8) : (A.fox b h).Pos where
  nonneg t s := by show (0:ℝ) ≤ if s ≤ t then 1 else 0; split <;> norm_num
  diag t := by show (0:ℝ) < if t ≤ t then 1 else 0; simp

theorem near_self (W r : ℕ) (t : Fin 2048) : near W r t t := by simp [near]
theorem one_nonneg (W r : ℕ) (t s : Fin 2048) : 0 ≤ one W r t s := by unfold one; split <;> norm_num
theorem one_self (W r : ℕ) (t : Fin 2048) : one W r t t = 1 := if_pos (near_self W r t)

theorem Arrays.one_pos (A : Arrays) (b : Fin 4) (h : Fin 8) (W r : ℕ) : (A.dil b h (one W r)).Pos where
  nonneg t s := one_nonneg ..
  diag t := by show 0 < one W r t t; rw [one_self]; norm_num

theorem Arrays.three_pos (A : Arrays) (b : Fin 4) (h : Fin 8) : (A.dil b h three).Pos where
  nonneg t s := add_nonneg (add_nonneg (one_nonneg ..) (one_nonneg ..)) (one_nonneg ..)
  diag t := by show 0 < three t t; unfold three; simp only [one_self]; norm_num

/-! ## The identities -/

theorem one_coe : (1 : EReal) = ((1 : ℝ) : EReal) := rfl

/-- The gradient by a logit as a softmax over one sum of weights spells it. -/
theorem ds_fox {A : Arrays} {b : Fin 4} {h : Fin 8} {t s : Fin 2048} (T : (A.fox b h).tot t ≠ 0) :
    (if s ≤ t then 1 else 0) * ((∑ x, (A.fox b h).d t x / (A.fox b h).tot t * (A.fox b h).v s x
        + ∑ _x : Fin 1, -∑ x, (A.fox b h).d t x * (1 / ((A.fox b h).tot t * (A.fox b h).tot t)) * (A.fox b h).num t x)
          * Real.exp ((A.fox b h).X t s)) = (A.fox b h).ds t s := by
  have e1 : ∑ x, (A.fox b h).d t x / (A.fox b h).tot t * (A.fox b h).v s x = (A.fox b h).g t s / (A.fox b h).tot t := by
    unfold Head.g; rw [Finset.sum_div]; exact Finset.sum_congr rfl fun _ _ => by ring
  have e2 : ∑ x, (A.fox b h).d t x * (1 / ((A.fox b h).tot t * (A.fox b h).tot t)) * (A.fox b h).num t x
      = (A.fox b h).del t / (A.fox b h).tot t := by
    unfold Head.del Head.o; rw [Finset.sum_div]; exact Finset.sum_congr rfl fun _ _ => by field_simp
  rw [e1, Fin.sum_univ_one, e2]
  show _ = (if s ≤ t then 1 else 0) * Real.exp ((A.fox b h).X t s) / _ * _
  field_simp; ring

namespace Arrays

variable (A : Arrays) (b : Fin 4) (h : Fin 8) (t s : Fin 2048) (i : Fin 64)

theorem X_dil (n : Fin 2048 → Fin 2048 → ℝ) :
    (A.dil b h n).X t s = (∑ i, (A.dil b h three).q t i * (A.dil b h three).k s i) * (1 / 8) := by
  show _ + ((0 : ℝ) - 0) = _
  rw [sub_zero, add_zero]; rfl

theorem w_three : (A.dil b h three).w t s
    = (A.dil b h (one 128 1)).w t s + (A.dil b h (one 512 4)).w t s + (A.dil b h (one 2048 16)).w t s := by
  show (one 128 1 t s + one 512 4 t s + one 2048 16 t s) * Real.exp ((A.dil b h three).X t s)
    = one 128 1 t s * Real.exp ((A.dil b h three).X t s) + one 512 4 t s * Real.exp ((A.dil b h three).X t s)
      + one 2048 16 t s * Real.exp ((A.dil b h three).X t s)
  ring

theorem tot_three : (A.dil b h three).tot t
    = (A.dil b h (one 128 1)).tot t + (A.dil b h (one 512 4)).tot t + (A.dil b h (one 2048 16)).tot t := by
  unfold Head.tot; simp only [w_three, Finset.sum_add_distrib]

theorem num_three : (A.dil b h three).num t i
    = (A.dil b h (one 128 1)).num t i + (A.dil b h (one 512 4)).num t i + (A.dil b h (one 2048 16)).num t i := by
  unfold Head.num; simp only [w_three, add_mul, Finset.sum_add_distrib]; rfl

/-- The cotangent of the patterns' common denominator. -/
theorem del_three : -((A.dil b h (one 2048 16)).del t * (1 / ((A.dil b h three).tot t * (A.dil b h three).tot t)) * (A.dil b h (one 2048 16)).tot t)
      + -((A.dil b h (one 512 4)).del t * (1 / ((A.dil b h three).tot t * (A.dil b h three).tot t)) * (A.dil b h (one 512 4)).tot t)
      + -((A.dil b h (one 128 1)).del t * (1 / ((A.dil b h three).tot t * (A.dil b h three).tot t)) * (A.dil b h (one 128 1)).tot t)
    = -((A.dil b h three).del t / (A.dil b h three).tot t) := by
  have T := (A.three_pos b h).tot_ne t
  have e (W r : ℕ) : (A.dil b h (one W r)).del t * (A.dil b h (one W r)).tot t
      = ∑ i, (A.dil b h three).d t i * (A.dil b h (one W r)).num t i := by
    have R := (A.one_pos b h W r).tot_ne t
    unfold Head.del Head.o; rw [Finset.sum_mul]
    exact Finset.sum_congr rfl fun _ _ => by rw [mul_assoc, div_mul_cancel₀ _ R]; rfl
  have e3 : (A.dil b h three).del t * (A.dil b h three).tot t = ∑ i, (A.dil b h three).d t i * (A.dil b h three).num t i := by
    unfold Head.del Head.o; rw [Finset.sum_mul]
    exact Finset.sum_congr rfl fun _ _ => by rw [mul_assoc, div_mul_cancel₀ _ T]
  simp only [num_three, mul_add, Finset.sum_add_distrib, ← e] at e3
  field_simp
  linarith

/-- The patterns' shares of the gradient by a logit are the gradient. -/
theorem ds_three : (A.dil b h three).ds t s * (1 / 8)
    = 1 / 8 * (one 2048 16 t s * Real.exp ((A.dil b h three).X t s) / (A.dil b h three).tot t
        * ((A.dil b h three).g t s - (A.dil b h three).del t))
      + 1 / 8 * (one 512 4 t s * Real.exp ((A.dil b h three).X t s) / (A.dil b h three).tot t
        * ((A.dil b h three).g t s - (A.dil b h three).del t))
      + 1 / 8 * (one 128 1 t s * Real.exp ((A.dil b h three).X t s) / (A.dil b h three).tot t
        * ((A.dil b h three).g t s - (A.dil b h three).del t)) := by
  show (one 128 1 t s + one 512 4 t s + one 2048 16 t s) * Real.exp _ / _ * _ * _ = _
  ring

/-- The gradient by a logit as one pattern's softmax and the mixture of the patterns spell it. -/
theorem ds_dil (W r : ℕ) : (if near W r t s then 1 else 0) * ((∑ x, (A.dil b h (one W r)).tot t / (A.dil b h three).tot t * (A.dil b h three).d t x
          / (A.dil b h (one W r)).tot t * (A.dil b h three).v s x
        + ((A.dil b h (one W r)).del t / (A.dil b h three).tot t + -((A.dil b h three).del t / (A.dil b h three).tot t)
          + ∑ _x : Fin 1, -∑ x, (A.dil b h (one W r)).tot t / (A.dil b h three).tot t * (A.dil b h three).d t x
              * (1 / ((A.dil b h (one W r)).tot t * (A.dil b h (one W r)).tot t)) * (A.dil b h (one W r)).num t x))
        * Real.exp ((A.dil b h three).X t s) * (1 / 8))
    = 1 / 8 * (one W r t s * Real.exp ((A.dil b h three).X t s) / (A.dil b h three).tot t
        * ((A.dil b h three).g t s - (A.dil b h three).del t)) := by
  have T := (A.three_pos b h).tot_ne t
  have R := (A.one_pos b h W r).tot_ne t
  have e1 : ∑ x, (A.dil b h (one W r)).tot t / (A.dil b h three).tot t * (A.dil b h three).d t x
      / (A.dil b h (one W r)).tot t * (A.dil b h three).v s x = (A.dil b h three).g t s / (A.dil b h three).tot t := by
    unfold Head.g; rw [Finset.sum_div]; exact Finset.sum_congr rfl fun _ _ => by field_simp
  have e2 : ∑ x, (A.dil b h (one W r)).tot t / (A.dil b h three).tot t * (A.dil b h three).d t x
      * (1 / ((A.dil b h (one W r)).tot t * (A.dil b h (one W r)).tot t)) * (A.dil b h (one W r)).num t x
      = (A.dil b h (one W r)).del t / (A.dil b h three).tot t := by
    unfold Head.del Head.o; rw [Finset.sum_div]
    refine Finset.sum_congr rfl fun x _ => ?_
    rw [show (A.dil b h three).d t x = (A.dil b h (one W r)).d t x from rfl]
    field_simp
  rw [e1, Fin.sum_univ_one, e2]
  show _ = 1 / 8 * ((if near W r t s then 1 else 0) * Real.exp _ / _ * _)
  field_simp; ring

end Arrays

/-! ## The printed masks -/

/-- The printed difference of two positions, -/
abbrev dist (t s : Fin 2048) : BitVec 32 := IntOp.subi (BitVec.ofNat 32 t) (BitVec.ofNat 32 s)

theorem dist_of_le {t s : Fin 2048} (e : s ≤ t) : dist t s = BitVec.ofNat 32 (t.val - s.val) := by
  have e' : s.val ≤ t.val := e
  unfold dist IntOp.subi
  apply BitVec.eq_of_toNat_eq
  simp; omega

theorem dist_of_lt {t s : Fin 2048} (e : t < s) : dist t s = 0#32 - BitVec.ofNat 32 (s.val - t.val) := by
  have e' : t.val < s.val := e
  unfold dist IntOp.subi
  apply BitVec.eq_of_toNat_eq
  simp; omega

theorem sge_nat : ∀ y : Fin 2048, IntOp.cmpi .sge (BitVec.ofNat 32 y.val) 0#32 = 1#1 := by decide +kernel
theorem sge_neg : ∀ y : Fin 2048, y.val ≠ 0 → IntOp.cmpi .sge (0#32 - BitVec.ofNat 32 y.val) 0#32 = 0#1 := by decide +kernel

/-- compared with zero, -/
theorem mask_causal (t s : Fin 2048) : IntOp.cmpi .sge (dist t s) 0#32 = if s ≤ t then 1#1 else 0#1 := by
  split
  · next e =>
    rw [dist_of_le e]
    exact sge_nat ⟨t.val - s.val, by omega⟩
  · next e =>
    have e' : t.val < s.val := not_le.1 e
    rw [dist_of_lt e']
    exact sge_neg ⟨s.val - t.val, by omega⟩ (by show s.val - t.val ≠ 0; omega)

/-- A dilated pattern's two other tests, at a distance. -/
def Tests (W r : ℕ) : Prop := ∀ y : Fin 2048, IntOp.andi (IntOp.cmpi .sle (BitVec.ofNat 32 y.val) (BitVec.ofNat 32 W))
  (IntOp.cmpi .eq (IntOp.remsi .host (BitVec.ofNat 32 y.val) (BitVec.ofNat 32 r)) 0#32)
  = if y.val ≤ W ∧ y.val % r = 0 then 1#1 else 0#1

theorem tests1 : Tests 128 1 := by unfold Tests; decide +kernel
theorem tests2 : Tests 512 4 := by unfold Tests; decide +kernel
theorem tests3 : Tests 2048 16 := by unfold Tests; decide +kernel

/-- and put through a dilated pattern's three tests. -/
theorem mask_near {W r : ℕ} (hW : Tests W r) (t s : Fin 2048) :
    IntOp.andi (IntOp.andi (IntOp.cmpi .sge (dist t s) 0#32) (IntOp.cmpi .sle (dist t s) (BitVec.ofNat 32 W)))
      (IntOp.cmpi .eq (IntOp.remsi .host (dist t s) (BitVec.ofNat 32 r)) 0#32) = if near W r t s then 1#1 else 0#1 := by
  rw [mask_causal]
  by_cases e : s ≤ t
  · rw [if_pos e, dist_of_le e]
    have := hW ⟨t.val - s.val, by omega⟩
    simp only [near, e, true_and]
    rw [← this]
    unfold IntOp.andi
    rw [BitVec.and_assoc]
    exact (by decide : ∀ z : BitVec 1, 1#1 &&& z = z) _
  · rw [if_neg e, if_neg (fun h => e h.1)]
    unfold IntOp.andi
    rw [BitVec.zero_and, BitVec.zero_and]

/-- A weight under its mask. -/
theorem select_weight (p : Prop) [Decidable p] (x : ℝ) :
    Scalar.select (if p then 1#1 else 0#1) (x : EReal) (0 : EReal) = (((if p then 1 else 0) * x : ℝ) : EReal) := by
  split <;> simp [Scalar.select]

end Attn

end
-- ==== Proof.AttnHost.lean ====
/-
  What the host lines before the attention's call compute: the forward's weights and outputs over the reals.
-/
module

public import proofs.«01_k».proof.Proof.AttnRun
public import proofs.«01_k».proof.Proof.AttnMask
public import Idealize.ShloMosaic.Lib.Pointwise
public import Idealize.ShloMosaic.Lib.Claim
public import Idealize.ShloMosaic.Lib.StableHlo.ReadAt

@[expose] public section

set_option maxRecDepth 65536

noncomputable section

namespace Attn.Host

open Cert.Kernel2Ideal Cert.Kernel2Ideal.Gen
open Idealize.ShloMosaic Idealize.ShloMosaic.TcCoe Idealize.ShloMosaic.StableHlo Cert.Proof Attn.Arrays

variable (m : (l : Loc nD τ sig) → Buf (Elt Ideal) l) (c : Dev nD) (A : Arrays)

/-- What the first `n` host operations leave. -/
abbrev U (n : ℕ) : Valuation τ sig (Elt Ideal) :=
  upto [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19].flatten (fun b => m (c, b)) n

/-- The launch arguments are `A`'s arrays. -/
structure At : Prop where
  q : ∀ b t h i, (m (c, Proc.tc.devRef main_arg0) : FVec Ideal S4x2048x16x64 .f32) (ix4 b t h i) = (A.q b t h i : EReal)
  k : ∀ b t h i, (m (c, Proc.tc.devRef main_arg1) : FVec Ideal S4x2048x16x64 .f32) (ix4 b t h i) = (A.k b t h i : EReal)
  v : ∀ b t h i, (m (c, Proc.tc.devRef main_arg2) : FVec Ideal S4x2048x16x64 .f32) (ix4 b t h i) = (A.v b t h i : EReal)
  g : ∀ b t h, (m (c, Proc.tc.devRef main_arg3) : FVec Ideal S4x2048x8 .f32) (ix3 b t h) = (A.c b t h : EReal)
  d : ∀ b t h i, (m (c, Proc.tc.devRef main_arg4) : FVec Ideal S4x2048x16x64 .f32) (ix4 b t h i) = (A.d b t h i : EReal)

variable {m c A} (H : At m c A) (b : Fin 4) (h : Fin 8) (t s : Fin 2048) (i : Fin 64) (j : Fin 8)

theorem causal : IntOp.cmpi .sge (IntOp.subi (BitVec.ofNat 32 t) (BitVec.ofNat 32 s)) 0#32 = if s ≤ t then 1#1 else 0#1 := mask_causal t s

/-- The three patterns' tests. -/
theorem near1 : IntOp.andi (IntOp.andi (if s ≤ t then 1#1 else 0#1) (IntOp.cmpi .sle (IntOp.subi (BitVec.ofNat 32 t) (BitVec.ofNat 32 s)) 128#32))
    (IntOp.cmpi .eq (IntOp.remsi .host (IntOp.subi (BitVec.ofNat 32 t) (BitVec.ofNat 32 s)) 1#32) 0#32) = if near 128 1 t s then 1#1 else 0#1 := by
  rw [← causal]; exact mask_near tests1 t s
theorem near2 : IntOp.andi (IntOp.andi (if s ≤ t then 1#1 else 0#1) (IntOp.cmpi .sle (IntOp.subi (BitVec.ofNat 32 t) (BitVec.ofNat 32 s)) 512#32))
    (IntOp.cmpi .eq (IntOp.remsi .host (IntOp.subi (BitVec.ofNat 32 t) (BitVec.ofNat 32 s)) 4#32) 0#32) = if near 512 4 t s then 1#1 else 0#1 := by
  rw [← causal]; exact mask_near tests2 t s
theorem near3 : IntOp.andi (IntOp.andi (if s ≤ t then 1#1 else 0#1) (IntOp.cmpi .sle (IntOp.subi (BitVec.ofNat 32 t) (BitVec.ofNat 32 s)) 2048#32))
    (IntOp.cmpi .eq (IntOp.remsi .host (IntOp.subi (BitVec.ofNat 32 t) (BitVec.ofNat 32 s)) 16#32) 0#32) = if near 2048 16 t s then 1#1 else 0#1 := by
  rw [← causal]; exact mask_near tests3 t s

/-- The three patterns' outputs, each by its share of the weights, are the output under all the weights. -/
theorem mix_out : Ideal.div ((A.dil b h (one 128 1)).tot t : EReal)
        (((A.dil b h (one 128 1)).tot t + (A.dil b h (one 512 4)).tot t + (A.dil b h (one 2048 16)).tot t : ℝ) : EReal)
      * Ideal.div ((A.dil b h (one 128 1)).num t i : EReal) ((A.dil b h (one 128 1)).tot t : EReal)
    + Ideal.div ((A.dil b h (one 512 4)).tot t : EReal)
        (((A.dil b h (one 128 1)).tot t + (A.dil b h (one 512 4)).tot t + (A.dil b h (one 2048 16)).tot t : ℝ) : EReal)
      * Ideal.div ((A.dil b h (one 512 4)).num t i : EReal) ((A.dil b h (one 512 4)).tot t : EReal)
    + Ideal.div ((A.dil b h (one 2048 16)).tot t : EReal)
        (((A.dil b h (one 128 1)).tot t + (A.dil b h (one 512 4)).tot t + (A.dil b h (one 2048 16)).tot t : ℝ) : EReal)
      * Ideal.div ((A.dil b h (one 2048 16)).num t i : EReal) ((A.dil b h (one 2048 16)).tot t : EReal)
    = ((A.dil b h three).o t i : EReal) := by
  have T1 := (A.one_pos b h 128 1).tot_ne t
  have T2 := (A.one_pos b h 512 4).tot_ne t
  have T3 := (A.one_pos b h 2048 16).tot_ne t
  have T := (A.three_pos b h).tot_ne t
  unfold Head.o
  rw [← tot_three, num_three, div_real T, div_real T, div_real T, div_real T1, div_real T2, div_real T3]
  simp only [← EReal.coe_mul, ← EReal.coe_add]
  congr 1
  field_simp

include H

theorem u25 : U m c 172 (Proc.tc.devRef main_v25) (ix3 h b t) = ((A.fox b h).tot t : EReal) := by
  after_reads_at; simp only [id]; pointwise
  simp only [H.q, H.k, H.g, ofBits_eighth, causal, select_weight, ← EReal.coe_mul, ← EReal.coe_sub, ← EReal.coe_add, ← coe_sum, Ideal.exp_coe, ← mul_assoc]
  rfl

theorem u29 : U m c 171 (Proc.tc.devRef main_v29) (ix4 h b t i) = ((A.fox b h).o t i : EReal) := by
  after_reads_at; simp only [id]; pointwise
  simp only [H.q, H.k, H.v, H.g, ofBits_eighth, causal, select_weight, ← EReal.coe_mul, ← EReal.coe_sub, ← EReal.coe_add, ← coe_sum, Ideal.exp_coe, ← mul_assoc]
  exact div_real ((A.fox_pos b h).tot_ne t)

theorem u111 : U m c 172 (Proc.tc.devRef main_v111) (ix3 h b t) = ((A.dil b h three).tot t : EReal) := by
  after_reads_at; simp only [id]; pointwise
  simp only [H.q, H.k, ofBits_eighth, causal, near1, near2, near3, select_weight, ← EReal.coe_mul, ← EReal.coe_add, ← coe_sum, Ideal.exp_coe, ← mul_assoc]
  rw [tot_three]; unfold Head.tot Head.w; simp only [X_dil]; rfl

theorem u127 : U m c 171 (Proc.tc.devRef main_v127) (ix4 h b t i) = ((A.dil b h three).o t i : EReal) := by
  after_reads_at; simp only [id]; pointwise
  simp only [H.q, H.k, H.v, ofBits_eighth, causal, near1, near2, near3, select_weight, ← EReal.coe_mul, ← EReal.coe_add, ← coe_sum, Ideal.exp_coe, ← mul_assoc]
  rw [← mix_out]; unfold Head.tot Head.num Head.w; simp only [X_dil]; rfl

omit H
end Attn.Host
end
-- ==== Proof.AttnOps.lean ====
/-
  The features that carry the gates beside the queries and the keys, and the halves of the lanes they are laid out in.
-/
module

public import proofs.«01_k».proof.Proof.AttnHost

@[expose] public section

set_option maxRecDepth 65536

noncomputable section

namespace Attn

namespace Arrays

variable (A : Arrays) (b : Fin 4) (g : Fin 16)

/-- Head `g` of batch row `b`. -/
def hd : Head := if h : g.val < 8 then A.fox b ⟨g, h⟩ else A.dil b ⟨g - 8, by omega⟩ three

variable {A b g}

theorem hd_fox (h : g.val < 8) : A.hd b g = A.fox b ⟨g, h⟩ := dif_pos h
theorem hd_dil (h : ¬ g.val < 8) : A.hd b g = A.dil b ⟨g - 8, by omega⟩ three := dif_neg h

theorem hd_at {α : Type} (f : Fin 16 → α) (h : ¬ g.val < 8) : f ⟨8 + (g.val - 8), by omega⟩ = f g :=
  congrArg f (Fin.ext (by show 8 + (g.val - 8) = g.val; omega))

variable (t : Fin 2048) (i : Fin 64)

theorem hd_q : (A.hd b g).q t i = A.q b t g i := by
  by_cases h : g.val < 8
  · rw [hd_fox h]; rfl
  · rw [hd_dil h]; exact hd_at (fun g => A.q b t g i) h
theorem hd_k : (A.hd b g).k t i = A.k b t g i := by
  by_cases h : g.val < 8
  · rw [hd_fox h]; rfl
  · rw [hd_dil h]; exact hd_at (fun g => A.k b t g i) h
theorem hd_v : (A.hd b g).v t i = A.v b t g i := by
  by_cases h : g.val < 8
  · rw [hd_fox h]; rfl
  · rw [hd_dil h]; exact hd_at (fun g => A.v b t g i) h
theorem hd_d : (A.hd b g).d t i = A.d b t g i := by
  by_cases h : g.val < 8
  · rw [hd_fox h]; rfl
  · rw [hd_dil h]; exact hd_at (fun g => A.d b t g i) h
theorem hd_c (h : ¬ g.val < 8) : (A.hd b g).c t = 0 := by rw [hd_dil h]; rfl

theorem hd_pos : (A.hd b g).Pos := by
  by_cases h : g.val < 8
  · rw [hd_fox h]; exact A.fox_pos ..
  · rw [hd_dil h]; exact A.three_pos ..

end Arrays

/-- Head `e` of pair `j`. -/
def head (j : Fin 8) (e : Fin 2) : Fin 16 := ⟨j * 2 + e, by omega⟩

/-- The lanes that add the gates to a logit: of a query, -/
def qx (H : Head) (g : Fin 16) (t : Fin 2048) (i : Fin 64) : ℝ :=
  if g.val < 8 then if i.val < 3 then 1 else if i.val = 3 then H.c t / Real.log 2 else 0 else 0
/-- and of a key. -/
def kx (H : Head) (g : Fin 16) (t : Fin 2048) (i : Fin 64) : ℝ :=
  if g.val < 8 then if i.val = 0 then -(H.c t / Real.log 2) else if i.val < 3 then 0 else if i.val < 6 then 1 else 0 else 0

namespace Host

open Cert.Kernel2Ideal Cert.Kernel2Ideal.Gen
open Idealize.ShloMosaic Idealize.ShloMosaic.TcCoe Idealize.ShloMosaic.StableHlo Cert.Proof Attn.Arrays

theorem log_two_ne : Real.log 2 ≠ 0 := (Real.log_pos (by norm_num)).ne'
theorem log_two_at : Ideal.log (Ideal.ofBits .f32 1073741824#32) = ((Real.log 2 : ℝ) : EReal) :=
  (congrArg Ideal.log ofBits_two).trans (log_real (by norm_num))

variable {m : (l : Loc nD τ sig) → Buf (Elt Ideal) l} {c : Dev nD} {A : Arrays} (H : At m c A)
variable (b : Fin 4) (t s : Fin 2048) (i : Fin 64) (j : Fin 8) (e : Fin 2)

/-- Row `t` of batch row `b`. -/
abbrev row (b : Fin 4) (t : Fin 2048) : Fin 8192 := ⟨2048 * b + t, by omega⟩

theorem row_div : (2048 * b.val + t.val) / 2048 = b.val := by omega
theorem row_mod : (2048 * b.val + t.val) % 2048 = t.val := by omega

include H

theorem u159 : U m c 216 (Proc.tc.devRef main_v159) (ix3 (row b t) j i) = (((A.hd b (head j 0)).q t i * (1 / 8) / Real.log 2 : ℝ) : EReal) := by
  after_reads_at; simp only [row_div, row_mod, H.q, ofBits_eighth, log_two_at, ← EReal.coe_mul, div_real log_two_ne, hd_q]; rfl
theorem u165 : U m c 216 (Proc.tc.devRef main_v165) (ix3 (row b t) j i) = (((A.hd b (head j 1)).q t i * (1 / 8) / Real.log 2 : ℝ) : EReal) := by
  after_reads_at; simp only [row_div, row_mod, H.q, ofBits_eighth, log_two_at, ← EReal.coe_mul, div_real log_two_ne, hd_q]; rfl
theorem u171 : U m c 228 (Proc.tc.devRef main_v171) (ix3 (row b t) j i) = ((A.hd b (head j 0)).k t i : EReal) := by
  after_reads_at; simp only [row_div, row_mod, H.k, hd_k]; rfl
theorem u177 : U m c 228 (Proc.tc.devRef main_v177) (ix3 (row b t) j i) = ((A.hd b (head j 1)).k t i : EReal) := by
  after_reads_at; simp only [row_div, row_mod, H.k, hd_k]; rfl

theorem u137 (h : Fin 8) : U m c 189 (Proc.tc.devRef main_v137) (ix3 (row b t) h (0 : Fin 1)) = ((A.c b t h / Real.log 2 : ℝ) : EReal) := by
  after_reads_at; simp only [row_div, row_mod, H.g, log_two_at, div_real log_two_ne]
theorem u140 (h : Fin 8) : U m c 189 (Proc.tc.devRef main_v140) (ix3 (row b t) h (0 : Fin 1)) = ((0 : ℝ) : EReal) := by
  after_reads_at; simp only [row_div, row_mod, H.g, log_two_at, div_real log_two_ne, ← EReal.coe_sub, sub_self]
theorem u143 (h : Fin 8) : U m c 189 (Proc.tc.devRef main_v143) (ix3 (row b t) h (0 : Fin 1)) = ((0 : ℝ) : EReal) := by
  after_reads_at; simp only [row_div, row_mod, H.g, log_two_at, div_real log_two_ne, ← EReal.coe_sub, sub_self]

/-- The gate's three terms, -/
theorem u145_0 (h : Fin 8) : U m c 192 (Proc.tc.devRef main_v145) (ix3 (row b t) h (0 : Fin 3)) = ((A.c b t h / Real.log 2 : ℝ) : EReal) := by
  after_reads_at; simp only [unary_result']; after_reads_at; simp only [row_div, row_mod, H.g, log_two_at, div_real log_two_ne]
theorem u145_1 (h : Fin 8) : U m c 192 (Proc.tc.devRef main_v145) (ix3 (row b t) h (1 : Fin 3)) = (((0 : ℝ) : ℝ) : EReal) := by
  after_reads_at; simp only [unary_result']; after_reads_at; simp only [row_div, row_mod, H.g, log_two_at, div_real log_two_ne, ← EReal.coe_sub, sub_self]
theorem u145_2 (h : Fin 8) : U m c 192 (Proc.tc.devRef main_v145) (ix3 (row b t) h (2 : Fin 3)) = (((0 : ℝ) : ℝ) : EReal) := by
  after_reads_at; simp only [unary_result']; after_reads_at; simp only [row_div, row_mod, H.g, log_two_at, div_real log_two_ne, ← EReal.coe_sub, sub_self]
theorem u145 (h : Fin 8) (a : Fin 3) : U m c 192 (Proc.tc.devRef main_v145) (ix3 (row b t) h a) = ((if a.val = 0 then A.c b t h / Real.log 2 else 0 : ℝ) : EReal) := by
  rcases a with ⟨a, ha⟩
  interval_cases a
  exacts [u145_0 H b t h, u145_1 H b t h, u145_2 H b t h]

/-- and the same, subtracted. -/
theorem u149 (h : Fin 8) (a : Fin 3) : U m c 197 (Proc.tc.devRef main_v149) (ix3 (row b t) h a) = ((if a.val = 0 then -(A.c b t h / Real.log 2) else 0 : ℝ) : EReal) := by
  have e0 : ∀ x : Fin 1, x = 0 := fun x => Subsingleton.elim _ _
  by_cases h0 : a.val < 1
  · refine Eq.trans ?_ (congrArg Real.toEReal (if_pos (by omega)).symm)
    after_reads_at
    exact (congrArg Neg.neg ((dif_pos h0).trans ((congrArg (fun x => U m c 189 (Proc.tc.devRef main_v137) (ix3 (row b t) h x)) (e0 ⟨a, h0⟩)).trans (u137 H b t h)))).trans (EReal.coe_neg _).symm
  · refine Eq.trans ?_ (congrArg Real.toEReal ((if_neg (by omega)).trans neg_zero.symm).symm)
    after_reads_at
    refine (congrArg Neg.neg ((dif_neg h0).trans ?_)).trans (EReal.coe_neg _).symm
    by_cases h1 : a.val - 1 < 1
    · exact (dif_pos h1).trans ((congrArg (fun x => U m c 189 (Proc.tc.devRef main_v140) (ix3 (row b t) h x)) (e0 ⟨a - 1, h1⟩)).trans (u140 H b t h))
    · exact (dif_neg h1).trans ((congrArg (fun x => U m c 189 (Proc.tc.devRef main_v143) (ix3 (row b t) h x)) (e0 ⟨a - 1 - 1, by omega⟩)).trans (u143 H b t h))

omit H in
theorem u146 (h : Fin 8) (a : Fin 3) : U m c 192 (Proc.tc.devRef main_v146) (ix3 (row b t) h a) = ((1 : ℝ) : EReal) := by
  after_reads_at; exact one_coe
omit H in
theorem w146 (h : Fin 8) (a : Fin 3) : U m c 197 (Proc.tc.devRef main_v146) (ix3 (row b t) h a) = ((1 : ℝ) : EReal) := by
  after_reads_at; exact one_coe
omit H in
theorem zero_int : (FloatOps.sitofp (F := Ideal) .f32 0#32 : EReal) = ((0 : ℝ) : EReal) := by
  show (((0#32 : BitVec 32).toInt : ℝ) : EReal) = _; simp

theorem u161 : U m c 216 (Proc.tc.devRef main_v161) (ix3 (row b t) j i) = (qx (A.hd b (head j 0)) (head j 0) t i : EReal) := by
  have hv : (head j 0).val = j * 2 + 0 := rfl
  by_cases h6 : j.val * 2 + 0 < 8 ∧ i.val < 6
  · have h : (head j 0).val < 8 := h6.1
    have eg : qx (A.hd b (head j 0)) (head j 0) t i = if i.val < 3 then 1 else if i.val - 3 = 0 then A.c b t ⟨head j 0, h⟩ / Real.log 2 else 0 := by
      unfold qx; rw [if_pos h, hd_fox h]; split_ifs <;> first | rfl | omega
    refine Eq.trans ?_ (congrArg Real.toEReal eg.symm)
    by_cases h3 : i.val < 3
    · refine Eq.trans ?_ (congrArg Real.toEReal (if_pos h3).symm)
      after_reads_at
      exact (dif_pos h6).trans ((dif_pos h3).trans (u146 b t ⟨head j 0, h⟩ ⟨i, h3⟩))
    · refine Eq.trans ?_ (congrArg Real.toEReal (if_neg h3).symm)
      after_reads_at
      exact (dif_pos h6).trans ((dif_neg h3).trans (u145 H b t ⟨head j 0, h⟩ ⟨i - 3, by omega⟩))
  · have eg : qx (A.hd b (head j 0)) (head j 0) t i = 0 := by
      unfold qx; split_ifs <;> first | rfl | omega
    refine Eq.trans ?_ (congrArg Real.toEReal eg.symm)
    after_reads_at
    exact (dif_neg h6).trans zero_int

theorem u163 : U m c 216 (Proc.tc.devRef main_v163) (ix3 (row b t) j i) = (qx (A.hd b (head j 1)) (head j 1) t i : EReal) := by
  have hv : (head j 1).val = j * 2 + 1 := rfl
  by_cases h6 : j.val * 2 + 1 < 8 ∧ i.val < 6
  · have h : (head j 1).val < 8 := h6.1
    have eg : qx (A.hd b (head j 1)) (head j 1) t i = if i.val < 3 then 1 else if i.val - 3 = 0 then A.c b t ⟨head j 1, h⟩ / Real.log 2 else 0 := by
      unfold qx; rw [if_pos h, hd_fox h]; split_ifs <;> first | rfl | omega
    refine Eq.trans ?_ (congrArg Real.toEReal eg.symm)
    by_cases h3 : i.val < 3
    · refine Eq.trans ?_ (congrArg Real.toEReal (if_pos h3).symm)
      after_reads_at
      exact (dif_pos h6).trans ((dif_pos h3).trans (u146 b t ⟨head j 1, h⟩ ⟨i, h3⟩))
    · refine Eq.trans ?_ (congrArg Real.toEReal (if_neg h3).symm)
      after_reads_at
      exact (dif_pos h6).trans ((dif_neg h3).trans (u145 H b t ⟨head j 1, h⟩ ⟨i - 3, by omega⟩))
  · have eg : qx (A.hd b (head j 1)) (head j 1) t i = 0 := by
      unfold qx; split_ifs <;> first | rfl | omega
    refine Eq.trans ?_ (congrArg Real.toEReal eg.symm)
    after_reads_at
    exact (dif_neg h6).trans zero_int

theorem u173 : U m c 228 (Proc.tc.devRef main_v173) (ix3 (row b t) j i) = (kx (A.hd b (head j 0)) (head j 0) t i : EReal) := by
  have hv : (head j 0).val = j * 2 + 0 := rfl
  by_cases h6 : j.val * 2 + 0 < 8 ∧ i.val < 6
  · have h : (head j 0).val < 8 := h6.1
    have eg : kx (A.hd b (head j 0)) (head j 0) t i
        = if i.val < 3 then if i.val = 0 then -(A.c b t ⟨head j 0, h⟩ / Real.log 2) else 0 else 1 := by
      unfold kx; rw [if_pos h, hd_fox h]; split_ifs <;> first | rfl | omega
    refine Eq.trans ?_ (congrArg Real.toEReal eg.symm)
    by_cases h3 : i.val < 3
    · refine Eq.trans ?_ (congrArg Real.toEReal (if_pos h3).symm)
      after_reads_at
      exact (dif_pos h6).trans ((dif_pos h3).trans (u149 H b t ⟨head j 0, h⟩ ⟨i, h3⟩))
    · refine Eq.trans ?_ (congrArg Real.toEReal (if_neg h3).symm)
      after_reads_at
      exact (dif_pos h6).trans ((dif_neg h3).trans (w146 b t ⟨head j 0, h⟩ ⟨i - 3, by omega⟩))
  · have eg : kx (A.hd b (head j 0)) (head j 0) t i = 0 := by
      unfold kx; split_ifs <;> first | rfl | omega
    refine Eq.trans ?_ (congrArg Real.toEReal eg.symm)
    after_reads_at
    exact (dif_neg h6).trans zero_int

theorem u175 : U m c 228 (Proc.tc.devRef main_v175) (ix3 (row b t) j i) = (kx (A.hd b (head j 1)) (head j 1) t i : EReal) := by
  have hv : (head j 1).val = j * 2 + 1 := rfl
  by_cases h6 : j.val * 2 + 1 < 8 ∧ i.val < 6
  · have h : (head j 1).val < 8 := h6.1
    have eg : kx (A.hd b (head j 1)) (head j 1) t i
        = if i.val < 3 then if i.val = 0 then -(A.c b t ⟨head j 1, h⟩ / Real.log 2) else 0 else 1 := by
      unfold kx; rw [if_pos h, hd_fox h]; split_ifs <;> first | rfl | omega
    refine Eq.trans ?_ (congrArg Real.toEReal eg.symm)
    by_cases h3 : i.val < 3
    · refine Eq.trans ?_ (congrArg Real.toEReal (if_pos h3).symm)
      after_reads_at
      exact (dif_pos h6).trans ((dif_pos h3).trans (u149 H b t ⟨head j 1, h⟩ ⟨i, h3⟩))
    · refine Eq.trans ?_ (congrArg Real.toEReal (if_neg h3).symm)
      after_reads_at
      exact (dif_pos h6).trans ((dif_neg h3).trans (w146 b t ⟨head j 1, h⟩ ⟨i - 3, by omega⟩))
  · have eg : kx (A.hd b (head j 1)) (head j 1) t i = 0 := by
      unfold kx; split_ifs <;> first | rfl | omega
    refine Eq.trans ?_ (congrArg Real.toEReal eg.symm)
    after_reads_at
    exact (dif_neg h6).trans zero_int

omit H

end Host
end Attn
end
-- ==== Proof.AttnArrays.lean ====
/-
  The arrays the attention's call reads, over the reals: the laid-out queries and keys, the values, the tables of logarithms.
-/
module

public import proofs.«01_k».proof.Proof.AttnOps

@[expose] public section

set_option maxRecDepth 65536

noncomputable section

namespace Attn

/-- The logarithm to base two of how often a key is taken. -/
def lg (x : ℝ) : EReal := if x = 0 then ⊥ else ((Real.log x / Real.log 2 : ℝ) : EReal)

namespace Host

open Cert.Kernel2Ideal Cert.Kernel2Ideal.Gen
open Idealize.ShloMosaic Idealize.ShloMosaic.TcCoe Idealize.ShloMosaic.StableHlo Cert.Proof Attn.Arrays

variable {m : (l : Loc nD τ sig) → Buf (Elt Ideal) l} {c : Dev nD} {A : Arrays}
variable (b : Fin 4) (t s : Fin 2048) (i : Fin 64) (j : Fin 8) (e : Fin 2)

/-! ### The tables of logarithms -/

theorem andi_swap : ∀ x y z : BitVec 1, IntOp.andi (IntOp.andi x y) z = IntOp.andi (IntOp.andi x z) y := by decide

/-- A table's position is the distance between a query and a key. -/
theorem dist_block {t s : Fin 2048} (h : s.val / 512 ≤ t.val / 512) :
    IntOp.subi (IntOp.addi (IntOp.muli (BitVec.ofNat 32 (t.val / 512 - s.val / 512)) 512#32) (BitVec.ofNat 32 (t.val % 512))) (BitVec.ofNat 32 (s.val % 512))
      = IntOp.subi (BitVec.ofNat 32 t) (BitVec.ofNat 32 s) := by
  unfold IntOp.subi IntOp.addi IntOp.muli
  apply BitVec.eq_of_toNat_eq
  have := t.isLt
  have := s.isLt
  simp only [BitVec.toNat_sub, BitVec.toNat_add, BitVec.toNat_mul, BitVec.toNat_ofNat]
  omega

theorem log_one_at : (((0 : ℝ)) : EReal) = ((Real.log 1 / Real.log 2 : ℝ) : EReal) := by simp

theorem log_three_at : Ideal.log (Ideal.ofBits .f32 1077936128#32) = ((Real.log 3 : ℝ) : EReal) :=
  (congrArg Ideal.log ofBits_three).trans (log_real (by norm_num))

/-- The table of three patterns by their number. -/
theorem count_table (p₁ p₂ p₃ : Prop) [Decidable p₁] [Decidable p₂] [Decidable p₃] :
    let n : BitVec 32 := IntOp.addi (IntOp.addi (IntOp.addi 0#32 (BitVec.setWidth 32 (if p₁ then 1#1 else 0#1))) (BitVec.setWidth 32 (if p₂ then 1#1 else 0#1)))
      (BitVec.setWidth 32 (if p₃ then 1#1 else 0#1))
    (Scalar.select (IntOp.cmpi .eq n 3#32) (Ideal.div (Ideal.log (Ideal.ofBits .f32 1077936128#32)) (Ideal.log (Ideal.ofBits .f32 1073741824#32)))
      (Scalar.select (IntOp.cmpi .eq n 2#32) 1 (Scalar.select (IntOp.cmpi .eq n 1#32) 0 (Ideal.ofBits .f32 4286578688#32))) : EReal)
      = lg ((if p₁ then 1 else 0) + (if p₂ then 1 else 0) + (if p₃ then 1 else 0)) := by
  intro n
  have e2 : Real.log 2 / Real.log 2 = 1 := div_self log_two_ne
  have s1 : ∀ x y : EReal, Scalar.select (1#1) x y = x := fun _ _ => rfl
  have s0 : ∀ x y : EReal, Scalar.select (0#1) x y = y := fun _ _ => rfl
  have l3 : lg (1 + 1 + 1) = ((Real.log 3 / Real.log 2 : ℝ) : EReal) := by unfold lg; rw [if_neg (by norm_num)]; norm_num
  have l2 : lg (1 + 1) = 1 := by unfold lg; rw [if_neg (by norm_num), show (1 : ℝ) + 1 = 2 by norm_num, e2]; rfl
  have l1 : lg 1 = 0 := by unfold lg; rw [if_neg one_ne_zero, Real.log_one, zero_div]; rfl
  have l0 : lg 0 = ⊥ := if_pos rfl
  rw [log_three_at, log_two_at, div_real log_two_ne, show Ideal.ofBits .f32 4286578688#32 = ⊥ from ofBits_ninf]
  by_cases h1 : p₁ <;> by_cases h2 : p₂ <;> by_cases h3 : p₃ <;> simp only [n, h1, h2, h3, if_true, if_false, add_zero, zero_add, l3, l2, l1, l0] <;> rfl

/-- The causal heads' table, -/
theorem tab_fox {t s : Fin 2048} (h : s.val / 512 ≤ t.val / 512) :
    V m c main_v253 (ix4 (0 : Fin 2) (⟨t / 512 - s / 512, by omega⟩ : Fin 4) (⟨s % 512, by omega⟩ : Fin 512) (⟨t % 512, by omega⟩ : Fin 512))
      = (if s ≤ t then ((0 : ℝ) : EReal) else ⊥) := by
  unfold V V0; after_reads_at; simp only [id]; pointwise
  simp only [dist_block h, causal]
  split
  · rfl
  · exact ofBits_ninf

/-- and the dilated heads'. -/
theorem tab_dil {t s : Fin 2048} (h : s.val / 512 ≤ t.val / 512) :
    V m c main_v253 (ix4 (1 : Fin 2) (⟨t / 512 - s / 512, by omega⟩ : Fin 4) (⟨s % 512, by omega⟩ : Fin 512) (⟨t % 512, by omega⟩ : Fin 512))
      = lg (three t s) := by
  unfold V V0; after_reads_at; simp only [id]; pointwise
  simp only [dist_block h]
  simp only [andi_swap _ (IntOp.cmpi .eq _ _) _, causal, near1, near2, near3]
  exact count_table (near 128 1 t s) (near 512 4 t s) (near 2048 16 t s)

variable (H : At m c A)

include H

/-! ### The operands' lanes -/

theorem qw0 : U m c 230 (Proc.tc.devRef main_v167) (ix2 (row b t) (⟨256 * j + i, by omega⟩ : Fin 2048)) = (((A.hd b (head j 0)).q t i * (1 / 8) / Real.log 2 : ℝ) : EReal) := by
  have n0 : (256 * j.val + i.val) % 256 < 64 := by omega
  have ei : (⟨(256 * j.val + i.val) % 256, by omega⟩ : Fin 64) = i := Fin.ext (by show (256 * j.val + i.val) % 256 = i.val; omega)
  after_reads_at
  refine (dif_pos n0).trans ?_
  exact (congrArg (fun x => U m c 216 (Proc.tc.devRef main_v159) (ix3 (row b t) j x)) ei).trans (u159 H b t i j)

theorem q0 : V m c main_v181 (ix2 (row b t) (⟨256 * j + i, by omega⟩ : Fin 4096)) = (((A.hd b (head j 0)).q t i * (1 / 8) / Real.log 2 : ℝ) : EReal) := by
  unfold V V0; after_reads_at
  exact (dif_pos (by omega)).trans (qw0 b t i j H)

theorem qw1 : U m c 230 (Proc.tc.devRef main_v167) (ix2 (row b t) (⟨256 * j + (64 + i), by omega⟩ : Fin 2048)) = (qx (A.hd b (head j 0)) (head j 0) t i : EReal) := by
  have n0 : ¬ (256 * j.val + (64 + i.val)) % 256 < 64 := by omega
  have n1 : (256 * j.val + (64 + i.val)) % 256 - 64 < 64 := by omega
  have ei : (⟨(256 * j.val + (64 + i.val)) % 256 - 64, by omega⟩ : Fin 64) = i := Fin.ext (by show (256 * j.val + (64 + i.val)) % 256 - 64 = i.val; omega)
  after_reads_at
  refine (dif_neg n0).trans ?_
  refine (dif_pos n1).trans ?_
  exact (congrArg (fun x => U m c 216 (Proc.tc.devRef main_v161) (ix3 (row b t) j x)) ei).trans (u161 H b t i j)

theorem q1 : V m c main_v181 (ix2 (row b t) (⟨256 * j + (64 + i), by omega⟩ : Fin 4096)) = (qx (A.hd b (head j 0)) (head j 0) t i : EReal) := by
  unfold V V0; after_reads_at
  exact (dif_pos (by omega)).trans (qw1 b t i j H)

theorem qw2 : U m c 230 (Proc.tc.devRef main_v167) (ix2 (row b t) (⟨256 * j + (128 + i), by omega⟩ : Fin 2048)) = (qx (A.hd b (head j 1)) (head j 1) t i : EReal) := by
  have n0 : ¬ (256 * j.val + (128 + i.val)) % 256 < 64 := by omega
  have n1 : ¬ (256 * j.val + (128 + i.val)) % 256 - 64 < 64 := by omega
  have n2 : (256 * j.val + (128 + i.val)) % 256 - 64 - 64 < 64 := by omega
  have ei : (⟨(256 * j.val + (128 + i.val)) % 256 - 64 - 64, by omega⟩ : Fin 64) = i := Fin.ext (by show (256 * j.val + (128 + i.val)) % 256 - 64 - 64 = i.val; omega)
  after_reads_at
  refine (dif_neg n0).trans ?_
  refine (dif_neg n1).trans ?_
  refine (dif_pos n2).trans ?_
  exact (congrArg (fun x => U m c 216 (Proc.tc.devRef main_v163) (ix3 (row b t) j x)) ei).trans (u163 H b t i j)

theorem q2 : V m c main_v181 (ix2 (row b t) (⟨256 * j + (128 + i), by omega⟩ : Fin 4096)) = (qx (A.hd b (head j 1)) (head j 1) t i : EReal) := by
  unfold V V0; after_reads_at
  exact (dif_pos (by omega)).trans (qw2 b t i j H)

theorem qw3 : U m c 230 (Proc.tc.devRef main_v167) (ix2 (row b t) (⟨256 * j + (192 + i), by omega⟩ : Fin 2048)) = (((A.hd b (head j 1)).q t i * (1 / 8) / Real.log 2 : ℝ) : EReal) := by
  have n0 : ¬ (256 * j.val + (192 + i.val)) % 256 < 64 := by omega
  have n1 : ¬ (256 * j.val + (192 + i.val)) % 256 - 64 < 64 := by omega
  have n2 : ¬ (256 * j.val + (192 + i.val)) % 256 - 64 - 64 < 64 := by omega
  have ei : (⟨(256 * j.val + (192 + i.val)) % 256 - 64 - 64 - 64, by omega⟩ : Fin 64) = i := Fin.ext (by show (256 * j.val + (192 + i.val)) % 256 - 64 - 64 - 64 = i.val; omega)
  after_reads_at
  refine (dif_neg n0).trans ?_
  refine (dif_neg n1).trans ?_
  refine (dif_neg n2).trans ?_
  exact (congrArg (fun x => U m c 216 (Proc.tc.devRef main_v165) (ix3 (row b t) j x)) ei).trans (u165 H b t i j)

theorem q3 : V m c main_v181 (ix2 (row b t) (⟨256 * j + (192 + i), by omega⟩ : Fin 4096)) = (((A.hd b (head j 1)).q t i * (1 / 8) / Real.log 2 : ℝ) : EReal) := by
  unfold V V0; after_reads_at
  exact (dif_pos (by omega)).trans (qw3 b t i j H)

theorem kw0 : U m c 230 (Proc.tc.devRef main_v179) (ix2 (row b t) (⟨256 * j + i, by omega⟩ : Fin 2048)) = ((A.hd b (head j 0)).k t i : EReal) := by
  have n0 : (256 * j.val + i.val) % 256 < 64 := by omega
  have ei : (⟨(256 * j.val + i.val) % 256, by omega⟩ : Fin 64) = i := Fin.ext (by show (256 * j.val + i.val) % 256 = i.val; omega)
  after_reads_at
  refine (dif_pos n0).trans ?_
  exact (congrArg (fun x => U m c 228 (Proc.tc.devRef main_v171) (ix3 (row b t) j x)) ei).trans (u171 H b t i j)

theorem k0 : V m c main_v181 (ix2 (row b t) (⟨256 * (8 + j) + i, by omega⟩ : Fin 4096)) = ((A.hd b (head j 0)).k t i : EReal) := by
  unfold V V0; after_reads_at
  exact (dif_neg (by omega)).trans ((congrArg (fun x => U m c 230 (Proc.tc.devRef main_v179) (ix2 (row b t) x))
    (Fin.ext (by show 256 * (8 + j.val) + i - 2048 = 256 * j.val + i; omega) : (⟨256 * (8 + j) + i - 2048, by omega⟩ : Fin 2048) = ⟨256 * j + i, by omega⟩)).trans (kw0 b t i j H))

theorem kw1 : U m c 230 (Proc.tc.devRef main_v179) (ix2 (row b t) (⟨256 * j + (64 + i), by omega⟩ : Fin 2048)) = (kx (A.hd b (head j 0)) (head j 0) t i : EReal) := by
  have n0 : ¬ (256 * j.val + (64 + i.val)) % 256 < 64 := by omega
  have n1 : (256 * j.val + (64 + i.val)) % 256 - 64 < 64 := by omega
  have ei : (⟨(256 * j.val + (64 + i.val)) % 256 - 64, by omega⟩ : Fin 64) = i := Fin.ext (by show (256 * j.val + (64 + i.val)) % 256 - 64 = i.val; omega)
  after_reads_at
  refine (dif_neg n0).trans ?_
  refine (dif_pos n1).trans ?_
  exact (congrArg (fun x => U m c 228 (Proc.tc.devRef main_v173) (ix3 (row b t) j x)) ei).trans (u173 H b t i j)

theorem k1 : V m c main_v181 (ix2 (row b t) (⟨256 * (8 + j) + (64 + i), by omega⟩ : Fin 4096)) = (kx (A.hd b (head j 0)) (head j 0) t i : EReal) := by
  unfold V V0; after_reads_at
  exact (dif_neg (by omega)).trans ((congrArg (fun x => U m c 230 (Proc.tc.devRef main_v179) (ix2 (row b t) x))
    (Fin.ext (by show 256 * (8 + j.val) + (64 + i) - 2048 = 256 * j.val + (64 + i); omega) : (⟨256 * (8 + j) + (64 + i) - 2048, by omega⟩ : Fin 2048) = ⟨256 * j + (64 + i), by omega⟩)).trans (kw1 b t i j H))

theorem kw2 : U m c 230 (Proc.tc.devRef main_v179) (ix2 (row b t) (⟨256 * j + (128 + i), by omega⟩ : Fin 2048)) = (kx (A.hd b (head j 1)) (head j 1) t i : EReal) := by
  have n0 : ¬ (256 * j.val + (128 + i.val)) % 256 < 64 := by omega
  have n1 : ¬ (256 * j.val + (128 + i.val)) % 256 - 64 < 64 := by omega
  have n2 : (256 * j.val + (128 + i.val)) % 256 - 64 - 64 < 64 := by omega
  have ei : (⟨(256 * j.val + (128 + i.val)) % 256 - 64 - 64, by omega⟩ : Fin 64) = i := Fin.ext (by show (256 * j.val + (128 + i.val)) % 256 - 64 - 64 = i.val; omega)
  after_reads_at
  refine (dif_neg n0).trans ?_
  refine (dif_neg n1).trans ?_
  refine (dif_pos n2).trans ?_
  exact (congrArg (fun x => U m c 228 (Proc.tc.devRef main_v175) (ix3 (row b t) j x)) ei).trans (u175 H b t i j)

theorem k2 : V m c main_v181 (ix2 (row b t) (⟨256 * (8 + j) + (128 + i), by omega⟩ : Fin 4096)) = (kx (A.hd b (head j 1)) (head j 1) t i : EReal) := by
  unfold V V0; after_reads_at
  exact (dif_neg (by omega)).trans ((congrArg (fun x => U m c 230 (Proc.tc.devRef main_v179) (ix2 (row b t) x))
    (Fin.ext (by show 256 * (8 + j.val) + (128 + i) - 2048 = 256 * j.val + (128 + i); omega) : (⟨256 * (8 + j) + (128 + i) - 2048, by omega⟩ : Fin 2048) = ⟨256 * j + (128 + i), by omega⟩)).trans (kw2 b t i j H))

theorem kw3 : U m c 230 (Proc.tc.devRef main_v179) (ix2 (row b t) (⟨256 * j + (192 + i), by omega⟩ : Fin 2048)) = ((A.hd b (head j 1)).k t i : EReal) := by
  have n0 : ¬ (256 * j.val + (192 + i.val)) % 256 < 64 := by omega
  have n1 : ¬ (256 * j.val + (192 + i.val)) % 256 - 64 < 64 := by omega
  have n2 : ¬ (256 * j.val + (192 + i.val)) % 256 - 64 - 64 < 64 := by omega
  have ei : (⟨(256 * j.val + (192 + i.val)) % 256 - 64 - 64 - 64, by omega⟩ : Fin 64) = i := Fin.ext (by show (256 * j.val + (192 + i.val)) % 256 - 64 - 64 - 64 = i.val; omega)
  after_reads_at
  refine (dif_neg n0).trans ?_
  refine (dif_neg n1).trans ?_
  refine (dif_neg n2).trans ?_
  exact (congrArg (fun x => U m c 228 (Proc.tc.devRef main_v177) (ix3 (row b t) j x)) ei).trans (u177 H b t i j)

theorem k3 : V m c main_v181 (ix2 (row b t) (⟨256 * (8 + j) + (192 + i), by omega⟩ : Fin 4096)) = ((A.hd b (head j 1)).k t i : EReal) := by
  unfold V V0; after_reads_at
  exact (dif_neg (by omega)).trans ((congrArg (fun x => U m c 230 (Proc.tc.devRef main_v179) (ix2 (row b t) x))
    (Fin.ext (by show 256 * (8 + j.val) + (192 + i) - 2048 = 256 * j.val + (192 + i); omega) : (⟨256 * (8 + j) + (192 + i) - 2048, by omega⟩ : Fin 2048) = ⟨256 * j + (192 + i), by omega⟩)).trans (kw3 b t i j H))

omit H in
theorem lane_div : (128 * j.val + (64 * e.val + i.val)) / 64 = j.val * 2 + e.val := by omega
omit H in
theorem lane_mod : (128 * j.val + (64 * e.val + i.val)) % 64 = i.val := by omega

theorem v_at : V m c main_v185 (ix2 (row b t) (⟨128 * (16 + j) + (64 * e + i), by omega⟩ : Fin 3072)) = ((A.hd b (head j e)).v t i : EReal) := by
  have e1 : (128 * (16 + j.val) + (64 * e.val + i.val) - 2048) / 64 = j.val * 2 + e.val := by omega
  have e2 : (128 * (16 + j.val) + (64 * e.val + i.val) - 2048) % 64 = i.val := by omega
  unfold V V0; after_reads_at
  refine (dif_neg (by omega)).trans ?_
  simp only [row_div, row_mod, e1, e2, H.v, hd_v]; rfl

theorem d_at : V m c main_v258 (ix2 (row b t) (⟨128 * j + (64 * e + i), by omega⟩ : Fin 1024)) = ((A.hd b (head j e)).d t i : EReal) := by
  unfold V V0; after_reads_at
  simp only [row_div, row_mod, lane_div, lane_mod, H.d, hd_d]; rfl

theorem o_at : V m c main_v255 (ix2 (row b t) (⟨128 * j + (64 * e + i), by omega⟩ : Fin 1024)) = ((A.hd b (head j e)).o t i : EReal) := by
  by_cases h : (head j e).val < 8
  · rw [hd_fox h]
    have h' : (128 * j.val + (64 * e.val + i.val)) / 64 < 8 := by rw [lane_div]; exact h
    unfold V V0; after_reads_at
    refine (dif_pos h').trans ?_
    simp only [row_div, row_mod, lane_div, lane_mod]
    exact u29 H b ⟨head j e, h⟩ t i
  · rw [hd_dil h]
    have h' : ¬ (128 * j.val + (64 * e.val + i.val)) / 64 < 8 := by rw [lane_div]; exact h
    unfold V V0; after_reads_at
    refine (dif_neg h').trans ?_
    simp only [row_div, row_mod, lane_div, lane_mod]
    exact u127 H b ⟨head j e - 8, by omega⟩ t i

theorem lse_at : V m c main_v256 (ix2 (row b t) (⟨128 * j + (64 * e + i), by omega⟩ : Fin 1024))
    = ((Real.log ((A.hd b (head j e)).tot t) / Real.log 2 : ℝ) : EReal) := by
  refine Eq.trans ?_ ((congrArg (fun x => Ideal.div x ((Real.log 2 : ℝ) : EReal)) (log_real (hd_pos.tot t))).trans (div_real log_two_ne))
  rw [← log_two_at]
  by_cases h : (head j e).val < 8
  · rw [hd_fox h]
    have h' : (128 * j.val + (64 * e.val + i.val)) / 64 < 8 := by rw [lane_div]; exact h
    unfold V V0; after_reads_at
    refine congrArg (fun x => Ideal.div (Ideal.log x) _) ((dif_pos h').trans ?_)
    simp only [row_div, row_mod, lane_div]
    exact u25 H b ⟨head j e, h⟩ t
  · rw [hd_dil h]
    have h' : ¬ (128 * j.val + (64 * e.val + i.val)) / 64 < 8 := by rw [lane_div]; exact h
    unfold V V0; after_reads_at
    refine congrArg (fun x => Ideal.div (Ideal.log x) _) ((dif_neg h').trans ?_)
    simp only [row_div, row_mod, lane_div]
    exact u111 H b ⟨head j e - 8, by omega⟩ t

omit H

end Host
end Attn
end
-- ==== Proof.AttnTile.lean ====
/-
  Tiles of the attention backward: what each operation of the kernel's body does to a block whose entries are a given
  function of the global row and column.
-/
module

public import proofs.«01_k».proof.Proof.AttnRun
public import Idealize.ShloMosaic.Lib.Pointwise
public import Idealize.ShloMosaic.Lib.Claim
public import Idealize.ShloMosaic.Lib.ReduceAll

@[expose] public section

set_option maxRecDepth 65536

noncomputable section

namespace AttnTile

open Cert.Kernel2Ideal Cert.Kernel2Ideal.Gen
open Idealize.ShloMosaic Idealize.ShloMosaic.TcCoe

/-- The block `v` holds at `(i, j)` the function `f` at row `a + i` and column `b + j`. -/
def Tile {n k : ℕ} {φ : FTy} (v : FVec Ideal ⟨2, ![n, k]⟩ φ) (a b : ℕ) (f : ℕ → ℕ → EReal) : Prop :=
  ∀ (i : Fin n) (j : Fin k), v (ix2 i j) = f (a + i) (b + j)

/-- The same of a block with a leading axis of one. -/
def Tile3 {n k : ℕ} {φ : FTy} (v : FVec Ideal ⟨3, ![1, n, k]⟩ φ) (a b : ℕ) (f : ℕ → ℕ → EReal) : Prop :=
  ∀ (i : Fin n) (j : Fin k), v (ix3 0 i j) = f (a + i) (b + j)

theorem Tile.congr {n k : ℕ} {φ : FTy} {v : FVec Ideal ⟨2, ![n, k]⟩ φ} {a b : ℕ} {f g : ℕ → ℕ → EReal} (h : Tile v a b f)
    (e : ∀ i < n, ∀ j < k, f (a + i) (b + j) = g (a + i) (b + j)) : Tile v a b g :=
  fun i j => (h i j).trans (e i i.2 j j.2)

section ops
variable {n k : ℕ} {φ ψ : FTy} {a b : ℕ} {f g : ℕ → ℕ → EReal}

theorem t_add {x y : FVec Ideal ⟨2, ![n, k]⟩ φ} (hx : Tile x a b f) (hy : Tile y a b g) :
    Tile (addf x y) a b (fun i j => f i j + g i j) := fun i j => congrArg₂ (· + ·) (hx i j) (hy i j)

theorem t_sub {x y : FVec Ideal ⟨2, ![n, k]⟩ φ} (hx : Tile x a b f) (hy : Tile y a b g) :
    Tile (subf x y) a b (fun i j => f i j - g i j) := fun i j => congrArg₂ (· - ·) (hx i j) (hy i j)

theorem t_mul {x y : FVec Ideal ⟨2, ![n, k]⟩ φ} (hx : Tile x a b f) (hy : Tile y a b g) :
    Tile (mulf x y) a b (fun i j => f i j * g i j) := fun i j => congrArg₂ (· * ·) (hx i j) (hy i j)

theorem t_exp2 {x : FVec Ideal ⟨2, ![n, k]⟩ φ} (hx : Tile x a b f) :
    Tile (exp2 x) a b (fun i j => Ideal.exp2 (f i j)) := fun i j => congrArg Ideal.exp2 (hx i j)

theorem t_trunc {x : FVec Ideal ⟨2, ![n, k]⟩ φ} (h) (hx : Tile x a b f) : Tile (truncf ψ x h) a b f :=
  fun i j => by pointwise; exact hx i j

theorem t_ext {x : FVec Ideal ⟨2, ![n, k]⟩ φ} (h) (hx : Tile x a b f) : Tile (extf ψ x h) a b f :=
  fun i j => by pointwise; exact hx i j

theorem t_cast {x : FVec Ideal ⟨2, ![n, k]⟩ φ} (h) (hx : Tile x a b f) : Tile (shapeCast ⟨2, ![n, k]⟩ x h) a b f :=
  fun i j => by pointwise; exact hx i j

theorem t_slice {n' k' o p : ℕ} {x : FVec Ideal ⟨2, ![n, k]⟩ φ} (h) (hx : Tile x a b f) :
    Tile (extractStridedSlice ⟨2, ![n', k']⟩ ![o, p] x h) (a + o) (b + p) f :=
  fun i j => by
    have h0 : o + n' ≤ n := h.2 0
    have h1 : p + k' ≤ k := h.2 1
    have e := hx ⟨o + i, by omega⟩ ⟨p + j, by omega⟩
    refine Eq.trans (congrArg x ?_) (e.trans ?_)
    · funext q; match q with
      | ⟨0, _⟩ => rfl
      | ⟨1, _⟩ => rfl
    · simp only [add_assoc]

theorem t_bcast {n' : ℕ} {a' e : ℕ} {x : FVec Ideal ⟨2, ![1, k]⟩ φ} (h) (hx : Tile x e b f) :
    Tile (broadcastTo ⟨2, ![n', k]⟩ x h) a' b (fun _ j => f e j) :=
  fun i j => by
    refine Eq.trans ?_ ((hx 0 j).trans (by simp))
    pointwise
    rw [Shape.Idx.norm2]
    refine congrArg x (congrArg₂ ix2 (Subsingleton.elim (α := Fin 1) _ _) (Fin.ext ?_))
    by_cases hk : k = 1
    · subst hk; have := j.2; simp
    · simp [hk]

end ops

/-! ## The products -/

section products
variable {φ ψ : FTy} {a b : ℕ} {f g : ℕ → ℕ → EReal}

theorem sum_fin {n : ℕ} (F : ℕ → EReal) : ∑ l : Fin n, F l = ∑ l ∈ Finset.range n, F l := (Finset.sum_range F).symm

theorem mm_8_512 {x : FVec Ideal S8x128 .bf16} {y : FVec Ideal S512x128 .bf16} (hx : Tile x a 0 f) (hy : Tile y b 0 g) :
    Tile (matmul dot_S8x128_S512x128_S8x512_1_1_0_0_n_n none x y (constant S8x512 .f32 0x00000000#32)) a b
      (fun s t => ∑ l ∈ Finset.range 128, f s l * g t l) := fun i j => by
  show _ = ∑ l ∈ Finset.range _, _
  rw [← sum_fin]; pointwise; exact Finset.sum_congr rfl fun l _ => by rw [hx, hy]; simp
theorem mm_256_512 {x : FVec Ideal S256x128 .bf16} {y : FVec Ideal S512x128 .bf16} (hx : Tile x a 0 f) (hy : Tile y b 0 g) :
    Tile (matmul dot_S256x128_S512x128_S256x512_1_1_0_0_n_n none x y (constant S256x512 .f32 0x00000000#32)) a b
      (fun s t => ∑ l ∈ Finset.range 128, f s l * g t l) := fun i j => by
  show _ = ∑ l ∈ Finset.range _, _
  rw [← sum_fin]; pointwise; exact Finset.sum_congr rfl fun l _ => by rw [hx, hy]; simp
theorem mm_256_256 {x : FVec Ideal S256x128 .bf16} {y : FVec Ideal S256x128 .bf16} (hx : Tile x a 0 f) (hy : Tile y b 0 g) :
    Tile (matmul dot_S256x128_S256x128_S256x256_1_1_0_0_n_n none x y (constant S256x256 .f32 0x00000000#32)) a b
      (fun s t => ∑ l ∈ Finset.range 128, f s l * g t l) := fun i j => by
  show _ = ∑ l ∈ Finset.range _, _
  rw [← sum_fin]; pointwise; exact Finset.sum_congr rfl fun l _ => by rw [hx, hy]; simp
theorem mm_512_512 {x : FVec Ideal S512x128 .bf16} {y : FVec Ideal S512x128 .bf16} (hx : Tile x a 0 f) (hy : Tile y b 0 g) :
    Tile (matmul dot_S512x128_S512x128_S512x512_1_1_0_0_n_n none x y (constant S512x512 .f32 0x00000000#32)) a b
      (fun s t => ∑ l ∈ Finset.range 128, f s l * g t l) := fun i j => by
  show _ = ∑ l ∈ Finset.range _, _
  rw [← sum_fin]; pointwise; exact Finset.sum_congr rfl fun l _ => by rw [hx, hy]; simp

theorem mk_256_512 {x : FVec Ideal S256x128 .bf16} {y : FVec Ideal S256x512 .bf16} (hx : Tile x a 0 f) (hy : Tile y a b g) :
    Tile (matmul dot_S256x128_S256x512_S128x512_0_0_1_1_n_n none x y (constant S128x512 .f32 0x00000000#32)) 0 b
      (fun l t => ∑ s ∈ Finset.range 256, f (a + s) l * g (a + s) t) := fun i j => by
  show _ = ∑ l ∈ Finset.range _, _
  rw [← sum_fin]; pointwise; exact Finset.sum_congr rfl fun l _ => by rw [hx, hy]; simp
theorem mk_256_256 {x : FVec Ideal S256x128 .bf16} {y : FVec Ideal S256x256 .bf16} (hx : Tile x a 0 f) (hy : Tile y a b g) :
    Tile (matmul dot_S256x128_S256x256_S128x256_0_0_1_1_n_n none x y (constant S128x256 .f32 0x00000000#32)) 0 b
      (fun l t => ∑ s ∈ Finset.range 256, f (a + s) l * g (a + s) t) := fun i j => by
  show _ = ∑ l ∈ Finset.range _, _
  rw [← sum_fin]; pointwise; exact Finset.sum_congr rfl fun l _ => by rw [hx, hy]; simp
theorem mk_512_512 {x : FVec Ideal S512x128 .bf16} {y : FVec Ideal S512x512 .bf16} (hx : Tile x a 0 f) (hy : Tile y a b g) :
    Tile (matmul dot_S512x128_S512x512_S128x512_0_0_1_1_n_n none x y (constant S128x512 .f32 0x00000000#32)) 0 b
      (fun l t => ∑ s ∈ Finset.range 512, f (a + s) l * g (a + s) t) := fun i j => by
  show _ = ∑ l ∈ Finset.range _, _
  rw [← sum_fin]; pointwise; exact Finset.sum_congr rfl fun l _ => by rw [hx, hy]; simp

theorem mq_256_512 {x : FVec Ideal S256x512 .bf16} {y : FVec Ideal S512x128 .bf16} (hx : Tile x a b f) (hy : Tile y b 0 g) :
    Tile (matmul dot_S256x512_S512x128_S256x128_1_0_0_1_n_n none x y (constant S256x128 .f32 0x00000000#32)) a 0
      (fun s l => ∑ t ∈ Finset.range 512, f s (b + t) * g (b + t) l) := fun i j => by
  show _ = ∑ l ∈ Finset.range _, _
  rw [← sum_fin]; pointwise; exact Finset.sum_congr rfl fun l _ => by rw [hx, hy]; simp
theorem mq_256_256 {x : FVec Ideal S256x256 .bf16} {y : FVec Ideal S256x128 .bf16} (hx : Tile x a b f) (hy : Tile y b 0 g) :
    Tile (matmul dot_S256x256_S256x128_S256x128_1_0_0_1_n_n none x y (constant S256x128 .f32 0x00000000#32)) a 0
      (fun s l => ∑ t ∈ Finset.range 256, f s (b + t) * g (b + t) l) := fun i j => by
  show _ = ∑ l ∈ Finset.range _, _
  rw [← sum_fin]; pointwise; exact Finset.sum_congr rfl fun l _ => by rw [hx, hy]; simp
theorem mq_512_512 {x : FVec Ideal S512x512 .bf16} {y : FVec Ideal S512x128 .bf16} (hx : Tile x a b f) (hy : Tile y b 0 g) :
    Tile (matmul dot_S512x512_S512x128_S512x128_1_0_0_1_n_n none x y (constant S512x128 .f32 0x00000000#32)) a 0
      (fun s l => ∑ t ∈ Finset.range 512, f s (b + t) * g (b + t) l) := fun i j => by
  show _ = ∑ l ∈ Finset.range _, _
  rw [← sum_fin]; pointwise; exact Finset.sum_congr rfl fun l _ => by rw [hx, hy]; simp

end products

/-! ## Joins, masks, the transpose -/

section joins
variable {φ : FTy} {a b : ℕ} {f g : ℕ → ℕ → EReal}

theorem t_rows {x y : FVec Ideal S256x128 .f32} (h) (hx : Tile x a b f) (hy : Tile y (a + 256) b f) :
    Tile (concatenate S512x128 0 [⟨S256x128, x⟩, ⟨S256x128, y⟩] h) a b f := fun i j => by
  pointwise
  split
  · rename_i hi; exact hx ⟨i, hi⟩ j
  · rename_i hi
    have hi' := i.2
    refine (hy ⟨i - 256, by omega⟩ j).trans ?_
    congr 1; simp; omega

theorem t_cols {x y : FVec Ideal S128x256 .f32} (h) (hx : Tile x a b f) (hy : Tile y a (b + 256) f) :
    Tile (concatenate S128x512 1 [⟨S128x256, x⟩, ⟨S128x256, y⟩] h) a b f := fun i j => by
  pointwise
  split
  · rename_i hi; exact hx i ⟨j, hi⟩
  · rename_i hi
    have hi' := j.2
    refine (hy i ⟨j - 256, by omega⟩).trans ?_
    congr 1; simp; omega

theorem t_transpose {x : FVec Ideal S128x512 φ} (h) (hx : Tile x a b f) :
    Tile (transpose S512x128 [1, 0] x h) b a (fun i j => f j i) := fun i j => by
  pointwise; exact hx j i

/-- The three lane masks of the body and the head selector, entry by entry. -/
theorem mask_lo (i : Fin 512) (l : Fin 128) : k0_pay134 (ix2 i l) = if l.val < 64 then 1#1 else 0#1 := by
  unfold k0_pay134; pointwise; revert l; decide
theorem mask_hi (i : Fin 512) (l : Fin 128) : k0_pay135 (ix2 i l) = if l.val < 64 then 0#1 else 1#1 := by
  unfold k0_pay135; pointwise; revert l; decide
theorem mask_top (l : Fin 128) (i : Fin 512) : k0_pay136 (ix2 l i) = if l.val < 64 then 1#1 else 0#1 := by
  unfold k0_pay136; pointwise; revert l; decide
theorem mask_all (i : Fin 2048) (l : Fin 128) : k0_pay423 (ix2 i l) = if l.val < 64 then 1#1 else 0#1 := by
  unfold k0_pay423; pointwise; revert l; decide

/-- The head a lane belongs to. -/
def hs (e l : ℕ) : EReal := if e = l / 64 then 1 else 0

theorem selector_int : ∀ (e : Fin 8) (l : Fin 128),
    BitVec.setWidth 32
        (IntOp.cmpi CmpIPredicate.eq (BitVec.ofNat 32 e.val)
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32))) =
      if e.val = l.val / 64 then 1#32 else 0#32 := by decide +kernel

theorem selector (e : Fin 8) (l : Fin 128) : (k0_pay137 (F := Ideal)) (ix2 e l) = hs e l := by
  unfold k0_pay137 hs; pointwise; rw [selector_int]
  split
  · show (((1#32 : BitVec 32).toInt : ℝ) : EReal) = 1
    simp
  · show (((0#32 : BitVec 32).toInt : ℝ) : EReal) = 0
    simp

theorem t_selector : Tile (k0_pay137 (F := Ideal)) 0 0 hs := fun i j => by simpa using selector i j

theorem t_lo {x : FVec Ideal S512x128 .bf16} (hx : Tile x a 0 f) :
    Tile (select k0_pay134 x (broadcast S512x128 (Scalar.ofBits (F := Ideal) .bf16 0x0000#16))) a 0
      (fun i l => if l < 64 then f i l else 0) := fun i l => by
  pointwise; rw [mask_lo, hx]; split <;> simp_all [Scalar.select]
theorem t_hi {x : FVec Ideal S512x128 .bf16} (hx : Tile x a 0 f) :
    Tile (select k0_pay135 x (broadcast S512x128 (Scalar.ofBits (F := Ideal) .bf16 0x0000#16))) a 0
      (fun i l => if l < 64 then 0 else f i l) := fun i l => by
  pointwise; rw [mask_hi, hx]; split <;> simp_all [Scalar.select]
theorem t_top {x y : FVec Ideal S128x512 .f32} (hx : Tile x 0 b f) (hy : Tile y 0 b g) :
    Tile (select k0_pay136 x y) 0 b (fun l i => if l < 64 then f l i else g l i) := fun l i => by
  pointwise; rw [mask_top, hx, hy]; split <;> simp_all [Scalar.select]
theorem t_all {x y : FVec Ideal S2048x128 .f32} (hx : Tile x a 0 f) (hy : Tile y a 0 g) :
    Tile (select k0_pay423 x y) a 0 (fun i l => if l < 64 then f i l else g i l) := fun i l => by
  pointwise; rw [mask_all, hx, hy]; split <;> simp_all [Scalar.select]

end joins

/-! ## Loads and stores -/

/-- The array `x` at a row and a column, zero off it. -/
def at2 {N K : ℕ} {φ : FTy} (x : FVec Ideal ⟨2, ![N, K]⟩ φ) (i j : ℕ) : EReal :=
  if h : i < N ∧ j < K then x (ix2 ⟨i, h.1⟩ ⟨j, h.2⟩) else 0

section reads
variable {φ : FTy} {a b : ℕ} {f g : ℕ → ℕ → EReal}

theorem t_read16 {sp : Space} {N K n k : ℕ} (v : View sig .tc sp ⟨2, ![N, K]⟩ (.bf16)) (x : FVec Ideal ⟨2, ![N, K]⟩ .bf16) (inb) :
    Tile (n := n) (k := k) (φ := .bf16)
      (v.readAt (Elt Ideal) (Rect.unit (s := ⟨2, ![N, K]⟩) ![a, b] ![n, k] inb).toLoadRect (v.rep x)) a 0
      (fun i j => at2 x i (b + j)) := fun i j => by
  rw [View.readAt_rep]
  have h0 : a + n ≤ N := inb 0
  have h1 : b + k ≤ K := inb 1
  have hi := i.2
  have hj := j.2
  show _ = at2 x (a + i) (b + (0 + j))
  unfold at2
  rw [dif_pos ⟨by omega, by omega⟩]
  refine congrArg x (funext fun q => Fin.ext ?_)
  match q with
  | ⟨0, _⟩ => show a + 1 * i.val = _; simp [ix2]
  | ⟨1, _⟩ => show b + 1 * j.val = _; simp [ix2]

theorem t_read32 {sp : Space} {N K n k : ℕ} (v : View sig .tc sp ⟨2, ![N, K]⟩ (.f32)) (x : FVec Ideal ⟨2, ![N, K]⟩ .f32) (inb) :
    Tile (n := n) (k := k) (φ := .f32)
      (v.readAt (Elt Ideal) (Rect.unit (s := ⟨2, ![N, K]⟩) ![a, b] ![n, k] inb).toLoadRect (v.rep x)) a 0
      (fun i j => at2 x i (b + j)) := fun i j => by
  rw [View.readAt_rep]
  have h0 : a + n ≤ N := inb 0
  have h1 : b + k ≤ K := inb 1
  have hi := i.2
  have hj := j.2
  show _ = at2 x (a + i) (b + (0 + j))
  unfold at2
  rw [dif_pos ⟨by omega, by omega⟩]
  refine congrArg x (funext fun q => Fin.ext ?_)
  match q with
  | ⟨0, _⟩ => show a + 1 * i.val = _; simp [ix2]
  | ⟨1, _⟩ => show b + 1 * j.val = _; simp [ix2]

/-- The bias array at a block distance, a key and a query, zero off it. -/
def at4 (x : FVec Ideal S1x4x512x512 .f32) (d i j : ℕ) : EReal :=
  if h : d < 4 ∧ i < 512 ∧ j < 512 then x (ix4 0 ⟨d, h.1⟩ ⟨i, h.2.1⟩ ⟨j, h.2.2⟩) else 0

theorem t_tab {sp : Space} {n k d p q A B : ℕ} (v : View sig .tc sp S1x4x512x512 .f32) (x : FVec Ideal S1x4x512x512 .f32) (inb)
    (hp : p + n ≤ 512) (hq : q + k ≤ 512) (hd : A + d = B) (i : Fin n) (j : Fin k) :
    v.readAt (Elt Ideal) (Rect.unit (s := S1x4x512x512) ![0, d, p, q] ![1, 1, n, k] inb).toLoadRect (v.rep x)
      (ix4 (0 : Fin 1) (0 : Fin 1) i j)
      = at4 x ((512 * B + q + j) / 512 - (512 * A + p + i) / 512) ((512 * A + p + i) % 512) ((512 * B + q + j) % 512) := by
  rw [View.readAt_rep]
  have h0 : d + 1 ≤ 4 := inb 1
  have hi := i.2
  have hj := j.2
  have e1 : (512 * B + q + j) / 512 = B := by omega
  have e2 : (512 * A + p + i) / 512 = A := by omega
  have e3 : (512 * B + q + j) % 512 = q + j := by omega
  have e4 : (512 * A + p + i) % 512 = p + i := by omega
  rw [e1, e2, e3, e4]
  unfold at4
  rw [dif_pos ⟨by omega, by omega, by omega⟩]
  refine congrArg x (funext fun z => Fin.ext ?_)
  match z with
  | ⟨0, _⟩ => rfl
  | ⟨1, _⟩ => show d + 1 * 0 = B - A; omega
  | ⟨2, _⟩ => show p + 1 * i.val = p + i; omega
  | ⟨3, _⟩ => show q + 1 * j.val = q + j; omega

end reads

theorem c_256_512 {x : Vec Ideal S1x1x256x512 .f32} {a b : ℕ} {f : ℕ → ℕ → EReal}
    (hx : ∀ (i : Fin 256) (j : Fin 512), x (ix4 (0 : Fin 1) (0 : Fin 1) i j) = f (a + i) (b + j)) (h) :
    Tile (φ := .f32) (shapeCast S256x512 x h) a b f := fun i j => by pointwise; exact hx i j
theorem c_256_256 {x : Vec Ideal S1x1x256x256 .f32} {a b : ℕ} {f : ℕ → ℕ → EReal}
    (hx : ∀ (i : Fin 256) (j : Fin 256), x (ix4 (0 : Fin 1) (0 : Fin 1) i j) = f (a + i) (b + j)) (h) :
    Tile (φ := .f32) (shapeCast S256x256 x h) a b f := fun i j => by pointwise; exact hx i j
theorem c_512_512 {x : Vec Ideal S1x1x512x512 .f32} {a b : ℕ} {f : ℕ → ℕ → EReal}
    (hx : ∀ (i : Fin 512) (j : Fin 512), x (ix4 (0 : Fin 1) (0 : Fin 1) i j) = f (a + i) (b + j)) (h) :
    Tile (φ := .f32) (shapeCast S512x512 x h) a b f := fun i j => by pointwise; exact hx i j
theorem c_1_512 {x : Vec Ideal S1x512x128 .f32} {a b : ℕ} {f : ℕ → ℕ → EReal} (hx : Tile3 (n := 512) (k := 128) (φ := .f32) x a b f) (h) :
    Tile (φ := .f32) (shapeCast S512x128 x h) a b f := fun i j => by pointwise; exact hx i j
theorem c_1_2048 {x : Vec Ideal S1x2048x128 .f32} {a b : ℕ} {f : ℕ → ℕ → EReal} (hx : Tile3 (n := 2048) (k := 128) (φ := .f32) x a b f) (h) :
    Tile (φ := .f32) (shapeCast S2048x128 x h) a b f := fun i j => by pointwise; exact hx i j
theorem c_512_1 {x : FVec Ideal S512x128 .f32} {a b : ℕ} {f : ℕ → ℕ → EReal} (hx : Tile x a b f) (h) :
    Tile3 (n := 512) (k := 128) (φ := .f32) (shapeCast S1x512x128 x h) a b f := fun i j => by pointwise; exact hx i j

/-! ## The accumulators, read back from their stores -/

/-- On rows `a ≤ i < a + n` of plane `e` the stores `L` leave `f`. -/
def Has3 (L : List (View.Piece (Elt Ideal) S2x2048x128 .f32)) (e : Fin 2) (a n : ℕ) (f : ℕ → ℕ → EReal) : Prop :=
  ∀ (i : Fin 2048) (j : Fin 128), a ≤ i → i < a + n → View.canon L (ix3 e i j) = f i j
/-- On rows `a ≤ i < a + n` the stores `L` leave `f`. -/
def Has2 (L : List (View.Piece (Elt Ideal) S2048x128 .f32)) (a n : ℕ) (f : ℕ → ℕ → EReal) : Prop :=
  ∀ (i : Fin 2048) (j : Fin 128), a ≤ i → i < a + n → View.canon L (ix2 i j) = f i j

section acc
variable {a : ℕ} {f : ℕ → ℕ → EReal}

theorem has3_hit {e : Fin 2} {w : Vec Ideal S1x512x128 .f32} (inb) (L) (hw : Tile3 (n := 512) (k := 128) (φ := .f32) w a 0 f) :
    Has3 (⟨Rect.unit (s := S2x2048x128) ![e.val, a, 0] ![1, 512, 128] inb, w⟩ :: L) e a 512 f := fun i j h1 h2 => by
  have e1 : ix3 e i j = (Rect.unit (s := S2x2048x128) ![e.val, a, 0] ![1, 512, 128] inb).emb
      (ix3 (0 : Fin 1) (⟨i - a, by omega⟩ : Fin 512) j) := by
    funext q; apply Fin.ext; rw [Rect.emb_apply]
    match q with
    | ⟨0, _⟩ => show e.val = e.val + 1 * 0; omega
    | ⟨1, _⟩ => show i.val = a + 1 * (i.val - a); omega
    | ⟨2, _⟩ => show j.val = 0 + 1 * j.val; omega
  rw [e1, View.canon_cons_emb]
  refine (hw _ _).trans ?_
  congr 1
  · show a + (i.val - a) = i; omega
  · simp

theorem has3_miss {e : Fin 2} {e' a' n : ℕ} (inb) (w) {L} (hd : e'.beq e.val = false ∨ a + n ≤ a' ∨ a' + 512 ≤ a) (h : Has3 L e a n f) :
    Has3 (⟨Rect.unit (s := S2x2048x128) ![e', a', 0] ![1, 512, 128] inb, w⟩ :: L) e a n f := fun i j h1 h2 => by
  rw [View.canon_cons_of_not_mem, h i j h1 h2]
  rw [Rect.mem_set_unit]
  intro hm
  have m0 : e' ≤ e.val ∧ e.val < e' + 1 := hm 0
  have m1 : a' ≤ i.val ∧ i.val < a' + 512 := hm 1
  rcases hd with hd | hd | hd
  · have : e' = e.val := by omega
    subst this; simp at hd
  · omega
  · omega

theorem has3_zero {e : Fin 2} {n : ℕ} (inb) (L) (w : Vec Ideal S2x2048x128 .f32) (hw : ∀ y, w y = 0) :
    Has3 (⟨Rect.unit (s := S2x2048x128) ![0, 0, 0] ![2, 2048, 128] inb, w⟩ :: L) e a n (fun _ _ => 0) := fun i j h1 h2 => by
  have e1 : ix3 e i j = (Rect.unit (s := S2x2048x128) ![0, 0, 0] ![2, 2048, 128] inb).emb (ix3 e i j) := by
    funext q; apply Fin.ext; rw [Rect.emb_apply]
    match q with
    | ⟨0, _⟩ => show e.val = 0 + 1 * e.val; omega
    | ⟨1, _⟩ => show i.val = 0 + 1 * i.val; omega
    | ⟨2, _⟩ => show j.val = 0 + 1 * j.val; omega
  rw [e1, View.canon_cons_emb]; exact hw _

theorem read3 {sp : Space} {e : Fin 2} {n : ℕ} (v : View sig .tc sp S2x2048x128 .f32) {L} (inb) (h : Has3 L e a n f) :
    Tile3 (n := n) (k := 128) (φ := .f32)
      (v.readCov L (Rect.unit (s := S2x2048x128) ![e.val, a, 0] ![1, n, 128] inb).toLoadRect) a 0 f := fun i j => by
  rw [View.readCov_eq_canon']
  have hb : a + n ≤ 2048 := inb 1
  have hi := i.2
  have e1 : (Rect.unit (s := S2x2048x128) ![e.val, a, 0] ![1, n, 128] inb).toLoadRect.idx (ix3 (0 : Fin 1) i j)
      = ix3 e (⟨a + i, by omega⟩ : Fin 2048) j := by
    funext q; apply Fin.ext
    match q with
    | ⟨0, _⟩ => show e.val + 1 * 0 = e.val; omega
    | ⟨1, _⟩ => show a + 1 * i.val = a + i.val; omega
    | ⟨2, _⟩ => show 0 + 1 * j.val = j.val; omega
  show View.canon L _ = _
  rw [e1]
  refine (h _ j (by simp) (by simp)).trans ?_
  simp

theorem has2_hit {w : Vec Ideal S512x128 .f32} (inb) (L) (hw : Tile (n := 512) (k := 128) (φ := .f32) w a 0 f) :
    Has2 (⟨Rect.unit (s := S2048x128) ![a, 0] ![512, 128] inb, w⟩ :: L) a 512 f := fun i j h1 h2 => by
  have e1 : ix2 i j = (Rect.unit (s := S2048x128) ![a, 0] ![512, 128] inb).emb
      (ix2 (⟨i - a, by omega⟩ : Fin 512) j) := by
    funext q; apply Fin.ext; rw [Rect.emb_apply]
    match q with
    | ⟨0, _⟩ => show i.val = a + 1 * (i.val - a); omega
    | ⟨1, _⟩ => show j.val = 0 + 1 * j.val; omega
  rw [e1, View.canon_cons_emb]
  refine (hw _ _).trans ?_
  congr 1
  · show a + (i.val - a) = i; omega
  · simp

theorem has2_miss {a' n : ℕ} (inb) (w) {L} (hd : a + n ≤ a' ∨ a' + 512 ≤ a) (h : Has2 L a n f) :
    Has2 (⟨Rect.unit (s := S2048x128) ![a', 0] ![512, 128] inb, w⟩ :: L) a n f := fun i j h1 h2 => by
  rw [View.canon_cons_of_not_mem, h i j h1 h2]
  rw [Rect.mem_set_unit]
  intro hm
  have m1 : a' ≤ i.val ∧ i.val < a' + 512 := hm 0
  omega

theorem has2_zero {n : ℕ} (inb) (L) (w : Vec Ideal S2048x128 .f32) (hw : ∀ y, w y = 0) :
    Has2 (⟨Rect.unit (s := S2048x128) ![0, 0] ![2048, 128] inb, w⟩ :: L) a n (fun _ _ => 0) := fun i j h1 h2 => by
  have e1 : ix2 i j = (Rect.unit (s := S2048x128) ![0, 0] ![2048, 128] inb).emb (ix2 i j) := by
    funext q; apply Fin.ext; rw [Rect.emb_apply]
    match q with
    | ⟨0, _⟩ => show i.val = 0 + 1 * i.val; omega
    | ⟨1, _⟩ => show j.val = 0 + 1 * j.val; omega
  rw [e1, View.canon_cons_emb]; exact hw _

theorem read2 {sp : Space} {n : ℕ} (v : View sig .tc sp S2048x128 .f32) {L} (inb) (h : Has2 L a n f) :
    Tile (n := n) (k := 128) (φ := .f32)
      (v.readCov L (Rect.unit (s := S2048x128) ![a, 0] ![n, 128] inb).toLoadRect) a 0 f := fun i j => by
  rw [View.readCov_eq_canon']
  have hb : a + n ≤ 2048 := inb 0
  have hi := i.2
  have e1 : (Rect.unit (s := S2048x128) ![a, 0] ![n, 128] inb).toLoadRect.idx (ix2 i j)
      = ix2 (⟨a + i, by omega⟩ : Fin 2048) j := by
    funext q; apply Fin.ext
    match q with
    | ⟨0, _⟩ => show a + 1 * i.val = a + i.val; omega
    | ⟨1, _⟩ => show 0 + 1 * j.val = j.val; omega
  show View.canon L _ = _
  rw [e1]
  refine (h _ j (by simp) (by simp)).trans ?_
  simp

theorem has3_all {L} {e : Fin 2} (h0 : Has3 L e 0 512 f) (h1 : Has3 L e 512 512 f) (h2 : Has3 L e 1024 512 f) (h3 : Has3 L e 1536 512 f) :
    Has3 L e 0 2048 f := fun i j _ _ => by
  have := i.2
  by_cases c0 : i.val < 512
  · exact h0 i j (by omega) (by omega)
  by_cases c1 : i.val < 1024
  · exact h1 i j (by omega) (by omega)
  by_cases c2 : i.val < 1536
  · exact h2 i j (by omega) (by omega)
  exact h3 i j (by omega) (by omega)

theorem has2_all {L} (h0 : Has2 L 0 512 f) (h1 : Has2 L 512 512 f) (h2 : Has2 L 1024 512 f) (h3 : Has2 L 1536 512 f) :
    Has2 L 0 2048 f := fun i j _ _ => by
  have := i.2
  by_cases c0 : i.val < 512
  · exact h0 i j (by omega) (by omega)
  by_cases c1 : i.val < 1024
  · exact h1 i j (by omega) (by omega)
  by_cases c2 : i.val < 1536
  · exact h2 i j (by omega) (by omega)
  exact h3 i j (by omega) (by omega)

end acc

theorem zero3 (y) : (k0_pay138 (F := Ideal)) y = 0 := by unfold k0_pay138; pointwise
theorem zero2 (y) : (k0_pay139 (F := Ideal)) y = 0 := by unfold k0_pay139; pointwise

/-! ## The functions the body computes, on global rows

`K e s l`, `Q e t l` are the extended key and query of head `e` of the pair, `V`, `DO`, `O` the value, the cotangent and
the forward output on both heads' lanes, `LS` the forward's base-2 log of the row total, `T` the bias. -/

structure Ins where
  K : ℕ → ℕ → ℕ → EReal
  Q : ℕ → ℕ → ℕ → EReal
  V : ℕ → ℕ → EReal
  DO : ℕ → ℕ → EReal
  O : ℕ → ℕ → EReal
  LS : ℕ → ℕ → EReal
  T : ℕ → ℕ → EReal

namespace Ins
variable (A : Ins)

/-- The factor that averages over a head's lanes. -/
def c64 : EReal := Scalar.ofBits (F := Ideal) .f32 0x3C800000#32
def sums (x : ℕ → ℕ → EReal) (e t : ℕ) : EReal := ∑ l ∈ Finset.range 128, hs e l * x t l
def lse (e t : ℕ) : EReal := sums A.LS e t * c64
def delta (e t : ℕ) : EReal := sums (fun t l => A.DO t l * A.O t l) e t
def S (e s t : ℕ) : EReal := ∑ l ∈ Finset.range 128, A.K e s l * A.Q e t l
def R (e s t : ℕ) : EReal := Ideal.exp2 (A.S e s t + A.T s t - A.lse e t)
/-- The probability of key `s` at query `t`: zero at a later key. -/
def P (e s t : ℕ) : EReal := if s ≤ t then A.R e s t else 0
/-- The cotangent on the lanes of head `e` alone. -/
def doe : ℕ → ℕ → ℕ → EReal
  | 0 => fun t l => if l < 64 then A.DO t l else 0
  | _ => fun t l => if l < 64 then 0 else A.DO t l
def G (e s t : ℕ) : EReal := ∑ l ∈ Finset.range 128, A.V s l * A.doe e t l
def DS (e s t : ℕ) : EReal := A.P e s t * (A.G e s t - A.delta e t)

/-- The sum over the first `n` queries, and over the first `n` keys. -/
def preT (M g : ℕ → ℕ → EReal) (n s l : ℕ) : EReal := ∑ t ∈ Finset.range n, M s t * g t l
def preS (g M : ℕ → ℕ → EReal) (n l t : ℕ) : EReal := ∑ s ∈ Finset.range n, g s l * M s t

/-- A bias that forbids every later key of a query's own block. -/
def Causal : Prop := ∀ s t, s / 512 = t / 512 → t < s → A.T s t = ⊥
/-- The two arrays the body splits in three are real. -/
def Finite : Prop := (∀ t l, ∃ r : ℝ, A.LS t l = r) ∧ ∀ t l, ∃ r : ℝ, A.DO t l * A.O t l = r

variable {A}

theorem P_zero {e s t : ℕ} (h : t < s) : A.P e s t = 0 := by unfold P; rw [if_neg (by omega)]
theorem DS_zero {e s t : ℕ} (h : t < s) : A.DS e s t = 0 := by unfold DS; rw [P_zero h, zero_mul]

theorem P_of_R (hc : A.Causal) {e s t : ℕ} (h : s / 512 ≤ t / 512) : A.R e s t = A.P e s t := by
  unfold P
  split
  · rfl
  · rename_i hn
    have : A.T s t = ⊥ := hc s t (by omega) (by omega)
    unfold R
    rw [this, EReal.add_bot, sub_eq_add_neg, EReal.bot_add, Ideal.exp2_bot]

end Ins

theorem sum_tail_zero {F : ℕ → EReal} {n m : ℕ} (h : ∀ x, x < m → F (n + x) = 0) :
    ∑ x ∈ Finset.range (n + m), F x = ∑ x ∈ Finset.range n, F x := by
  rw [Finset.sum_range_add, Finset.sum_eq_zero (f := fun x => F (n + x)) fun x hx => h x (Finset.mem_range.1 hx), add_zero]
theorem sum_head_zero {F : ℕ → EReal} {n m : ℕ} (h : ∀ x, x < n → F x = 0) :
    ∑ x ∈ Finset.range (n + m), F x = ∑ x ∈ Finset.range m, F (n + x) := by
  rw [Finset.sum_range_add, Finset.sum_eq_zero (f := F) fun x hx => h x (Finset.mem_range.1 hx), zero_add]

section sem
variable {A : Ins} {n k : ℕ} {φ : FTy} {a b e : ℕ} {f g : ℕ → ℕ → EReal}

open Ins

theorem t_P (hc : A.Causal) {v : FVec Ideal ⟨2, ![n, k]⟩ φ} (h : Tile v a b (A.R e)) (hv : ∀ i < n, (a + i) / 512 ≤ b / 512) :
    Tile v a b (A.P e) :=
  h.congr fun i hi j _ => P_of_R hc ((hv i hi).trans (Nat.div_le_div_right (by omega)))

/-- The first query block a key block meets: the queries before it contribute nothing. -/
theorem t_first {M : ℕ → ℕ → EReal} (hM : ∀ s t, t < s → M s t = 0) {m : ℕ} {v : FVec Ideal ⟨2, ![n, k]⟩ φ}
    (h : Tile v a 0 (fun s l => ∑ t ∈ Finset.range m, M s (b + t) * g (b + t) l)) (hb : b ≤ a) (N : ℕ) (hN : N = b + m) :
    Tile v a 0 (preT M g N) :=
  h.congr fun i _ j _ => by
    subst hN
    exact (sum_head_zero (F := fun t => M (a + i) t * g t (0 + j)) fun t ht => by rw [hM _ _ (by omega), zero_mul]).symm

theorem t_next {M : ℕ → ℕ → EReal} {m : ℕ} {v w : FVec Ideal ⟨2, ![n, k]⟩ φ} (hv : Tile v a 0 (preT M g b))
    (h : Tile w a 0 (fun s l => ∑ t ∈ Finset.range m, M s (b + t) * g (b + t) l)) (N : ℕ) (hN : N = b + m) :
    Tile (addf v w) a 0 (preT M g N) :=
  (t_add hv h).congr fun i _ j _ => by
    subst hN; unfold preT; rw [Finset.sum_range_add]

theorem t_next' {M : ℕ → ℕ → EReal} {m : ℕ} {v w : FVec Ideal ⟨2, ![n, k]⟩ φ} (hv : Tile v a 0 (fun s l => f s l + preT M g b s l))
    (h : Tile w a 0 (fun s l => ∑ t ∈ Finset.range m, M s (b + t) * g (b + t) l)) (N : ℕ) (hN : N = b + m) :
    Tile (addf v w) a 0 (fun s l => f s l + preT M g N s l) :=
  (t_add hv h).congr fun i _ j _ => by
    subst hN; unfold preT; rw [Finset.sum_range_add, add_assoc]

theorem t_keys {M : ℕ → ℕ → EReal} {m : ℕ} {v w : FVec Ideal ⟨2, ![n, k]⟩ φ} (hv : Tile v 0 b (preS g M a))
    (h : Tile w 0 b (fun l t => ∑ s ∈ Finset.range m, g (a + s) l * M (a + s) t)) (N : ℕ) (hN : N = a + m) :
    Tile (addf v w) 0 b (preS g M N) :=
  (t_add hv h).congr fun i _ j _ => by
    subst hN; unfold preS; rw [Finset.sum_range_add]

theorem t_zero : Tile (broadcast ⟨2, ![n, k]⟩ (Scalar.ofBits (F := Ideal) .f32 0x00000000#32)) 0 b (preS f g 0) := fun i j => by
  unfold preS; pointwise; rfl

/-- The early half of a diagonal block's queries: the late half of its keys adds nothing. -/
theorem t_early {M : ℕ → ℕ → EReal} (hM : ∀ s t, t < s → M s t = 0) {v : FVec Ideal ⟨2, ![n, k]⟩ φ}
    (h : Tile v 0 b (fun l t => ∑ s ∈ Finset.range 256, g (a + s) l * M (a + s) t)) (hb : b + k ≤ a + 256) :
    Tile v 0 b (fun l t => ∑ s ∈ Finset.range 512, g (a + s) l * M (a + s) t) :=
  h.congr fun i _ j hj => by
    exact (sum_tail_zero (n := 256) (m := 256) (F := fun s => g (a + s) (0 + i) * M (a + s) (b + j)) fun s _ => by
      rw [hM _ _ (by omega), mul_zero]).symm

theorem t_late {M : ℕ → ℕ → EReal} {v w : FVec Ideal ⟨2, ![n, k]⟩ φ} {a' : ℕ}
    (h : Tile v 0 b (fun l t => ∑ s ∈ Finset.range 256, g (a + s) l * M (a + s) t))
    (h' : Tile w 0 b (fun l t => ∑ s ∈ Finset.range 256, g (a' + s) l * M (a' + s) t)) (ha : a' = a + 256) :
    Tile (addf v w) 0 b (fun l t => ∑ s ∈ Finset.range 512, g (a + s) l * M (a + s) t) :=
  (t_add h h').congr fun i _ j _ => by
    subst ha
    show _ = ∑ s ∈ Finset.range (256 + 256), _
    rw [Finset.sum_range_add]; simp only [add_assoc]

theorem t_allKeys {M : ℕ → ℕ → EReal} (hM : ∀ s t, t < s → M s t = 0) {m N : ℕ} {v : FVec Ideal ⟨2, ![n, k]⟩ φ} (h : Tile v 0 b (preS g M m))
    (hb : b + k ≤ m) (hN : m ≤ N) : Tile v 0 b (preS g M N) :=
  h.congr fun i _ j hj => by
    obtain ⟨d, rfl⟩ := Nat.exists_eq_add_of_le hN
    exact (sum_tail_zero (F := fun s => g s (0 + i) * M s (b + j)) fun s _ => by rw [hM _ _ (by omega), mul_zero]).symm

theorem t_acc {v w : FVec Ideal ⟨2, ![n, k]⟩ φ} (hv : Tile v a b (fun _ _ => 0)) (hw : Tile w a b f) : Tile (addf v w) a b f :=
  (t_add hv hw).congr fun _ _ _ _ => zero_add _

theorem hs_real (e l : ℕ) : ∃ r : ℝ, hs e l = r := by
  unfold hs; split
  · exact ⟨1, rfl⟩
  · exact ⟨0, rfl⟩

/-- The three-term product with the selector: at exact arithmetic the second and third terms are zero. -/
theorem t_split {x : FVec Ideal S512x128 .f32} (hr : ∀ t l, ∃ r : ℝ, f t l = r) (hx : Tile x b 0 f) (h1 h2 h3 h4 h5) :
    Tile (addf (addf
        (matmul dot_S8x128_S512x128_S8x512_1_1_0_0_n_n none k0_pay137 (truncf .bf16 x h1) (constant S8x512 .f32 0x00000000#32))
        (matmul dot_S8x128_S512x128_S8x512_1_1_0_0_n_n none k0_pay137 (truncf .bf16 (subf x (extf .f32 (truncf .bf16 x h1) h2)) h3) (constant S8x512 .f32 0x00000000#32)))
        (matmul dot_S8x128_S512x128_S8x512_1_1_0_0_n_n none k0_pay137 (truncf .bf16 (subf (subf x (extf .f32 (truncf .bf16 x h1) h2))
          (extf .f32 (truncf .bf16 (subf x (extf .f32 (truncf .bf16 x h1) h2)) h3) h4)) h5) (constant S8x512 .f32 0x00000000#32))) 0 b (sums f) := by
  have z1 := (t_sub hx (t_ext h2 (t_trunc (ψ := .bf16) h1 hx))).congr (g := fun _ _ => 0) fun i _ j _ => by
    obtain ⟨r, e⟩ := hr (b + i) (0 + j); rw [e, ← EReal.coe_sub, sub_self]; rfl
  have z2 := (t_sub z1 (t_ext h4 (t_trunc (ψ := .bf16) h3 z1))).congr (g := fun _ _ => 0) fun i _ j _ => by simp
  exact (t_add (t_add (mm_8_512 t_selector (t_trunc h1 hx)) (mm_8_512 t_selector (t_trunc h3 z1)))
    (mm_8_512 t_selector (t_trunc h5 z2))).congr fun i _ j _ => by simp [sums]

theorem t_scale {x : FVec Ideal ⟨2, ![n, k]⟩ .f32} (hx : Tile x a b f) :
    Tile (mulf x (broadcast ⟨2, ![n, k]⟩ (Scalar.ofBits (F := Ideal) .f32 0x3C800000#32))) a b (fun i j => f i j * c64) :=
  fun i j => by pointwise; rw [hx i j]; rfl

end sem

end AttnTile
-- ==== Proof.AttnPair.lean ====
/-
  One pair of heads over real inputs: the weights and the logits' gradients that the kernel's base-two exponentials
  give are those of the heads' softmaxes.
-/
module

public import proofs.«01_k».proof.Proof.AttnArrays
public import proofs.«01_k».proof.Proof.AttnTile

@[expose] public section

set_option maxRecDepth 65536

noncomputable section

namespace Attn

open AttnTile AttnTile.Ins
open Idealize.ShloMosaic Idealize.ShloMosaic.TcCoe Cert.Proof

/-- Two to the power of a shifted logit with its count's logarithm is the weight over the total. -/
theorem exp2_weight {x n r : ℝ} (hn : 0 ≤ n) (hr : 0 < r) :
    Ideal.exp2 (((x / Real.log 2 : ℝ) : EReal) + lg n - ((Real.log r / Real.log 2 : ℝ) : EReal)) = ((n * Real.exp x / r : ℝ) : EReal) := by
  have L : Real.log 2 ≠ 0 := Host.log_two_ne
  unfold lg
  by_cases h : n = 0
  · subst h
    rw [if_pos rfl, EReal.add_bot, EReal.bot_sub, Ideal.exp2_bot, zero_mul, zero_div]; rfl
  · have hn' : 0 < n := lt_of_le_of_ne hn (Ne.symm h)
    rw [if_neg h, ← EReal.coe_add, ← EReal.coe_sub, Ideal.exp2_coe]
    congr 1
    show (2 : ℝ) ^ (x / Real.log 2 + Real.log n / Real.log 2 - Real.log r / Real.log 2) = _
    rw [Real.rpow_def_of_pos (by norm_num), show Real.log 2 * (x / Real.log 2 + Real.log n / Real.log 2 - Real.log r / Real.log 2) = x + Real.log n - Real.log r by field_simp,
      Real.exp_sub, Real.exp_add, Real.exp_log hn', Real.exp_log hr, mul_comm (Real.exp x)]

theorem sum128 (F : ℕ → EReal) : ∑ l ∈ Finset.range 128, F l = ∑ i : Fin 64, F i + ∑ i : Fin 64, F (64 + i) := by
  rw [show (128 : ℕ) = 64 + 64 from rfl, Finset.sum_range_add, Finset.sum_range, Finset.sum_range]

/-- What the kernel's two heads read at a grid point. -/
structure Reads (I : Ins) (H : Fin 2 → Head) (kx qx : Fin 2 → Fin 2048 → Fin 64 → ℝ) : Prop where
  k0 : ∀ (s : Fin 2048) (i : Fin 64), I.K 0 s i = ((H 0).k s i : EReal)
  x0 : ∀ (s : Fin 2048) (i : Fin 64), I.K 0 s (64 + i) = (kx 0 s i : EReal)
  x1 : ∀ (s : Fin 2048) (i : Fin 64), I.K 1 s i = (kx 1 s i : EReal)
  k1 : ∀ (s : Fin 2048) (i : Fin 64), I.K 1 s (64 + i) = ((H 1).k s i : EReal)
  q0 : ∀ (t : Fin 2048) (i : Fin 64), I.Q 0 t i = (((H 0).q t i * (1 / 8) / Real.log 2 : ℝ) : EReal)
  y0 : ∀ (t : Fin 2048) (i : Fin 64), I.Q 0 t (64 + i) = (qx 0 t i : EReal)
  y1 : ∀ (t : Fin 2048) (i : Fin 64), I.Q 1 t i = (qx 1 t i : EReal)
  q1 : ∀ (t : Fin 2048) (i : Fin 64), I.Q 1 t (64 + i) = (((H 1).q t i * (1 / 8) / Real.log 2 : ℝ) : EReal)
  v0 : ∀ (s : Fin 2048) (i : Fin 64), I.V s i = ((H 0).v s i : EReal)
  v1 : ∀ (s : Fin 2048) (i : Fin 64), I.V s (64 + i) = ((H 1).v s i : EReal)
  d0 : ∀ (t : Fin 2048) (i : Fin 64), I.DO t i = ((H 0).d t i : EReal)
  d1 : ∀ (t : Fin 2048) (i : Fin 64), I.DO t (64 + i) = ((H 1).d t i : EReal)
  o0 : ∀ (t : Fin 2048) (i : Fin 64), I.O t i = ((H 0).o t i : EReal)
  o1 : ∀ (t : Fin 2048) (i : Fin 64), I.O t (64 + i) = ((H 1).o t i : EReal)
  l0 : ∀ (t : Fin 2048) (i : Fin 64), I.LS t i = ((Real.log ((H 0).tot t) / Real.log 2 : ℝ) : EReal)
  l1 : ∀ (t : Fin 2048) (i : Fin 64), I.LS t (64 + i) = ((Real.log ((H 1).tot t) / Real.log 2 : ℝ) : EReal)
  tab : ∀ (e : Fin 2) (t s : Fin 2048), s ≤ t → I.T s t = lg ((H e).n t s)
  gate : ∀ (e : Fin 2) (t s : Fin 2048), ∑ i, kx e s i * qx e t i = ((H e).c t - (H e).c s) / Real.log 2
  pos : ∀ e, (H e).Pos
  later : ∀ (e : Fin 2) (t s : Fin 2048), ¬ s ≤ t → (H e).n t s = 0

variable {I : Ins} {H : Fin 2 → Head} {kx qx : Fin 2 → Fin 2048 → Fin 64 → ℝ} (R : Reads I H kx qx)
variable (t s : Fin 2048) (i : Fin 64)

namespace Reads

theorem logit (h : Head) (f g : Fin 64 → ℝ) (e : ∑ i, f i * g i = (h.c t - h.c s) / Real.log 2) :
    ∑ i, h.k s i * (h.q t i * (1 / 8) / Real.log 2) + ∑ i, f i * g i = h.X t s / Real.log 2 := by
  rw [e]
  unfold Head.X
  rw [add_div, Finset.sum_mul, Finset.sum_div]
  congr 1
  exact Finset.sum_congr rfl fun i _ => by ring

theorem logit' (h : Head) (f g : Fin 64 → ℝ) (e : ∑ i, f i * g i = (h.c t - h.c s) / Real.log 2) :
    ∑ i, f i * g i + ∑ i, h.k s i * (h.q t i * (1 / 8) / Real.log 2) = h.X t s / Real.log 2 := by
  rw [add_comm]; exact logit t s h f g e

theorem mean (x : ℝ) : (∑ _i : Fin 64, (x : EReal)) * c64 = (x : EReal) := by
  have e : c64 = ((1 / 64 : ℝ) : EReal) := ofBits_64th
  rw [e, ← coe_sum, ← EReal.coe_mul]; congr 1; simp; ring

theorem hs_lo (e : ℕ) (i : Fin 64) : hs e i = if e = 0 then 1 else 0 := by
  unfold hs; rw [show i.val / 64 = 0 by omega]
theorem hs_hi (e : ℕ) (i : Fin 64) : hs e (64 + i) = if e = 1 then 1 else 0 := by
  unfold hs; rw [show (64 + i.val) / 64 = 1 by omega]

include R

theorem S0 : I.S 0 s t = (((H 0).X t s / Real.log 2 : ℝ) : EReal) := by
  unfold Ins.S
  rw [sum128]
  simp only [R.k0, R.q0, R.x0, R.y0, ← EReal.coe_mul, ← coe_sum, ← EReal.coe_add]
  rw [logit t s (H 0) (kx 0 s) (qx 0 t) (R.gate 0 t s)]

theorem lse0 : I.lse 0 t = ((Real.log ((H 0).tot t) / Real.log 2 : ℝ) : EReal) := by
  unfold Ins.lse Ins.sums
  rw [sum128]
  simp only [hs_lo, hs_hi, R.l0, R.l1, if_true, one_mul, zero_mul, Finset.sum_const_zero, add_zero, zero_add, reduceIte, one_ne_zero, zero_ne_one]
  exact mean _

theorem delta0 : I.delta 0 t = ((H 0).del t : EReal) := by
  unfold Ins.delta Ins.sums
  rw [sum128]
  simp only [hs_lo, hs_hi, R.d0, R.d1, R.o0, R.o1, if_true, one_mul, zero_mul, Finset.sum_const_zero, add_zero, zero_add, reduceIte, one_ne_zero, zero_ne_one, ← EReal.coe_mul, ← coe_sum]
  rfl

theorem do0_lo : I.doe 0 t i = (((H 0).d t i : EReal)) := by
  show (if i.val < 64 then _ else _) = _
  rw [if_pos i.2]; exact R.d0 t i

theorem do0_hi : I.doe 0 t (64 + i) = (0) := by
  show (if 64 + i.val < 64 then _ else _) = _
  rw [if_neg (by omega)]

theorem G0 : I.G 0 s t = ((H 0).g t s : EReal) := by
  unfold Ins.G
  rw [sum128]
  simp only [R.do0_lo, R.do0_hi, R.v0, mul_zero, Finset.sum_const_zero, add_zero, zero_add, ← EReal.coe_mul, ← coe_sum]
  unfold Head.g; simp only [mul_comm]

theorem P0 : I.P 0 s t = (((H 0).w t s / (H 0).tot t : ℝ) : EReal) := by
  unfold Ins.P
  by_cases h : s ≤ t
  · have h' : s.val ≤ t.val := h
    rw [if_pos h']
    unfold Ins.R
    rw [R.S0, R.lse0, R.tab 0 t s h]
    exact exp2_weight ((R.pos 0).nonneg t s) ((R.pos 0).tot t)
  · have h' : ¬ s.val ≤ t.val := h
    rw [if_neg h', show (H 0).w t s = (H 0).n t s * Real.exp ((H 0).X t s) from rfl, R.later 0 t s h, zero_mul, zero_div]; rfl

theorem DS0 : I.DS 0 s t = ((H 0).ds t s : EReal) := by
  unfold Ins.DS
  rw [R.P0, R.G0, R.delta0, ← EReal.coe_sub, ← EReal.coe_mul]; rfl

/-- The gradients of head 0: by its queries, its gate as a query's, -/
theorem dq0 : preS (I.K 0) (I.DS 0) 2048 (i) t = ((∑ s, (H 0).ds t s * (H 0).k s i : ℝ) : EReal) := by
  unfold preS
  rw [← sum_fin]
  simp only [R.DS0, R.k0, ← EReal.coe_mul, ← coe_sum]
  simp only [mul_comm]

theorem cq0 : preS (I.K 0) (I.DS 0) 2048 (64 + i) t = ((∑ s, (H 0).ds t s * kx 0 s i : ℝ) : EReal) := by
  unfold preS
  rw [← sum_fin]
  simp only [R.DS0, R.x0, ← EReal.coe_mul, ← coe_sum]
  simp only [mul_comm]

/-- by its keys, its gate as a key's, -/
theorem dk0 : preT (I.DS 0) (I.Q 0) 2048 s (i) = ((∑ t, (H 0).ds t s * ((H 0).q t i * (1 / 8) / Real.log 2) : ℝ) : EReal) := by
  unfold preT
  rw [← sum_fin]
  simp only [R.DS0, R.q0, ← EReal.coe_mul, ← coe_sum]

theorem ck0 : preT (I.DS 0) (I.Q 0) 2048 s (64 + i) = ((∑ t, (H 0).ds t s * qx 0 t i : ℝ) : EReal) := by
  unfold preT
  rw [← sum_fin]
  simp only [R.DS0, R.y0, ← EReal.coe_mul, ← coe_sum]

theorem S1 : I.S 1 s t = (((H 1).X t s / Real.log 2 : ℝ) : EReal) := by
  unfold Ins.S
  rw [sum128]
  simp only [R.k1, R.q1, R.x1, R.y1, ← EReal.coe_mul, ← coe_sum, ← EReal.coe_add]
  rw [logit' t s (H 1) (kx 1 s) (qx 1 t) (R.gate 1 t s)]

theorem lse1 : I.lse 1 t = ((Real.log ((H 1).tot t) / Real.log 2 : ℝ) : EReal) := by
  unfold Ins.lse Ins.sums
  rw [sum128]
  simp only [hs_lo, hs_hi, R.l0, R.l1, if_true, one_mul, zero_mul, Finset.sum_const_zero, add_zero, zero_add, reduceIte, one_ne_zero, zero_ne_one]
  exact mean _

theorem delta1 : I.delta 1 t = ((H 1).del t : EReal) := by
  unfold Ins.delta Ins.sums
  rw [sum128]
  simp only [hs_lo, hs_hi, R.d0, R.d1, R.o0, R.o1, if_true, one_mul, zero_mul, Finset.sum_const_zero, add_zero, zero_add, reduceIte, one_ne_zero, zero_ne_one, ← EReal.coe_mul, ← coe_sum]
  rfl

theorem do1_lo : I.doe 1 t i = (0) := by
  show (if i.val < 64 then _ else _) = _
  rw [if_pos i.2]

theorem do1_hi : I.doe 1 t (64 + i) = (((H 1).d t i : EReal)) := by
  show (if 64 + i.val < 64 then _ else _) = _
  rw [if_neg (by omega)]; exact R.d1 t i

theorem G1 : I.G 1 s t = ((H 1).g t s : EReal) := by
  unfold Ins.G
  rw [sum128]
  simp only [R.do1_lo, R.do1_hi, R.v1, mul_zero, Finset.sum_const_zero, add_zero, zero_add, ← EReal.coe_mul, ← coe_sum]
  unfold Head.g; simp only [mul_comm]

theorem P1 : I.P 1 s t = (((H 1).w t s / (H 1).tot t : ℝ) : EReal) := by
  unfold Ins.P
  by_cases h : s ≤ t
  · have h' : s.val ≤ t.val := h
    rw [if_pos h']
    unfold Ins.R
    rw [R.S1, R.lse1, R.tab 1 t s h]
    exact exp2_weight ((R.pos 1).nonneg t s) ((R.pos 1).tot t)
  · have h' : ¬ s.val ≤ t.val := h
    rw [if_neg h', show (H 1).w t s = (H 1).n t s * Real.exp ((H 1).X t s) from rfl, R.later 1 t s h, zero_mul, zero_div]; rfl

theorem DS1 : I.DS 1 s t = ((H 1).ds t s : EReal) := by
  unfold Ins.DS
  rw [R.P1, R.G1, R.delta1, ← EReal.coe_sub, ← EReal.coe_mul]; rfl

/-- The gradients of head 1: by its queries, its gate as a query's, -/
theorem dq1 : preS (I.K 1) (I.DS 1) 2048 (64 + i) t = ((∑ s, (H 1).ds t s * (H 1).k s i : ℝ) : EReal) := by
  unfold preS
  rw [← sum_fin]
  simp only [R.DS1, R.k1, ← EReal.coe_mul, ← coe_sum]
  simp only [mul_comm]

theorem cq1 : preS (I.K 1) (I.DS 1) 2048 (i) t = ((∑ s, (H 1).ds t s * kx 1 s i : ℝ) : EReal) := by
  unfold preS
  rw [← sum_fin]
  simp only [R.DS1, R.x1, ← EReal.coe_mul, ← coe_sum]
  simp only [mul_comm]

/-- by its keys, its gate as a key's, -/
theorem dk1 : preT (I.DS 1) (I.Q 1) 2048 s (64 + i) = ((∑ t, (H 1).ds t s * ((H 1).q t i * (1 / 8) / Real.log 2) : ℝ) : EReal) := by
  unfold preT
  rw [← sum_fin]
  simp only [R.DS1, R.q1, ← EReal.coe_mul, ← coe_sum]

theorem ck1 : preT (I.DS 1) (I.Q 1) 2048 s (i) = ((∑ t, (H 1).ds t s * qx 1 t i : ℝ) : EReal) := by
  unfold preT
  rw [← sum_fin]
  simp only [R.DS1, R.y1, ← EReal.coe_mul, ← coe_sum]

/-- and by the two heads' values. -/
theorem dv0 : preT (I.P 0) (I.doe 0) 2048 s i + preT (I.P 1) (I.doe 1) 2048 s i = ((H 0).dv s i : EReal) := by
  unfold preT
  rw [← sum_fin, ← sum_fin]
  simp only [R.P0, R.P1, R.do0_lo, R.do1_lo, mul_zero, Finset.sum_const_zero, add_zero, zero_add, ← EReal.coe_mul, ← coe_sum]
  rfl

theorem dv1 : preT (I.P 0) (I.doe 0) 2048 s (64 + i) + preT (I.P 1) (I.doe 1) 2048 s (64 + i) = ((H 1).dv s i : EReal) := by
  unfold preT
  rw [← sum_fin, ← sum_fin]
  simp only [R.P0, R.P1, R.do0_hi, R.do1_hi, mul_zero, Finset.sum_const_zero, add_zero, zero_add, ← EReal.coe_mul, ← coe_sum]
  rfl

end Reads

end Attn

end
-- ==== Proof.AttnBlock.lean ====
/-
  The named values of the attention backward's body, each as the function of the global row and column it is.
-/
module

public import proofs.«01_k».proof.Proof.AttnTile

@[expose] public section

set_option maxRecDepth 65536
set_option maxHeartbeats 1000000

noncomputable section

namespace AttnTile.Block

open Cert.Kernel2Ideal Cert.Kernel2Ideal.Gen
open Idealize.ShloMosaic Idealize.ShloMosaic.TcCoe
open AttnTile

/-- The buffers of one grid step and the contents of the seven it reads. -/
structure Mem where
  c : Dev nD
  arg2 : Memref sig .tc .vmem S2048x256 .bf16
  arg3 : Memref sig .tc .vmem S2048x256 .bf16
  arg4 : Memref sig .tc .vmem S2048x128 .bf16
  arg5 : Memref sig .tc .vmem S1x4x512x512 .f32
  arg6 : Memref sig .tc .vmem S2048x128 .bf16
  arg7 : Memref sig .tc .vmem S2048x128 .f32
  arg8 : Memref sig .tc .vmem S2048x128 .bf16
  arg14 : Memref sig .tc .vmem S2x2048x128 .f32
  arg15 : Memref sig .tc .vmem S2048x128 .f32
  x0 : FVec Ideal S2048x256 .bf16
  x1 : FVec Ideal S2048x256 .bf16
  x2 : FVec Ideal S2048x128 .bf16
  x3 : FVec Ideal S1x4x512x512 .f32
  x4 : FVec Ideal S2048x128 .bf16
  x5 : FVec Ideal S2048x128 .f32
  x6 : FVec Ideal S2048x128 .bf16

/-- The functions of the global row these contents are. -/
def Mem.ins (M : Mem) : Ins where
  K e s l := at2 M.x1 s (128 * e + l)
  Q e t l := at2 M.x0 t (128 * e + l)
  V s l := at2 M.x2 s (0 + l)
  DO t l := at2 M.x6 t (0 + l)
  O t l := at2 M.x4 t (0 + l)
  LS t l := at2 M.x5 t (0 + l)
  T s t := at4 M.x3 (t / 512 - s / 512) (s % 512) (t % 512)

/-- What the value needs of them: a causal bias, real row totals and products. -/
def Mem.Good (M : Mem) : Prop := M.ins.Causal ∧ M.ins.Finite

variable (M : Mem) (h : M.Good)
include h

theorem v53 : Tile (n := 512) (k := 128) (AttnRun.run.sl.v53 (F := Ideal) M.c M.arg2 M.x0) 0 0 (M.ins.Q 0) :=
  (t_cast shapeCasts_S512x128_S512x128 (t_read16 _ _ _))

theorem v84 : Tile (n := 512) (k := 128) (AttnRun.run.sl.v84 (F := Ideal) M.c M.arg7 M.x5) 0 0 M.ins.LS :=
  (t_cast shapeCasts_S512x128_S512x128 (t_read32 _ _ _))

theorem v101 : Tile (n := 1) (k := 512) (AttnRun.run.sl.v101 (F := Ideal) M.c M.arg7 M.x5) 0 0 M.ins.lse :=
  (t_slice (a := 0) (b := 0) slices_S8x512_o0_0_S1x512 (t_scale (t_split h.2.1 (v84 M h) _ _ _ _ _)))

theorem v61 : Tile (n := 512) (k := 128) (AttnRun.run.sl.v61 (F := Ideal) M.c M.arg8 M.x6) 0 0 (M.ins.doe 0) :=
  (t_lo (t_cast shapeCasts_S512x128_S512x128 (t_read16 _ _ _)))

theorem v81 : Tile (n := 8) (k := 512) (AttnRun.run.sl.v81 (F := Ideal) M.c M.arg6 M.arg8 M.x4 M.x6) 0 0 M.ins.delta :=
  (t_split h.2.2 (t_mul (t_ext bitsLt_bf16_f32 (t_cast shapeCasts_S512x128_S512x128 (t_read16 _ _ _))) (t_ext bitsLt_bf16_f32 (t_cast shapeCasts_S512x128_S512x128 (t_read16 _ _ _)))) _ _ _ _ _)

theorem v99 : Tile (n := 1) (k := 512) (AttnRun.run.sl.v99 (F := Ideal) M.c M.arg6 M.arg8 M.x4 M.x6) 0 0 M.ins.delta :=
  (t_slice (a := 0) (b := 0) slices_S8x512_o0_0_S1x512 (v81 M h))

theorem v298 : Tile (n := 256) (k := 512) (AttnRun.run.sl.v298 (F := Ideal) M.c M.arg2 M.arg3 M.arg4 M.arg5 M.arg6 M.arg7 M.arg8 M.x0 M.x1 M.x2 M.x3 M.x4 M.x5 M.x6) 0 0 (M.ins.DS 0) :=
  (t_trunc bitsLt_bf16_f32 (t_mul (t_P h.1 (t_exp2 (t_sub (t_add (mm_256_512 (t_slice (a := 0) (b := 0) slices_S512x128_o0_0_S256x128 (t_cast shapeCasts_S512x128_S512x128 (t_read16 _ _ _))) (v53 M h)) (c_256_512 (t_tab (A := 0) (B := 0) _ _ _ (by omega) (by omega) (by omega)) _)) (t_bcast (e := 0) broadcasts_S1x512_S256x512 (v101 M h)))) (by omega)) (t_sub (mm_256_512 (t_slice (a := 0) (b := 0) slices_S512x128_o0_0_S256x128 (t_cast shapeCasts_S512x128_S512x128 (t_read16 _ _ _))) (v61 M h)) (t_bcast (e := 0) broadcasts_S1x512_S256x512 (v99 M h)))))

theorem v284 : Tile (n := 512) (k := 128) (AttnRun.run.sl.v284 (F := Ideal) M.c M.arg3 M.x1) 0 0 (M.ins.K 0) :=
  (t_cast shapeCasts_S512x128_S512x128 (t_read16 _ _ _))

theorem v108 : Tile (n := 512) (k := 128) (AttnRun.run.sl.v108 (F := Ideal) M.c M.arg2 M.x0) 512 0 (M.ins.Q 0) :=
  (t_cast shapeCasts_S512x128_S512x128 (t_read16 _ _ _))

theorem v156 : Tile (n := 1) (k := 512) (AttnRun.run.sl.v156 (F := Ideal) M.c M.arg7 M.x5) 0 512 M.ins.lse :=
  (t_slice (a := 0) (b := 512) slices_S8x512_o0_0_S1x512 (t_scale (t_split h.2.1 (t_cast shapeCasts_S512x128_S512x128 (t_read32 _ _ _)) _ _ _ _ _)))

theorem v281 : Tile (n := 512) (k := 128) (AttnRun.run.sl.v281 (F := Ideal) M.c M.arg4 M.x2) 0 0 M.ins.V :=
  (t_cast shapeCasts_S512x128_S512x128 (t_read16 _ _ _))

theorem v116 : Tile (n := 512) (k := 128) (AttnRun.run.sl.v116 (F := Ideal) M.c M.arg8 M.x6) 512 0 (M.ins.doe 0) :=
  (t_lo (t_cast shapeCasts_S512x128_S512x128 (t_read16 _ _ _)))

theorem v154 : Tile (n := 1) (k := 512) (AttnRun.run.sl.v154 (F := Ideal) M.c M.arg6 M.arg8 M.x4 M.x6) 0 512 M.ins.delta :=
  (t_slice (a := 0) (b := 512) slices_S8x512_o0_0_S1x512 (t_split h.2.2 (t_mul (t_ext bitsLt_bf16_f32 (t_cast shapeCasts_S512x128_S512x128 (t_read16 _ _ _))) (t_ext bitsLt_bf16_f32 (t_cast shapeCasts_S512x128_S512x128 (t_read16 _ _ _)))) _ _ _ _ _))

theorem v330 : Tile (n := 512) (k := 512) (AttnRun.run.sl.v330 (F := Ideal) M.c M.arg2 M.arg3 M.arg4 M.arg5 M.arg6 M.arg7 M.arg8 M.x0 M.x1 M.x2 M.x3 M.x4 M.x5 M.x6) 0 512 (M.ins.DS 0) :=
  (t_trunc bitsLt_bf16_f32 (t_mul (t_P h.1 (t_exp2 (t_sub (t_add (mm_512_512 (v284 M h) (v108 M h)) (c_512_512 (t_tab (A := 0) (B := 1) _ _ _ (by omega) (by omega) (by omega)) _)) (t_bcast (e := 0) broadcasts_S1x512_S512x512 (v156 M h)))) (by omega)) (t_sub (mm_512_512 (v281 M h) (v116 M h)) (t_bcast (e := 0) broadcasts_S1x512_S512x512 (v154 M h)))))

theorem v163 : Tile (n := 512) (k := 128) (AttnRun.run.sl.v163 (F := Ideal) M.c M.arg2 M.x0) 1024 0 (M.ins.Q 0) :=
  (t_cast shapeCasts_S512x128_S512x128 (t_read16 _ _ _))

theorem v211 : Tile (n := 1) (k := 512) (AttnRun.run.sl.v211 (F := Ideal) M.c M.arg7 M.x5) 0 1024 M.ins.lse :=
  (t_slice (a := 0) (b := 1024) slices_S8x512_o0_0_S1x512 (t_scale (t_split h.2.1 (t_cast shapeCasts_S512x128_S512x128 (t_read32 _ _ _)) _ _ _ _ _)))

theorem v171 : Tile (n := 512) (k := 128) (AttnRun.run.sl.v171 (F := Ideal) M.c M.arg8 M.x6) 1024 0 (M.ins.doe 0) :=
  (t_lo (t_cast shapeCasts_S512x128_S512x128 (t_read16 _ _ _)))

theorem v174 : Tile (n := 512) (k := 128) (AttnRun.run.sl.v174 (F := Ideal) M.c M.arg8 M.x6) 1024 0 M.ins.DO :=
  (t_ext bitsLt_bf16_f32 (t_cast shapeCasts_S512x128_S512x128 (t_read16 _ _ _)))

theorem v176 : Tile (n := 512) (k := 128) (φ := .bf16) (AttnRun.run.sl.v176 (F := Ideal) M.c M.arg6 M.x4) 1024 0 M.ins.O :=
  (t_read16 _ _ _)

theorem v209 : Tile (n := 1) (k := 512) (AttnRun.run.sl.v209 (F := Ideal) M.c M.arg6 M.arg8 M.x4 M.x6) 0 1024 M.ins.delta :=
  (t_slice (a := 0) (b := 1024) slices_S8x512_o0_0_S1x512 (t_split h.2.2 (t_mul (v174 M h) (t_ext bitsLt_bf16_f32 (t_cast shapeCasts_S512x128_S512x128 (v176 M h)))) _ _ _ _ _))

theorem v343 : Tile (n := 512) (k := 512) (AttnRun.run.sl.v343 (F := Ideal) M.c M.arg2 M.arg3 M.arg4 M.arg5 M.arg6 M.arg7 M.arg8 M.x0 M.x1 M.x2 M.x3 M.x4 M.x5 M.x6) 0 1024 (M.ins.DS 0) :=
  (t_trunc bitsLt_bf16_f32 (t_mul (t_P h.1 (t_exp2 (t_sub (t_add (mm_512_512 (v284 M h) (v163 M h)) (c_512_512 (t_tab (A := 0) (B := 2) _ _ _ (by omega) (by omega) (by omega)) _)) (t_bcast (e := 0) broadcasts_S1x512_S512x512 (v211 M h)))) (by omega)) (t_sub (mm_512_512 (v281 M h) (v171 M h)) (t_bcast (e := 0) broadcasts_S1x512_S512x512 (v209 M h)))))

theorem v389 : Tile (n := 256) (k := 128) (AttnRun.run.sl.v389 (F := Ideal) M.c M.arg2 M.arg3 M.arg4 M.arg5 M.arg6 M.arg7 M.arg8 M.x0 M.x1 M.x2 M.x3 M.x4 M.x5 M.x6) 0 0 (Ins.preT (M.ins.DS 0) (M.ins.Q 0) 1536) :=
  (t_next (M := M.ins.DS 0) (g := M.ins.Q 0) (t_next (M := M.ins.DS 0) (g := M.ins.Q 0) (t_first (M := M.ins.DS 0) (g := M.ins.Q 0) (fun _ _ => Ins.DS_zero) (mq_256_512 (f := (M.ins.DS 0)) (g := (M.ins.Q 0)) (v298 M h) (v53 M h)) (by omega) 512 (by omega)) (t_slice (a := 0) (b := 0) slices_S512x128_o0_0_S256x128 (mq_512_512 (f := (M.ins.DS 0)) (g := (M.ins.Q 0)) (v330 M h) (v108 M h))) 1024 (by omega)) (t_slice (a := 0) (b := 0) slices_S512x128_o0_0_S256x128 (mq_512_512 (f := (M.ins.DS 0)) (g := (M.ins.Q 0)) (v343 M h) (v163 M h))) 1536 (by omega))

theorem v218 : Tile (n := 512) (k := 128) (AttnRun.run.sl.v218 (F := Ideal) M.c M.arg2 M.x0) 1536 0 (M.ins.Q 0) :=
  (t_cast shapeCasts_S512x128_S512x128 (t_read16 _ _ _))

theorem v266 : Tile (n := 1) (k := 512) (AttnRun.run.sl.v266 (F := Ideal) M.c M.arg7 M.x5) 0 1536 M.ins.lse :=
  (t_slice (a := 0) (b := 1536) slices_S8x512_o0_0_S1x512 (t_scale (t_split h.2.1 (t_cast shapeCasts_S512x128_S512x128 (t_read32 _ _ _)) _ _ _ _ _)))

theorem v351 : Tile (n := 512) (k := 512) (AttnRun.run.sl.v351 (F := Ideal) M.c M.arg2 M.arg3 M.arg5 M.arg7 M.x0 M.x1 M.x3 M.x5) 0 1536 (M.ins.P 0) :=
  (t_P h.1 (t_exp2 (t_sub (t_add (mm_512_512 (v284 M h) (v218 M h)) (c_512_512 (t_tab (A := 0) (B := 3) _ _ _ (by omega) (by omega) (by omega)) _)) (t_bcast (e := 0) broadcasts_S1x512_S512x512 (v266 M h)))) (by omega))

theorem v223 : Tile (n := 512) (k := 128) (φ := .bf16) (AttnRun.run.sl.v223 (F := Ideal) M.c M.arg8 M.x6) 1536 0 M.ins.DO :=
  (t_read16 _ _ _)

theorem v226 : Tile (n := 512) (k := 128) (AttnRun.run.sl.v226 (F := Ideal) M.c M.arg8 M.x6) 1536 0 (M.ins.doe 0) :=
  (t_lo (t_cast shapeCasts_S512x128_S512x128 (v223 M h)))

theorem v352 : Tile (n := 512) (k := 512) (AttnRun.run.sl.v352 (F := Ideal) M.c M.arg4 M.arg8 M.x2 M.x6) 0 1536 (M.ins.G 0) :=
  (mm_512_512 (v281 M h) (v226 M h))

theorem v264 : Tile (n := 1) (k := 512) (AttnRun.run.sl.v264 (F := Ideal) M.c M.arg6 M.arg8 M.x4 M.x6) 0 1536 M.ins.delta :=
  (t_slice (a := 0) (b := 1536) slices_S8x512_o0_0_S1x512 (t_split h.2.2 (t_mul (t_ext bitsLt_bf16_f32 (t_cast shapeCasts_S512x128_S512x128 (v223 M h))) (t_ext bitsLt_bf16_f32 (t_cast shapeCasts_S512x128_S512x128 (t_read16 _ _ _)))) _ _ _ _ _))

theorem v353 : Tile (n := 512) (k := 512) (AttnRun.run.sl.v353 (F := Ideal) M.c M.arg6 M.arg8 M.x4 M.x6) 0 1536 (fun _ t => M.ins.delta 0 t) :=
  (t_bcast (e := 0) broadcasts_S1x512_S512x512 (v264 M h))

theorem v397 : Tile (n := 256) (k := 128) (AttnRun.run.sl.v397 (F := Ideal) M.c M.arg2 M.arg3 M.arg4 M.arg5 M.arg6 M.arg7 M.arg8 M.x0 M.x1 M.x2 M.x3 M.x4 M.x5 M.x6) 0 0 (fun s l => ∑ t ∈ Finset.range 512, M.ins.DS 0 s (1536 + t) * M.ins.Q 0 (1536 + t) l) :=
  (t_slice (a := 0) (b := 0) slices_S512x128_o0_0_S256x128 (mq_512_512 (f := (M.ins.DS 0)) (g := (M.ins.Q 0)) (t_trunc bitsLt_bf16_f32 (t_mul (v351 M h) (t_sub (v352 M h) (v353 M h)))) (v218 M h)))

theorem v311 : Tile (n := 256) (k := 256) (AttnRun.run.sl.v311 (F := Ideal) M.c M.arg2 M.arg3 M.arg5 M.arg7 M.x0 M.x1 M.x3 M.x5) 256 256 (M.ins.P 0) :=
  (t_P h.1 (t_exp2 (t_sub (t_add (mm_256_256 (t_slice (a := 0) (b := 0) slices_S512x128_o256_0_S256x128 (t_cast shapeCasts_S512x128_S512x128 (t_read16 _ _ _))) (t_slice (a := 0) (b := 0) slices_S512x128_o256_0_S256x128 (v53 M h))) (c_256_256 (t_tab (A := 0) (B := 0) _ _ _ (by omega) (by omega) (by omega)) _)) (t_bcast (e := 0) broadcasts_S1x256_S256x256 (t_slice (a := 0) (b := 0) slices_S1x512_o0_256_S1x256 (v101 M h))))) (by omega))

theorem v301 : Tile (n := 256) (k := 128) (AttnRun.run.sl.v301 (F := Ideal) M.c M.arg4 M.x2) 256 0 M.ins.V :=
  (t_slice (a := 0) (b := 0) slices_S512x128_o256_0_S256x128 (t_cast shapeCasts_S512x128_S512x128 (t_read16 _ _ _)))

theorem v303 : Tile (n := 256) (k := 128) (AttnRun.run.sl.v303 (F := Ideal) M.c M.arg8 M.x6) 256 0 (M.ins.doe 0) :=
  (t_slice (a := 0) (b := 0) slices_S512x128_o256_0_S256x128 (v61 M h))

theorem v317 : Tile (n := 256) (k := 256) (AttnRun.run.sl.v317 (F := Ideal) M.c M.arg2 M.arg3 M.arg4 M.arg5 M.arg6 M.arg7 M.arg8 M.x0 M.x1 M.x2 M.x3 M.x4 M.x5 M.x6) 256 256 (M.ins.DS 0) :=
  (t_trunc bitsLt_bf16_f32 (t_mul (v311 M h) (t_sub (mm_256_256 (v301 M h) (v303 M h)) (t_bcast (e := 0) broadcasts_S1x256_S256x256 (t_slice (a := 0) (b := 0) slices_S1x512_o0_256_S1x256 (v99 M h))))))

theorem v302 : Tile (n := 256) (k := 128) (AttnRun.run.sl.v302 (F := Ideal) M.c M.arg2 M.x0) 256 0 (M.ins.Q 0) :=
  (t_slice (a := 0) (b := 0) slices_S512x128_o256_0_S256x128 (v53 M h))

theorem v391 : Tile (n := 256) (k := 128) (AttnRun.run.sl.v391 (F := Ideal) M.c M.arg2 M.arg3 M.arg4 M.arg5 M.arg6 M.arg7 M.arg8 M.x0 M.x1 M.x2 M.x3 M.x4 M.x5 M.x6) 256 0 (Ins.preT (M.ins.DS 0) (M.ins.Q 0) 1536) :=
  (t_next (M := M.ins.DS 0) (g := M.ins.Q 0) (t_next (M := M.ins.DS 0) (g := M.ins.Q 0) (t_first (M := M.ins.DS 0) (g := M.ins.Q 0) (fun _ _ => Ins.DS_zero) (mq_256_256 (f := (M.ins.DS 0)) (g := (M.ins.Q 0)) (v317 M h) (v302 M h)) (by omega) 512 (by omega)) (t_slice (a := 0) (b := 0) slices_S512x128_o256_0_S256x128 (mq_512_512 (f := (M.ins.DS 0)) (g := (M.ins.Q 0)) (v330 M h) (v108 M h))) 1024 (by omega)) (t_slice (a := 0) (b := 0) slices_S512x128_o256_0_S256x128 (mq_512_512 (f := (M.ins.DS 0)) (g := (M.ins.Q 0)) (v343 M h) (v163 M h))) 1536 (by omega))

theorem v394 : Tile (n := 512) (k := 128) (AttnRun.run.sl.v394 (F := Ideal) M.c M.arg2 M.arg3 M.arg4 M.arg5 M.arg6 M.arg7 M.arg8 M.x0 M.x1 M.x2 M.x3 M.x4 M.x5 M.x6) 0 0 (fun s l => ∑ t ∈ Finset.range 512, M.ins.DS 0 s (1536 + t) * M.ins.Q 0 (1536 + t) l) :=
  (mq_512_512 (f := (M.ins.DS 0)) (g := (M.ins.Q 0)) (t_trunc bitsLt_bf16_f32 (t_mul (v351 M h) (t_sub (v352 M h) (v353 M h)))) (v218 M h))

theorem H12_2 : Has3 (AttnRun.run.sl.H12_2 (F := Ideal) M.c M.arg2 M.arg3 M.arg4 M.arg5 M.arg6 M.arg7 M.arg8 M.arg14 M.x0 M.x1 M.x2 M.x3 M.x4 M.x5 M.x6) 0 0 512 (Ins.preT (M.ins.DS 0) (M.ins.Q 0) 2048) :=
  has3_hit (e := 0) _ _ (c_512_1 (t_acc (c_1_512 (read3 (e := 0) _ _ (has3_zero _ _ _ zero3)) shapeCasts_S1x512x128_S512x128) (t_rows concatenates_S256x128_S256x128_S512x128_d0 (t_next (M := M.ins.DS 0) (g := M.ins.Q 0) (v389 M h) (v397 M h) 2048 (by omega)) (t_next (M := M.ins.DS 0) (g := M.ins.Q 0) (v391 M h) (t_slice (a := 0) (b := 0) slices_S512x128_o256_0_S256x128 (v394 M h)) 2048 (by omega)))) _)

theorem v56 : Tile (n := 512) (k := 128) (AttnRun.run.sl.v56 (F := Ideal) M.c M.arg2 M.x0) 0 0 (M.ins.Q 1) :=
  (t_cast shapeCasts_S512x128_S512x128 (t_read16 _ _ _))

theorem v102 : Tile (n := 1) (k := 512) (AttnRun.run.sl.v102 (F := Ideal) M.c M.arg7 M.x5) 1 0 M.ins.lse :=
  (t_slice (a := 0) (b := 0) slices_S8x512_o1_0_S1x512 (t_scale (t_split h.2.1 (v84 M h) _ _ _ _ _)))

theorem v63 : Tile (n := 512) (k := 128) (AttnRun.run.sl.v63 (F := Ideal) M.c M.arg8 M.x6) 0 0 (M.ins.doe 1) :=
  (t_hi (t_cast shapeCasts_S512x128_S512x128 (t_read16 _ _ _)))

theorem v100 : Tile (n := 1) (k := 512) (AttnRun.run.sl.v100 (F := Ideal) M.c M.arg6 M.arg8 M.x4 M.x6) 1 0 M.ins.delta :=
  (t_slice (a := 0) (b := 0) slices_S8x512_o1_0_S1x512 (v81 M h))

theorem v430 : Tile (n := 256) (k := 512) (AttnRun.run.sl.v430 (F := Ideal) M.c M.arg2 M.arg3 M.arg4 M.arg5 M.arg6 M.arg7 M.arg8 M.x0 M.x1 M.x2 M.x3 M.x4 M.x5 M.x6) 0 0 (M.ins.DS 1) :=
  (t_trunc bitsLt_bf16_f32 (t_mul (t_P h.1 (t_exp2 (t_sub (t_add (mm_256_512 (t_slice (a := 0) (b := 0) slices_S512x128_o0_0_S256x128 (t_cast shapeCasts_S512x128_S512x128 (t_read16 _ _ _))) (v56 M h)) (c_256_512 (t_tab (A := 0) (B := 0) _ _ _ (by omega) (by omega) (by omega)) _)) (t_bcast (e := 1) broadcasts_S1x512_S256x512 (v102 M h)))) (by omega)) (t_sub (mm_256_512 (t_slice (a := 0) (b := 0) slices_S512x128_o0_0_S256x128 (v281 M h)) (v63 M h)) (t_bcast (e := 1) broadcasts_S1x512_S256x512 (v100 M h)))))

theorem v416 : Tile (n := 512) (k := 128) (AttnRun.run.sl.v416 (F := Ideal) M.c M.arg3 M.x1) 0 0 (M.ins.K 1) :=
  (t_cast shapeCasts_S512x128_S512x128 (t_read16 _ _ _))

theorem v111 : Tile (n := 512) (k := 128) (AttnRun.run.sl.v111 (F := Ideal) M.c M.arg2 M.x0) 512 0 (M.ins.Q 1) :=
  (t_cast shapeCasts_S512x128_S512x128 (t_read16 _ _ _))

theorem v157 : Tile (n := 1) (k := 512) (AttnRun.run.sl.v157 (F := Ideal) M.c M.arg7 M.x5) 1 512 M.ins.lse :=
  (t_slice (a := 0) (b := 512) slices_S8x512_o1_0_S1x512 (t_scale (t_split h.2.1 (t_cast shapeCasts_S512x128_S512x128 (t_read32 _ _ _)) _ _ _ _ _)))

theorem v118 : Tile (n := 512) (k := 128) (AttnRun.run.sl.v118 (F := Ideal) M.c M.arg8 M.x6) 512 0 (M.ins.doe 1) :=
  (t_hi (t_cast shapeCasts_S512x128_S512x128 (t_read16 _ _ _)))

theorem v155 : Tile (n := 1) (k := 512) (AttnRun.run.sl.v155 (F := Ideal) M.c M.arg6 M.arg8 M.x4 M.x6) 1 512 M.ins.delta :=
  (t_slice (a := 0) (b := 512) slices_S8x512_o1_0_S1x512 (t_split h.2.2 (t_mul (t_ext bitsLt_bf16_f32 (t_cast shapeCasts_S512x128_S512x128 (t_read16 _ _ _))) (t_ext bitsLt_bf16_f32 (t_cast shapeCasts_S512x128_S512x128 (t_read16 _ _ _)))) _ _ _ _ _))

theorem v462 : Tile (n := 512) (k := 512) (AttnRun.run.sl.v462 (F := Ideal) M.c M.arg2 M.arg3 M.arg4 M.arg5 M.arg6 M.arg7 M.arg8 M.x0 M.x1 M.x2 M.x3 M.x4 M.x5 M.x6) 0 512 (M.ins.DS 1) :=
  (t_trunc bitsLt_bf16_f32 (t_mul (t_P h.1 (t_exp2 (t_sub (t_add (mm_512_512 (v416 M h) (v111 M h)) (c_512_512 (t_tab (A := 0) (B := 1) _ _ _ (by omega) (by omega) (by omega)) _)) (t_bcast (e := 1) broadcasts_S1x512_S512x512 (v157 M h)))) (by omega)) (t_sub (mm_512_512 (v281 M h) (v118 M h)) (t_bcast (e := 1) broadcasts_S1x512_S512x512 (v155 M h)))))

theorem v166 : Tile (n := 512) (k := 128) (AttnRun.run.sl.v166 (F := Ideal) M.c M.arg2 M.x0) 1024 0 (M.ins.Q 1) :=
  (t_cast shapeCasts_S512x128_S512x128 (t_read16 _ _ _))

theorem v212 : Tile (n := 1) (k := 512) (AttnRun.run.sl.v212 (F := Ideal) M.c M.arg7 M.x5) 1 1024 M.ins.lse :=
  (t_slice (a := 0) (b := 1024) slices_S8x512_o1_0_S1x512 (t_scale (t_split h.2.1 (t_cast shapeCasts_S512x128_S512x128 (t_read32 _ _ _)) _ _ _ _ _)))

theorem v173 : Tile (n := 512) (k := 128) (AttnRun.run.sl.v173 (F := Ideal) M.c M.arg8 M.x6) 1024 0 (M.ins.doe 1) :=
  (t_hi (t_cast shapeCasts_S512x128_S512x128 (t_read16 _ _ _)))

theorem v210 : Tile (n := 1) (k := 512) (AttnRun.run.sl.v210 (F := Ideal) M.c M.arg6 M.arg8 M.x4 M.x6) 1 1024 M.ins.delta :=
  (t_slice (a := 0) (b := 1024) slices_S8x512_o1_0_S1x512 (t_split h.2.2 (t_mul (v174 M h) (t_ext bitsLt_bf16_f32 (t_cast shapeCasts_S512x128_S512x128 (v176 M h)))) _ _ _ _ _))

theorem v475 : Tile (n := 512) (k := 512) (AttnRun.run.sl.v475 (F := Ideal) M.c M.arg2 M.arg3 M.arg4 M.arg5 M.arg6 M.arg7 M.arg8 M.x0 M.x1 M.x2 M.x3 M.x4 M.x5 M.x6) 0 1024 (M.ins.DS 1) :=
  (t_trunc bitsLt_bf16_f32 (t_mul (t_P h.1 (t_exp2 (t_sub (t_add (mm_512_512 (v416 M h) (v166 M h)) (c_512_512 (t_tab (A := 0) (B := 2) _ _ _ (by omega) (by omega) (by omega)) _)) (t_bcast (e := 1) broadcasts_S1x512_S512x512 (v212 M h)))) (by omega)) (t_sub (mm_512_512 (v281 M h) (v173 M h)) (t_bcast (e := 1) broadcasts_S1x512_S512x512 (v210 M h)))))

theorem v523 : Tile (n := 256) (k := 128) (AttnRun.run.sl.v523 (F := Ideal) M.c M.arg2 M.arg3 M.arg4 M.arg5 M.arg6 M.arg7 M.arg8 M.x0 M.x1 M.x2 M.x3 M.x4 M.x5 M.x6) 0 0 (Ins.preT (M.ins.DS 1) (M.ins.Q 1) 1536) :=
  (t_next (M := M.ins.DS 1) (g := M.ins.Q 1) (t_next (M := M.ins.DS 1) (g := M.ins.Q 1) (t_first (M := M.ins.DS 1) (g := M.ins.Q 1) (fun _ _ => Ins.DS_zero) (mq_256_512 (f := (M.ins.DS 1)) (g := (M.ins.Q 1)) (v430 M h) (v56 M h)) (by omega) 512 (by omega)) (t_slice (a := 0) (b := 0) slices_S512x128_o0_0_S256x128 (mq_512_512 (f := (M.ins.DS 1)) (g := (M.ins.Q 1)) (v462 M h) (v111 M h))) 1024 (by omega)) (t_slice (a := 0) (b := 0) slices_S512x128_o0_0_S256x128 (mq_512_512 (f := (M.ins.DS 1)) (g := (M.ins.Q 1)) (v475 M h) (v166 M h))) 1536 (by omega))

theorem v221 : Tile (n := 512) (k := 128) (AttnRun.run.sl.v221 (F := Ideal) M.c M.arg2 M.x0) 1536 0 (M.ins.Q 1) :=
  (t_cast shapeCasts_S512x128_S512x128 (t_read16 _ _ _))

theorem v267 : Tile (n := 1) (k := 512) (AttnRun.run.sl.v267 (F := Ideal) M.c M.arg7 M.x5) 1 1536 M.ins.lse :=
  (t_slice (a := 0) (b := 1536) slices_S8x512_o1_0_S1x512 (t_scale (t_split h.2.1 (t_cast shapeCasts_S512x128_S512x128 (t_read32 _ _ _)) _ _ _ _ _)))

theorem v483 : Tile (n := 512) (k := 512) (AttnRun.run.sl.v483 (F := Ideal) M.c M.arg2 M.arg3 M.arg5 M.arg7 M.x0 M.x1 M.x3 M.x5) 0 1536 (M.ins.P 1) :=
  (t_P h.1 (t_exp2 (t_sub (t_add (mm_512_512 (v416 M h) (v221 M h)) (c_512_512 (t_tab (A := 0) (B := 3) _ _ _ (by omega) (by omega) (by omega)) _)) (t_bcast (e := 1) broadcasts_S1x512_S512x512 (v267 M h)))) (by omega))

theorem v228 : Tile (n := 512) (k := 128) (AttnRun.run.sl.v228 (F := Ideal) M.c M.arg8 M.x6) 1536 0 (M.ins.doe 1) :=
  (t_hi (t_cast shapeCasts_S512x128_S512x128 (v223 M h)))

theorem v265 : Tile (n := 1) (k := 512) (AttnRun.run.sl.v265 (F := Ideal) M.c M.arg6 M.arg8 M.x4 M.x6) 1 1536 M.ins.delta :=
  (t_slice (a := 0) (b := 1536) slices_S8x512_o1_0_S1x512 (t_split h.2.2 (t_mul (t_ext bitsLt_bf16_f32 (t_cast shapeCasts_S512x128_S512x128 (v223 M h))) (t_ext bitsLt_bf16_f32 (t_cast shapeCasts_S512x128_S512x128 (t_read16 _ _ _)))) _ _ _ _ _))

theorem v528 : Tile (n := 512) (k := 128) (AttnRun.run.sl.v528 (F := Ideal) M.c M.arg2 M.arg3 M.arg4 M.arg5 M.arg6 M.arg7 M.arg8 M.x0 M.x1 M.x2 M.x3 M.x4 M.x5 M.x6) 0 0 (fun s l => ∑ t ∈ Finset.range 512, M.ins.DS 1 s (1536 + t) * M.ins.Q 1 (1536 + t) l) :=
  (mq_512_512 (f := (M.ins.DS 1)) (g := (M.ins.Q 1)) (t_trunc bitsLt_bf16_f32 (t_mul (v483 M h) (t_sub (mm_512_512 (v281 M h) (v228 M h)) (t_bcast (e := 1) broadcasts_S1x512_S512x512 (v265 M h))))) (v221 M h))

theorem v439 : Tile (n := 256) (k := 256) (AttnRun.run.sl.v439 (F := Ideal) M.c M.arg2 M.arg3 M.arg5 M.x0 M.x1 M.x3) 256 256 (fun s t => M.ins.S 1 s t + M.ins.T s t) :=
  (t_add (mm_256_256 (t_slice (a := 0) (b := 0) slices_S512x128_o256_0_S256x128 (t_cast shapeCasts_S512x128_S512x128 (t_read16 _ _ _))) (t_slice (a := 0) (b := 0) slices_S512x128_o256_0_S256x128 (v56 M h))) (c_256_256 (t_tab (A := 0) (B := 0) _ _ _ (by omega) (by omega) (by omega)) _))

theorem v441 : Tile (n := 256) (k := 256) (AttnRun.run.sl.v441 (F := Ideal) M.c M.arg7 M.x5) 0 256 (fun _ t => M.ins.lse 1 t) :=
  (t_bcast (e := 1) broadcasts_S1x256_S256x256 (t_slice (a := 1) (b := 0) slices_S1x512_o0_256_S1x256 (v102 M h)))

theorem v433 : Tile (n := 256) (k := 128) (AttnRun.run.sl.v433 (F := Ideal) M.c M.arg4 M.x2) 256 0 M.ins.V :=
  (t_slice (a := 0) (b := 0) slices_S512x128_o256_0_S256x128 (v281 M h))

theorem v435 : Tile (n := 256) (k := 128) (AttnRun.run.sl.v435 (F := Ideal) M.c M.arg8 M.x6) 256 0 (M.ins.doe 1) :=
  (t_slice (a := 0) (b := 0) slices_S512x128_o256_0_S256x128 (v63 M h))

theorem v449 : Tile (n := 256) (k := 256) (AttnRun.run.sl.v449 (F := Ideal) M.c M.arg2 M.arg3 M.arg4 M.arg5 M.arg6 M.arg7 M.arg8 M.x0 M.x1 M.x2 M.x3 M.x4 M.x5 M.x6) 256 256 (M.ins.DS 1) :=
  (t_trunc bitsLt_bf16_f32 (t_mul (t_P h.1 (t_exp2 (t_sub (v439 M h) (v441 M h))) (by omega)) (t_sub (mm_256_256 (v433 M h) (v435 M h)) (t_bcast (e := 1) broadcasts_S1x256_S256x256 (t_slice (a := 1) (b := 0) slices_S1x512_o0_256_S1x256 (v100 M h))))))

theorem v434 : Tile (n := 256) (k := 128) (AttnRun.run.sl.v434 (F := Ideal) M.c M.arg2 M.x0) 256 0 (M.ins.Q 1) :=
  (t_slice (a := 0) (b := 0) slices_S512x128_o256_0_S256x128 (v56 M h))

theorem v525 : Tile (n := 256) (k := 128) (AttnRun.run.sl.v525 (F := Ideal) M.c M.arg2 M.arg3 M.arg4 M.arg5 M.arg6 M.arg7 M.arg8 M.x0 M.x1 M.x2 M.x3 M.x4 M.x5 M.x6) 256 0 (Ins.preT (M.ins.DS 1) (M.ins.Q 1) 1536) :=
  (t_next (M := M.ins.DS 1) (g := M.ins.Q 1) (t_next (M := M.ins.DS 1) (g := M.ins.Q 1) (t_first (M := M.ins.DS 1) (g := M.ins.Q 1) (fun _ _ => Ins.DS_zero) (mq_256_256 (f := (M.ins.DS 1)) (g := (M.ins.Q 1)) (v449 M h) (v434 M h)) (by omega) 512 (by omega)) (t_slice (a := 0) (b := 0) slices_S512x128_o256_0_S256x128 (mq_512_512 (f := (M.ins.DS 1)) (g := (M.ins.Q 1)) (v462 M h) (v111 M h))) 1024 (by omega)) (t_slice (a := 0) (b := 0) slices_S512x128_o256_0_S256x128 (mq_512_512 (f := (M.ins.DS 1)) (g := (M.ins.Q 1)) (v475 M h) (v166 M h))) 1536 (by omega))

theorem H12_3 : Has3 (AttnRun.run.sl.H12_3 (F := Ideal) M.c M.arg2 M.arg3 M.arg4 M.arg5 M.arg6 M.arg7 M.arg8 M.arg14 M.x0 M.x1 M.x2 M.x3 M.x4 M.x5 M.x6) 1 0 512 (Ins.preT (M.ins.DS 1) (M.ins.Q 1) 2048) :=
  has3_hit (e := 1) _ _ (c_512_1 (t_acc (c_1_512 (read3 (e := 1) _ _ (has3_miss _ _ (Or.inl rfl) (has3_zero _ _ _ zero3))) shapeCasts_S1x512x128_S512x128) (t_rows concatenates_S256x128_S256x128_S512x128_d0 (t_next (M := M.ins.DS 1) (g := M.ins.Q 1) (v523 M h) (t_slice (a := 0) (b := 0) slices_S512x128_o0_0_S256x128 (v528 M h)) 2048 (by omega)) (t_next (M := M.ins.DS 1) (g := M.ins.Q 1) (v525 M h) (t_slice (a := 0) (b := 0) slices_S512x128_o256_0_S256x128 (v528 M h)) 2048 (by omega)))) _)

theorem v570 : Tile (n := 256) (k := 512) (AttnRun.run.sl.v570 (F := Ideal) M.c M.arg2 M.arg3 M.arg5 M.x0 M.x1 M.x3) 512 512 (fun s t => M.ins.S 0 s t + M.ins.T s t) :=
  (t_add (mm_256_512 (t_slice (a := 512) (b := 0) slices_S512x128_o0_0_S256x128 (t_cast shapeCasts_S512x128_S512x128 (t_read16 _ _ _))) (v108 M h)) (c_256_512 (t_tab (A := 1) (B := 1) _ _ _ (by omega) (by omega) (by omega)) _))

theorem v566 : Tile (n := 256) (k := 128) (AttnRun.run.sl.v566 (F := Ideal) M.c M.arg4 M.x2) 512 0 M.ins.V :=
  (t_slice (a := 512) (b := 0) slices_S512x128_o0_0_S256x128 (t_cast shapeCasts_S512x128_S512x128 (t_read16 _ _ _)))

theorem v578 : Tile (n := 256) (k := 512) (AttnRun.run.sl.v578 (F := Ideal) M.c M.arg2 M.arg3 M.arg4 M.arg5 M.arg6 M.arg7 M.arg8 M.x0 M.x1 M.x2 M.x3 M.x4 M.x5 M.x6) 512 512 (M.ins.DS 0) :=
  (t_trunc bitsLt_bf16_f32 (t_mul (t_P h.1 (t_exp2 (t_sub (v570 M h) (t_bcast (e := 0) broadcasts_S1x512_S256x512 (v156 M h)))) (by omega)) (t_sub (mm_256_512 (v566 M h) (v116 M h)) (t_bcast (e := 0) broadcasts_S1x512_S256x512 (v154 M h)))))

theorem v564 : Tile (n := 512) (k := 128) (AttnRun.run.sl.v564 (F := Ideal) M.c M.arg3 M.x1) 512 0 (M.ins.K 0) :=
  (t_cast shapeCasts_S512x128_S512x128 (t_read16 _ _ _))

theorem v561 : Tile (n := 512) (k := 128) (AttnRun.run.sl.v561 (F := Ideal) M.c M.arg4 M.x2) 512 0 M.ins.V :=
  (t_cast shapeCasts_S512x128_S512x128 (t_read16 _ _ _))

theorem v610 : Tile (n := 512) (k := 512) (AttnRun.run.sl.v610 (F := Ideal) M.c M.arg2 M.arg3 M.arg4 M.arg5 M.arg6 M.arg7 M.arg8 M.x0 M.x1 M.x2 M.x3 M.x4 M.x5 M.x6) 512 1024 (M.ins.DS 0) :=
  (t_trunc bitsLt_bf16_f32 (t_mul (t_P h.1 (t_exp2 (t_sub (t_add (mm_512_512 (v564 M h) (v163 M h)) (c_512_512 (t_tab (A := 1) (B := 2) _ _ _ (by omega) (by omega) (by omega)) _)) (t_bcast (e := 0) broadcasts_S1x512_S512x512 (v211 M h)))) (by omega)) (t_sub (mm_512_512 (v561 M h) (v171 M h)) (t_bcast (e := 0) broadcasts_S1x512_S512x512 (v209 M h)))))

theorem v612 : Tile (n := 512) (k := 512) (AttnRun.run.sl.v612 (F := Ideal) M.c M.arg2 M.arg3 M.x0 M.x1) 512 1536 (M.ins.S 0) :=
  (mm_512_512 (v564 M h) (v218 M h))

theorem v656 : Tile (n := 256) (k := 128) (AttnRun.run.sl.v656 (F := Ideal) M.c M.arg2 M.arg3 M.arg4 M.arg5 M.arg6 M.arg7 M.arg8 M.x0 M.x1 M.x2 M.x3 M.x4 M.x5 M.x6) 512 0 (Ins.preT (M.ins.DS 0) (M.ins.Q 0) 2048) :=
  (t_next (M := M.ins.DS 0) (g := M.ins.Q 0) (t_next (M := M.ins.DS 0) (g := M.ins.Q 0) (t_first (M := M.ins.DS 0) (g := M.ins.Q 0) (fun _ _ => Ins.DS_zero) (mq_256_512 (f := (M.ins.DS 0)) (g := (M.ins.Q 0)) (v578 M h) (v108 M h)) (by omega) 1024 (by omega)) (t_slice (a := 512) (b := 0) slices_S512x128_o0_0_S256x128 (mq_512_512 (f := (M.ins.DS 0)) (g := (M.ins.Q 0)) (v610 M h) (v163 M h))) 1536 (by omega)) (t_slice (a := 512) (b := 0) slices_S512x128_o0_0_S256x128 (mq_512_512 (f := (M.ins.DS 0)) (g := (M.ins.Q 0)) (t_trunc bitsLt_bf16_f32 (t_mul (t_P h.1 (t_exp2 (t_sub (t_add (v612 M h) (c_512_512 (t_tab (A := 1) (B := 3) _ _ _ (by omega) (by omega) (by omega)) _)) (t_bcast (e := 0) broadcasts_S1x512_S512x512 (v266 M h)))) (by omega)) (t_sub (mm_512_512 (v561 M h) (v226 M h)) (t_bcast (e := 0) broadcasts_S1x512_S512x512 (v264 M h))))) (v218 M h))) 2048 (by omega))

theorem v597 : Tile (n := 256) (k := 256) (AttnRun.run.sl.v597 (F := Ideal) M.c M.arg2 M.arg3 M.arg4 M.arg5 M.arg6 M.arg7 M.arg8 M.x0 M.x1 M.x2 M.x3 M.x4 M.x5 M.x6) 768 768 (M.ins.DS 0) :=
  (t_trunc bitsLt_bf16_f32 (t_mul (t_P h.1 (t_exp2 (t_sub (t_add (mm_256_256 (t_slice (a := 512) (b := 0) slices_S512x128_o256_0_S256x128 (v564 M h)) (t_slice (a := 512) (b := 0) slices_S512x128_o256_0_S256x128 (v108 M h))) (c_256_256 (t_tab (A := 1) (B := 1) _ _ _ (by omega) (by omega) (by omega)) _)) (t_bcast (e := 0) broadcasts_S1x256_S256x256 (t_slice (a := 0) (b := 512) slices_S1x512_o0_256_S1x256 (v156 M h))))) (by omega)) (t_sub (mm_256_256 (t_slice (a := 512) (b := 0) slices_S512x128_o256_0_S256x128 (v561 M h)) (t_slice (a := 512) (b := 0) slices_S512x128_o256_0_S256x128 (v116 M h))) (t_bcast (e := 0) broadcasts_S1x256_S256x256 (t_slice (a := 0) (b := 512) slices_S1x512_o0_256_S1x256 (v154 M h))))))

theorem v582 : Tile (n := 256) (k := 128) (AttnRun.run.sl.v582 (F := Ideal) M.c M.arg2 M.x0) 768 0 (M.ins.Q 0) :=
  (t_slice (a := 512) (b := 0) slices_S512x128_o256_0_S256x128 (v108 M h))

theorem v658 : Tile (n := 256) (k := 128) (AttnRun.run.sl.v658 (F := Ideal) M.c M.arg2 M.arg3 M.arg4 M.arg5 M.arg6 M.arg7 M.arg8 M.x0 M.x1 M.x2 M.x3 M.x4 M.x5 M.x6) 768 0 (Ins.preT (M.ins.DS 0) (M.ins.Q 0) 2048) :=
  (t_next (M := M.ins.DS 0) (g := M.ins.Q 0) (t_next (M := M.ins.DS 0) (g := M.ins.Q 0) (t_first (M := M.ins.DS 0) (g := M.ins.Q 0) (fun _ _ => Ins.DS_zero) (mq_256_256 (f := (M.ins.DS 0)) (g := (M.ins.Q 0)) (v597 M h) (v582 M h)) (by omega) 1024 (by omega)) (t_slice (a := 512) (b := 0) slices_S512x128_o256_0_S256x128 (mq_512_512 (f := (M.ins.DS 0)) (g := (M.ins.Q 0)) (v610 M h) (v163 M h))) 1536 (by omega)) (t_slice (a := 512) (b := 0) slices_S512x128_o256_0_S256x128 (mq_512_512 (f := (M.ins.DS 0)) (g := (M.ins.Q 0)) (t_trunc bitsLt_bf16_f32 (t_mul (t_P h.1 (t_exp2 (t_sub (t_add (v612 M h) (c_512_512 (t_tab (A := 1) (B := 3) _ _ _ (by omega) (by omega) (by omega)) _)) (t_bcast (e := 0) broadcasts_S1x512_S512x512 (v266 M h)))) (by omega)) (t_sub (mm_512_512 (v561 M h) (v226 M h)) (t_bcast (e := 0) broadcasts_S1x512_S512x512 (v264 M h))))) (v218 M h))) 2048 (by omega))

theorem H12_4 : Has3 (AttnRun.run.sl.H12_4 (F := Ideal) M.c M.arg2 M.arg3 M.arg4 M.arg5 M.arg6 M.arg7 M.arg8 M.arg14 M.x0 M.x1 M.x2 M.x3 M.x4 M.x5 M.x6) 0 512 512 (Ins.preT (M.ins.DS 0) (M.ins.Q 0) 2048) :=
  has3_hit (e := 0) _ _ (c_512_1 (t_acc (c_1_512 (read3 (e := 0) _ _ (has3_miss _ _ (Or.inl rfl) (has3_miss _ _ (Or.inr (by omega)) (has3_zero _ _ _ zero3)))) shapeCasts_S1x512x128_S512x128) (t_rows concatenates_S256x128_S256x128_S512x128_d0 (v656 M h) (v658 M h))) _)

theorem v685 : Tile (n := 256) (k := 512) (AttnRun.run.sl.v685 (F := Ideal) M.c M.arg2 M.arg3 M.arg4 M.arg5 M.arg6 M.arg7 M.arg8 M.x0 M.x1 M.x2 M.x3 M.x4 M.x5 M.x6) 512 512 (M.ins.DS 1) :=
  (t_trunc bitsLt_bf16_f32 (t_mul (t_P h.1 (t_exp2 (t_sub (t_add (mm_256_512 (t_slice (a := 512) (b := 0) slices_S512x128_o0_0_S256x128 (t_cast shapeCasts_S512x128_S512x128 (t_read16 _ _ _))) (v111 M h)) (c_256_512 (t_tab (A := 1) (B := 1) _ _ _ (by omega) (by omega) (by omega)) _)) (t_bcast (e := 1) broadcasts_S1x512_S256x512 (v157 M h)))) (by omega)) (t_sub (mm_256_512 (t_slice (a := 512) (b := 0) slices_S512x128_o0_0_S256x128 (v561 M h)) (v118 M h)) (t_bcast (e := 1) broadcasts_S1x512_S256x512 (v155 M h)))))

theorem v733 : Tile (n := 256) (k := 128) (AttnRun.run.sl.v733 (F := Ideal) M.c M.arg2 M.arg3 M.arg4 M.arg5 M.arg6 M.arg7 M.arg8 M.x0 M.x1 M.x2 M.x3 M.x4 M.x5 M.x6) 512 0 (fun s l => ∑ t ∈ Finset.range 512, M.ins.DS 1 s (512 + t) * M.ins.Q 1 (512 + t) l) :=
  (mq_256_512 (f := (M.ins.DS 1)) (g := (M.ins.Q 1)) (v685 M h) (v111 M h))

theorem v671 : Tile (n := 512) (k := 128) (AttnRun.run.sl.v671 (F := Ideal) M.c M.arg3 M.x1) 512 0 (M.ins.K 1) :=
  (t_cast shapeCasts_S512x128_S512x128 (t_read16 _ _ _))

theorem v717 : Tile (n := 512) (k := 512) (AttnRun.run.sl.v717 (F := Ideal) M.c M.arg2 M.arg3 M.arg4 M.arg5 M.arg6 M.arg7 M.arg8 M.x0 M.x1 M.x2 M.x3 M.x4 M.x5 M.x6) 512 1024 (M.ins.DS 1) :=
  (t_trunc bitsLt_bf16_f32 (t_mul (t_P h.1 (t_exp2 (t_sub (t_add (mm_512_512 (v671 M h) (v166 M h)) (c_512_512 (t_tab (A := 1) (B := 2) _ _ _ (by omega) (by omega) (by omega)) _)) (t_bcast (e := 1) broadcasts_S1x512_S512x512 (v212 M h)))) (by omega)) (t_sub (mm_512_512 (v561 M h) (v173 M h)) (t_bcast (e := 1) broadcasts_S1x512_S512x512 (v210 M h)))))

theorem v730 : Tile (n := 512) (k := 512) (AttnRun.run.sl.v730 (F := Ideal) M.c M.arg2 M.arg3 M.arg4 M.arg5 M.arg6 M.arg7 M.arg8 M.x0 M.x1 M.x2 M.x3 M.x4 M.x5 M.x6) 512 1536 (M.ins.DS 1) :=
  (t_trunc bitsLt_bf16_f32 (t_mul (t_P h.1 (t_exp2 (t_sub (t_add (mm_512_512 (v671 M h) (v221 M h)) (c_512_512 (t_tab (A := 1) (B := 3) _ _ _ (by omega) (by omega) (by omega)) _)) (t_bcast (e := 1) broadcasts_S1x512_S512x512 (v267 M h)))) (by omega)) (t_sub (mm_512_512 (v561 M h) (v228 M h)) (t_bcast (e := 1) broadcasts_S1x512_S512x512 (v265 M h)))))

theorem v698 : Tile (n := 256) (k := 256) (AttnRun.run.sl.v698 (F := Ideal) M.c M.arg2 M.arg3 M.arg5 M.arg7 M.x0 M.x1 M.x3 M.x5) 768 768 (M.ins.P 1) :=
  (t_P h.1 (t_exp2 (t_sub (t_add (mm_256_256 (t_slice (a := 512) (b := 0) slices_S512x128_o256_0_S256x128 (t_cast shapeCasts_S512x128_S512x128 (t_read16 _ _ _))) (t_slice (a := 512) (b := 0) slices_S512x128_o256_0_S256x128 (v111 M h))) (c_256_256 (t_tab (A := 1) (B := 1) _ _ _ (by omega) (by omega) (by omega)) _)) (t_bcast (e := 1) broadcasts_S1x256_S256x256 (t_slice (a := 1) (b := 512) slices_S1x512_o0_256_S1x256 (v157 M h))))) (by omega))

theorem v699 : Tile (n := 256) (k := 256) (AttnRun.run.sl.v699 (F := Ideal) M.c M.arg4 M.arg8 M.x2 M.x6) 768 768 (M.ins.G 1) :=
  (mm_256_256 (t_slice (a := 512) (b := 0) slices_S512x128_o256_0_S256x128 (v561 M h)) (t_slice (a := 512) (b := 0) slices_S512x128_o256_0_S256x128 (v118 M h)))

theorem v701 : Tile (n := 256) (k := 256) (AttnRun.run.sl.v701 (F := Ideal) M.c M.arg6 M.arg8 M.x4 M.x6) 0 768 (fun _ t => M.ins.delta 1 t) :=
  (t_bcast (e := 1) broadcasts_S1x256_S256x256 (t_slice (a := 1) (b := 512) slices_S1x512_o0_256_S1x256 (v155 M h)))

theorem v689 : Tile (n := 256) (k := 128) (AttnRun.run.sl.v689 (F := Ideal) M.c M.arg2 M.x0) 768 0 (M.ins.Q 1) :=
  (t_slice (a := 512) (b := 0) slices_S512x128_o256_0_S256x128 (v111 M h))

theorem v736 : Tile (n := 256) (k := 128) (AttnRun.run.sl.v736 (F := Ideal) M.c M.arg2 M.arg3 M.arg4 M.arg5 M.arg6 M.arg7 M.arg8 M.x0 M.x1 M.x2 M.x3 M.x4 M.x5 M.x6) 768 0 (fun s l => ∑ t ∈ Finset.range 256, M.ins.DS 1 s (768 + t) * M.ins.Q 1 (768 + t) l) :=
  (mq_256_256 (f := (M.ins.DS 1)) (g := (M.ins.Q 1)) (t_trunc bitsLt_bf16_f32 (t_mul (v698 M h) (t_sub (v699 M h) (v701 M h)))) (v689 M h))

theorem H12_5 : Has3 (AttnRun.run.sl.H12_5 (F := Ideal) M.c M.arg2 M.arg3 M.arg4 M.arg5 M.arg6 M.arg7 M.arg8 M.arg14 M.x0 M.x1 M.x2 M.x3 M.x4 M.x5 M.x6) 1 512 512 (Ins.preT (M.ins.DS 1) (M.ins.Q 1) 2048) :=
  has3_hit (e := 1) _ _ (c_512_1 (t_acc (c_1_512 (read3 (e := 1) _ _ (has3_miss _ _ (Or.inl rfl) (has3_miss _ _ (Or.inr (by omega)) (has3_miss _ _ (Or.inl rfl) (has3_zero _ _ _ zero3))))) shapeCasts_S1x512x128_S512x128) (t_rows concatenates_S256x128_S256x128_S512x128_d0 (t_next (M := M.ins.DS 1) (g := M.ins.Q 1) (t_next (M := M.ins.DS 1) (g := M.ins.Q 1) (t_first (M := M.ins.DS 1) (g := M.ins.Q 1) (fun _ _ => Ins.DS_zero) (v733 M h) (by omega) 1024 (by omega)) (t_slice (a := 512) (b := 0) slices_S512x128_o0_0_S256x128 (mq_512_512 (f := (M.ins.DS 1)) (g := (M.ins.Q 1)) (v717 M h) (v166 M h))) 1536 (by omega)) (t_slice (a := 512) (b := 0) slices_S512x128_o0_0_S256x128 (mq_512_512 (f := (M.ins.DS 1)) (g := (M.ins.Q 1)) (v730 M h) (v221 M h))) 2048 (by omega)) (t_next (M := M.ins.DS 1) (g := M.ins.Q 1) (t_next (M := M.ins.DS 1) (g := M.ins.Q 1) (t_first (M := M.ins.DS 1) (g := M.ins.Q 1) (fun _ _ => Ins.DS_zero) (v736 M h) (by omega) 1024 (by omega)) (t_slice (a := 512) (b := 0) slices_S512x128_o256_0_S256x128 (mq_512_512 (f := (M.ins.DS 1)) (g := (M.ins.Q 1)) (v717 M h) (v166 M h))) 1536 (by omega)) (t_slice (a := 512) (b := 0) slices_S512x128_o256_0_S256x128 (mq_512_512 (f := (M.ins.DS 1)) (g := (M.ins.Q 1)) (v730 M h) (v221 M h))) 2048 (by omega)))) _)

theorem v808 : Tile (n := 256) (k := 512) (AttnRun.run.sl.v808 (F := Ideal) M.c M.arg2 M.arg3 M.arg4 M.arg5 M.arg6 M.arg7 M.arg8 M.x0 M.x1 M.x2 M.x3 M.x4 M.x5 M.x6) 1024 1024 (M.ins.DS 0) :=
  (t_trunc bitsLt_bf16_f32 (t_mul (t_P h.1 (t_exp2 (t_sub (t_add (mm_256_512 (t_slice (a := 1024) (b := 0) slices_S512x128_o0_0_S256x128 (t_cast shapeCasts_S512x128_S512x128 (t_read16 _ _ _))) (v163 M h)) (c_256_512 (t_tab (A := 2) (B := 2) _ _ _ (by omega) (by omega) (by omega)) _)) (t_bcast (e := 0) broadcasts_S1x512_S256x512 (v211 M h)))) (by omega)) (t_sub (mm_256_512 (t_slice (a := 1024) (b := 0) slices_S512x128_o0_0_S256x128 (t_cast shapeCasts_S512x128_S512x128 (t_read16 _ _ _))) (v171 M h)) (t_bcast (e := 0) broadcasts_S1x512_S256x512 (v209 M h)))))

theorem v829 : Tile (n := 512) (k := 512) (AttnRun.run.sl.v829 (F := Ideal) M.c M.arg2 M.arg3 M.x0 M.x1) 1024 1536 (M.ins.S 0) :=
  (mm_512_512 (t_cast shapeCasts_S512x128_S512x128 (t_read16 _ _ _)) (v218 M h))

theorem v791 : Tile (n := 512) (k := 128) (AttnRun.run.sl.v791 (F := Ideal) M.c M.arg4 M.x2) 1024 0 M.ins.V :=
  (t_cast shapeCasts_S512x128_S512x128 (t_read16 _ _ _))

theorem v827 : Tile (n := 256) (k := 256) (AttnRun.run.sl.v827 (F := Ideal) M.c M.arg2 M.arg3 M.arg4 M.arg5 M.arg6 M.arg7 M.arg8 M.x0 M.x1 M.x2 M.x3 M.x4 M.x5 M.x6) 1280 1280 (M.ins.DS 0) :=
  (t_trunc bitsLt_bf16_f32 (t_mul (t_P h.1 (t_exp2 (t_sub (t_add (mm_256_256 (t_slice (a := 1024) (b := 0) slices_S512x128_o256_0_S256x128 (t_cast shapeCasts_S512x128_S512x128 (t_read16 _ _ _))) (t_slice (a := 1024) (b := 0) slices_S512x128_o256_0_S256x128 (v163 M h))) (c_256_256 (t_tab (A := 2) (B := 2) _ _ _ (by omega) (by omega) (by omega)) _)) (t_bcast (e := 0) broadcasts_S1x256_S256x256 (t_slice (a := 0) (b := 1024) slices_S1x512_o0_256_S1x256 (v211 M h))))) (by omega)) (t_sub (mm_256_256 (t_slice (a := 1024) (b := 0) slices_S512x128_o256_0_S256x128 (t_cast shapeCasts_S512x128_S512x128 (t_read16 _ _ _))) (t_slice (a := 1024) (b := 0) slices_S512x128_o256_0_S256x128 (v171 M h))) (t_bcast (e := 0) broadcasts_S1x256_S256x256 (t_slice (a := 0) (b := 1024) slices_S1x512_o0_256_S1x256 (v209 M h))))))

theorem v812 : Tile (n := 256) (k := 128) (AttnRun.run.sl.v812 (F := Ideal) M.c M.arg2 M.x0) 1280 0 (M.ins.Q 0) :=
  (t_slice (a := 1024) (b := 0) slices_S512x128_o256_0_S256x128 (v163 M h))

theorem H12_6 : Has3 (AttnRun.run.sl.H12_6 (F := Ideal) M.c M.arg2 M.arg3 M.arg4 M.arg5 M.arg6 M.arg7 M.arg8 M.arg14 M.x0 M.x1 M.x2 M.x3 M.x4 M.x5 M.x6) 0 1024 512 (Ins.preT (M.ins.DS 0) (M.ins.Q 0) 2048) :=
  has3_hit (e := 0) _ _ (c_512_1 (t_acc (c_1_512 (read3 (e := 0) _ _ (has3_miss _ _ (Or.inl rfl) (has3_miss _ _ (Or.inr (by omega)) (has3_miss _ _ (Or.inl rfl) (has3_miss _ _ (Or.inr (by omega)) (has3_zero _ _ _ zero3)))))) shapeCasts_S1x512x128_S512x128) (t_rows concatenates_S256x128_S256x128_S512x128_d0 (t_next (M := M.ins.DS 0) (g := M.ins.Q 0) (t_first (M := M.ins.DS 0) (g := M.ins.Q 0) (fun _ _ => Ins.DS_zero) (mq_256_512 (f := (M.ins.DS 0)) (g := (M.ins.Q 0)) (v808 M h) (v163 M h)) (by omega) 1536 (by omega)) (t_slice (a := 1024) (b := 0) slices_S512x128_o0_0_S256x128 (mq_512_512 (f := (M.ins.DS 0)) (g := (M.ins.Q 0)) (t_trunc bitsLt_bf16_f32 (t_mul (t_P h.1 (t_exp2 (t_sub (t_add (v829 M h) (c_512_512 (t_tab (A := 2) (B := 3) _ _ _ (by omega) (by omega) (by omega)) _)) (t_bcast (e := 0) broadcasts_S1x512_S512x512 (v266 M h)))) (by omega)) (t_sub (mm_512_512 (v791 M h) (v226 M h)) (t_bcast (e := 0) broadcasts_S1x512_S512x512 (v264 M h))))) (v218 M h))) 2048 (by omega)) (t_next (M := M.ins.DS 0) (g := M.ins.Q 0) (t_first (M := M.ins.DS 0) (g := M.ins.Q 0) (fun _ _ => Ins.DS_zero) (mq_256_256 (f := (M.ins.DS 0)) (g := (M.ins.Q 0)) (v827 M h) (v812 M h)) (by omega) 1536 (by omega)) (t_slice (a := 1024) (b := 0) slices_S512x128_o256_0_S256x128 (mq_512_512 (f := (M.ins.DS 0)) (g := (M.ins.Q 0)) (t_trunc bitsLt_bf16_f32 (t_mul (t_P h.1 (t_exp2 (t_sub (t_add (v829 M h) (c_512_512 (t_tab (A := 2) (B := 3) _ _ _ (by omega) (by omega) (by omega)) _)) (t_bcast (e := 0) broadcasts_S1x512_S512x512 (v266 M h)))) (by omega)) (t_sub (mm_512_512 (v791 M h) (v226 M h)) (t_bcast (e := 0) broadcasts_S1x512_S512x512 (v264 M h))))) (v218 M h))) 2048 (by omega)))) _)

theorem v890 : Tile (n := 256) (k := 512) (AttnRun.run.sl.v890 (F := Ideal) M.c M.arg2 M.arg3 M.arg4 M.arg5 M.arg6 M.arg7 M.arg8 M.x0 M.x1 M.x2 M.x3 M.x4 M.x5 M.x6) 1024 1024 (M.ins.DS 1) :=
  (t_trunc bitsLt_bf16_f32 (t_mul (t_P h.1 (t_exp2 (t_sub (t_add (mm_256_512 (t_slice (a := 1024) (b := 0) slices_S512x128_o0_0_S256x128 (t_cast shapeCasts_S512x128_S512x128 (t_read16 _ _ _))) (v166 M h)) (c_256_512 (t_tab (A := 2) (B := 2) _ _ _ (by omega) (by omega) (by omega)) _)) (t_bcast (e := 1) broadcasts_S1x512_S256x512 (v212 M h)))) (by omega)) (t_sub (mm_256_512 (t_slice (a := 1024) (b := 0) slices_S512x128_o0_0_S256x128 (v791 M h)) (v173 M h)) (t_bcast (e := 1) broadcasts_S1x512_S256x512 (v210 M h)))))

theorem v914 : Tile (n := 512) (k := 512) (AttnRun.run.sl.v914 (F := Ideal) M.c M.arg2 M.arg3 M.arg5 M.x0 M.x1 M.x3) 1024 1536 (fun s t => M.ins.S 1 s t + M.ins.T s t) :=
  (t_add (mm_512_512 (t_cast shapeCasts_S512x128_S512x128 (t_read16 _ _ _)) (v221 M h)) (c_512_512 (t_tab (A := 2) (B := 3) _ _ _ (by omega) (by omega) (by omega)) _))

theorem v915 : Tile (n := 512) (k := 512) (AttnRun.run.sl.v915 (F := Ideal) M.c M.arg7 M.x5) 0 1536 (fun _ t => M.ins.lse 1 t) :=
  (t_bcast (e := 1) broadcasts_S1x512_S512x512 (v267 M h))

theorem v909 : Tile (n := 256) (k := 256) (AttnRun.run.sl.v909 (F := Ideal) M.c M.arg2 M.arg3 M.arg4 M.arg5 M.arg6 M.arg7 M.arg8 M.x0 M.x1 M.x2 M.x3 M.x4 M.x5 M.x6) 1280 1280 (M.ins.DS 1) :=
  (t_trunc bitsLt_bf16_f32 (t_mul (t_P h.1 (t_exp2 (t_sub (t_add (mm_256_256 (t_slice (a := 1024) (b := 0) slices_S512x128_o256_0_S256x128 (t_cast shapeCasts_S512x128_S512x128 (t_read16 _ _ _))) (t_slice (a := 1024) (b := 0) slices_S512x128_o256_0_S256x128 (v166 M h))) (c_256_256 (t_tab (A := 2) (B := 2) _ _ _ (by omega) (by omega) (by omega)) _)) (t_bcast (e := 1) broadcasts_S1x256_S256x256 (t_slice (a := 1) (b := 1024) slices_S1x512_o0_256_S1x256 (v212 M h))))) (by omega)) (t_sub (mm_256_256 (t_slice (a := 1024) (b := 0) slices_S512x128_o256_0_S256x128 (v791 M h)) (t_slice (a := 1024) (b := 0) slices_S512x128_o256_0_S256x128 (v173 M h))) (t_bcast (e := 1) broadcasts_S1x256_S256x256 (t_slice (a := 1) (b := 1024) slices_S1x512_o0_256_S1x256 (v210 M h))))))

theorem v894 : Tile (n := 256) (k := 128) (AttnRun.run.sl.v894 (F := Ideal) M.c M.arg2 M.x0) 1280 0 (M.ins.Q 1) :=
  (t_slice (a := 1024) (b := 0) slices_S512x128_o256_0_S256x128 (v166 M h))

theorem H12_7 : Has3 (AttnRun.run.sl.H12_7 (F := Ideal) M.c M.arg2 M.arg3 M.arg4 M.arg5 M.arg6 M.arg7 M.arg8 M.arg14 M.x0 M.x1 M.x2 M.x3 M.x4 M.x5 M.x6) 1 1024 512 (Ins.preT (M.ins.DS 1) (M.ins.Q 1) 2048) :=
  has3_hit (e := 1) _ _ (c_512_1 (t_acc (c_1_512 (read3 (e := 1) _ _ (has3_miss _ _ (Or.inl rfl) (has3_miss _ _ (Or.inr (by omega)) (has3_miss _ _ (Or.inl rfl) (has3_miss _ _ (Or.inr (by omega)) (has3_miss _ _ (Or.inl rfl) (has3_zero _ _ _ zero3))))))) shapeCasts_S1x512x128_S512x128) (t_rows concatenates_S256x128_S256x128_S512x128_d0 (t_next (M := M.ins.DS 1) (g := M.ins.Q 1) (t_first (M := M.ins.DS 1) (g := M.ins.Q 1) (fun _ _ => Ins.DS_zero) (mq_256_512 (f := (M.ins.DS 1)) (g := (M.ins.Q 1)) (v890 M h) (v166 M h)) (by omega) 1536 (by omega)) (t_slice (a := 1024) (b := 0) slices_S512x128_o0_0_S256x128 (mq_512_512 (f := (M.ins.DS 1)) (g := (M.ins.Q 1)) (t_trunc bitsLt_bf16_f32 (t_mul (t_P h.1 (t_exp2 (t_sub (v914 M h) (v915 M h))) (by omega)) (t_sub (mm_512_512 (v791 M h) (v228 M h)) (t_bcast (e := 1) broadcasts_S1x512_S512x512 (v265 M h))))) (v221 M h))) 2048 (by omega)) (t_next (M := M.ins.DS 1) (g := M.ins.Q 1) (t_first (M := M.ins.DS 1) (g := M.ins.Q 1) (fun _ _ => Ins.DS_zero) (mq_256_256 (f := (M.ins.DS 1)) (g := (M.ins.Q 1)) (v909 M h) (v894 M h)) (by omega) 1536 (by omega)) (t_slice (a := 1024) (b := 0) slices_S512x128_o256_0_S256x128 (mq_512_512 (f := (M.ins.DS 1)) (g := (M.ins.Q 1)) (t_trunc bitsLt_bf16_f32 (t_mul (t_P h.1 (t_exp2 (t_sub (v914 M h) (v915 M h))) (by omega)) (t_sub (mm_512_512 (v791 M h) (v228 M h)) (t_bcast (e := 1) broadcasts_S1x512_S512x512 (v265 M h))))) (v221 M h))) 2048 (by omega)))) _)

theorem v988 : Tile (n := 256) (k := 512) (AttnRun.run.sl.v988 (F := Ideal) M.c M.arg2 M.arg3 M.arg4 M.arg5 M.arg6 M.arg7 M.arg8 M.x0 M.x1 M.x2 M.x3 M.x4 M.x5 M.x6) 1536 1536 (M.ins.DS 0) :=
  (t_trunc bitsLt_bf16_f32 (t_mul (t_P h.1 (t_exp2 (t_sub (t_add (mm_256_512 (t_slice (a := 1536) (b := 0) slices_S512x128_o0_0_S256x128 (t_cast shapeCasts_S512x128_S512x128 (t_read16 _ _ _))) (v218 M h)) (c_256_512 (t_tab (A := 3) (B := 3) _ _ _ (by omega) (by omega) (by omega)) _)) (t_bcast (e := 0) broadcasts_S1x512_S256x512 (v266 M h)))) (by omega)) (t_sub (mm_256_512 (t_slice (a := 1536) (b := 0) slices_S512x128_o0_0_S256x128 (t_cast shapeCasts_S512x128_S512x128 (t_read16 _ _ _))) (v226 M h)) (t_bcast (e := 0) broadcasts_S1x512_S256x512 (v264 M h)))))

theorem v1001 : Tile (n := 256) (k := 256) (AttnRun.run.sl.v1001 (F := Ideal) M.c M.arg2 M.arg3 M.arg5 M.arg7 M.x0 M.x1 M.x3 M.x5) 1792 1792 (M.ins.P 0) :=
  (t_P h.1 (t_exp2 (t_sub (t_add (mm_256_256 (t_slice (a := 1536) (b := 0) slices_S512x128_o256_0_S256x128 (t_cast shapeCasts_S512x128_S512x128 (t_read16 _ _ _))) (t_slice (a := 1536) (b := 0) slices_S512x128_o256_0_S256x128 (v218 M h))) (c_256_256 (t_tab (A := 3) (B := 3) _ _ _ (by omega) (by omega) (by omega)) _)) (t_bcast (e := 0) broadcasts_S1x256_S256x256 (t_slice (a := 0) (b := 1536) slices_S1x512_o0_256_S1x256 (v266 M h))))) (by omega))

theorem v991 : Tile (n := 256) (k := 128) (AttnRun.run.sl.v991 (F := Ideal) M.c M.arg4 M.x2) 1792 0 M.ins.V :=
  (t_slice (a := 1536) (b := 0) slices_S512x128_o256_0_S256x128 (t_cast shapeCasts_S512x128_S512x128 (t_read16 _ _ _)))

theorem v993 : Tile (n := 256) (k := 128) (AttnRun.run.sl.v993 (F := Ideal) M.c M.arg8 M.x6) 1792 0 (M.ins.doe 0) :=
  (t_slice (a := 1536) (b := 0) slices_S512x128_o256_0_S256x128 (v226 M h))

theorem v992 : Tile (n := 256) (k := 128) (AttnRun.run.sl.v992 (F := Ideal) M.c M.arg2 M.x0) 1792 0 (M.ins.Q 0) :=
  (t_slice (a := 1536) (b := 0) slices_S512x128_o256_0_S256x128 (v218 M h))

theorem H12_8 : Has3 (AttnRun.run.sl.H12_8 (F := Ideal) M.c M.arg2 M.arg3 M.arg4 M.arg5 M.arg6 M.arg7 M.arg8 M.arg14 M.x0 M.x1 M.x2 M.x3 M.x4 M.x5 M.x6) 0 1536 512 (Ins.preT (M.ins.DS 0) (M.ins.Q 0) 2048) :=
  has3_hit (e := 0) _ _ (c_512_1 (t_acc (c_1_512 (read3 (e := 0) _ _ (has3_miss _ _ (Or.inl rfl) (has3_miss _ _ (Or.inr (by omega)) (has3_miss _ _ (Or.inl rfl) (has3_miss _ _ (Or.inr (by omega)) (has3_miss _ _ (Or.inl rfl) (has3_miss _ _ (Or.inr (by omega)) (has3_zero _ _ _ zero3)))))))) shapeCasts_S1x512x128_S512x128) (t_rows concatenates_S256x128_S256x128_S512x128_d0 (t_first (M := M.ins.DS 0) (g := M.ins.Q 0) (fun _ _ => Ins.DS_zero) (mq_256_512 (f := (M.ins.DS 0)) (g := (M.ins.Q 0)) (v988 M h) (v218 M h)) (by omega) 2048 (by omega)) (t_first (M := M.ins.DS 0) (g := M.ins.Q 0) (fun _ _ => Ins.DS_zero) (mq_256_256 (f := (M.ins.DS 0)) (g := (M.ins.Q 0)) (t_trunc bitsLt_bf16_f32 (t_mul (v1001 M h) (t_sub (mm_256_256 (v991 M h) (v993 M h)) (t_bcast (e := 0) broadcasts_S1x256_S256x256 (t_slice (a := 0) (b := 1536) slices_S1x512_o0_256_S1x256 (v264 M h)))))) (v992 M h)) (by omega) 2048 (by omega)))) _)

theorem v1040 : Tile (n := 256) (k := 512) (AttnRun.run.sl.v1040 (F := Ideal) M.c M.arg2 M.arg3 M.arg5 M.arg7 M.x0 M.x1 M.x3 M.x5) 1536 1536 (M.ins.P 1) :=
  (t_P h.1 (t_exp2 (t_sub (t_add (mm_256_512 (t_slice (a := 1536) (b := 0) slices_S512x128_o0_0_S256x128 (t_cast shapeCasts_S512x128_S512x128 (t_read16 _ _ _))) (v221 M h)) (c_256_512 (t_tab (A := 3) (B := 3) _ _ _ (by omega) (by omega) (by omega)) _)) (t_bcast (e := 1) broadcasts_S1x512_S256x512 (v267 M h)))) (by omega))

theorem v971 : Tile (n := 512) (k := 128) (AttnRun.run.sl.v971 (F := Ideal) M.c M.arg4 M.x2) 1536 0 M.ins.V :=
  (t_cast shapeCasts_S512x128_S512x128 (t_read16 _ _ _))

theorem v1043 : Tile (n := 256) (k := 512) (AttnRun.run.sl.v1043 (F := Ideal) M.c M.arg4 M.arg6 M.arg8 M.x2 M.x4 M.x6) 1536 1536 (fun s t => M.ins.G 1 s t - M.ins.delta 1 t) :=
  (t_sub (mm_256_512 (t_slice (a := 1536) (b := 0) slices_S512x128_o0_0_S256x128 (v971 M h)) (v228 M h)) (t_bcast (e := 1) broadcasts_S1x512_S256x512 (v265 M h)))

theorem v1031 : Tile (n := 512) (k := 128) (AttnRun.run.sl.v1031 (F := Ideal) M.c M.arg3 M.x1) 1536 0 (M.ins.K 1) :=
  (t_cast shapeCasts_S512x128_S512x128 (t_read16 _ _ _))

theorem H12_9 : Has3 (AttnRun.run.sl.H12_9 (F := Ideal) M.c M.arg2 M.arg3 M.arg4 M.arg5 M.arg6 M.arg7 M.arg8 M.arg14 M.x0 M.x1 M.x2 M.x3 M.x4 M.x5 M.x6) 1 1536 512 (Ins.preT (M.ins.DS 1) (M.ins.Q 1) 2048) :=
  has3_hit (e := 1) _ _ (c_512_1 (t_acc (c_1_512 (read3 (e := 1) _ _ (has3_miss _ _ (Or.inl rfl) (has3_miss _ _ (Or.inr (by omega)) (has3_miss _ _ (Or.inl rfl) (has3_miss _ _ (Or.inr (by omega)) (has3_miss _ _ (Or.inl rfl) (has3_miss _ _ (Or.inr (by omega)) (has3_miss _ _ (Or.inl rfl) (has3_zero _ _ _ zero3))))))))) shapeCasts_S1x512x128_S512x128) (t_rows concatenates_S256x128_S256x128_S512x128_d0 (t_first (M := M.ins.DS 1) (g := M.ins.Q 1) (fun _ _ => Ins.DS_zero) (mq_256_512 (f := (M.ins.DS 1)) (g := (M.ins.Q 1)) (t_trunc bitsLt_bf16_f32 (t_mul (v1040 M h) (v1043 M h))) (v221 M h)) (by omega) 2048 (by omega)) (t_first (M := M.ins.DS 1) (g := M.ins.Q 1) (fun _ _ => Ins.DS_zero) (mq_256_256 (f := (M.ins.DS 1)) (g := (M.ins.Q 1)) (t_trunc bitsLt_bf16_f32 (t_mul (t_P h.1 (t_exp2 (t_sub (t_add (mm_256_256 (t_slice (a := 1536) (b := 0) slices_S512x128_o256_0_S256x128 (v1031 M h)) (t_slice (a := 1536) (b := 0) slices_S512x128_o256_0_S256x128 (v221 M h))) (c_256_256 (t_tab (A := 3) (B := 3) _ _ _ (by omega) (by omega) (by omega)) _)) (t_bcast (e := 1) broadcasts_S1x256_S256x256 (t_slice (a := 1) (b := 1536) slices_S1x512_o0_256_S1x256 (v267 M h))))) (by omega)) (t_sub (mm_256_256 (t_slice (a := 1536) (b := 0) slices_S512x128_o256_0_S256x128 (v971 M h)) (t_slice (a := 1536) (b := 0) slices_S512x128_o256_0_S256x128 (v228 M h))) (t_bcast (e := 1) broadcasts_S1x256_S256x256 (t_slice (a := 1) (b := 1536) slices_S1x512_o0_256_S1x256 (v265 M h)))))) (t_slice (a := 1536) (b := 0) slices_S512x128_o256_0_S256x128 (v221 M h))) (by omega) 2048 (by omega)))) _)

theorem v299 : Tile (n := 256) (k := 512) (AttnRun.run.sl.v299 (F := Ideal) M.c M.arg2 M.arg3 M.arg5 M.arg7 M.x0 M.x1 M.x3 M.x5) 0 0 (M.ins.P 0) :=
  (t_trunc bitsLt_bf16_f32 (t_P h.1 (t_exp2 (t_sub (t_add (mm_256_512 (t_slice (a := 0) (b := 0) slices_S512x128_o0_0_S256x128 (t_cast shapeCasts_S512x128_S512x128 (t_read16 _ _ _))) (v53 M h)) (c_256_512 (t_tab (A := 0) (B := 0) _ _ _ (by omega) (by omega) (by omega)) _)) (t_bcast (e := 0) broadcasts_S1x512_S256x512 (v101 M h)))) (by omega)))

theorem v331 : Tile (n := 512) (k := 512) (AttnRun.run.sl.v331 (F := Ideal) M.c M.arg2 M.arg3 M.arg5 M.arg7 M.x0 M.x1 M.x3 M.x5) 0 512 (M.ins.P 0) :=
  (t_trunc bitsLt_bf16_f32 (t_P h.1 (t_exp2 (t_sub (t_add (mm_512_512 (v284 M h) (v108 M h)) (c_512_512 (t_tab (A := 0) (B := 1) _ _ _ (by omega) (by omega) (by omega)) _)) (t_bcast (e := 0) broadcasts_S1x512_S512x512 (v156 M h)))) (by omega)))

theorem v344 : Tile (n := 512) (k := 512) (AttnRun.run.sl.v344 (F := Ideal) M.c M.arg2 M.arg3 M.arg5 M.arg7 M.x0 M.x1 M.x3 M.x5) 0 1024 (M.ins.P 0) :=
  (t_trunc bitsLt_bf16_f32 (t_P h.1 (t_exp2 (t_sub (t_add (mm_512_512 (v284 M h) (v163 M h)) (c_512_512 (t_tab (A := 0) (B := 2) _ _ _ (by omega) (by omega) (by omega)) _)) (t_bcast (e := 0) broadcasts_S1x512_S512x512 (v211 M h)))) (by omega)))

theorem v388 : Tile (n := 256) (k := 128) (AttnRun.run.sl.v388 (F := Ideal) M.c M.arg2 M.arg3 M.arg5 M.arg7 M.arg8 M.x0 M.x1 M.x3 M.x5 M.x6) 0 0 (Ins.preT (M.ins.P 0) (M.ins.doe 0) 1536) :=
  (t_next (M := M.ins.P 0) (g := M.ins.doe 0) (t_next (M := M.ins.P 0) (g := M.ins.doe 0) (t_first (M := M.ins.P 0) (g := M.ins.doe 0) (fun _ _ => Ins.P_zero) (mq_256_512 (f := (M.ins.P 0)) (g := (M.ins.doe 0)) (v299 M h) (v61 M h)) (by omega) 512 (by omega)) (t_slice (a := 0) (b := 0) slices_S512x128_o0_0_S256x128 (mq_512_512 (f := (M.ins.P 0)) (g := (M.ins.doe 0)) (v331 M h) (v116 M h))) 1024 (by omega)) (t_slice (a := 0) (b := 0) slices_S512x128_o0_0_S256x128 (mq_512_512 (f := (M.ins.P 0)) (g := (M.ins.doe 0)) (v344 M h) (v171 M h))) 1536 (by omega))

theorem v396 : Tile (n := 256) (k := 128) (AttnRun.run.sl.v396 (F := Ideal) M.c M.arg2 M.arg3 M.arg5 M.arg7 M.arg8 M.x0 M.x1 M.x3 M.x5 M.x6) 0 0 (fun s l => ∑ t ∈ Finset.range 512, M.ins.P 0 s (1536 + t) * M.ins.doe 0 (1536 + t) l) :=
  (t_slice (a := 0) (b := 0) slices_S512x128_o0_0_S256x128 (mq_512_512 (f := (M.ins.P 0)) (g := (M.ins.doe 0)) (t_trunc bitsLt_bf16_f32 (v351 M h)) (v226 M h)))

theorem v400 : Tile (n := 256) (k := 128) (AttnRun.run.sl.v400 (F := Ideal) M.c M.arg2 M.arg3 M.arg5 M.arg7 M.arg8 M.x0 M.x1 M.x3 M.x5 M.x6) 0 0 (Ins.preT (M.ins.P 0) (M.ins.doe 0) 2048) :=
  (t_next (M := M.ins.P 0) (g := M.ins.doe 0) (v388 M h) (v396 M h) 2048 (by omega))

theorem v431 : Tile (n := 256) (k := 512) (AttnRun.run.sl.v431 (F := Ideal) M.c M.arg2 M.arg3 M.arg5 M.arg7 M.x0 M.x1 M.x3 M.x5) 0 0 (M.ins.P 1) :=
  (t_trunc bitsLt_bf16_f32 (t_P h.1 (t_exp2 (t_sub (t_add (mm_256_512 (t_slice (a := 0) (b := 0) slices_S512x128_o0_0_S256x128 (t_cast shapeCasts_S512x128_S512x128 (t_read16 _ _ _))) (v56 M h)) (c_256_512 (t_tab (A := 0) (B := 0) _ _ _ (by omega) (by omega) (by omega)) _)) (t_bcast (e := 1) broadcasts_S1x512_S256x512 (v102 M h)))) (by omega)))

theorem v463 : Tile (n := 512) (k := 512) (AttnRun.run.sl.v463 (F := Ideal) M.c M.arg2 M.arg3 M.arg5 M.arg7 M.x0 M.x1 M.x3 M.x5) 0 512 (M.ins.P 1) :=
  (t_trunc bitsLt_bf16_f32 (t_P h.1 (t_exp2 (t_sub (t_add (mm_512_512 (v416 M h) (v111 M h)) (c_512_512 (t_tab (A := 0) (B := 1) _ _ _ (by omega) (by omega) (by omega)) _)) (t_bcast (e := 1) broadcasts_S1x512_S512x512 (v157 M h)))) (by omega)))

theorem v476 : Tile (n := 512) (k := 512) (AttnRun.run.sl.v476 (F := Ideal) M.c M.arg2 M.arg3 M.arg5 M.arg7 M.x0 M.x1 M.x3 M.x5) 0 1024 (M.ins.P 1) :=
  (t_trunc bitsLt_bf16_f32 (t_P h.1 (t_exp2 (t_sub (t_add (mm_512_512 (v416 M h) (v166 M h)) (c_512_512 (t_tab (A := 0) (B := 2) _ _ _ (by omega) (by omega) (by omega)) _)) (t_bcast (e := 1) broadcasts_S1x512_S512x512 (v212 M h)))) (by omega)))

theorem v522 : Tile (n := 256) (k := 128) (AttnRun.run.sl.v522 (F := Ideal) M.c M.arg2 M.arg3 M.arg5 M.arg7 M.arg8 M.x0 M.x1 M.x3 M.x5 M.x6) 0 0 (fun s l => Ins.preT (M.ins.P 0) (M.ins.doe 0) 2048 s l + Ins.preT (M.ins.P 1) (M.ins.doe 1) 1536 s l) :=
  (t_next' (M := M.ins.P 1) (g := M.ins.doe 1) (f := Ins.preT (M.ins.P 0) (M.ins.doe 0) 2048) (t_next' (M := M.ins.P 1) (g := M.ins.doe 1) (f := Ins.preT (M.ins.P 0) (M.ins.doe 0) 2048) (t_add (v400 M h) (t_first (M := M.ins.P 1) (g := M.ins.doe 1) (fun _ _ => Ins.P_zero) (mq_256_512 (f := (M.ins.P 1)) (g := (M.ins.doe 1)) (v431 M h) (v63 M h)) (by omega) 512 (by omega))) (t_slice (a := 0) (b := 0) slices_S512x128_o0_0_S256x128 (mq_512_512 (f := (M.ins.P 1)) (g := (M.ins.doe 1)) (v463 M h) (v118 M h))) 1024 (by omega)) (t_slice (a := 0) (b := 0) slices_S512x128_o0_0_S256x128 (mq_512_512 (f := (M.ins.P 1)) (g := (M.ins.doe 1)) (v476 M h) (v173 M h))) 1536 (by omega))

theorem v527 : Tile (n := 512) (k := 128) (AttnRun.run.sl.v527 (F := Ideal) M.c M.arg2 M.arg3 M.arg5 M.arg7 M.arg8 M.x0 M.x1 M.x3 M.x5 M.x6) 0 0 (fun s l => ∑ t ∈ Finset.range 512, M.ins.P 1 s (1536 + t) * M.ins.doe 1 (1536 + t) l) :=
  (mq_512_512 (f := (M.ins.P 1)) (g := (M.ins.doe 1)) (t_trunc bitsLt_bf16_f32 (v483 M h)) (v228 M h))

theorem v318 : Tile (n := 256) (k := 256) (AttnRun.run.sl.v318 (F := Ideal) M.c M.arg2 M.arg3 M.arg5 M.arg7 M.x0 M.x1 M.x3 M.x5) 256 256 (M.ins.P 0) :=
  (t_trunc bitsLt_bf16_f32 (v311 M h))

theorem v390 : Tile (n := 256) (k := 128) (AttnRun.run.sl.v390 (F := Ideal) M.c M.arg2 M.arg3 M.arg5 M.arg7 M.arg8 M.x0 M.x1 M.x3 M.x5 M.x6) 256 0 (Ins.preT (M.ins.P 0) (M.ins.doe 0) 1536) :=
  (t_next (M := M.ins.P 0) (g := M.ins.doe 0) (t_next (M := M.ins.P 0) (g := M.ins.doe 0) (t_first (M := M.ins.P 0) (g := M.ins.doe 0) (fun _ _ => Ins.P_zero) (mq_256_256 (f := (M.ins.P 0)) (g := (M.ins.doe 0)) (v318 M h) (v303 M h)) (by omega) 512 (by omega)) (t_slice (a := 0) (b := 0) slices_S512x128_o256_0_S256x128 (mq_512_512 (f := (M.ins.P 0)) (g := (M.ins.doe 0)) (v331 M h) (v116 M h))) 1024 (by omega)) (t_slice (a := 0) (b := 0) slices_S512x128_o256_0_S256x128 (mq_512_512 (f := (M.ins.P 0)) (g := (M.ins.doe 0)) (v344 M h) (v171 M h))) 1536 (by omega))

theorem v398 : Tile (n := 256) (k := 128) (AttnRun.run.sl.v398 (F := Ideal) M.c M.arg2 M.arg3 M.arg5 M.arg7 M.arg8 M.x0 M.x1 M.x3 M.x5 M.x6) 256 0 (fun s l => ∑ t ∈ Finset.range 512, M.ins.P 0 s (1536 + t) * M.ins.doe 0 (1536 + t) l) :=
  (t_slice (a := 0) (b := 0) slices_S512x128_o256_0_S256x128 (mq_512_512 (f := (M.ins.P 0)) (g := (M.ins.doe 0)) (t_trunc bitsLt_bf16_f32 (v351 M h)) (v226 M h)))

theorem v402 : Tile (n := 256) (k := 128) (AttnRun.run.sl.v402 (F := Ideal) M.c M.arg2 M.arg3 M.arg5 M.arg7 M.arg8 M.x0 M.x1 M.x3 M.x5 M.x6) 256 0 (Ins.preT (M.ins.P 0) (M.ins.doe 0) 2048) :=
  (t_next (M := M.ins.P 0) (g := M.ins.doe 0) (v390 M h) (v398 M h) 2048 (by omega))

theorem v450 : Tile (n := 256) (k := 256) (AttnRun.run.sl.v450 (F := Ideal) M.c M.arg2 M.arg3 M.arg5 M.arg7 M.x0 M.x1 M.x3 M.x5) 256 256 (M.ins.P 1) :=
  (t_trunc bitsLt_bf16_f32 (t_P h.1 (t_exp2 (t_sub (v439 M h) (v441 M h))) (by omega)))

theorem v524 : Tile (n := 256) (k := 128) (AttnRun.run.sl.v524 (F := Ideal) M.c M.arg2 M.arg3 M.arg5 M.arg7 M.arg8 M.x0 M.x1 M.x3 M.x5 M.x6) 256 0 (fun s l => Ins.preT (M.ins.P 0) (M.ins.doe 0) 2048 s l + Ins.preT (M.ins.P 1) (M.ins.doe 1) 1536 s l) :=
  (t_next' (M := M.ins.P 1) (g := M.ins.doe 1) (f := Ins.preT (M.ins.P 0) (M.ins.doe 0) 2048) (t_next' (M := M.ins.P 1) (g := M.ins.doe 1) (f := Ins.preT (M.ins.P 0) (M.ins.doe 0) 2048) (t_add (v402 M h) (t_first (M := M.ins.P 1) (g := M.ins.doe 1) (fun _ _ => Ins.P_zero) (mq_256_256 (f := (M.ins.P 1)) (g := (M.ins.doe 1)) (v450 M h) (v435 M h)) (by omega) 512 (by omega))) (t_slice (a := 0) (b := 0) slices_S512x128_o256_0_S256x128 (mq_512_512 (f := (M.ins.P 1)) (g := (M.ins.doe 1)) (v463 M h) (v118 M h))) 1024 (by omega)) (t_slice (a := 0) (b := 0) slices_S512x128_o256_0_S256x128 (mq_512_512 (f := (M.ins.P 1)) (g := (M.ins.doe 1)) (v476 M h) (v173 M h))) 1536 (by omega))

theorem H13_2 : Has2 (AttnRun.run.sl.H13_2 (F := Ideal) M.c M.arg2 M.arg3 M.arg5 M.arg7 M.arg8 M.arg15 M.x0 M.x1 M.x3 M.x5 M.x6) 0 512 (fun s l => Ins.preT (M.ins.P 0) (M.ins.doe 0) 2048 s l + Ins.preT (M.ins.P 1) (M.ins.doe 1) 2048 s l) :=
  has2_hit _ _ (t_cast shapeCasts_S512x128_S512x128 (t_acc (read2 _ _ (has2_zero _ _ _ zero2)) (t_rows concatenates_S256x128_S256x128_S512x128_d0 (t_next' (M := M.ins.P 1) (g := M.ins.doe 1) (f := Ins.preT (M.ins.P 0) (M.ins.doe 0) 2048) (v522 M h) (t_slice (a := 0) (b := 0) slices_S512x128_o0_0_S256x128 (v527 M h)) 2048 (by omega)) (t_next' (M := M.ins.P 1) (g := M.ins.doe 1) (f := Ins.preT (M.ins.P 0) (M.ins.doe 0) 2048) (v524 M h) (t_slice (a := 0) (b := 0) slices_S512x128_o256_0_S256x128 (v527 M h)) 2048 (by omega)))))

theorem v579 : Tile (n := 256) (k := 512) (AttnRun.run.sl.v579 (F := Ideal) M.c M.arg2 M.arg3 M.arg5 M.arg7 M.x0 M.x1 M.x3 M.x5) 512 512 (M.ins.P 0) :=
  (t_trunc bitsLt_bf16_f32 (t_P h.1 (t_exp2 (t_sub (v570 M h) (t_bcast (e := 0) broadcasts_S1x512_S256x512 (v156 M h)))) (by omega)))

theorem v611 : Tile (n := 512) (k := 512) (AttnRun.run.sl.v611 (F := Ideal) M.c M.arg2 M.arg3 M.arg5 M.arg7 M.x0 M.x1 M.x3 M.x5) 512 1024 (M.ins.P 0) :=
  (t_trunc bitsLt_bf16_f32 (t_P h.1 (t_exp2 (t_sub (t_add (mm_512_512 (v564 M h) (v163 M h)) (c_512_512 (t_tab (A := 1) (B := 2) _ _ _ (by omega) (by omega) (by omega)) _)) (t_bcast (e := 0) broadcasts_S1x512_S512x512 (v211 M h)))) (by omega)))

theorem v655 : Tile (n := 256) (k := 128) (AttnRun.run.sl.v655 (F := Ideal) M.c M.arg2 M.arg3 M.arg5 M.arg7 M.arg8 M.x0 M.x1 M.x3 M.x5 M.x6) 512 0 (Ins.preT (M.ins.P 0) (M.ins.doe 0) 2048) :=
  (t_next (M := M.ins.P 0) (g := M.ins.doe 0) (t_next (M := M.ins.P 0) (g := M.ins.doe 0) (t_first (M := M.ins.P 0) (g := M.ins.doe 0) (fun _ _ => Ins.P_zero) (mq_256_512 (f := (M.ins.P 0)) (g := (M.ins.doe 0)) (v579 M h) (v116 M h)) (by omega) 1024 (by omega)) (t_slice (a := 512) (b := 0) slices_S512x128_o0_0_S256x128 (mq_512_512 (f := (M.ins.P 0)) (g := (M.ins.doe 0)) (v611 M h) (v171 M h))) 1536 (by omega)) (t_slice (a := 512) (b := 0) slices_S512x128_o0_0_S256x128 (mq_512_512 (f := (M.ins.P 0)) (g := (M.ins.doe 0)) (t_trunc bitsLt_bf16_f32 (t_P h.1 (t_exp2 (t_sub (t_add (v612 M h) (c_512_512 (t_tab (A := 1) (B := 3) _ _ _ (by omega) (by omega) (by omega)) _)) (t_bcast (e := 0) broadcasts_S1x512_S512x512 (v266 M h)))) (by omega))) (v226 M h))) 2048 (by omega))

theorem v686 : Tile (n := 256) (k := 512) (AttnRun.run.sl.v686 (F := Ideal) M.c M.arg2 M.arg3 M.arg5 M.arg7 M.x0 M.x1 M.x3 M.x5) 512 512 (M.ins.P 1) :=
  (t_trunc bitsLt_bf16_f32 (t_P h.1 (t_exp2 (t_sub (t_add (mm_256_512 (t_slice (a := 512) (b := 0) slices_S512x128_o0_0_S256x128 (t_cast shapeCasts_S512x128_S512x128 (t_read16 _ _ _))) (v111 M h)) (c_256_512 (t_tab (A := 1) (B := 1) _ _ _ (by omega) (by omega) (by omega)) _)) (t_bcast (e := 1) broadcasts_S1x512_S256x512 (v157 M h)))) (by omega)))

theorem v742 : Tile (n := 256) (k := 128) (AttnRun.run.sl.v742 (F := Ideal) M.c M.arg2 M.arg3 M.arg5 M.arg7 M.arg8 M.x0 M.x1 M.x3 M.x5 M.x6) 512 0 (fun s l => Ins.preT (M.ins.P 0) (M.ins.doe 0) 2048 s l + Ins.preT (M.ins.P 1) (M.ins.doe 1) 1024 s l) :=
  (t_add (v655 M h) (t_first (M := M.ins.P 1) (g := M.ins.doe 1) (fun _ _ => Ins.P_zero) (mq_256_512 (f := (M.ins.P 1)) (g := (M.ins.doe 1)) (v686 M h) (v118 M h)) (by omega) 1024 (by omega)))

theorem v718 : Tile (n := 512) (k := 512) (AttnRun.run.sl.v718 (F := Ideal) M.c M.arg2 M.arg3 M.arg5 M.arg7 M.x0 M.x1 M.x3 M.x5) 512 1024 (M.ins.P 1) :=
  (t_trunc bitsLt_bf16_f32 (t_P h.1 (t_exp2 (t_sub (t_add (mm_512_512 (v671 M h) (v166 M h)) (c_512_512 (t_tab (A := 1) (B := 2) _ _ _ (by omega) (by omega) (by omega)) _)) (t_bcast (e := 1) broadcasts_S1x512_S512x512 (v212 M h)))) (by omega)))

theorem v731 : Tile (n := 512) (k := 512) (AttnRun.run.sl.v731 (F := Ideal) M.c M.arg2 M.arg3 M.arg5 M.arg7 M.x0 M.x1 M.x3 M.x5) 512 1536 (M.ins.P 1) :=
  (t_trunc bitsLt_bf16_f32 (t_P h.1 (t_exp2 (t_sub (t_add (mm_512_512 (v671 M h) (v221 M h)) (c_512_512 (t_tab (A := 1) (B := 3) _ _ _ (by omega) (by omega) (by omega)) _)) (t_bcast (e := 1) broadcasts_S1x512_S512x512 (v267 M h)))) (by omega)))

theorem v598 : Tile (n := 256) (k := 256) (AttnRun.run.sl.v598 (F := Ideal) M.c M.arg2 M.arg3 M.arg5 M.arg7 M.x0 M.x1 M.x3 M.x5) 768 768 (M.ins.P 0) :=
  (t_trunc bitsLt_bf16_f32 (t_P h.1 (t_exp2 (t_sub (t_add (mm_256_256 (t_slice (a := 512) (b := 0) slices_S512x128_o256_0_S256x128 (v564 M h)) (t_slice (a := 512) (b := 0) slices_S512x128_o256_0_S256x128 (v108 M h))) (c_256_256 (t_tab (A := 1) (B := 1) _ _ _ (by omega) (by omega) (by omega)) _)) (t_bcast (e := 0) broadcasts_S1x256_S256x256 (t_slice (a := 0) (b := 512) slices_S1x512_o0_256_S1x256 (v156 M h))))) (by omega)))

theorem v583 : Tile (n := 256) (k := 128) (AttnRun.run.sl.v583 (F := Ideal) M.c M.arg8 M.x6) 768 0 (M.ins.doe 0) :=
  (t_slice (a := 512) (b := 0) slices_S512x128_o256_0_S256x128 (v116 M h))

theorem v657 : Tile (n := 256) (k := 128) (AttnRun.run.sl.v657 (F := Ideal) M.c M.arg2 M.arg3 M.arg5 M.arg7 M.arg8 M.x0 M.x1 M.x3 M.x5 M.x6) 768 0 (Ins.preT (M.ins.P 0) (M.ins.doe 0) 2048) :=
  (t_next (M := M.ins.P 0) (g := M.ins.doe 0) (t_next (M := M.ins.P 0) (g := M.ins.doe 0) (t_first (M := M.ins.P 0) (g := M.ins.doe 0) (fun _ _ => Ins.P_zero) (mq_256_256 (f := (M.ins.P 0)) (g := (M.ins.doe 0)) (v598 M h) (v583 M h)) (by omega) 1024 (by omega)) (t_slice (a := 512) (b := 0) slices_S512x128_o256_0_S256x128 (mq_512_512 (f := (M.ins.P 0)) (g := (M.ins.doe 0)) (v611 M h) (v171 M h))) 1536 (by omega)) (t_slice (a := 512) (b := 0) slices_S512x128_o256_0_S256x128 (mq_512_512 (f := (M.ins.P 0)) (g := (M.ins.doe 0)) (t_trunc bitsLt_bf16_f32 (t_P h.1 (t_exp2 (t_sub (t_add (v612 M h) (c_512_512 (t_tab (A := 1) (B := 3) _ _ _ (by omega) (by omega) (by omega)) _)) (t_bcast (e := 0) broadcasts_S1x512_S512x512 (v266 M h)))) (by omega))) (v226 M h))) 2048 (by omega))

theorem v690 : Tile (n := 256) (k := 128) (AttnRun.run.sl.v690 (F := Ideal) M.c M.arg8 M.x6) 768 0 (M.ins.doe 1) :=
  (t_slice (a := 512) (b := 0) slices_S512x128_o256_0_S256x128 (v118 M h))

theorem v743 : Tile (n := 256) (k := 128) (AttnRun.run.sl.v743 (F := Ideal) M.c M.arg2 M.arg3 M.arg5 M.arg7 M.arg8 M.x0 M.x1 M.x3 M.x5 M.x6) 768 0 (fun s l => Ins.preT (M.ins.P 0) (M.ins.doe 0) 2048 s l + Ins.preT (M.ins.P 1) (M.ins.doe 1) 1024 s l) :=
  (t_add (v657 M h) (t_first (M := M.ins.P 1) (g := M.ins.doe 1) (fun _ _ => Ins.P_zero) (mq_256_256 (f := (M.ins.P 1)) (g := (M.ins.doe 1)) (t_trunc bitsLt_bf16_f32 (v698 M h)) (v690 M h)) (by omega) 1024 (by omega)))

theorem H13_3 : Has2 (AttnRun.run.sl.H13_3 (F := Ideal) M.c M.arg2 M.arg3 M.arg5 M.arg7 M.arg8 M.arg15 M.x0 M.x1 M.x3 M.x5 M.x6) 512 512 (fun s l => Ins.preT (M.ins.P 0) (M.ins.doe 0) 2048 s l + Ins.preT (M.ins.P 1) (M.ins.doe 1) 2048 s l) :=
  has2_hit _ _ (t_cast shapeCasts_S512x128_S512x128 (t_acc (read2 _ _ (has2_miss _ _ (by omega) (has2_zero _ _ _ zero2))) (t_rows concatenates_S256x128_S256x128_S512x128_d0 (t_next' (M := M.ins.P 1) (g := M.ins.doe 1) (f := Ins.preT (M.ins.P 0) (M.ins.doe 0) 2048) (t_next' (M := M.ins.P 1) (g := M.ins.doe 1) (f := Ins.preT (M.ins.P 0) (M.ins.doe 0) 2048) (v742 M h) (t_slice (a := 512) (b := 0) slices_S512x128_o0_0_S256x128 (mq_512_512 (f := (M.ins.P 1)) (g := (M.ins.doe 1)) (v718 M h) (v173 M h))) 1536 (by omega)) (t_slice (a := 512) (b := 0) slices_S512x128_o0_0_S256x128 (mq_512_512 (f := (M.ins.P 1)) (g := (M.ins.doe 1)) (v731 M h) (v228 M h))) 2048 (by omega)) (t_next' (M := M.ins.P 1) (g := M.ins.doe 1) (f := Ins.preT (M.ins.P 0) (M.ins.doe 0) 2048) (t_next' (M := M.ins.P 1) (g := M.ins.doe 1) (f := Ins.preT (M.ins.P 0) (M.ins.doe 0) 2048) (v743 M h) (t_slice (a := 512) (b := 0) slices_S512x128_o256_0_S256x128 (mq_512_512 (f := (M.ins.P 1)) (g := (M.ins.doe 1)) (v718 M h) (v173 M h))) 1536 (by omega)) (t_slice (a := 512) (b := 0) slices_S512x128_o256_0_S256x128 (mq_512_512 (f := (M.ins.P 1)) (g := (M.ins.doe 1)) (v731 M h) (v228 M h))) 2048 (by omega)))))

theorem v809 : Tile (n := 256) (k := 512) (AttnRun.run.sl.v809 (F := Ideal) M.c M.arg2 M.arg3 M.arg5 M.arg7 M.x0 M.x1 M.x3 M.x5) 1024 1024 (M.ins.P 0) :=
  (t_trunc bitsLt_bf16_f32 (t_P h.1 (t_exp2 (t_sub (t_add (mm_256_512 (t_slice (a := 1024) (b := 0) slices_S512x128_o0_0_S256x128 (t_cast shapeCasts_S512x128_S512x128 (t_read16 _ _ _))) (v163 M h)) (c_256_512 (t_tab (A := 2) (B := 2) _ _ _ (by omega) (by omega) (by omega)) _)) (t_bcast (e := 0) broadcasts_S1x512_S256x512 (v211 M h)))) (by omega)))

theorem v860 : Tile (n := 256) (k := 128) (AttnRun.run.sl.v860 (F := Ideal) M.c M.arg2 M.arg3 M.arg5 M.arg7 M.arg8 M.x0 M.x1 M.x3 M.x5 M.x6) 1024 0 (Ins.preT (M.ins.P 0) (M.ins.doe 0) 2048) :=
  (t_next (M := M.ins.P 0) (g := M.ins.doe 0) (t_first (M := M.ins.P 0) (g := M.ins.doe 0) (fun _ _ => Ins.P_zero) (mq_256_512 (f := (M.ins.P 0)) (g := (M.ins.doe 0)) (v809 M h) (v171 M h)) (by omega) 1536 (by omega)) (t_slice (a := 1024) (b := 0) slices_S512x128_o0_0_S256x128 (mq_512_512 (f := (M.ins.P 0)) (g := (M.ins.doe 0)) (t_trunc bitsLt_bf16_f32 (t_P h.1 (t_exp2 (t_sub (t_add (v829 M h) (c_512_512 (t_tab (A := 2) (B := 3) _ _ _ (by omega) (by omega) (by omega)) _)) (t_bcast (e := 0) broadcasts_S1x512_S512x512 (v266 M h)))) (by omega))) (v226 M h))) 2048 (by omega))

theorem v891 : Tile (n := 256) (k := 512) (AttnRun.run.sl.v891 (F := Ideal) M.c M.arg2 M.arg3 M.arg5 M.arg7 M.x0 M.x1 M.x3 M.x5) 1024 1024 (M.ins.P 1) :=
  (t_trunc bitsLt_bf16_f32 (t_P h.1 (t_exp2 (t_sub (t_add (mm_256_512 (t_slice (a := 1024) (b := 0) slices_S512x128_o0_0_S256x128 (t_cast shapeCasts_S512x128_S512x128 (t_read16 _ _ _))) (v166 M h)) (c_256_512 (t_tab (A := 2) (B := 2) _ _ _ (by omega) (by omega) (by omega)) _)) (t_bcast (e := 1) broadcasts_S1x512_S256x512 (v212 M h)))) (by omega)))

theorem v944 : Tile (n := 256) (k := 128) (AttnRun.run.sl.v944 (F := Ideal) M.c M.arg2 M.arg3 M.arg5 M.arg7 M.arg8 M.x0 M.x1 M.x3 M.x5 M.x6) 1024 0 (fun s l => Ins.preT (M.ins.P 0) (M.ins.doe 0) 2048 s l + Ins.preT (M.ins.P 1) (M.ins.doe 1) 2048 s l) :=
  (t_next' (M := M.ins.P 1) (g := M.ins.doe 1) (f := Ins.preT (M.ins.P 0) (M.ins.doe 0) 2048) (t_add (v860 M h) (t_first (M := M.ins.P 1) (g := M.ins.doe 1) (fun _ _ => Ins.P_zero) (mq_256_512 (f := (M.ins.P 1)) (g := (M.ins.doe 1)) (v891 M h) (v173 M h)) (by omega) 1536 (by omega))) (t_slice (a := 1024) (b := 0) slices_S512x128_o0_0_S256x128 (mq_512_512 (f := (M.ins.P 1)) (g := (M.ins.doe 1)) (t_trunc bitsLt_bf16_f32 (t_P h.1 (t_exp2 (t_sub (v914 M h) (v915 M h))) (by omega))) (v228 M h))) 2048 (by omega))

theorem v828 : Tile (n := 256) (k := 256) (AttnRun.run.sl.v828 (F := Ideal) M.c M.arg2 M.arg3 M.arg5 M.arg7 M.x0 M.x1 M.x3 M.x5) 1280 1280 (M.ins.P 0) :=
  (t_trunc bitsLt_bf16_f32 (t_P h.1 (t_exp2 (t_sub (t_add (mm_256_256 (t_slice (a := 1024) (b := 0) slices_S512x128_o256_0_S256x128 (t_cast shapeCasts_S512x128_S512x128 (t_read16 _ _ _))) (t_slice (a := 1024) (b := 0) slices_S512x128_o256_0_S256x128 (v163 M h))) (c_256_256 (t_tab (A := 2) (B := 2) _ _ _ (by omega) (by omega) (by omega)) _)) (t_bcast (e := 0) broadcasts_S1x256_S256x256 (t_slice (a := 0) (b := 1024) slices_S1x512_o0_256_S1x256 (v211 M h))))) (by omega)))

theorem v813 : Tile (n := 256) (k := 128) (AttnRun.run.sl.v813 (F := Ideal) M.c M.arg8 M.x6) 1280 0 (M.ins.doe 0) :=
  (t_slice (a := 1024) (b := 0) slices_S512x128_o256_0_S256x128 (v171 M h))

theorem v862 : Tile (n := 256) (k := 128) (AttnRun.run.sl.v862 (F := Ideal) M.c M.arg2 M.arg3 M.arg5 M.arg7 M.arg8 M.x0 M.x1 M.x3 M.x5 M.x6) 1280 0 (Ins.preT (M.ins.P 0) (M.ins.doe 0) 2048) :=
  (t_next (M := M.ins.P 0) (g := M.ins.doe 0) (t_first (M := M.ins.P 0) (g := M.ins.doe 0) (fun _ _ => Ins.P_zero) (mq_256_256 (f := (M.ins.P 0)) (g := (M.ins.doe 0)) (v828 M h) (v813 M h)) (by omega) 1536 (by omega)) (t_slice (a := 1024) (b := 0) slices_S512x128_o256_0_S256x128 (mq_512_512 (f := (M.ins.P 0)) (g := (M.ins.doe 0)) (t_trunc bitsLt_bf16_f32 (t_P h.1 (t_exp2 (t_sub (t_add (v829 M h) (c_512_512 (t_tab (A := 2) (B := 3) _ _ _ (by omega) (by omega) (by omega)) _)) (t_bcast (e := 0) broadcasts_S1x512_S512x512 (v266 M h)))) (by omega))) (v226 M h))) 2048 (by omega))

theorem v910 : Tile (n := 256) (k := 256) (AttnRun.run.sl.v910 (F := Ideal) M.c M.arg2 M.arg3 M.arg5 M.arg7 M.x0 M.x1 M.x3 M.x5) 1280 1280 (M.ins.P 1) :=
  (t_trunc bitsLt_bf16_f32 (t_P h.1 (t_exp2 (t_sub (t_add (mm_256_256 (t_slice (a := 1024) (b := 0) slices_S512x128_o256_0_S256x128 (t_cast shapeCasts_S512x128_S512x128 (t_read16 _ _ _))) (t_slice (a := 1024) (b := 0) slices_S512x128_o256_0_S256x128 (v166 M h))) (c_256_256 (t_tab (A := 2) (B := 2) _ _ _ (by omega) (by omega) (by omega)) _)) (t_bcast (e := 1) broadcasts_S1x256_S256x256 (t_slice (a := 1) (b := 1024) slices_S1x512_o0_256_S1x256 (v212 M h))))) (by omega)))

theorem v895 : Tile (n := 256) (k := 128) (AttnRun.run.sl.v895 (F := Ideal) M.c M.arg8 M.x6) 1280 0 (M.ins.doe 1) :=
  (t_slice (a := 1024) (b := 0) slices_S512x128_o256_0_S256x128 (v173 M h))

theorem v946 : Tile (n := 256) (k := 128) (AttnRun.run.sl.v946 (F := Ideal) M.c M.arg2 M.arg3 M.arg5 M.arg7 M.arg8 M.x0 M.x1 M.x3 M.x5 M.x6) 1280 0 (fun s l => Ins.preT (M.ins.P 0) (M.ins.doe 0) 2048 s l + Ins.preT (M.ins.P 1) (M.ins.doe 1) 2048 s l) :=
  (t_next' (M := M.ins.P 1) (g := M.ins.doe 1) (f := Ins.preT (M.ins.P 0) (M.ins.doe 0) 2048) (t_add (v862 M h) (t_first (M := M.ins.P 1) (g := M.ins.doe 1) (fun _ _ => Ins.P_zero) (mq_256_256 (f := (M.ins.P 1)) (g := (M.ins.doe 1)) (v910 M h) (v895 M h)) (by omega) 1536 (by omega))) (t_slice (a := 1024) (b := 0) slices_S512x128_o256_0_S256x128 (mq_512_512 (f := (M.ins.P 1)) (g := (M.ins.doe 1)) (t_trunc bitsLt_bf16_f32 (t_P h.1 (t_exp2 (t_sub (v914 M h) (v915 M h))) (by omega))) (v228 M h))) 2048 (by omega))

theorem H13_4 : Has2 (AttnRun.run.sl.H13_4 (F := Ideal) M.c M.arg2 M.arg3 M.arg5 M.arg7 M.arg8 M.arg15 M.x0 M.x1 M.x3 M.x5 M.x6) 1024 512 (fun s l => Ins.preT (M.ins.P 0) (M.ins.doe 0) 2048 s l + Ins.preT (M.ins.P 1) (M.ins.doe 1) 2048 s l) :=
  has2_hit _ _ (t_cast shapeCasts_S512x128_S512x128 (t_acc (read2 _ _ (has2_miss _ _ (by omega) (has2_miss _ _ (by omega) (has2_zero _ _ _ zero2)))) (t_rows concatenates_S256x128_S256x128_S512x128_d0 (v944 M h) (v946 M h))))

theorem v989 : Tile (n := 256) (k := 512) (AttnRun.run.sl.v989 (F := Ideal) M.c M.arg2 M.arg3 M.arg5 M.arg7 M.x0 M.x1 M.x3 M.x5) 1536 1536 (M.ins.P 0) :=
  (t_trunc bitsLt_bf16_f32 (t_P h.1 (t_exp2 (t_sub (t_add (mm_256_512 (t_slice (a := 1536) (b := 0) slices_S512x128_o0_0_S256x128 (t_cast shapeCasts_S512x128_S512x128 (t_read16 _ _ _))) (v218 M h)) (c_256_512 (t_tab (A := 3) (B := 3) _ _ _ (by omega) (by omega) (by omega)) _)) (t_bcast (e := 0) broadcasts_S1x512_S256x512 (v266 M h)))) (by omega)))

theorem v1009 : Tile (n := 256) (k := 128) (AttnRun.run.sl.v1009 (F := Ideal) M.c M.arg2 M.arg3 M.arg5 M.arg7 M.arg8 M.x0 M.x1 M.x3 M.x5 M.x6) 1536 0 (fun s l => ∑ t ∈ Finset.range 512, M.ins.P 0 s (1536 + t) * M.ins.doe 0 (1536 + t) l) :=
  (mq_256_512 (f := (M.ins.P 0)) (g := (M.ins.doe 0)) (v989 M h) (v226 M h))

theorem v1076 : Tile (n := 256) (k := 128) (AttnRun.run.sl.v1076 (F := Ideal) M.c M.arg2 M.arg3 M.arg5 M.arg7 M.arg8 M.x0 M.x1 M.x3 M.x5 M.x6) 1536 0 (fun s l => Ins.preT (M.ins.P 0) (M.ins.doe 0) 2048 s l + Ins.preT (M.ins.P 1) (M.ins.doe 1) 2048 s l) :=
  (t_add (t_first (M := M.ins.P 0) (g := M.ins.doe 0) (fun _ _ => Ins.P_zero) (v1009 M h) (by omega) 2048 (by omega)) (t_first (M := M.ins.P 1) (g := M.ins.doe 1) (fun _ _ => Ins.P_zero) (mq_256_512 (f := (M.ins.P 1)) (g := (M.ins.doe 1)) (t_trunc bitsLt_bf16_f32 (v1040 M h)) (v228 M h)) (by omega) 2048 (by omega)))

theorem v1012 : Tile (n := 256) (k := 128) (AttnRun.run.sl.v1012 (F := Ideal) M.c M.arg2 M.arg3 M.arg5 M.arg7 M.arg8 M.x0 M.x1 M.x3 M.x5 M.x6) 1792 0 (fun s l => ∑ t ∈ Finset.range 256, M.ins.P 0 s (1792 + t) * M.ins.doe 0 (1792 + t) l) :=
  (mq_256_256 (f := (M.ins.P 0)) (g := (M.ins.doe 0)) (t_trunc bitsLt_bf16_f32 (v1001 M h)) (v993 M h))

theorem v1077 : Tile (n := 256) (k := 128) (AttnRun.run.sl.v1077 (F := Ideal) M.c M.arg2 M.arg3 M.arg5 M.arg7 M.arg8 M.x0 M.x1 M.x3 M.x5 M.x6) 1792 0 (fun s l => Ins.preT (M.ins.P 0) (M.ins.doe 0) 2048 s l + Ins.preT (M.ins.P 1) (M.ins.doe 1) 2048 s l) :=
  (t_add (t_first (M := M.ins.P 0) (g := M.ins.doe 0) (fun _ _ => Ins.P_zero) (v1012 M h) (by omega) 2048 (by omega)) (t_first (M := M.ins.P 1) (g := M.ins.doe 1) (fun _ _ => Ins.P_zero) (mq_256_256 (f := (M.ins.P 1)) (g := (M.ins.doe 1)) (t_trunc bitsLt_bf16_f32 (t_P h.1 (t_exp2 (t_sub (t_add (mm_256_256 (t_slice (a := 1536) (b := 0) slices_S512x128_o256_0_S256x128 (v1031 M h)) (t_slice (a := 1536) (b := 0) slices_S512x128_o256_0_S256x128 (v221 M h))) (c_256_256 (t_tab (A := 3) (B := 3) _ _ _ (by omega) (by omega) (by omega)) _)) (t_bcast (e := 1) broadcasts_S1x256_S256x256 (t_slice (a := 1) (b := 1536) slices_S1x512_o0_256_S1x256 (v267 M h))))) (by omega))) (t_slice (a := 1536) (b := 0) slices_S512x128_o256_0_S256x128 (v228 M h))) (by omega) 2048 (by omega)))

theorem H13_5 : Has2 (AttnRun.run.sl.H13_5 (F := Ideal) M.c M.arg2 M.arg3 M.arg5 M.arg7 M.arg8 M.arg15 M.x0 M.x1 M.x3 M.x5 M.x6) 1536 512 (fun s l => Ins.preT (M.ins.P 0) (M.ins.doe 0) 2048 s l + Ins.preT (M.ins.P 1) (M.ins.doe 1) 2048 s l) :=
  has2_hit _ _ (t_cast shapeCasts_S512x128_S512x128 (t_acc (read2 _ _ (has2_miss _ _ (by omega) (has2_miss _ _ (by omega) (has2_miss _ _ (by omega) (has2_zero _ _ _ zero2))))) (t_rows concatenates_S256x128_S256x128_S512x128_d0 (v1076 M h) (v1077 M h))))

theorem v285 : Tile (n := 256) (k := 128) (AttnRun.run.sl.v285 (F := Ideal) M.c M.arg3 M.x1) 0 0 (M.ins.K 0) :=
  (t_slice (a := 0) (b := 0) slices_S512x128_o0_0_S256x128 (t_cast shapeCasts_S512x128_S512x128 (t_read16 _ _ _)))

theorem v300 : Tile (n := 256) (k := 128) (AttnRun.run.sl.v300 (F := Ideal) M.c M.arg3 M.x1) 256 0 (M.ins.K 0) :=
  (t_slice (a := 0) (b := 0) slices_S512x128_o256_0_S256x128 (t_cast shapeCasts_S512x128_S512x128 (t_read16 _ _ _)))

theorem v368 : Tile (n := 128) (k := 512) (AttnRun.run.sl.v368 (F := Ideal) M.c M.arg2 M.arg3 M.arg4 M.arg5 M.arg6 M.arg7 M.arg8 M.x0 M.x1 M.x2 M.x3 M.x4 M.x5 M.x6) 0 0 (Ins.preS (M.ins.K 0) (M.ins.DS 0) 512) :=
  (t_keys (M := M.ins.DS 0) (g := M.ins.K 0) (a := 0) t_zero (t_cols concatenates_S128x256_S128x256_S128x512_d1 (t_early (M := M.ins.DS 0) (g := M.ins.K 0) (a := 0) (fun _ _ => Ins.DS_zero) (t_slice (a := 0) (b := 0) slices_S128x512_o0_0_S128x256 (mk_256_512 (f := (M.ins.K 0)) (g := (M.ins.DS 0)) (v285 M h) (v298 M h))) (by omega)) (t_late (M := M.ins.DS 0) (g := M.ins.K 0) (a := 0) (a' := 256) (t_slice (a := 0) (b := 0) slices_S128x512_o0_256_S128x256 (mk_256_512 (f := (M.ins.K 0)) (g := (M.ins.DS 0)) (v285 M h) (v298 M h))) (mk_256_256 (f := (M.ins.K 0)) (g := (M.ins.DS 0)) (v300 M h) (v317 M h)) (by omega))) 512 (by omega))

theorem v417 : Tile (n := 256) (k := 128) (AttnRun.run.sl.v417 (F := Ideal) M.c M.arg3 M.x1) 0 0 (M.ins.K 1) :=
  (t_slice (a := 0) (b := 0) slices_S512x128_o0_0_S256x128 (t_cast shapeCasts_S512x128_S512x128 (t_read16 _ _ _)))

theorem v432 : Tile (n := 256) (k := 128) (AttnRun.run.sl.v432 (F := Ideal) M.c M.arg3 M.x1) 256 0 (M.ins.K 1) :=
  (t_slice (a := 0) (b := 0) slices_S512x128_o256_0_S256x128 (t_cast shapeCasts_S512x128_S512x128 (t_read16 _ _ _)))

theorem v502 : Tile (n := 128) (k := 512) (AttnRun.run.sl.v502 (F := Ideal) M.c M.arg2 M.arg3 M.arg4 M.arg5 M.arg6 M.arg7 M.arg8 M.x0 M.x1 M.x2 M.x3 M.x4 M.x5 M.x6) 0 0 (Ins.preS (M.ins.K 1) (M.ins.DS 1) 512) :=
  (t_keys (M := M.ins.DS 1) (g := M.ins.K 1) (a := 0) t_zero (t_cols concatenates_S128x256_S128x256_S128x512_d1 (t_early (M := M.ins.DS 1) (g := M.ins.K 1) (a := 0) (fun _ _ => Ins.DS_zero) (t_slice (a := 0) (b := 0) slices_S128x512_o0_0_S128x256 (mk_256_512 (f := (M.ins.K 1)) (g := (M.ins.DS 1)) (v417 M h) (v430 M h))) (by omega)) (t_late (M := M.ins.DS 1) (g := M.ins.K 1) (a := 0) (a' := 256) (t_slice (a := 0) (b := 0) slices_S128x512_o0_256_S128x256 (mk_256_512 (f := (M.ins.K 1)) (g := (M.ins.DS 1)) (v417 M h) (v430 M h))) (mk_256_256 (f := (M.ins.K 1)) (g := (M.ins.DS 1)) (v432 M h) (v449 M h)) (by omega))) 512 (by omega))

theorem v380 : Tile (n := 128) (k := 512) (AttnRun.run.sl.v380 (F := Ideal) M.c M.arg2 M.arg3 M.arg4 M.arg5 M.arg6 M.arg7 M.arg8 M.x0 M.x1 M.x2 M.x3 M.x4 M.x5 M.x6) 0 512 (Ins.preS (M.ins.K 0) (M.ins.DS 0) 512) :=
  (t_keys (M := M.ins.DS 0) (g := M.ins.K 0) (a := 0) t_zero (mk_512_512 (f := (M.ins.K 0)) (g := (M.ins.DS 0)) (v284 M h) (v330 M h)) 512 (by omega))

theorem v565 : Tile (n := 256) (k := 128) (AttnRun.run.sl.v565 (F := Ideal) M.c M.arg3 M.x1) 512 0 (M.ins.K 0) :=
  (t_slice (a := 512) (b := 0) slices_S512x128_o0_0_S256x128 (t_cast shapeCasts_S512x128_S512x128 (t_read16 _ _ _)))

theorem v580 : Tile (n := 256) (k := 128) (AttnRun.run.sl.v580 (F := Ideal) M.c M.arg3 M.x1) 768 0 (M.ins.K 0) :=
  (t_slice (a := 512) (b := 0) slices_S512x128_o256_0_S256x128 (v564 M h))

theorem v635 : Tile (n := 128) (k := 512) (AttnRun.run.sl.v635 (F := Ideal) M.c M.arg2 M.arg3 M.arg4 M.arg5 M.arg6 M.arg7 M.arg8 M.x0 M.x1 M.x2 M.x3 M.x4 M.x5 M.x6) 0 512 (Ins.preS (M.ins.K 0) (M.ins.DS 0) 1024) :=
  (t_keys (M := M.ins.DS 0) (g := M.ins.K 0) (a := 512) (v380 M h) (t_cols concatenates_S128x256_S128x256_S128x512_d1 (t_early (M := M.ins.DS 0) (g := M.ins.K 0) (a := 512) (fun _ _ => Ins.DS_zero) (t_slice (a := 0) (b := 512) slices_S128x512_o0_0_S128x256 (mk_256_512 (f := (M.ins.K 0)) (g := (M.ins.DS 0)) (v565 M h) (v578 M h))) (by omega)) (t_late (M := M.ins.DS 0) (g := M.ins.K 0) (a := 512) (a' := 768) (t_slice (a := 0) (b := 512) slices_S128x512_o0_256_S128x256 (mk_256_512 (f := (M.ins.K 0)) (g := (M.ins.DS 0)) (v565 M h) (v578 M h))) (mk_256_256 (f := (M.ins.K 0)) (g := (M.ins.DS 0)) (v580 M h) (v597 M h)) (by omega))) 1024 (by omega))

theorem v514 : Tile (n := 128) (k := 512) (AttnRun.run.sl.v514 (F := Ideal) M.c M.arg2 M.arg3 M.arg4 M.arg5 M.arg6 M.arg7 M.arg8 M.x0 M.x1 M.x2 M.x3 M.x4 M.x5 M.x6) 0 512 (Ins.preS (M.ins.K 1) (M.ins.DS 1) 512) :=
  (t_keys (M := M.ins.DS 1) (g := M.ins.K 1) (a := 0) t_zero (mk_512_512 (f := (M.ins.K 1)) (g := (M.ins.DS 1)) (v416 M h) (v462 M h)) 512 (by omega))

theorem v672 : Tile (n := 256) (k := 128) (AttnRun.run.sl.v672 (F := Ideal) M.c M.arg3 M.x1) 512 0 (M.ins.K 1) :=
  (t_slice (a := 512) (b := 0) slices_S512x128_o0_0_S256x128 (t_cast shapeCasts_S512x128_S512x128 (t_read16 _ _ _)))

theorem v687 : Tile (n := 256) (k := 128) (AttnRun.run.sl.v687 (F := Ideal) M.c M.arg3 M.x1) 768 0 (M.ins.K 1) :=
  (t_slice (a := 512) (b := 0) slices_S512x128_o256_0_S256x128 (t_cast shapeCasts_S512x128_S512x128 (t_read16 _ _ _)))

theorem v741 : Tile (n := 128) (k := 512) (AttnRun.run.sl.v741 (F := Ideal) M.c M.arg2 M.arg3 M.arg4 M.arg5 M.arg6 M.arg7 M.arg8 M.x0 M.x1 M.x2 M.x3 M.x4 M.x5 M.x6) 0 512 (fun l t => ∑ s ∈ Finset.range 512, M.ins.K 1 (512 + s) l * M.ins.DS 1 (512 + s) t) :=
  (t_cols concatenates_S128x256_S128x256_S128x512_d1 (t_early (M := M.ins.DS 1) (g := M.ins.K 1) (a := 512) (fun _ _ => Ins.DS_zero) (t_slice (a := 0) (b := 512) slices_S128x512_o0_0_S128x256 (mk_256_512 (f := (M.ins.K 1)) (g := (M.ins.DS 1)) (v672 M h) (v685 M h))) (by omega)) (t_late (M := M.ins.DS 1) (g := M.ins.K 1) (a := 512) (a' := 768) (t_slice (a := 0) (b := 512) slices_S128x512_o0_256_S128x256 (mk_256_512 (f := (M.ins.K 1)) (g := (M.ins.DS 1)) (v672 M h) (v685 M h))) (mk_256_256 (f := (M.ins.K 1)) (g := (M.ins.DS 1)) (v687 M h) (t_trunc bitsLt_bf16_f32 (t_mul (v698 M h) (t_sub (v699 M h) (v701 M h))))) (by omega)))

theorem v744 : Tile (n := 128) (k := 512) (AttnRun.run.sl.v744 (F := Ideal) M.c M.arg2 M.arg3 M.arg4 M.arg5 M.arg6 M.arg7 M.arg8 M.x0 M.x1 M.x2 M.x3 M.x4 M.x5 M.x6) 0 512 (Ins.preS (M.ins.K 1) (M.ins.DS 1) 1024) :=
  (t_keys (M := M.ins.DS 1) (g := M.ins.K 1) (a := 512) (v514 M h) (v741 M h) 1024 (by omega))

theorem v392 : Tile (n := 128) (k := 512) (AttnRun.run.sl.v392 (F := Ideal) M.c M.arg2 M.arg3 M.arg4 M.arg5 M.arg6 M.arg7 M.arg8 M.x0 M.x1 M.x2 M.x3 M.x4 M.x5 M.x6) 0 1024 (Ins.preS (M.ins.K 0) (M.ins.DS 0) 512) :=
  (t_keys (M := M.ins.DS 0) (g := M.ins.K 0) (a := 0) t_zero (mk_512_512 (f := (M.ins.K 0)) (g := (M.ins.DS 0)) (v284 M h) (v343 M h)) 512 (by omega))

theorem v647 : Tile (n := 128) (k := 512) (AttnRun.run.sl.v647 (F := Ideal) M.c M.arg2 M.arg3 M.arg4 M.arg5 M.arg6 M.arg7 M.arg8 M.x0 M.x1 M.x2 M.x3 M.x4 M.x5 M.x6) 0 1024 (Ins.preS (M.ins.K 0) (M.ins.DS 0) 1024) :=
  (t_keys (M := M.ins.DS 0) (g := M.ins.K 0) (a := 512) (v392 M h) (mk_512_512 (f := (M.ins.K 0)) (g := (M.ins.DS 0)) (v564 M h) (v610 M h)) 1024 (by omega))

theorem v795 : Tile (n := 256) (k := 128) (AttnRun.run.sl.v795 (F := Ideal) M.c M.arg3 M.x1) 1024 0 (M.ins.K 0) :=
  (t_slice (a := 1024) (b := 0) slices_S512x128_o0_0_S256x128 (t_cast shapeCasts_S512x128_S512x128 (t_read16 _ _ _)))

theorem v810 : Tile (n := 256) (k := 128) (AttnRun.run.sl.v810 (F := Ideal) M.c M.arg3 M.x1) 1280 0 (M.ins.K 0) :=
  (t_slice (a := 1024) (b := 0) slices_S512x128_o256_0_S256x128 (t_cast shapeCasts_S512x128_S512x128 (t_read16 _ _ _)))

theorem v852 : Tile (n := 128) (k := 512) (AttnRun.run.sl.v852 (F := Ideal) M.c M.arg2 M.arg3 M.arg4 M.arg5 M.arg6 M.arg7 M.arg8 M.x0 M.x1 M.x2 M.x3 M.x4 M.x5 M.x6) 0 1024 (Ins.preS (M.ins.K 0) (M.ins.DS 0) 1536) :=
  (t_keys (M := M.ins.DS 0) (g := M.ins.K 0) (a := 1024) (v647 M h) (t_cols concatenates_S128x256_S128x256_S128x512_d1 (t_early (M := M.ins.DS 0) (g := M.ins.K 0) (a := 1024) (fun _ _ => Ins.DS_zero) (t_slice (a := 0) (b := 1024) slices_S128x512_o0_0_S128x256 (mk_256_512 (f := (M.ins.K 0)) (g := (M.ins.DS 0)) (v795 M h) (v808 M h))) (by omega)) (t_late (M := M.ins.DS 0) (g := M.ins.K 0) (a := 1024) (a' := 1280) (t_slice (a := 0) (b := 1024) slices_S128x512_o0_256_S128x256 (mk_256_512 (f := (M.ins.K 0)) (g := (M.ins.DS 0)) (v795 M h) (v808 M h))) (mk_256_256 (f := (M.ins.K 0)) (g := (M.ins.DS 0)) (v810 M h) (v827 M h)) (by omega))) 1536 (by omega))

theorem v526 : Tile (n := 128) (k := 512) (AttnRun.run.sl.v526 (F := Ideal) M.c M.arg2 M.arg3 M.arg4 M.arg5 M.arg6 M.arg7 M.arg8 M.x0 M.x1 M.x2 M.x3 M.x4 M.x5 M.x6) 0 1024 (Ins.preS (M.ins.K 1) (M.ins.DS 1) 512) :=
  (t_keys (M := M.ins.DS 1) (g := M.ins.K 1) (a := 0) t_zero (mk_512_512 (f := (M.ins.K 1)) (g := (M.ins.DS 1)) (v416 M h) (v475 M h)) 512 (by omega))

theorem v756 : Tile (n := 128) (k := 512) (AttnRun.run.sl.v756 (F := Ideal) M.c M.arg2 M.arg3 M.arg4 M.arg5 M.arg6 M.arg7 M.arg8 M.x0 M.x1 M.x2 M.x3 M.x4 M.x5 M.x6) 0 1024 (Ins.preS (M.ins.K 1) (M.ins.DS 1) 1024) :=
  (t_keys (M := M.ins.DS 1) (g := M.ins.K 1) (a := 512) (v526 M h) (mk_512_512 (f := (M.ins.K 1)) (g := (M.ins.DS 1)) (v671 M h) (v717 M h)) 1024 (by omega))

theorem v877 : Tile (n := 256) (k := 128) (AttnRun.run.sl.v877 (F := Ideal) M.c M.arg3 M.x1) 1024 0 (M.ins.K 1) :=
  (t_slice (a := 1024) (b := 0) slices_S512x128_o0_0_S256x128 (t_cast shapeCasts_S512x128_S512x128 (t_read16 _ _ _)))

theorem v892 : Tile (n := 256) (k := 128) (AttnRun.run.sl.v892 (F := Ideal) M.c M.arg3 M.x1) 1280 0 (M.ins.K 1) :=
  (t_slice (a := 1024) (b := 0) slices_S512x128_o256_0_S256x128 (t_cast shapeCasts_S512x128_S512x128 (t_read16 _ _ _)))

theorem v936 : Tile (n := 128) (k := 512) (AttnRun.run.sl.v936 (F := Ideal) M.c M.arg2 M.arg3 M.arg4 M.arg5 M.arg6 M.arg7 M.arg8 M.x0 M.x1 M.x2 M.x3 M.x4 M.x5 M.x6) 0 1024 (Ins.preS (M.ins.K 1) (M.ins.DS 1) 1536) :=
  (t_keys (M := M.ins.DS 1) (g := M.ins.K 1) (a := 1024) (v756 M h) (t_cols concatenates_S128x256_S128x256_S128x512_d1 (t_early (M := M.ins.DS 1) (g := M.ins.K 1) (a := 1024) (fun _ _ => Ins.DS_zero) (t_slice (a := 0) (b := 1024) slices_S128x512_o0_0_S128x256 (mk_256_512 (f := (M.ins.K 1)) (g := (M.ins.DS 1)) (v877 M h) (v890 M h))) (by omega)) (t_late (M := M.ins.DS 1) (g := M.ins.K 1) (a := 1024) (a' := 1280) (t_slice (a := 0) (b := 1024) slices_S128x512_o0_256_S128x256 (mk_256_512 (f := (M.ins.K 1)) (g := (M.ins.DS 1)) (v877 M h) (v890 M h))) (mk_256_256 (f := (M.ins.K 1)) (g := (M.ins.DS 1)) (v892 M h) (v909 M h)) (by omega))) 1536 (by omega))

theorem v395 : Tile (n := 128) (k := 512) (AttnRun.run.sl.v395 (F := Ideal) M.c M.arg2 M.arg3 M.arg4 M.arg5 M.arg6 M.arg7 M.arg8 M.x0 M.x1 M.x2 M.x3 M.x4 M.x5 M.x6) 0 1536 (fun l t => ∑ s ∈ Finset.range 512, M.ins.K 0 (0 + s) l * M.ins.DS 0 (0 + s) t) :=
  (mk_512_512 (f := (M.ins.K 0)) (g := (M.ins.DS 0)) (v284 M h) (t_trunc bitsLt_bf16_f32 (t_mul (v351 M h) (t_sub (v352 M h) (v353 M h)))))

theorem v404 : Tile (n := 128) (k := 512) (AttnRun.run.sl.v404 (F := Ideal) M.c M.arg2 M.arg3 M.arg4 M.arg5 M.arg6 M.arg7 M.arg8 M.x0 M.x1 M.x2 M.x3 M.x4 M.x5 M.x6) 0 1536 (Ins.preS (M.ins.K 0) (M.ins.DS 0) 512) :=
  (t_keys (M := M.ins.DS 0) (g := M.ins.K 0) (a := 0) t_zero (v395 M h) 512 (by omega))

theorem v659 : Tile (n := 128) (k := 512) (AttnRun.run.sl.v659 (F := Ideal) M.c M.arg2 M.arg3 M.arg4 M.arg5 M.arg6 M.arg7 M.arg8 M.x0 M.x1 M.x2 M.x3 M.x4 M.x5 M.x6) 0 1536 (Ins.preS (M.ins.K 0) (M.ins.DS 0) 1024) :=
  (t_keys (M := M.ins.DS 0) (g := M.ins.K 0) (a := 512) (v404 M h) (mk_512_512 (f := (M.ins.K 0)) (g := (M.ins.DS 0)) (v564 M h) (t_trunc bitsLt_bf16_f32 (t_mul (t_P h.1 (t_exp2 (t_sub (t_add (v612 M h) (c_512_512 (t_tab (A := 1) (B := 3) _ _ _ (by omega) (by omega) (by omega)) _)) (t_bcast (e := 0) broadcasts_S1x512_S512x512 (v266 M h)))) (by omega)) (t_sub (mm_512_512 (v561 M h) (v226 M h)) (t_bcast (e := 0) broadcasts_S1x512_S512x512 (v264 M h)))))) 1024 (by omega))

theorem v794 : Tile (n := 512) (k := 128) (AttnRun.run.sl.v794 (F := Ideal) M.c M.arg3 M.x1) 1024 0 (M.ins.K 0) :=
  (t_cast shapeCasts_S512x128_S512x128 (t_read16 _ _ _))

theorem v864 : Tile (n := 128) (k := 512) (AttnRun.run.sl.v864 (F := Ideal) M.c M.arg2 M.arg3 M.arg4 M.arg5 M.arg6 M.arg7 M.arg8 M.x0 M.x1 M.x2 M.x3 M.x4 M.x5 M.x6) 0 1536 (Ins.preS (M.ins.K 0) (M.ins.DS 0) 1536) :=
  (t_keys (M := M.ins.DS 0) (g := M.ins.K 0) (a := 1024) (v659 M h) (mk_512_512 (f := (M.ins.K 0)) (g := (M.ins.DS 0)) (v794 M h) (t_trunc bitsLt_bf16_f32 (t_mul (t_P h.1 (t_exp2 (t_sub (t_add (v829 M h) (c_512_512 (t_tab (A := 2) (B := 3) _ _ _ (by omega) (by omega) (by omega)) _)) (t_bcast (e := 0) broadcasts_S1x512_S512x512 (v266 M h)))) (by omega)) (t_sub (mm_512_512 (v791 M h) (v226 M h)) (t_bcast (e := 0) broadcasts_S1x512_S512x512 (v264 M h)))))) 1536 (by omega))

theorem v975 : Tile (n := 256) (k := 128) (AttnRun.run.sl.v975 (F := Ideal) M.c M.arg3 M.x1) 1536 0 (M.ins.K 0) :=
  (t_slice (a := 1536) (b := 0) slices_S512x128_o0_0_S256x128 (t_cast shapeCasts_S512x128_S512x128 (t_read16 _ _ _)))

theorem v990 : Tile (n := 256) (k := 128) (AttnRun.run.sl.v990 (F := Ideal) M.c M.arg3 M.x1) 1792 0 (M.ins.K 0) :=
  (t_slice (a := 1536) (b := 0) slices_S512x128_o256_0_S256x128 (t_cast shapeCasts_S512x128_S512x128 (t_read16 _ _ _)))

theorem v1019 : Tile (n := 128) (k := 512) (AttnRun.run.sl.v1019 (F := Ideal) M.c M.arg2 M.arg3 M.arg4 M.arg5 M.arg6 M.arg7 M.arg8 M.x0 M.x1 M.x2 M.x3 M.x4 M.x5 M.x6) 0 1536 (Ins.preS (M.ins.K 0) (M.ins.DS 0) 2048) :=
  (t_keys (M := M.ins.DS 0) (g := M.ins.K 0) (a := 1536) (v864 M h) (t_cols concatenates_S128x256_S128x256_S128x512_d1 (t_early (M := M.ins.DS 0) (g := M.ins.K 0) (a := 1536) (fun _ _ => Ins.DS_zero) (t_slice (a := 0) (b := 1536) slices_S128x512_o0_0_S128x256 (mk_256_512 (f := (M.ins.K 0)) (g := (M.ins.DS 0)) (v975 M h) (v988 M h))) (by omega)) (t_late (M := M.ins.DS 0) (g := M.ins.K 0) (a := 1536) (a' := 1792) (t_slice (a := 0) (b := 1536) slices_S128x512_o0_256_S128x256 (mk_256_512 (f := (M.ins.K 0)) (g := (M.ins.DS 0)) (v975 M h) (v988 M h))) (mk_256_256 (f := (M.ins.K 0)) (g := (M.ins.DS 0)) (v990 M h) (t_trunc bitsLt_bf16_f32 (t_mul (v1001 M h) (t_sub (mm_256_256 (v991 M h) (v993 M h)) (t_bcast (e := 0) broadcasts_S1x256_S256x256 (t_slice (a := 0) (b := 1536) slices_S1x512_o0_256_S1x256 (v264 M h))))))) (by omega))) 2048 (by omega))

theorem v488 : Tile (n := 512) (k := 512) (AttnRun.run.sl.v488 (F := Ideal) M.c M.arg2 M.arg3 M.arg4 M.arg5 M.arg6 M.arg7 M.arg8 M.x0 M.x1 M.x2 M.x3 M.x4 M.x5 M.x6) 0 1536 (M.ins.DS 1) :=
  (t_trunc bitsLt_bf16_f32 (t_mul (v483 M h) (t_sub (mm_512_512 (v281 M h) (v228 M h)) (t_bcast (e := 1) broadcasts_S1x512_S512x512 (v265 M h)))))

theorem v538 : Tile (n := 128) (k := 512) (AttnRun.run.sl.v538 (F := Ideal) M.c M.arg2 M.arg3 M.arg4 M.arg5 M.arg6 M.arg7 M.arg8 M.x0 M.x1 M.x2 M.x3 M.x4 M.x5 M.x6) 0 1536 (Ins.preS (M.ins.K 1) (M.ins.DS 1) 512) :=
  (t_keys (M := M.ins.DS 1) (g := M.ins.K 1) (a := 0) t_zero (mk_512_512 (f := (M.ins.K 1)) (g := (M.ins.DS 1)) (v416 M h) (v488 M h)) 512 (by omega))

theorem v768 : Tile (n := 128) (k := 512) (AttnRun.run.sl.v768 (F := Ideal) M.c M.arg2 M.arg3 M.arg4 M.arg5 M.arg6 M.arg7 M.arg8 M.x0 M.x1 M.x2 M.x3 M.x4 M.x5 M.x6) 0 1536 (Ins.preS (M.ins.K 1) (M.ins.DS 1) 1024) :=
  (t_keys (M := M.ins.DS 1) (g := M.ins.K 1) (a := 512) (v538 M h) (mk_512_512 (f := (M.ins.K 1)) (g := (M.ins.DS 1)) (v671 M h) (v730 M h)) 1024 (by omega))

theorem v876 : Tile (n := 512) (k := 128) (AttnRun.run.sl.v876 (F := Ideal) M.c M.arg3 M.x1) 1024 0 (M.ins.K 1) :=
  (t_cast shapeCasts_S512x128_S512x128 (t_read16 _ _ _))

theorem v948 : Tile (n := 128) (k := 512) (AttnRun.run.sl.v948 (F := Ideal) M.c M.arg2 M.arg3 M.arg4 M.arg5 M.arg6 M.arg7 M.arg8 M.x0 M.x1 M.x2 M.x3 M.x4 M.x5 M.x6) 0 1536 (Ins.preS (M.ins.K 1) (M.ins.DS 1) 1536) :=
  (t_keys (M := M.ins.DS 1) (g := M.ins.K 1) (a := 1024) (v768 M h) (mk_512_512 (f := (M.ins.K 1)) (g := (M.ins.DS 1)) (v876 M h) (t_trunc bitsLt_bf16_f32 (t_mul (t_P h.1 (t_exp2 (t_sub (v914 M h) (v915 M h))) (by omega)) (t_sub (mm_512_512 (v791 M h) (v228 M h)) (t_bcast (e := 1) broadcasts_S1x512_S512x512 (v265 M h)))))) 1536 (by omega))

theorem v1032 : Tile (n := 256) (k := 128) (AttnRun.run.sl.v1032 (F := Ideal) M.c M.arg3 M.x1) 1536 0 (M.ins.K 1) :=
  (t_slice (a := 1536) (b := 0) slices_S512x128_o0_0_S256x128 (t_cast shapeCasts_S512x128_S512x128 (t_read16 _ _ _)))

theorem v1078 : Tile (n := 128) (k := 512) (AttnRun.run.sl.v1078 (F := Ideal) M.c M.arg2 M.arg3 M.arg4 M.arg5 M.arg6 M.arg7 M.arg8 M.x0 M.x1 M.x2 M.x3 M.x4 M.x5 M.x6) 0 1536 (Ins.preS (M.ins.K 1) (M.ins.DS 1) 2048) :=
  (t_keys (M := M.ins.DS 1) (g := M.ins.K 1) (a := 1536) (v948 M h) (t_cols concatenates_S128x256_S128x256_S128x512_d1 (t_early (M := M.ins.DS 1) (g := M.ins.K 1) (a := 1536) (fun _ _ => Ins.DS_zero) (t_slice (a := 0) (b := 1536) slices_S128x512_o0_0_S128x256 (mk_256_512 (f := (M.ins.K 1)) (g := (M.ins.DS 1)) (v1032 M h) (t_trunc bitsLt_bf16_f32 (t_mul (v1040 M h) (v1043 M h))))) (by omega)) (t_late (M := M.ins.DS 1) (g := M.ins.K 1) (a := 1536) (a' := 1792) (t_slice (a := 0) (b := 1536) slices_S128x512_o0_256_S128x256 (mk_256_512 (f := (M.ins.K 1)) (g := (M.ins.DS 1)) (v1032 M h) (t_trunc bitsLt_bf16_f32 (t_mul (v1040 M h) (v1043 M h))))) (mk_256_256 (f := (M.ins.K 1)) (g := (M.ins.DS 1)) (t_slice (a := 1536) (b := 0) slices_S512x128_o256_0_S256x128 (v1031 M h)) (t_trunc bitsLt_bf16_f32 (t_mul (t_P h.1 (t_exp2 (t_sub (t_add (mm_256_256 (t_slice (a := 1536) (b := 0) slices_S512x128_o256_0_S256x128 (v1031 M h)) (t_slice (a := 1536) (b := 0) slices_S512x128_o256_0_S256x128 (v221 M h))) (c_256_256 (t_tab (A := 3) (B := 3) _ _ _ (by omega) (by omega) (by omega)) _)) (t_bcast (e := 1) broadcasts_S1x256_S256x256 (t_slice (a := 1) (b := 1536) slices_S1x512_o0_256_S1x256 (v267 M h))))) (by omega)) (t_sub (mm_256_256 (t_slice (a := 1536) (b := 0) slices_S512x128_o256_0_S256x128 (v971 M h)) (t_slice (a := 1536) (b := 0) slices_S512x128_o256_0_S256x128 (v228 M h))) (t_bcast (e := 1) broadcasts_S1x256_S256x256 (t_slice (a := 1) (b := 1536) slices_S1x512_o0_256_S1x256 (v265 M h))))))) (by omega))) 2048 (by omega))

theorem v1147 : Tile3 (n := 2048) (k := 128) (φ := .f32) (AttnRun.run.sl.v1147 (F := Ideal) M.c M.arg2 M.arg3 M.arg4 M.arg5 M.arg6 M.arg7 M.arg8 M.arg14 M.x0 M.x1 M.x2 M.x3 M.x4 M.x5 M.x6) 0 0 (Ins.preT (M.ins.DS 0) (M.ins.Q 0) 2048) :=
  read3 (e := 0) _ _ (has3_all (has3_miss _ _ (Or.inl rfl) (has3_miss _ _ (Or.inr (by omega)) (has3_miss _ _ (Or.inl rfl) (has3_miss _ _ (Or.inr (by omega)) (has3_miss _ _ (Or.inl rfl) (has3_miss _ _ (Or.inr (by omega)) (has3_miss _ _ (Or.inl rfl) (H12_2 M h)))))))) (has3_miss _ _ (Or.inl rfl) (has3_miss _ _ (Or.inr (by omega)) (has3_miss _ _ (Or.inl rfl) (has3_miss _ _ (Or.inr (by omega)) (has3_miss _ _ (Or.inl rfl) (H12_4 M h)))))) (has3_miss _ _ (Or.inl rfl) (has3_miss _ _ (Or.inr (by omega)) (has3_miss _ _ (Or.inl rfl) (H12_6 M h)))) (has3_miss _ _ (Or.inl rfl) (H12_8 M h)))

theorem v1149 : Tile3 (n := 2048) (k := 128) (φ := .f32) (AttnRun.run.sl.v1149 (F := Ideal) M.c M.arg2 M.arg3 M.arg4 M.arg5 M.arg6 M.arg7 M.arg8 M.arg14 M.x0 M.x1 M.x2 M.x3 M.x4 M.x5 M.x6) 0 0 (Ins.preT (M.ins.DS 1) (M.ins.Q 1) 2048) :=
  read3 (e := 1) _ _ (has3_all (has3_miss _ _ (Or.inr (by omega)) (has3_miss _ _ (Or.inl rfl) (has3_miss _ _ (Or.inr (by omega)) (has3_miss _ _ (Or.inl rfl) (has3_miss _ _ (Or.inr (by omega)) (has3_miss _ _ (Or.inl rfl) (H12_3 M h))))))) (has3_miss _ _ (Or.inr (by omega)) (has3_miss _ _ (Or.inl rfl) (has3_miss _ _ (Or.inr (by omega)) (has3_miss _ _ (Or.inl rfl) (H12_5 M h))))) (has3_miss _ _ (Or.inr (by omega)) (has3_miss _ _ (Or.inl rfl) (H12_7 M h))) (H12_9 M h))

theorem v1160 : Tile (n := 2048) (k := 128) (φ := .f32) (AttnRun.run.sl.v1160 (F := Ideal) M.c M.arg2 M.arg3 M.arg5 M.arg7 M.arg8 M.arg15 M.x0 M.x1 M.x3 M.x5 M.x6) 0 0 (fun s l => Ins.preT (M.ins.P 0) (M.ins.doe 0) 2048 s l + Ins.preT (M.ins.P 1) (M.ins.doe 1) 2048 s l) :=
  read2 _ _ (has2_all (has2_miss _ _ (by omega) (has2_miss _ _ (by omega) (has2_miss _ _ (by omega) (H13_2 M h)))) (has2_miss _ _ (by omega) (has2_miss _ _ (by omega) (H13_3 M h))) (has2_miss _ _ (by omega) (H13_4 M h)) (H13_5 M h))

end AttnTile.Block
-- ==== Proof.AttnOut.lean ====
/-
  The five blocks one grid step leaves, as sums over positions: the gradients of its two heads in the two halves of
  the lanes, and the gate lanes of the two heads with the halves exchanged.
-/
module

public import proofs.«01_k».proof.Proof.AttnBlock

@[expose] public section

set_option maxRecDepth 65536
set_option maxHeartbeats 1000000

noncomputable section

namespace AttnTile.Block

open Cert.Kernel2Ideal Cert.Kernel2Ideal.Gen
open Idealize.ShloMosaic Idealize.ShloMosaic.TcCoe
open AttnTile

/-! ## Blocks read back from their stores -/

theorem rows_hit {η : EltTy} {w : Vec Ideal S512x128 η} {a : ℕ} (inb) (L : List (View.Piece (Elt Ideal) S2048x128 η)) (i : Fin 2048) (j : Fin 128)
    (h1 : a ≤ i) (h2 : i < a + 512) :
    View.canon (⟨Rect.unit (s := S2048x128) ![a, 0] S512x128.size inb, w⟩ :: L) (ix2 i j) = w (ix2 ⟨i - a, by omega⟩ j) := by
  have e1 : ix2 i j = (Rect.unit (s := S2048x128) ![a, 0] S512x128.size inb).emb (ix2 (⟨i - a, by omega⟩ : Fin 512) j) := by
    funext q; apply Fin.ext; rw [Rect.emb_apply]
    match q with
    | ⟨0, _⟩ => show i.val = a + 1 * (i.val - a); omega
    | ⟨1, _⟩ => show j.val = 0 + 1 * j.val; omega
  rw [e1, View.canon_cons_emb]

theorem rows_miss {η : EltTy} {w : Vec Ideal S512x128 η} {a : ℕ} (inb) (L : List (View.Piece (Elt Ideal) S2048x128 η)) (i : Fin 2048) (j : Fin 128)
    (h : i.val < a ∨ a + 512 ≤ i) :
    View.canon (⟨Rect.unit (s := S2048x128) ![a, 0] S512x128.size inb, w⟩ :: L) (ix2 i j) = View.canon L (ix2 i j) := by
  rw [View.canon_cons_of_not_mem]
  rw [Rect.mem_set_unit]
  intro hm
  have m1 : a ≤ i.val ∧ i.val < a + 512 := hm 0
  omega

/-- Four blocks of rows cover the block. -/
theorem rows4 {η : EltTy} {w0 w1 w2 w3 : Vec Ideal S512x128 η} {f : ℕ → ℕ → Elt Ideal η} (i0 i1 i2 i3)
    (h0 : ∀ (i : Fin 512) (j : Fin 128), w0 (ix2 i j) = f (0 + i) (0 + j)) (h1 : ∀ (i : Fin 512) (j : Fin 128), w1 (ix2 i j) = f (512 + i) (0 + j))
    (h2 : ∀ (i : Fin 512) (j : Fin 128), w2 (ix2 i j) = f (1024 + i) (0 + j)) (h3 : ∀ (i : Fin 512) (j : Fin 128), w3 (ix2 i j) = f (1536 + i) (0 + j))
    (i : Fin 2048) (j : Fin 128) :
    View.canon [(⟨Rect.unit (s := S2048x128) ![1536, 0] S512x128.size i3, w3⟩ : View.Piece (Elt Ideal) S2048x128 η), ⟨Rect.unit (s := S2048x128) ![1024, 0] S512x128.size i2, w2⟩,
      ⟨Rect.unit (s := S2048x128) ![512, 0] S512x128.size i1, w1⟩, ⟨Rect.unit (s := S2048x128) ![0, 0] S512x128.size i0, w0⟩] (ix2 i j) = f i j := by
  have hi := i.2
  by_cases c3 : 1536 ≤ i.val
  · rw [rows_hit _ _ _ _ c3 (by omega), h3]; exact congrArg₂ f (by show 1536 + (i.val - 1536) = i; omega) (Nat.zero_add _)
  rw [rows_miss _ _ _ _ (by omega)]
  by_cases c2 : 1024 ≤ i.val
  · rw [rows_hit _ _ _ _ c2 (by omega), h2]; exact congrArg₂ f (by show 1024 + (i.val - 1024) = i; omega) (Nat.zero_add _)
  rw [rows_miss _ _ _ _ (by omega)]
  by_cases c1 : 512 ≤ i.val
  · rw [rows_hit _ _ _ _ c1 (by omega), h1]; exact congrArg₂ f (by show 512 + (i.val - 512) = i; omega) (Nat.zero_add _)
  rw [rows_miss _ _ _ _ (by omega), rows_hit _ _ _ _ (by omega) (by omega), h0]; exact congrArg₂ f (by show 0 + (i.val - 0) = i; omega) (Nat.zero_add _)

/-- One store covers the block. -/
theorem whole {η : EltTy} {w : Vec Ideal S2048x128 η} (inb) (i : Fin 2048) (j : Fin 128) :
    View.canon [(⟨Rect.unit (s := S2048x128) ![0, 0] S2048x128.size inb, w⟩ : View.Piece (Elt Ideal) S2048x128 η)] (ix2 i j) = w (ix2 i j) := by
  have e1 : ix2 i j = (Rect.unit (s := S2048x128) ![0, 0] S2048x128.size inb).emb (ix2 i j) := by
    funext q; apply Fin.ext; rw [Rect.emb_apply]
    match q with
    | ⟨0, _⟩ => show i.val = 0 + 1 * i.val; omega
    | ⟨1, _⟩ => show j.val = 0 + 1 * j.val; omega
  conv_lhs => rw [e1]
  rw [View.canon_cons_emb]

/-- A block of the first head in the low lanes and of the second in the high ones. -/
def halves (f g : ℕ → ℕ → EReal) (i l : ℕ) : EReal := if l < 64 then f i l else g i l

theorem t_store {x y : FVec Ideal S128x512 .f32} {b : ℕ} {f g : ℕ → ℕ → EReal} (hx : Tile x 0 b f) (hy : Tile y 0 b g) :
    Tile (transpose S512x128 [1, 0] (select k0_pay136 x y) transposes_S128x512_p1_0_S512x128) b 0 (halves (fun t l => f l t) (fun t l => g l t)) :=
  t_transpose _ (t_top hx hy)

variable (M : Mem) (h : M.Good)

/-- The gradient by the queries, -/
def dq : FVec Ideal S2048x128 .bf16 := View.canon (Val := Elt Ideal) (e := .bf16)
  [⟨Rect.unit (s := S2048x128) ![1536, 0] S512x128.size k0_part15_skel._proof_6, k0_pay421 k0_pay136 (AttnRun.run.sl.v1019 (F := Ideal) M.c M.arg2 M.arg3 M.arg4 M.arg5 M.arg6 M.arg7 M.arg8 M.x0 M.x1 M.x2 M.x3 M.x4 M.x5 M.x6) (AttnRun.run.sl.v1078 (F := Ideal) M.c M.arg2 M.arg3 M.arg4 M.arg5 M.arg6 M.arg7 M.arg8 M.x0 M.x1 M.x2 M.x3 M.x4 M.x5 M.x6)⟩,
    ⟨Rect.unit (s := S2048x128) ![1024, 0] S512x128.size k0_part14_skel._proof_6, k0_pay419 k0_pay136 (AttnRun.run.sl.v852 (F := Ideal) M.c M.arg2 M.arg3 M.arg4 M.arg5 M.arg6 M.arg7 M.arg8 M.x0 M.x1 M.x2 M.x3 M.x4 M.x5 M.x6) (AttnRun.run.sl.v936 (F := Ideal) M.c M.arg2 M.arg3 M.arg4 M.arg5 M.arg6 M.arg7 M.arg8 M.x0 M.x1 M.x2 M.x3 M.x4 M.x5 M.x6)⟩,
    ⟨Rect.unit (s := S2048x128) ![512, 0] S512x128.size k0_part13_skel._proof_5, k0_pay417 k0_pay136 (AttnRun.run.sl.v635 (F := Ideal) M.c M.arg2 M.arg3 M.arg4 M.arg5 M.arg6 M.arg7 M.arg8 M.x0 M.x1 M.x2 M.x3 M.x4 M.x5 M.x6) (AttnRun.run.sl.v744 (F := Ideal) M.c M.arg2 M.arg3 M.arg4 M.arg5 M.arg6 M.arg7 M.arg8 M.x0 M.x1 M.x2 M.x3 M.x4 M.x5 M.x6)⟩,
    ⟨Rect.unit (s := S2048x128) ![0, 0] S512x128.size k0_part12_skel._proof_6, k0_pay415 k0_pay136 (AttnRun.run.sl.v368 (F := Ideal) M.c M.arg2 M.arg3 M.arg4 M.arg5 M.arg6 M.arg7 M.arg8 M.x0 M.x1 M.x2 M.x3 M.x4 M.x5 M.x6) (AttnRun.run.sl.v502 (F := Ideal) M.c M.arg2 M.arg3 M.arg4 M.arg5 M.arg6 M.arg7 M.arg8 M.x0 M.x1 M.x2 M.x3 M.x4 M.x5 M.x6)⟩]

/-- by the keys, -/
def dk : FVec Ideal S2048x128 .bf16 := View.canon (Val := Elt Ideal) (e := .bf16)
  [⟨Rect.unit (s := S2048x128) ![0, 0] S2048x128.size inb_S2048x128_S2048x128_0_0, k0_pay424 (AttnRun.run.sl.v1147 (F := Ideal) M.c M.arg2 M.arg3 M.arg4 M.arg5 M.arg6 M.arg7 M.arg8 M.arg14 M.x0 M.x1 M.x2 M.x3 M.x4 M.x5 M.x6) (AttnRun.run.sl.v1149 (F := Ideal) M.c M.arg2 M.arg3 M.arg4 M.arg5 M.arg6 M.arg7 M.arg8 M.arg14 M.x0 M.x1 M.x2 M.x3 M.x4 M.x5 M.x6)⟩]

/-- by the values, -/
def dv : FVec Ideal S2048x128 .bf16 := View.canon (Val := Elt Ideal) (e := .bf16)
  [⟨Rect.unit (s := S2048x128) ![0, 0] S2048x128.size inb_S2048x128_S2048x128_0_0, k0_pay1 (AttnRun.run.sl.v1160 (F := Ideal) M.c M.arg2 M.arg3 M.arg5 M.arg7 M.arg8 M.arg15 M.x0 M.x1 M.x3 M.x5 M.x6)⟩]

/-- the queries' gate lanes, -/
def dqx : FVec Ideal S2048x128 .f32 := View.canon (Val := Elt Ideal) (e := .f32)
  [⟨Rect.unit (s := S2048x128) ![1536, 0] S512x128.size k0_part15_skel._proof_6, k0_pay422 k0_pay136 (AttnRun.run.sl.v1019 (F := Ideal) M.c M.arg2 M.arg3 M.arg4 M.arg5 M.arg6 M.arg7 M.arg8 M.x0 M.x1 M.x2 M.x3 M.x4 M.x5 M.x6) (AttnRun.run.sl.v1078 (F := Ideal) M.c M.arg2 M.arg3 M.arg4 M.arg5 M.arg6 M.arg7 M.arg8 M.x0 M.x1 M.x2 M.x3 M.x4 M.x5 M.x6)⟩,
    ⟨Rect.unit (s := S2048x128) ![1024, 0] S512x128.size k0_part14_skel._proof_6, k0_pay420 k0_pay136 (AttnRun.run.sl.v852 (F := Ideal) M.c M.arg2 M.arg3 M.arg4 M.arg5 M.arg6 M.arg7 M.arg8 M.x0 M.x1 M.x2 M.x3 M.x4 M.x5 M.x6) (AttnRun.run.sl.v936 (F := Ideal) M.c M.arg2 M.arg3 M.arg4 M.arg5 M.arg6 M.arg7 M.arg8 M.x0 M.x1 M.x2 M.x3 M.x4 M.x5 M.x6)⟩,
    ⟨Rect.unit (s := S2048x128) ![512, 0] S512x128.size k0_part13_skel._proof_5, k0_pay418 k0_pay136 (AttnRun.run.sl.v635 (F := Ideal) M.c M.arg2 M.arg3 M.arg4 M.arg5 M.arg6 M.arg7 M.arg8 M.x0 M.x1 M.x2 M.x3 M.x4 M.x5 M.x6) (AttnRun.run.sl.v744 (F := Ideal) M.c M.arg2 M.arg3 M.arg4 M.arg5 M.arg6 M.arg7 M.arg8 M.x0 M.x1 M.x2 M.x3 M.x4 M.x5 M.x6)⟩,
    ⟨Rect.unit (s := S2048x128) ![0, 0] S512x128.size k0_part12_skel._proof_6, k0_pay416 k0_pay136 (AttnRun.run.sl.v368 (F := Ideal) M.c M.arg2 M.arg3 M.arg4 M.arg5 M.arg6 M.arg7 M.arg8 M.x0 M.x1 M.x2 M.x3 M.x4 M.x5 M.x6) (AttnRun.run.sl.v502 (F := Ideal) M.c M.arg2 M.arg3 M.arg4 M.arg5 M.arg6 M.arg7 M.arg8 M.x0 M.x1 M.x2 M.x3 M.x4 M.x5 M.x6)⟩]

/-- and the keys'. -/
def dkx : FVec Ideal S2048x128 .f32 := View.canon (Val := Elt Ideal) (e := .f32)
  [⟨Rect.unit (s := S2048x128) ![0, 0] S2048x128.size inb_S2048x128_S2048x128_0_0, k0_pay425 (AttnRun.run.sl.v1149 (F := Ideal) M.c M.arg2 M.arg3 M.arg4 M.arg5 M.arg6 M.arg7 M.arg8 M.arg14 M.x0 M.x1 M.x2 M.x3 M.x4 M.x5 M.x6) (AttnRun.run.sl.v1147 (F := Ideal) M.c M.arg2 M.arg3 M.arg4 M.arg5 M.arg6 M.arg7 M.arg8 M.arg14 M.x0 M.x1 M.x2 M.x3 M.x4 M.x5 M.x6)⟩]

include h

theorem dq_at (t : Fin 2048) (l : Fin 128) : dq M (ix2 t l) = halves (fun t l => Ins.preS (M.ins.K 0) (M.ins.DS 0) 2048 l t) (fun t l => Ins.preS (M.ins.K 1) (M.ins.DS 1) 2048 l t) t l :=
  rows4 (η := .bf16) _ _ _ _ (t_store (t_allKeys (N := 2048) (fun _ _ => Ins.DS_zero) (v368 M h) (by omega) (by omega)) (t_allKeys (N := 2048) (fun _ _ => Ins.DS_zero) (v502 M h) (by omega) (by omega))) (t_store (t_allKeys (N := 2048) (fun _ _ => Ins.DS_zero) (v635 M h) (by omega) (by omega)) (t_allKeys (N := 2048) (fun _ _ => Ins.DS_zero) (v744 M h) (by omega) (by omega))) (t_store (t_allKeys (N := 2048) (fun _ _ => Ins.DS_zero) (v852 M h) (by omega) (by omega)) (t_allKeys (N := 2048) (fun _ _ => Ins.DS_zero) (v936 M h) (by omega) (by omega))) (t_store (t_allKeys (N := 2048) (fun _ _ => Ins.DS_zero) (v1019 M h) (by omega) (by omega)) (t_allKeys (N := 2048) (fun _ _ => Ins.DS_zero) (v1078 M h) (by omega) (by omega))) t l

theorem dqx_at (t : Fin 2048) (l : Fin 128) : dqx M (ix2 t l) = halves (fun t l => Ins.preS (M.ins.K 1) (M.ins.DS 1) 2048 l t) (fun t l => Ins.preS (M.ins.K 0) (M.ins.DS 0) 2048 l t) t l :=
  rows4 (η := .f32) _ _ _ _ (t_store (t_allKeys (N := 2048) (fun _ _ => Ins.DS_zero) (v502 M h) (by omega) (by omega)) (t_allKeys (N := 2048) (fun _ _ => Ins.DS_zero) (v368 M h) (by omega) (by omega))) (t_store (t_allKeys (N := 2048) (fun _ _ => Ins.DS_zero) (v744 M h) (by omega) (by omega)) (t_allKeys (N := 2048) (fun _ _ => Ins.DS_zero) (v635 M h) (by omega) (by omega))) (t_store (t_allKeys (N := 2048) (fun _ _ => Ins.DS_zero) (v936 M h) (by omega) (by omega)) (t_allKeys (N := 2048) (fun _ _ => Ins.DS_zero) (v852 M h) (by omega) (by omega))) (t_store (t_allKeys (N := 2048) (fun _ _ => Ins.DS_zero) (v1078 M h) (by omega) (by omega)) (t_allKeys (N := 2048) (fun _ _ => Ins.DS_zero) (v1019 M h) (by omega) (by omega))) t l

theorem dk_at (t : Fin 2048) (l : Fin 128) : dk M (ix2 t l) = halves (Ins.preT (M.ins.DS 0) (M.ins.Q 0) 2048) (Ins.preT (M.ins.DS 1) (M.ins.Q 1) 2048) t l := by
  refine (whole (η := .bf16) _ t l).trans ?_
  have := t_all (c_1_2048 (v1147 M h) shapeCasts_S1x2048x128_S2048x128) (c_1_2048 (v1149 M h) shapeCasts_S1x2048x128_S2048x128) t l
  simp only [Nat.zero_add] at this
  exact this

theorem dkx_at (t : Fin 2048) (l : Fin 128) : dkx M (ix2 t l) = halves (Ins.preT (M.ins.DS 1) (M.ins.Q 1) 2048) (Ins.preT (M.ins.DS 0) (M.ins.Q 0) 2048) t l := by
  refine (whole (η := .f32) _ t l).trans ?_
  have := t_all (c_1_2048 (v1149 M h) shapeCasts_S1x2048x128_S2048x128) (c_1_2048 (v1147 M h) shapeCasts_S1x2048x128_S2048x128) t l
  simp only [Nat.zero_add] at this
  exact this

theorem dv_at (t : Fin 2048) (l : Fin 128) :
    dv M (ix2 t l) = Ins.preT (M.ins.P 0) (M.ins.doe 0) 2048 t l + Ins.preT (M.ins.P 1) (M.ins.doe 1) 2048 t l := by
  refine (whole (η := .bf16) _ t l).trans ?_
  have := v1160 M h t l
  simp only [Nat.zero_add] at this
  exact this

end AttnTile.Block

end
-- ==== Proof.AttnOutRun.lean ====
/-
  What the body's run leaves at a grid point, as the five blocks of the point's inputs.
-/
module

public import proofs.«01_k».proof.Proof.AttnOut
public import Idealize.ShloMosaic.Lib.Pointwise

@[expose] public section

set_option maxRecDepth 65536

noncomputable section

namespace AttnTile.Block

open Cert.Kernel2Ideal Cert.Kernel2Ideal.Gen
open Idealize.ShloMosaic Idealize.ShloMosaic.TcCoe

/-! ## What the run leaves -/

section

set_option maxHeartbeats 2000000

theorem run_dq (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec Ideal S2048x256 .bf16) (x1 : Vec Ideal S2048x256 .bf16) (x2 : Vec Ideal S2048x128 .bf16) (x3 : Vec Ideal S1x4x512x512 .f32) (x4 : Vec Ideal S2048x128 .bf16) (x5 : Vec Ideal S2048x128 .f32) (x6 : Vec Ideal S2048x128 .bf16) :
    (AttnRun.run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.1 = dq
      ⟨c, arg2, arg3, arg4, arg5, arg6, arg7, arg8, arg14, arg15, x0, x1, x2, x3, x4, x5, x6⟩ := by
  unfold AttnRun.run AttnRun.pack; unfold dq; rfl

theorem run_dk (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec Ideal S2048x256 .bf16) (x1 : Vec Ideal S2048x256 .bf16) (x2 : Vec Ideal S2048x128 .bf16) (x3 : Vec Ideal S1x4x512x512 .f32) (x4 : Vec Ideal S2048x128 .bf16) (x5 : Vec Ideal S2048x128 .f32) (x6 : Vec Ideal S2048x128 .bf16) :
    (AttnRun.run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.1 = dk
      ⟨c, arg2, arg3, arg4, arg5, arg6, arg7, arg8, arg14, arg15, x0, x1, x2, x3, x4, x5, x6⟩ := by
  unfold AttnRun.run AttnRun.pack; unfold dk; rfl

theorem run_dv (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec Ideal S2048x256 .bf16) (x1 : Vec Ideal S2048x256 .bf16) (x2 : Vec Ideal S2048x128 .bf16) (x3 : Vec Ideal S1x4x512x512 .f32) (x4 : Vec Ideal S2048x128 .bf16) (x5 : Vec Ideal S2048x128 .f32) (x6 : Vec Ideal S2048x128 .bf16) :
    (AttnRun.run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.1 = dv
      ⟨c, arg2, arg3, arg4, arg5, arg6, arg7, arg8, arg14, arg15, x0, x1, x2, x3, x4, x5, x6⟩ := by
  unfold AttnRun.run AttnRun.pack; unfold dv; rfl

theorem run_dqx (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec Ideal S2048x256 .bf16) (x1 : Vec Ideal S2048x256 .bf16) (x2 : Vec Ideal S2048x128 .bf16) (x3 : Vec Ideal S1x4x512x512 .f32) (x4 : Vec Ideal S2048x128 .bf16) (x5 : Vec Ideal S2048x128 .f32) (x6 : Vec Ideal S2048x128 .bf16) :
    (AttnRun.run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.2.1 = dqx
      ⟨c, arg2, arg3, arg4, arg5, arg6, arg7, arg8, arg14, arg15, x0, x1, x2, x3, x4, x5, x6⟩ := by
  unfold AttnRun.run AttnRun.pack; unfold dqx; rfl

theorem run_dkx (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S1x4x512x512 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2x2048x128 .f32) (harg14 : arg14.IsWhole) (arg15 : Memref sig .tc .vmem S2048x128 .f32) (harg15 : arg15.IsWhole)
    (x0 : Vec Ideal S2048x256 .bf16) (x1 : Vec Ideal S2048x256 .bf16) (x2 : Vec Ideal S2048x128 .bf16) (x3 : Vec Ideal S1x4x512x512 .f32) (x4 : Vec Ideal S2048x128 .bf16) (x5 : Vec Ideal S2048x128 .f32) (x6 : Vec Ideal S2048x128 .bf16) :
    (AttnRun.run (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.2.2 = dkx
      ⟨c, arg2, arg3, arg4, arg5, arg6, arg7, arg8, arg14, arg15, x0, x1, x2, x3, x4, x5, x6⟩ := by
  unfold AttnRun.run AttnRun.pack; unfold dkx; rfl

end

variable (m : (ℓ : Loc nD τ sig) → Buf (Elt Ideal) ℓ) (c : Dev nD)

/-- The buffers and the blocks of a grid point. -/
def mem (t : Fin cfg0.N) : Mem where
  c := c
  arg2 := win0_0.stage (cfg0.slots t 0)
  arg3 := win0_1.stage (cfg0.slots t 1)
  arg4 := win0_2.stage (cfg0.slots t 2)
  arg5 := win0_3.stage (cfg0.slots t 3)
  arg6 := win0_4.stage (cfg0.slots t 4)
  arg7 := win0_5.stage (cfg0.slots t 5)
  arg8 := win0_6.stage (cfg0.slots t 6)
  arg14 := Memref.whole cc0_scratch0
  arg15 := Memref.whole cc0_scratch1
  x0 := iblk m c 0 t
  x1 := iblk m c 1 t
  x2 := iblk m c 2 t
  x3 := iblk m c 3 t
  x4 := iblk m c 4 t
  x5 := iblk m c 5 t
  x6 := iblk m c 6 t

theorem out_dq (t : Fin cfg0.N) : (AttnRun.dats m 0 c).after 7 t = dq (mem m c t) := by
  rw [AttnRun.after0_7]; unfold AttnRun.runAt mem; exact run_dq ..
theorem out_dk (t : Fin cfg0.N) : (AttnRun.dats m 0 c).after 8 t = dk (mem m c t) := by
  rw [AttnRun.after0_8]; unfold AttnRun.runAt mem; exact run_dk ..
theorem out_dv (t : Fin cfg0.N) : (AttnRun.dats m 0 c).after 9 t = dv (mem m c t) := by
  rw [AttnRun.after0_9]; unfold AttnRun.runAt mem; exact run_dv ..
theorem out_dqx (t : Fin cfg0.N) : (AttnRun.dats m 0 c).after 10 t = dqx (mem m c t) := by
  rw [AttnRun.after0_10]; unfold AttnRun.runAt mem; exact run_dqx ..
theorem out_dkx (t : Fin cfg0.N) : (AttnRun.dats m 0 c).after 11 t = dkx (mem m c t) := by
  rw [AttnRun.after0_11]; unfold AttnRun.runAt mem; exact run_dkx ..

end AttnTile.Block

end
-- ==== Proof.AttnGrid.lean ====
/-
  The arrays the attention's grid leaves: each block is one grid step's, of its batch row and its pair of heads.
-/
module

public import proofs.«01_k».proof.Proof.AttnOutRun
public import Idealize.ShloMosaic.Lib.Pointwise
public import Idealize.ShloMosaic.Lib.Pipeline.Value
public import Idealize.ShloMosaic.Lib.Pipeline.ValueKit

@[expose] public section

set_option maxRecDepth 65536

noncomputable section

namespace AttnTile.Block

open Cert.Kernel2Ideal Cert.Kernel2Ideal.Gen
open Idealize.ShloMosaic Idealize.ShloMosaic.TcCoe

variable (m : (ℓ : Loc nD τ sig) → Buf (Elt Ideal) ℓ) (c : Dev nD)

/-- The grid point of a batch row and a pair of heads. -/
def pt (b : Fin 4) (j : Fin 8) : Fin cfg0.N := ⟨8 * b + j, by show _ < 32; omega⟩

/-- An array put together from one block for each grid point. -/
def tiled {β : Type} (f : Fin cfg0.N → S2048x128.Idx → β) (i : S8192x1024.Idx) : β :=
  f (pt ⟨(i 0).val / 2048, by have := (i 0).2; simp at this; omega⟩ ⟨(i 1).val / 128, by have := (i 1).2; simp at this; omega⟩)
    (ix2 (⟨(i 0).val % 2048, by omega⟩ : Fin 2048) (⟨(i 1).val % 128, by omega⟩ : Fin 128))

theorem idx : ∀ t : Fin grid0.N, win0_0.index t = ![t.val / 8, t.val % 8] ∧ win0_1.index t = ![t.val / 8, 8 + t.val % 8]
    ∧ win0_2.index t = ![t.val / 8, 16 + t.val % 8] ∧ win0_3.index t = ![t.val % 8 / 4, 0, 0, 0]
    ∧ win0_4.index t = ![t.val / 8, t.val % 8] ∧ win0_5.index t = ![t.val / 8, t.val % 8] ∧ win0_6.index t = ![t.val / 8, t.val % 8]
    ∧ win0_7.index t = ![t.val / 8, t.val % 8] ∧ win0_8.index t = ![t.val / 8, t.val % 8] ∧ win0_9.index t = ![t.val / 8, t.val % 8]
    ∧ win0_10.index t = ![t.val / 8, t.val % 8] ∧ win0_11.index t = ![t.val / 8, t.val % 8] := by decide +kernel

theorem tiled_eq (f : Fin cfg0.N → S2048x128.Idx → EReal) (t : Fin cfg0.N) (y : S2048x128.Idx) (i : S8192x1024.Idx)
    (e0 : (i 0).val = t.val / 8 * 2048 + 1 * (y 0).val) (e1 : (i 1).val = t.val % 8 * 128 + 1 * (y 1).val) : f t y = tiled f i := by
  have h0 : (y 0).val < 2048 := (y 0).2
  have h1 : (y 1).val < 128 := (y 1).2
  unfold tiled
  congr 1
  · apply Fin.ext
    show t.val = 8 * ((i 0).val / 2048) + (i 1).val / 128
    omega
  · funext a; apply Fin.ext
    match a with
    | ⟨0, _⟩ => show (y 0).val = (i 0).val % 2048; omega
    | ⟨1, _⟩ => show (y 1).val = (i 1).val % 128; omega

theorem tiled_7 (f : Fin cfg0.N → S2048x128.Idx → EReal) (t : Fin cfg0.N) (y : S2048x128.Idx) :
    f t y = tiled f ((win0_7.blk t).view.emb y) := by
  have e := (idx t).2.2.2.2.2.2.2.1
  refine tiled_eq f t y _ ?_ ?_
  · show win0_7.index t 0 * 2048 + 1 * (y 0).val = _
    rw [e]; rfl
  · show win0_7.index t 1 * 128 + 1 * (y 1).val = _
    rw [e]; rfl

theorem final_dq : (AttnRun.dats m 0 c).arrAt 7 (cfgs 0).N = tiled fun t => dq (mem m c t) := by
  refine (AttnRun.dats m 0 c).arrAt_eq_of_covers 7 _ (by decide +kernel) fun t hf y => ?_
  blk_simp
  rw [out_dq]
  exact tiled_7 (fun t => dq (mem m c t)) t y

theorem tiled_8 (f : Fin cfg0.N → S2048x128.Idx → EReal) (t : Fin cfg0.N) (y : S2048x128.Idx) :
    f t y = tiled f ((win0_8.blk t).view.emb y) := by
  have e := (idx t).2.2.2.2.2.2.2.2.1
  refine tiled_eq f t y _ ?_ ?_
  · show win0_8.index t 0 * 2048 + 1 * (y 0).val = _
    rw [e]; rfl
  · show win0_8.index t 1 * 128 + 1 * (y 1).val = _
    rw [e]; rfl

theorem final_dk : (AttnRun.dats m 0 c).arrAt 8 (cfgs 0).N = tiled fun t => dk (mem m c t) := by
  refine (AttnRun.dats m 0 c).arrAt_eq_of_covers 8 _ (by decide +kernel) fun t hf y => ?_
  blk_simp
  rw [out_dk]
  exact tiled_8 (fun t => dk (mem m c t)) t y

theorem tiled_9 (f : Fin cfg0.N → S2048x128.Idx → EReal) (t : Fin cfg0.N) (y : S2048x128.Idx) :
    f t y = tiled f ((win0_9.blk t).view.emb y) := by
  have e := (idx t).2.2.2.2.2.2.2.2.2.1
  refine tiled_eq f t y _ ?_ ?_
  · show win0_9.index t 0 * 2048 + 1 * (y 0).val = _
    rw [e]; rfl
  · show win0_9.index t 1 * 128 + 1 * (y 1).val = _
    rw [e]; rfl

theorem final_dv : (AttnRun.dats m 0 c).arrAt 9 (cfgs 0).N = tiled fun t => dv (mem m c t) := by
  refine (AttnRun.dats m 0 c).arrAt_eq_of_covers 9 _ (by decide +kernel) fun t hf y => ?_
  blk_simp
  rw [out_dv]
  exact tiled_9 (fun t => dv (mem m c t)) t y

theorem tiled_10 (f : Fin cfg0.N → S2048x128.Idx → EReal) (t : Fin cfg0.N) (y : S2048x128.Idx) :
    f t y = tiled f ((win0_10.blk t).view.emb y) := by
  have e := (idx t).2.2.2.2.2.2.2.2.2.2.1
  refine tiled_eq f t y _ ?_ ?_
  · show win0_10.index t 0 * 2048 + 1 * (y 0).val = _
    rw [e]; rfl
  · show win0_10.index t 1 * 128 + 1 * (y 1).val = _
    rw [e]; rfl

theorem final_dqx : (AttnRun.dats m 0 c).arrAt 10 (cfgs 0).N = tiled fun t => dqx (mem m c t) := by
  refine (AttnRun.dats m 0 c).arrAt_eq_of_covers 10 _ (by decide +kernel) fun t hf y => ?_
  blk_simp
  rw [out_dqx]
  exact tiled_10 (fun t => dqx (mem m c t)) t y

theorem tiled_11 (f : Fin cfg0.N → S2048x128.Idx → EReal) (t : Fin cfg0.N) (y : S2048x128.Idx) :
    f t y = tiled f ((win0_11.blk t).view.emb y) := by
  have e := (idx t).2.2.2.2.2.2.2.2.2.2.2
  refine tiled_eq f t y _ ?_ ?_
  · show win0_11.index t 0 * 2048 + 1 * (y 0).val = _
    rw [e]; rfl
  · show win0_11.index t 1 * 128 + 1 * (y 1).val = _
    rw [e]; rfl

theorem final_dkx : (AttnRun.dats m 0 c).arrAt 11 (cfgs 0).N = tiled fun t => dkx (mem m c t) := by
  refine (AttnRun.dats m 0 c).arrAt_eq_of_covers 11 _ (by decide +kernel) fun t hf y => ?_
  blk_simp
  rw [out_dkx]
  exact tiled_11 (fun t => dkx (mem m c t)) t y

end AttnTile.Block

end
-- ==== Proof.AttnReads.lean ====
/-
  What the grid's blocks of a batch row and a pair of heads read, and the arrays the grid leaves, as the heads'
  functions.
-/
module

public import proofs.«01_k».proof.Proof.AttnPair
public import proofs.«01_k».proof.Proof.AttnGrid

@[expose] public section

set_option maxRecDepth 65536

noncomputable section

namespace Attn

open AttnTile AttnTile.Ins
open Cert.Kernel2Ideal Cert.Kernel2Ideal.Gen
open Idealize.ShloMosaic Idealize.ShloMosaic.TcCoe Cert.Proof Attn.Arrays AttnTile.Block

/-! ### The heads' own facts -/

theorem gate_sum (H : Head) (g : Fin 16) (h : ¬ g.val < 8 → ∀ t, H.c t = 0) (t s : Fin 2048) :
    ∑ i, kx H g s i * qx H g t i = (H.c t - H.c s) / Real.log 2 := by
  by_cases hg : g.val < 8
  · have e : ∀ i : Fin 64, kx H g s i * qx H g t i
        = (if i = 0 then -(H.c s / Real.log 2) else 0) + (if i = 3 then H.c t / Real.log 2 else 0) := by
      intro i
      unfold kx qx
      simp only [if_pos hg]
      have i0 : i = 0 ↔ i.val = 0 := ⟨fun h => by rw [h]; rfl, fun h => Fin.ext h⟩
      have i3 : i = 3 ↔ i.val = 3 := ⟨fun h => by rw [h]; rfl, fun h => Fin.ext h⟩
      simp only [i0, i3]
      by_cases h0 : i.val = 0
      · rw [if_pos h0, if_pos (by omega), if_pos h0, if_neg (by omega)]; ring
      · by_cases h3 : i.val = 3
        · rw [if_neg h0, if_neg (by omega), if_pos (by omega), if_neg (by omega), if_pos h3, if_neg h0]; ring
        · simp only [if_neg h0, if_neg h3]
          by_cases h4 : i.val < 3
          · rw [if_pos h4]; ring
          · simp only [if_neg h4]; ring
    rw [Finset.sum_congr rfl fun i _ => e i, Finset.sum_add_distrib, Finset.sum_ite_eq', Finset.sum_ite_eq', if_pos (Finset.mem_univ _), if_pos (Finset.mem_univ _)]
    ring
  · unfold kx qx
    simp only [if_neg hg, h hg, mul_zero, Finset.sum_const_zero, sub_zero, zero_div]

theorem one_later {W r : ℕ} {t s : Fin 2048} (h : ¬ s ≤ t) : one W r t s = 0 := if_neg fun n => h n.1
theorem three_later {t s : Fin 2048} (h : ¬ s ≤ t) : three t s = 0 := by
  unfold three; rw [one_later h, one_later h, one_later h]; ring

theorem hd_n_fox {A : Arrays} {b : Fin 4} {g : Fin 16} (h : g.val < 8) (t s : Fin 2048) : (A.hd b g).n t s = if s ≤ t then 1 else 0 := by
  rw [hd_fox h]; rfl
theorem hd_n_dil {A : Arrays} {b : Fin 4} {g : Fin 16} (h : ¬ g.val < 8) (t s : Fin 2048) : (A.hd b g).n t s = three t s := by
  rw [hd_dil h]; rfl
theorem hd_later {A : Arrays} {b : Fin 4} {g : Fin 16} (t s : Fin 2048) (h : ¬ s ≤ t) : (A.hd b g).n t s = 0 := by
  by_cases hg : g.val < 8
  · rw [hd_n_fox hg, if_neg h]
  · rw [hd_n_dil hg, three_later h]

theorem lg_zero : lg 0 = ⊥ := if_pos rfl
theorem lg_one : lg 1 = ((0 : ℝ) : EReal) := by
  unfold lg; rw [if_neg one_ne_zero, Real.log_one, zero_div]

namespace Host

variable {m : (l : Loc nD τ sig) → Buf (Elt Ideal) l} {c : Dev nD} {A : Arrays}
variable (b : Fin 4) (t s : Fin 2048) (i : Fin 64) (j : Fin 8) (e : Fin 2)

/-! ### Blocks of the arrays -/

theorem pt_div : (pt b j).val / 8 = b.val := by show (8 * b.val + j.val) / 8 = _; omega
theorem pt_mod : (pt b j).val % 8 = j.val := by show (8 * b.val + j.val) % 8 = _; omega

theorem x0_at (l : Fin 256) : (mem m c (pt b j)).x0 (ix2 s l) = V m c main_v181 (ix2 (row b s) (⟨256 * j + l, by omega⟩ : Fin 4096)) := by
  have e := (idx (pt b j)).1
  have d := pt_div b j
  have r := pt_mod b j
  refine congrArg (V m c main_v181) (funext fun a => Fin.ext ?_)
  match a with
  | ⟨0, _⟩ => show win0_0.index (pt b j) 0 * 2048 + 1 * s.val = 2048 * b.val + s.val; rw [e]; show (pt b j).val / 8 * 2048 + 1 * s.val = _; omega
  | ⟨1, _⟩ => show win0_0.index (pt b j) 1 * 256 + 1 * l.val = 256 * j.val + l.val; rw [e]; show (pt b j).val % 8 * 256 + 1 * l.val = _; omega

theorem x1_at (l : Fin 256) : (mem m c (pt b j)).x1 (ix2 s l) = V m c main_v181 (ix2 (row b s) (⟨256 * (8 + j) + l, by omega⟩ : Fin 4096)) := by
  have e := (idx (pt b j)).2.1
  have d := pt_div b j
  have r := pt_mod b j
  refine congrArg (V m c main_v181) (funext fun a => Fin.ext ?_)
  match a with
  | ⟨0, _⟩ => show win0_1.index (pt b j) 0 * 2048 + 1 * s.val = 2048 * b.val + s.val; rw [e]; show (pt b j).val / 8 * 2048 + 1 * s.val = _; omega
  | ⟨1, _⟩ => show win0_1.index (pt b j) 1 * 256 + 1 * l.val = 256 * (8 + j.val) + l.val; rw [e]; show (8 + (pt b j).val % 8) * 256 + 1 * l.val = _; omega

theorem x2_at (l : Fin 128) : (mem m c (pt b j)).x2 (ix2 s l) = V m c main_v185 (ix2 (row b s) (⟨128 * (16 + j) + l, by omega⟩ : Fin 3072)) := by
  have e := (idx (pt b j)).2.2.1
  have d := pt_div b j
  have r := pt_mod b j
  refine congrArg (V m c main_v185) (funext fun a => Fin.ext ?_)
  match a with
  | ⟨0, _⟩ => show win0_2.index (pt b j) 0 * 2048 + 1 * s.val = 2048 * b.val + s.val; rw [e]; show (pt b j).val / 8 * 2048 + 1 * s.val = _; omega
  | ⟨1, _⟩ => show win0_2.index (pt b j) 1 * 128 + 1 * l.val = 128 * (16 + j.val) + l.val; rw [e]; show (16 + (pt b j).val % 8) * 128 + 1 * l.val = _; omega

theorem x3_at (d : Fin 4) (p q : Fin 512) : (mem m c (pt b j)).x3 (ix4 (0 : Fin 1) d p q) = V m c main_v253 (ix4 (⟨j / 4, by omega⟩ : Fin 2) d p q) := by
  have e := (idx (pt b j)).2.2.2.1
  have r := pt_mod b j
  refine congrArg (V m c main_v253) (funext fun a => Fin.ext ?_)
  match a with
  | ⟨0, _⟩ => show win0_3.index (pt b j) 0 * 1 + 1 * 0 = j.val / 4; rw [e]; show (pt b j).val % 8 / 4 * 1 + 1 * 0 = _; omega
  | ⟨1, _⟩ => show win0_3.index (pt b j) 1 * 4 + 1 * d.val = d.val; rw [e]; show 0 * 4 + 1 * d.val = _; omega
  | ⟨2, _⟩ => show win0_3.index (pt b j) 2 * 512 + 1 * p.val = p.val; rw [e]; show 0 * 512 + 1 * p.val = _; omega
  | ⟨3, _⟩ => show win0_3.index (pt b j) 3 * 512 + 1 * q.val = q.val; rw [e]; show 0 * 512 + 1 * q.val = _; omega

theorem x4_at (l : Fin 128) : (mem m c (pt b j)).x4 (ix2 s l) = V m c main_v255 (ix2 (row b s) (⟨128 * j + l, by omega⟩ : Fin 1024)) := by
  have e := (idx (pt b j)).2.2.2.2.1
  have d := pt_div b j
  have r := pt_mod b j
  refine congrArg (V m c main_v255) (funext fun a => Fin.ext ?_)
  match a with
  | ⟨0, _⟩ => show win0_4.index (pt b j) 0 * 2048 + 1 * s.val = 2048 * b.val + s.val; rw [e]; show (pt b j).val / 8 * 2048 + 1 * s.val = _; omega
  | ⟨1, _⟩ => show win0_4.index (pt b j) 1 * 128 + 1 * l.val = 128 * j.val + l.val; rw [e]; show (pt b j).val % 8 * 128 + 1 * l.val = _; omega

theorem x5_at (l : Fin 128) : (mem m c (pt b j)).x5 (ix2 s l) = V m c main_v256 (ix2 (row b s) (⟨128 * j + l, by omega⟩ : Fin 1024)) := by
  have e := (idx (pt b j)).2.2.2.2.2.1
  have d := pt_div b j
  have r := pt_mod b j
  refine congrArg (V m c main_v256) (funext fun a => Fin.ext ?_)
  match a with
  | ⟨0, _⟩ => show win0_5.index (pt b j) 0 * 2048 + 1 * s.val = 2048 * b.val + s.val; rw [e]; show (pt b j).val / 8 * 2048 + 1 * s.val = _; omega
  | ⟨1, _⟩ => show win0_5.index (pt b j) 1 * 128 + 1 * l.val = 128 * j.val + l.val; rw [e]; show (pt b j).val % 8 * 128 + 1 * l.val = _; omega

theorem x6_at (l : Fin 128) : (mem m c (pt b j)).x6 (ix2 s l) = V m c main_v258 (ix2 (row b s) (⟨128 * j + l, by omega⟩ : Fin 1024)) := by
  have e := (idx (pt b j)).2.2.2.2.2.2.1
  have d := pt_div b j
  have r := pt_mod b j
  refine congrArg (V m c main_v258) (funext fun a => Fin.ext ?_)
  match a with
  | ⟨0, _⟩ => show win0_6.index (pt b j) 0 * 2048 + 1 * s.val = 2048 * b.val + s.val; rw [e]; show (pt b j).val / 8 * 2048 + 1 * s.val = _; omega
  | ⟨1, _⟩ => show win0_6.index (pt b j) 1 * 128 + 1 * l.val = 128 * j.val + l.val; rw [e]; show (pt b j).val % 8 * 128 + 1 * l.val = _; omega

/-! ### The two heads' reads -/

theorem at2_at {N K : ℕ} {φ : FTy} (x : FVec Ideal ⟨2, ![N, K]⟩ φ) (i : Fin N) (j : ℕ) (k : Fin K) (h : j = k.val) : at2 x i j = x (ix2 i k) := by
  subst h; exact dif_pos ⟨i.2, k.2⟩

theorem at4_at (x : FVec Ideal S1x4x512x512 .f32) (d i j : ℕ) (hd : d < 4) (hi : i < 512) (hj : j < 512) :
    at4 x d i j = x (ix4 (0 : Fin 1) (⟨d, hd⟩ : Fin 4) (⟨i, hi⟩ : Fin 512) (⟨j, hj⟩ : Fin 512)) := dif_pos ⟨hd, hi, hj⟩

theorem tab_at (h : s.val / 512 ≤ t.val / 512) : (mem m c (pt b j)).ins.T s t = lg ((A.hd b (head j e)).n t s) := by
  refine (at4_at _ (t / 512 - s / 512) (s % 512) (t % 512) (by omega) (by omega) (by omega)).trans ((x3_at b j _ _ _).trans ?_)
  by_cases hj : j.val < 4
  · have hg : (head j e).val < 8 := by show j.val * 2 + e.val < 8; omega
    rw [show (⟨j.val / 4, by omega⟩ : Fin 2) = 0 from Fin.ext (by show j.val / 4 = 0; omega)]
    refine (tab_fox h).trans ?_
    rw [hd_n_fox hg]
    split
    · exact lg_one.symm
    · exact lg_zero.symm
  · have hg : ¬ (head j e).val < 8 := by show ¬ j.val * 2 + e.val < 8; omega
    rw [show (⟨j.val / 4, by omega⟩ : Fin 2) = 1 from Fin.ext (by show j.val / 4 = 1; omega)]
    refine (tab_dil h).trans ?_
    rw [hd_n_dil hg]

/-- The two heads of a pair. -/
abbrev two (A : Arrays) (b : Fin 4) (j : Fin 8) (e : Fin 2) : Head := A.hd b (head j e)

theorem head_c (h : ¬ (head j e).val < 8) (t : Fin 2048) : (two A b j e).c t = 0 := hd_c t h

variable (H : At m c A)
include H

theorem reads : Reads (mem m c (pt b j)).ins (two A b j) (fun e => kx (two A b j e) (head j e)) (fun e => qx (two A b j e) (head j e)) where
  k0 s i := (at2_at _ s _ (⟨i, by omega⟩ : Fin 256) (by show 128 * 0 + i.val = i.val; omega)).trans ((x1_at b s j _).trans (k0 b s i j H))
  x0 s i := (at2_at _ s _ (⟨64 + i, by omega⟩ : Fin 256) (by show 128 * 0 + (64 + i.val) = 64 + i.val; omega)).trans ((x1_at b s j _).trans (k1 b s i j H))
  x1 s i := (at2_at _ s _ (⟨128 + i, by omega⟩ : Fin 256) (by show 128 * 1 + i.val = 128 + i.val; omega)).trans ((x1_at b s j _).trans (k2 b s i j H))
  k1 s i := (at2_at _ s _ (⟨192 + i, by omega⟩ : Fin 256) (by show 128 * 1 + (64 + i.val) = 192 + i.val; omega)).trans ((x1_at b s j _).trans (k3 b s i j H))
  q0 s i := (at2_at _ s _ (⟨i, by omega⟩ : Fin 256) (by show 128 * 0 + i.val = i.val; omega)).trans ((x0_at b s j _).trans (q0 b s i j H))
  y0 s i := (at2_at _ s _ (⟨64 + i, by omega⟩ : Fin 256) (by show 128 * 0 + (64 + i.val) = 64 + i.val; omega)).trans ((x0_at b s j _).trans (q1 b s i j H))
  y1 s i := (at2_at _ s _ (⟨128 + i, by omega⟩ : Fin 256) (by show 128 * 1 + i.val = 128 + i.val; omega)).trans ((x0_at b s j _).trans (q2 b s i j H))
  q1 s i := (at2_at _ s _ (⟨192 + i, by omega⟩ : Fin 256) (by show 128 * 1 + (64 + i.val) = 192 + i.val; omega)).trans ((x0_at b s j _).trans (q3 b s i j H))
  v0 s i := (at2_at _ s _ (⟨64 * (0 : Fin 2).val + i, by show 64 * 0 + i.val < 128; omega⟩ : Fin 128) (by show 0 + i.val = 64 * 0 + i.val; omega)).trans ((x2_at b s j _).trans (v_at b s i j 0 H))
  v1 s i := (at2_at _ s _ (⟨64 * (1 : Fin 2).val + i, by show 64 * 1 + i.val < 128; omega⟩ : Fin 128) (by show 0 + (64 + i.val) = 64 * 1 + i.val; omega)).trans ((x2_at b s j _).trans (v_at b s i j 1 H))
  d0 s i := (at2_at _ s _ (⟨64 * (0 : Fin 2).val + i, by show 64 * 0 + i.val < 128; omega⟩ : Fin 128) (by show 0 + i.val = 64 * 0 + i.val; omega)).trans ((x6_at b s j _).trans (d_at b s i j 0 H))
  d1 s i := (at2_at _ s _ (⟨64 * (1 : Fin 2).val + i, by show 64 * 1 + i.val < 128; omega⟩ : Fin 128) (by show 0 + (64 + i.val) = 64 * 1 + i.val; omega)).trans ((x6_at b s j _).trans (d_at b s i j 1 H))
  o0 s i := (at2_at _ s _ (⟨64 * (0 : Fin 2).val + i, by show 64 * 0 + i.val < 128; omega⟩ : Fin 128) (by show 0 + i.val = 64 * 0 + i.val; omega)).trans ((x4_at b s j _).trans (o_at b s i j 0 H))
  o1 s i := (at2_at _ s _ (⟨64 * (1 : Fin 2).val + i, by show 64 * 1 + i.val < 128; omega⟩ : Fin 128) (by show 0 + (64 + i.val) = 64 * 1 + i.val; omega)).trans ((x4_at b s j _).trans (o_at b s i j 1 H))
  l0 s i := (at2_at _ s _ (⟨64 * (0 : Fin 2).val + i, by show 64 * 0 + i.val < 128; omega⟩ : Fin 128) (by show 0 + i.val = 64 * 0 + i.val; omega)).trans ((x5_at b s j _).trans (lse_at b s i j 0 H))
  l1 s i := (at2_at _ s _ (⟨64 * (1 : Fin 2).val + i, by show 64 * 1 + i.val < 128; omega⟩ : Fin 128) (by show 0 + (64 + i.val) = 64 * 1 + i.val; omega)).trans ((x5_at b s j _).trans (lse_at b s i j 1 H))
  tab e t s h := tab_at b t s j e (by have : s.val ≤ t.val := h; omega)
  gate e t s := gate_sum _ _ (fun h t => head_c b j e h t) t s
  pos e := hd_pos
  later e t s h := hd_later t s h

theorem real_lane {P : ℕ → Prop} (h0 : ∀ i : Fin 64, P i) (h1 : ∀ i : Fin 64, P (64 + i)) (hz : ∀ l, 128 ≤ l → P l) (l : ℕ) : P l := by
  by_cases h : l < 64
  · exact h0 ⟨l, h⟩
  · by_cases h' : l < 128
    · have := h1 ⟨l - 64, by omega⟩
      rwa [show 64 + (⟨l - 64, by omega⟩ : Fin 64).val = l by show 64 + (l - 64) = l; omega] at this
    · exact hz l (by omega)

theorem good : (mem m c (pt b j)).Good := by
  have R := reads b j H
  refine ⟨fun s t h l => ?_, fun t l => ?_, fun t l => ?_⟩
  · have e : (mem m c (pt b j)).ins.T s t = (mem m c (pt b j)).ins.T (s % 512 : ℕ) (t % 512 : ℕ) := by
      show at4 _ (t / 512 - s / 512) (s % 512) (t % 512) = at4 _ (t % 512 / 512 - s % 512 / 512) (s % 512 % 512) (t % 512 % 512)
      rw [show t / 512 - s / 512 = 0 by omega, show t % 512 / 512 - s % 512 / 512 = 0 by omega, Nat.mod_mod, Nat.mod_mod]
    rw [e]
    have := tab_at (m := m) (c := c) (A := A) b ⟨t % 512, by omega⟩ ⟨s % 512, by omega⟩ j 0 (by show s % 512 / 512 ≤ t % 512 / 512; omega)
    rw [hd_later _ _ (by show ¬ s % 512 ≤ t % 512; omega), lg_zero] at this
    exact this
  · by_cases ht : t < 2048
    · exact real_lane H (P := fun l => ∃ r : ℝ, (mem m c (pt b j)).ins.LS t l = r) (fun i => ⟨_, R.l0 ⟨t, ht⟩ i⟩) (fun i => ⟨_, R.l1 ⟨t, ht⟩ i⟩)
        (fun l hl => ⟨0, dif_neg (by omega)⟩) l
    · exact ⟨0, dif_neg (by omega)⟩
  · by_cases ht : t < 2048
    · refine real_lane H (P := fun l => ∃ r : ℝ, (mem m c (pt b j)).ins.DO t l * (mem m c (pt b j)).ins.O t l = r) (fun i => ⟨(two A b j 0).d ⟨t, ht⟩ i * (two A b j 0).o ⟨t, ht⟩ i, ?_⟩) (fun i => ⟨(two A b j 1).d ⟨t, ht⟩ i * (two A b j 1).o ⟨t, ht⟩ i, ?_⟩) (fun l hl => ⟨0, ?_⟩) l
      · exact (congrArg₂ (· * ·) (R.d0 ⟨t, ht⟩ i) (R.o0 ⟨t, ht⟩ i)).trans (EReal.coe_mul ((two A b j 0).d ⟨t, ht⟩ i) ((two A b j 0).o ⟨t, ht⟩ i)).symm
      · exact (congrArg₂ (· * ·) (R.d1 ⟨t, ht⟩ i) (R.o1 ⟨t, ht⟩ i)).trans (EReal.coe_mul ((two A b j 1).d ⟨t, ht⟩ i) ((two A b j 1).o ⟨t, ht⟩ i)).symm
      · have : (mem m c (pt b j)).ins.DO t l = 0 := dif_neg (by omega)
        rw [this, zero_mul]; rfl
    · refine ⟨0, ?_⟩
      have : (mem m c (pt b j)).ins.DO t l = 0 := dif_neg (by omega)
      rw [this, zero_mul]; rfl

end Host

end Attn

end
-- ==== Proof.AttnTail.lean ====
/-
  The kernel's host lines after its call: each result at an index, as entries of the arrays the call leaves.
-/
module

public import proofs.«01_k».proof.Proof.AttnReads

@[expose] public section

set_option maxRecDepth 65536

noncomputable section

namespace Attn.Host

open Cert.Kernel2Ideal Cert.Kernel2Ideal.Gen
open Idealize.ShloMosaic Idealize.ShloMosaic.TcCoe Idealize.ShloMosaic.StableHlo Cert.Proof Attn.Arrays

variable (W : Valuation τ sig (Elt Ideal)) (b : Fin 4) (t : Fin 2048) (i : Fin 64) (g : Fin 16) (h : Fin 8)

/-- The arrays the call leaves. -/
abbrev r0 : FVec Ideal S8192x1024 .bf16 := W (Proc.tc.devRef main_v259_0)
abbrev r1 : FVec Ideal S8192x1024 .bf16 := W (Proc.tc.devRef main_v259_1)
abbrev r2 : FVec Ideal S8192x1024 .bf16 := W (Proc.tc.devRef main_v259_2)
abbrev r3 : FVec Ideal S8192x1024 .f32 := W (Proc.tc.devRef main_v259_3)
abbrev r4 : FVec Ideal S8192x1024 .f32 := W (Proc.tc.devRef main_v259_4)
abbrev ln2 : FVec Ideal S_ .f32 := W (Proc.tc.devRef main_v0)

/-- The place of lane `i` of head `g`. -/
abbrev place : S8192x1024.Idx := ix2 (⟨b * 2048 + t, by omega⟩ : Fin 8192) (⟨g * 64 + i, by omega⟩ : Fin 1024)

theorem tail_dq : StableHlo.after hostOps1 W (Proc.tc.devRef main_v278) (ix4 b t g i) = r0 W (place b t i g) * ((1 / 8 : ℝ) : EReal) := by
  refine Eq.trans ?_ (congrArg (fun x => r0 W (place b t i g) * x) ofBits_eighth)
  after_reads_at

theorem tail_dk : StableHlo.after hostOps1 W (Proc.tc.devRef main_v282) (ix4 b t g i) = r1 W (place b t i g) * ln2 W ix0 := by
  after_reads_at

theorem tail_dv : StableHlo.after hostOps1 W (Proc.tc.devRef main_v284) (ix4 b t g i) = r2 W (place b t i g) := by
  after_reads_at

theorem gate_second (r : Fin 8192) (p : Fin 4) (z : Fin 1) : upto hostOps1 W 13 (Proc.tc.devRef main_v271) (ix3 r p z)
    = r3 W (ix2 r (⟨p * 128 + 67, by omega⟩ : Fin 1024)) - r4 W (ix2 r (⟨p * 128 + 64, by omega⟩ : Fin 1024)) := by
  after_reads_at

theorem gate_first (r : Fin 8192) (p : Fin 4) (z : Fin 1) : upto hostOps1 W 13 (Proc.tc.devRef main_v272) (ix3 r p z)
    = r3 W (ix2 r (⟨p * 128 + 3, by omega⟩ : Fin 1024)) - r4 W (ix2 r (⟨p * 128, by omega⟩ : Fin 1024)) := by
  after_reads_at

theorem tail_dc0 (j : Fin 8) (hj : j.val < 4) : StableHlo.after hostOps1 W (Proc.tc.devRef main_v274) (ix3 b t (⟨j * 2 + 0, by omega⟩ : Fin 8))
    = r3 W (ix2 (⟨b * 2048 + t, by omega⟩ : Fin 8192) (⟨j * 128 + 67, by omega⟩ : Fin 1024))
      - r4 W (ix2 (⟨b * 2048 + t, by omega⟩ : Fin 8192) (⟨j * 128 + 64, by omega⟩ : Fin 1024)) := by
  after_reads_at
  refine (dif_pos (by omega)).trans ((gate_second W _ _ _).trans ?_)
  have e : j.val * 2 / 2 = j.val := by omega
  simp only [Nat.add_zero, e]

theorem tail_dc1 (j : Fin 8) (hj : j.val < 4) : StableHlo.after hostOps1 W (Proc.tc.devRef main_v274) (ix3 b t (⟨j * 2 + 1, by omega⟩ : Fin 8))
    = r3 W (ix2 (⟨b * 2048 + t, by omega⟩ : Fin 8192) (⟨j * 128 + 3, by omega⟩ : Fin 1024))
      - r4 W (ix2 (⟨b * 2048 + t, by omega⟩ : Fin 8192) (⟨j * 128, by omega⟩ : Fin 1024)) := by
  after_reads_at
  refine (dif_neg (by omega)).trans ((gate_first W _ _ _).trans ?_)
  have e : (j.val * 2 + 1) / 2 = j.val := by omega
  simp only [e]

end Attn.Host

end
-- ==== Proof.AttnValue.lean ====
/-
  The attention's gradients: the kernel's results are those of its heads over the reals, and so are the reference's.
-/
module

public import proofs.«01_k».proof.Proof.AttnTail

@[expose] public section

set_option maxRecDepth 65536

noncomputable section

namespace Attn.Host

open AttnTile AttnTile.Ins
open Cert.Kernel2Ideal Cert.Kernel2Ideal.Gen
open Idealize.ShloMosaic Idealize.ShloMosaic.TcCoe Idealize.ShloMosaic.StableHlo Cert.Proof Attn.Arrays AttnTile.Block

variable (m : (l : Loc nD τ sig) → Buf (Elt Ideal) l) (c : Dev nD) {A : Arrays}
variable (b : Fin 4) (t : Fin 2048) (i : Fin 64) (j : Fin 8)

/-- What the call leaves in every buffer. -/
def left : Valuation τ sig (Elt Ideal) :=
  Pipeline.withArrays (cfgs 0).spec c (V0 m c) fun w => (AttnRun.dats m 0 c).arrAt w (cfgs 0).N

theorem left_arr (w : Fin cfg0.W) : left m c (Proc.tc.devRef (Pipeline.arrRef spec0 w)) = (AttnRun.dats m 0 c).arrAt w (cfgs 0).N :=
  (AttnRun.dats m 0 c).withArrays_arrAt launch₀0.sharedIn (V0 m c) (AttnRun.A_eq m c) w

theorem r0_eq : r0 (left m c) = tiled fun t => dq (mem m c t) := (left_arr m c 7).trans (final_dq m c)
theorem r1_eq : r1 (left m c) = tiled fun t => dk (mem m c t) := (left_arr m c 8).trans (final_dk m c)
theorem r2_eq : r2 (left m c) = tiled fun t => dv (mem m c t) := (left_arr m c 9).trans (final_dv m c)
theorem r3_eq : r3 (left m c) = tiled fun t => dqx (mem m c t) := (left_arr m c 10).trans (final_dqx m c)
theorem r4_eq : r4 (left m c) = tiled fun t => dkx (mem m c t) := (left_arr m c 11).trans (final_dkx m c)

theorem ln2_eq : ln2 (left m c) ix0 = ((Real.log 2 : ℝ) : EReal) := by
  refine (congrFun (Pipeline.withArrays_of_ne _ c (V0 m c) _ main_v0 (by exact (by decide : ∀ w, Pipeline.arrRef spec0 w ≠ main_v0))) ix0).trans ?_
  refine Eq.trans ?_ log_two_at
  unfold V0; after_reads_at

/-- A tiled array at a row of a batch row and a lane of a pair. -/
theorem tiled_at (f : Fin cfg0.N → S2048x128.Idx → EReal) (l : Fin 128) (x : Fin 1024) (hx : x.val = j * 128 + l) :
    tiled f (ix2 (⟨b * 2048 + t, by omega⟩ : Fin 8192) x) = f (pt b j) (ix2 t l) := by
  refine (tiled_eq f (pt b j) (ix2 t l) _ ?_ ?_).symm
  · show b.val * 2048 + t.val = (pt b j).val / 8 * 2048 + 1 * t.val
    rw [pt_div]; omega
  · show x.val = (pt b j).val % 8 * 128 + 1 * l.val
    rw [pt_mod]; omega

theorem lo (f g : ℕ → ℕ → EReal) : halves f g t i = f t i := if_pos i.2
theorem hi (f g : ℕ → ℕ → EReal) : halves f g t (64 + i) = g t (64 + i) := if_neg (by omega)

variable {m c} (H : At m c A)
include H

theorem dq_head (e : Fin 2) : r0 (left m c) (place b t i (head j e)) = ((∑ s, (two A b j e).ds t s * (two A b j e).k s i : ℝ) : EReal) := by
  rw [r0_eq]
  match e with
  | 0 =>
    refine (tiled_at b t j _ (⟨i, by omega⟩ : Fin 128) _ (by show (j.val * 2 + 0) * 64 + i.val = j.val * 128 + i.val; omega)).trans ?_
    exact (dq_at _ (good b j H) t _).trans ((lo t i _ _).trans ((reads b j H).dq0 t i))
  | 1 =>
    refine (tiled_at b t j _ (⟨64 + i, by omega⟩ : Fin 128) _ (by show (j.val * 2 + 1) * 64 + i.val = j.val * 128 + (64 + i.val); omega)).trans ?_
    exact (dq_at _ (good b j H) t _).trans ((hi t i _ _).trans ((reads b j H).dq1 t i))

theorem dk_head (e : Fin 2) : r1 (left m c) (place b t i (head j e))
    = ((∑ t', (two A b j e).ds t' t * ((two A b j e).q t' i * (1 / 8) / Real.log 2) : ℝ) : EReal) := by
  rw [r1_eq]
  match e with
  | 0 =>
    refine (tiled_at b t j _ (⟨i, by omega⟩ : Fin 128) _ (by show (j.val * 2 + 0) * 64 + i.val = j.val * 128 + i.val; omega)).trans ?_
    exact (dk_at _ (good b j H) t _).trans ((lo t i _ _).trans ((reads b j H).dk0 t i))
  | 1 =>
    refine (tiled_at b t j _ (⟨64 + i, by omega⟩ : Fin 128) _ (by show (j.val * 2 + 1) * 64 + i.val = j.val * 128 + (64 + i.val); omega)).trans ?_
    exact (dk_at _ (good b j H) t _).trans ((hi t i _ _).trans ((reads b j H).dk1 t i))

theorem dv_head (e : Fin 2) : r2 (left m c) (place b t i (head j e)) = ((two A b j e).dv t i : EReal) := by
  rw [r2_eq]
  match e with
  | 0 =>
    refine (tiled_at b t j _ (⟨i, by omega⟩ : Fin 128) _ (by show (j.val * 2 + 0) * 64 + i.val = j.val * 128 + i.val; omega)).trans ?_
    exact (dv_at _ (good b j H) t _).trans ((reads b j H).dv0 t i)
  | 1 =>
    refine (tiled_at b t j _ (⟨64 + i, by omega⟩ : Fin 128) _ (by show (j.val * 2 + 1) * 64 + i.val = j.val * 128 + (64 + i.val); omega)).trans ?_
    exact (dv_at _ (good b j H) t _).trans ((reads b j H).dv1 t i)

theorem kx_three {h : Head} {g : Fin 16} (hg : g.val < 8) (s : Fin 2048) : kx h g s 3 = 1 := by
  unfold kx; rw [if_pos hg, if_neg (by decide), if_neg (by decide), if_pos (by decide)]
theorem qx_zero {h : Head} {g : Fin 16} (hg : g.val < 8) (s : Fin 2048) : qx h g s 0 = 1 := by
  unfold qx; rw [if_pos hg, if_pos (by decide)]

theorem cq_head0 (hj : j.val < 4) (x : Fin 1024) (hx : x.val = j * 128 + 67) :
    r3 (left m c) (ix2 (⟨b * 2048 + t, by omega⟩ : Fin 8192) x) = ((∑ s, (two A b j 0).ds t s : ℝ) : EReal) := by
  rw [r3_eq]
  refine (tiled_at b t j _ (67 : Fin 128) _ hx).trans ((dqx_at _ (good b j H) t _).trans ((hi t 3 _ _).trans (((reads b j H).cq0 t 3).trans ?_)))
  simp only [kx_three H (show (head j 0).val < 8 by show j.val * 2 + 0 < 8; omega), mul_one]

theorem cq_head1 (hj : j.val < 4) (x : Fin 1024) (hx : x.val = j * 128 + 3) :
    r3 (left m c) (ix2 (⟨b * 2048 + t, by omega⟩ : Fin 8192) x) = ((∑ s, (two A b j 1).ds t s : ℝ) : EReal) := by
  rw [r3_eq]
  refine (tiled_at b t j _ (3 : Fin 128) _ hx).trans ((dqx_at _ (good b j H) t _).trans ((lo t 3 _ _).trans (((reads b j H).cq1 t 3).trans ?_)))
  simp only [kx_three H (show (head j 1).val < 8 by show j.val * 2 + 1 < 8; omega), mul_one]

theorem ck_head0 (hj : j.val < 4) (x : Fin 1024) (hx : x.val = j * 128 + 64) :
    r4 (left m c) (ix2 (⟨b * 2048 + t, by omega⟩ : Fin 8192) x) = ((∑ t', (two A b j 0).ds t' t : ℝ) : EReal) := by
  rw [r4_eq]
  refine (tiled_at b t j _ (64 : Fin 128) _ hx).trans ((dkx_at _ (good b j H) t _).trans ((hi t 0 _ _).trans (((reads b j H).ck0 t 0).trans ?_)))
  simp only [qx_zero H (show (head j 0).val < 8 by show j.val * 2 + 0 < 8; omega), mul_one]

theorem ck_head1 (hj : j.val < 4) (x : Fin 1024) (hx : x.val = j * 128) :
    r4 (left m c) (ix2 (⟨b * 2048 + t, by omega⟩ : Fin 8192) x) = ((∑ t', (two A b j 1).ds t' t : ℝ) : EReal) := by
  rw [r4_eq]
  refine (tiled_at b t j _ (0 : Fin 128) _ hx).trans ((dkx_at _ (good b j H) t _).trans ((lo t 0 _ _).trans (((reads b j H).ck1 t 0).trans ?_)))
  simp only [qx_zero H (show (head j 1).val < 8 by show j.val * 2 + 1 < 8; omega), mul_one]

/-! ### The results -/

theorem head_of (g : Fin 16) : head ⟨g / 2, by omega⟩ ⟨g % 2, by omega⟩ = g := Fin.ext (by show g.val / 2 * 2 + g.val % 2 = g.val; omega)

theorem two_of (g : Fin 16) : two A b ⟨g / 2, by omega⟩ ⟨g % 2, by omega⟩ = A.hd b g := congrArg (A.hd b) (head_of H g)

theorem res_dq (g : Fin 16) : StableHlo.after hostOps1 (left m c) (Proc.tc.devRef main_v278) (ix4 b t g i) = ((A.hd b g).dq t i : EReal) := by
  have e := dq_head b t i ⟨g / 2, by omega⟩ H ⟨g % 2, by omega⟩
  rw [head_of H g, two_of b H g] at e
  exact (tail_dq _ b t i g).trans ((congrArg (· * ((1 / 8 : ℝ) : EReal)) e).trans (EReal.coe_mul _ _).symm)

theorem res_dk (g : Fin 16) : StableHlo.after hostOps1 (left m c) (Proc.tc.devRef main_v282) (ix4 b t g i) = ((A.hd b g).dk t i : EReal) := by
  have e := dk_head b t i ⟨g / 2, by omega⟩ H ⟨g % 2, by omega⟩
  rw [head_of H g, two_of b H g] at e
  refine (tail_dk _ b t i g).trans ((congrArg₂ (· * ·) e (ln2_eq m c)).trans ((EReal.coe_mul _ _).symm.trans (congrArg Real.toEReal ?_)))
  unfold Head.dk
  rw [Finset.sum_mul, Finset.sum_mul]
  refine Finset.sum_congr rfl fun s _ => ?_
  have := log_two_ne
  field_simp

theorem res_dv (g : Fin 16) : StableHlo.after hostOps1 (left m c) (Proc.tc.devRef main_v284) (ix4 b t g i) = ((A.hd b g).dv t i : EReal) := by
  have e := dv_head b t i ⟨g / 2, by omega⟩ H ⟨g % 2, by omega⟩
  rw [head_of H g, two_of b H g] at e
  exact (tail_dv _ b t i g).trans e

theorem res_dc0 (hj : j.val < 4) : StableHlo.after hostOps1 (left m c) (Proc.tc.devRef main_v274) (ix3 b t (⟨j * 2 + 0, by omega⟩ : Fin 8))
    = ((A.fox b ⟨j * 2 + 0, by omega⟩).dc t : EReal) := by
  refine (tail_dc0 _ b t j hj).trans ((congrArg₂ (· - ·) (cq_head0 b t j H hj _ rfl) (ck_head0 b t j H hj _ rfl)).trans ((EReal.coe_sub _ _).symm.trans ?_))
  have hd : two A b j 0 = A.fox b ⟨j * 2 + 0, by omega⟩ := hd_fox (show (head j 0).val < 8 by show j.val * 2 + 0 < 8; omega)
  rw [hd]; rfl

theorem res_dc1 (hj : j.val < 4) : StableHlo.after hostOps1 (left m c) (Proc.tc.devRef main_v274) (ix3 b t (⟨j * 2 + 1, by omega⟩ : Fin 8))
    = ((A.fox b ⟨j * 2 + 1, by omega⟩).dc t : EReal) := by
  refine (tail_dc1 _ b t j hj).trans ((congrArg₂ (· - ·) (cq_head1 b t j H hj _ rfl) (ck_head1 b t j H hj _ rfl)).trans ((EReal.coe_sub _ _).symm.trans ?_))
  have hd : two A b j 1 = A.fox b ⟨j * 2 + 1, by omega⟩ := hd_fox (show (head j 1).val < 8 by show j.val * 2 + 1 < 8; omega)
  rw [hd]; rfl

theorem res_dc (h : Fin 8) : StableHlo.after hostOps1 (left m c) (Proc.tc.devRef main_v274) (ix3 b t h) = ((A.fox b h).dc t : EReal) := by
  rcases Nat.mod_two_eq_zero_or_one h.val with e | e
  · have r := res_dc0 b t ⟨h / 2, by omega⟩ H (by show h.val / 2 < 4; omega)
    have eh : (⟨h / 2 * 2 + 0, by omega⟩ : Fin 8) = h := Fin.ext (by show h.val / 2 * 2 + 0 = h.val; omega)
    rw [eh] at r; exact r
  · have r := res_dc1 b t ⟨h / 2, by omega⟩ H (by show h.val / 2 < 4; omega)
    have eh : (⟨h / 2 * 2 + 1, by omega⟩ : Fin 8) = h := Fin.ext (by show h.val / 2 * 2 + 1 = h.val; omega)
    rw [eh] at r; exact r

end Attn.Host

end
-- ==== Proof.AttnRefVal.lean ====
/-
  The reference's gradients over the real numbers: each named value of its run at an index, from real arguments.
-/
module

public import proofs.«01_k».proof.Proof.AttnHead
public import proofs.«01_k».proof.Proof.AttnMask
public import proofs.«01_k».proof.Proof.Gen.Reference2Ideal.Run
public import Idealize.ShloMosaic.Lib.Pointwise
public import Idealize.ShloMosaic.Lib.Claim
public import Idealize.ShloMosaic.Lib.ReduceAll

@[expose] public section

set_option maxRecDepth 65536

noncomputable section

namespace Attn.Ref

open Cert.Reference2Ideal Cert.Reference2Ideal.Gen Cert.Reference2Ideal.Value
open Idealize.ShloMosaic Idealize.ShloMosaic.StableHlo Cert.Proof

variable (V0 : Valuation τ sig (Elt Ideal)) (A : Arrays)

/-- The reference's gradient by the queries, as its run composes it. -/
def dq (V0 : Valuation τ sig (Elt Ideal)) : FVec Ideal S4x2048x16x64 .f32 :=
  addf (pad S4x2048x16x64 ![0, 0, 8, 0] ![0, 0, 0, 0] ![0, 0, 0, 0] (addf (addf (transpose S4x2048x8x64 [0, 2, 1, 3] (Host.dotGeneral (F := Ideal) (φ₁ := .f32) (φ₂ := .f32) dot_S4x8x2048x2048_S4x2048x8x64_S4x8x2048x64_3_1_2_3_01_02 none (res_main_v208 V0) (res_main_v33 V0)) transposes_S4x8x2048x64_S4x2048x8x64_0_2_1_3) (transpose S4x2048x8x64 [0, 2, 1, 3] (Host.dotGeneral (F := Ideal) (φ₁ := .f32) (φ₂ := .f32) dot_S4x8x2048x2048_S4x2048x8x64_S4x8x2048x64_3_1_2_3_01_02 none (res_main_v232 V0) (res_main_v33 V0)) transposes_S4x8x2048x64_S4x2048x8x64_0_2_1_3)) (transpose S4x2048x8x64 [0, 2, 1, 3] (Host.dotGeneral (F := Ideal) (φ₁ := .f32) (φ₂ := .f32) dot_S4x8x2048x2048_S4x2048x8x64_S4x8x2048x64_3_1_2_3_01_02 none (res_main_v258 V0) (res_main_v33 V0)) transposes_S4x8x2048x64_S4x2048x8x64_0_2_1_3)) (constant S_ .f32 0x00000000#32) pads_S4x2048x8x64_S4x2048x16x64_000_000_800_000 h_S_) (pad S4x2048x16x64 ![0, 0, 0, 0] ![0, 0, 8, 0] ![0, 0, 0, 0] (transpose S4x2048x8x64 [0, 2, 1, 3] (Host.dotGeneral (F := Ideal) (φ₁ := .f32) (φ₂ := .f32) dot_S4x8x2048x2048_S4x2048x8x64_S4x8x2048x64_3_1_2_3_01_02 none (res_main_v285 V0) (res_main_v1 V0)) transposes_S4x8x2048x64_S4x2048x8x64_0_2_1_3) (constant S_ .f32 0x00000000#32) pads_S4x2048x8x64_S4x2048x16x64_000_000_080_000 h_S_)

/-- The reference's gradient by the keys, as its run composes it. -/
def dk (V0 : Valuation τ sig (Elt Ideal)) : FVec Ideal S4x2048x16x64 .f32 :=
  addf (pad S4x2048x16x64 ![0, 0, 8, 0] ![0, 0, 0, 0] ![0, 0, 0, 0] (addf (addf (transpose S4x2048x8x64 [0, 2, 1, 3] (Host.dotGeneral (F := Ideal) (φ₁ := .f32) (φ₂ := .f32) dot_S4x8x2048x2048_S4x2048x8x64_S4x8x2048x64_2_1_3_3_01_02 none (res_main_v208 V0) (res_main_v32 V0)) transposes_S4x8x2048x64_S4x2048x8x64_0_2_1_3) (transpose S4x2048x8x64 [0, 2, 1, 3] (Host.dotGeneral (F := Ideal) (φ₁ := .f32) (φ₂ := .f32) dot_S4x8x2048x2048_S4x2048x8x64_S4x8x2048x64_2_1_3_3_01_02 none (res_main_v232 V0) (res_main_v32 V0)) transposes_S4x8x2048x64_S4x2048x8x64_0_2_1_3)) (transpose S4x2048x8x64 [0, 2, 1, 3] (Host.dotGeneral (F := Ideal) (φ₁ := .f32) (φ₂ := .f32) dot_S4x8x2048x2048_S4x2048x8x64_S4x8x2048x64_2_1_3_3_01_02 none (res_main_v258 V0) (res_main_v32 V0)) transposes_S4x8x2048x64_S4x2048x8x64_0_2_1_3)) (constant S_ .f32 0x00000000#32) pads_S4x2048x8x64_S4x2048x16x64_000_000_800_000 h_S_) (pad S4x2048x16x64 ![0, 0, 0, 0] ![0, 0, 8, 0] ![0, 0, 0, 0] (transpose S4x2048x8x64 [0, 2, 1, 3] (Host.dotGeneral (F := Ideal) (φ₁ := .f32) (φ₂ := .f32) dot_S4x8x2048x2048_S4x2048x8x64_S4x8x2048x64_2_1_3_3_01_02 none (res_main_v285 V0) (res_main_v0 V0)) transposes_S4x8x2048x64_S4x2048x8x64_0_2_1_3) (constant S_ .f32 0x00000000#32) pads_S4x2048x8x64_S4x2048x16x64_000_000_080_000 h_S_)

/-- The reference's gradient by the values, as its run composes it. -/
def dv (V0 : Valuation τ sig (Elt Ideal)) : FVec Ideal S4x2048x16x64 .f32 :=
  addf (pad S4x2048x16x64 ![0, 0, 8, 0] ![0, 0, 0, 0] ![0, 0, 0, 0] (addf (addf (transpose S4x2048x8x64 [0, 3, 1, 2] (Host.dotGeneral (F := Ideal) (φ₁ := .f32) (φ₂ := .f32) dot_S4x8x2048x64_S4x8x2048x2048_S4x8x64x2048_2_2_3_3_01_01 none (res_main_v197 V0) (res_main_v110_0 V0)) transposes_S4x8x64x2048_S4x2048x8x64_0_3_1_2) (transpose S4x2048x8x64 [0, 3, 1, 2] (Host.dotGeneral (F := Ideal) (φ₁ := .f32) (φ₂ := .f32) dot_S4x8x2048x64_S4x8x2048x2048_S4x8x64x2048_2_2_3_3_01_01 none (res_main_v220 V0) (res_main_v84_0 V0)) transposes_S4x8x64x2048_S4x2048x8x64_0_3_1_2)) (transpose S4x2048x8x64 [0, 3, 1, 2] (Host.dotGeneral (F := Ideal) (φ₁ := .f32) (φ₂ := .f32) dot_S4x8x2048x64_S4x8x2048x2048_S4x8x64x2048_2_2_3_3_01_01 none (res_main_v246 V0) (res_main_v58_0 V0)) transposes_S4x8x64x2048_S4x2048x8x64_0_3_1_2)) (constant S_ .f32 0x00000000#32) pads_S4x2048x8x64_S4x2048x16x64_000_000_800_000 h_S_) (pad S4x2048x16x64 ![0, 0, 0, 0] ![0, 0, 8, 0] ![0, 0, 0, 0] (transpose S4x2048x8x64 [0, 3, 1, 2] (Host.dotGeneral (F := Ideal) (φ₁ := .f32) (φ₂ := .f32) dot_S4x8x2048x64_S4x8x2048x2048_S4x8x64x2048_2_2_3_3_01_01 none (res_main_v275 V0) (res_main_v23_0 V0)) transposes_S4x8x64x2048_S4x2048x8x64_0_3_1_2) (constant S_ .f32 0x00000000#32) pads_S4x2048x8x64_S4x2048x16x64_000_000_080_000 h_S_)

/-- The reference's gradient by the gates, as its run composes it. -/
def dc (V0 : Valuation τ sig (Elt Ideal)) : FVec Ideal S4x2048x8 .f32 :=
  transpose S4x2048x8 [0, 2, 1] (addf (Host.reduceAdd (shapeCast _ (Host.reduceAdd (Host.negf (res_main_v283 V0)) (constant S_ .f32 0x00000000#32) reducesTo_S4x8x2048x2048_S4x8x2048_d2 h_S_) shapeCasts_S4x8x2048_S4x8x1x2048) (constant S_ .f32 0x00000000#32) reducesTo_S4x8x1x2048_S4x8x2048_d2 h_S_) (Host.reduceAdd (shapeCast _ (Host.reduceAdd (res_main_v283 V0) (constant S_ .f32 0x00000000#32) reducesTo_S4x8x2048x2048_S4x8x2048_d3 h_S_) shapeCasts_S4x8x2048_S4x8x2048x1) (constant S_ .f32 0x00000000#32) reducesTo_S4x8x2048x1_S4x8x2048_d3 h_S_)) transposes_S4x8x2048_S4x2048x8_0_2_1

/-- The run's arguments are the inclusions of the real arrays. -/
structure At : Prop where
  q : ∀ b t h i, V0 (Proc.devRef .tc main_arg0) (ix4 b t h i) = (A.q b t h i : EReal)
  k : ∀ b t h i, V0 (Proc.devRef .tc main_arg1) (ix4 b t h i) = (A.k b t h i : EReal)
  v : ∀ b t h i, V0 (Proc.devRef .tc main_arg2) (ix4 b t h i) = (A.v b t h i : EReal)
  c : ∀ b t h, V0 (Proc.devRef .tc main_arg3) (ix3 b t h) = (A.c b t h : EReal)
  d : ∀ b t h i, V0 (Proc.devRef .tc main_arg4) (ix4 b t h i) = (A.d b t h i : EReal)

variable {V0 A} (H : At V0 A) (b : Fin 4) (h : Fin 8) (t s : Fin 2048) (i : Fin 64)
include H

/-! ## The heads with the forget gate -/

theorem v0_at : res_main_v0 V0 (ix4 b t h i) = ((A.fox b h).q t i : EReal) := by
  unfold res_main_v0; pointwise; exact H.q ..
theorem v1_at : res_main_v1 V0 (ix4 b t h i) = ((A.fox b h).k t i : EReal) := by
  unfold res_main_v1; pointwise; exact H.k ..
theorem v2_at : res_main_v2 V0 (ix4 b t h i) = ((A.fox b h).v t i : EReal) := by
  unfold res_main_v2; pointwise; exact H.v ..
theorem v3_at : res_main_v3 V0 (ix3 b h t) = ((A.fox b h).c t : EReal) := by
  unfold res_main_v3; pointwise; exact H.c ..
theorem v153_at : res_main_v153 V0 (ix4 b h t i) = ((A.fox b h).d t i : EReal) := by
  unfold res_main_v153 res_main_v152; pointwise; exact H.d ..

theorem v22_at : res_main_v22 V0 (ix4 b h t s) = (Real.exp ((A.fox b h).X t s) : EReal) := by
  unfold res_main_v22; pointwise
  simp only [v0_at H, v1_at H, v3_at H, ofBits_eighth, ← EReal.coe_mul, ← coe_sum, ← EReal.coe_sub, ← EReal.coe_add, Ideal.exp_coe]
  rfl

theorem v23_1_at : res_main_v23_1 V0 (ix4 b h t s) = if s ≤ t then 1#1 else 0#1 := by
  unfold res_main_v23_1 res_main_v9; pointwise
  exact mask_causal t s

theorem v23_at : res_main_v23_0 V0 (ix4 b h t s) = ((A.fox b h).w t s : EReal) := by
  unfold res_main_v23_0; pointwise
  rw [v23_1_at H, v22_at H]
  exact (congrArg (Scalar.select _ _) Ideal.ofBits_zero_f32).trans (select_weight (s ≤ t) _)

theorem v24_at : res_main_v24 V0 (ix3 b h t) = ((A.fox b h).tot t : EReal) := by
  unfold res_main_v24; pointwise
  simp only [v23_at H, ← coe_sum]; rfl

theorem v25_at : res_main_v25 V0 (ix4 b h t i) = ((A.fox b h).num t i : EReal) := by
  unfold res_main_v25; pointwise
  simp only [v23_at H, v2_at H, ← EReal.coe_mul, ← coe_sum]; rfl

theorem v26_at : res_main_v26 V0 (ix4 b h t 0) = ((A.fox b h).tot t : EReal) := by
  unfold res_main_v26; pointwise; exact v24_at H ..

theorem v275_at : res_main_v275 V0 (ix4 b h t i) = (((A.fox b h).d t i / (A.fox b h).tot t : ℝ) : EReal) := by
  unfold res_main_v275; pointwise
  rw [v153_at H, v26_at H]
  exact div_real ((A.fox_pos b h).tot_ne t)

theorem v283_at : res_main_v283 V0 (ix4 b h t s) = ((A.fox b h).ds t s : EReal) := by
  have T := (A.fox_pos b h).tot_ne t
  unfold res_main_v283; pointwise
  simp only [v23_1_at H, v275_at H, v2_at H, v153_at H, v26_at H, v25_at H, v22_at H, one_coe, div_real (mul_ne_zero T T),
    select_weight, ← EReal.coe_mul, ← EReal.coe_add, ← EReal.coe_neg, ← coe_sum]
  exact congrArg _ (ds_fox T)

theorem v285_at : res_main_v285 V0 (ix4 b h t s) = (((A.fox b h).ds t s * (1 / 8) : ℝ) : EReal) := by
  unfold res_main_v285; pointwise
  rw [v283_at H, ofBits_eighth, ← EReal.coe_mul]

/-! ## The dilated heads -/

theorem v32_at : res_main_v32 V0 (ix4 b t h i) = ((A.dil b h three).q t i : EReal) := by
  unfold res_main_v32; pointwise; exact H.q ..
theorem v33_at : res_main_v33 V0 (ix4 b t h i) = ((A.dil b h three).k t i : EReal) := by
  unfold res_main_v33; pointwise; exact H.k ..
theorem v34_at : res_main_v34 V0 (ix4 b t h i) = ((A.dil b h three).v t i : EReal) := by
  unfold res_main_v34; pointwise; exact H.v ..
theorem v154_at : res_main_v154 V0 (ix4 b h t i) = ((A.dil b h three).d t i : EReal) := by
  unfold res_main_v154 res_main_v152; pointwise; exact H.d ..

/-! ## The dilated pattern of window 128 and step 1 -/

theorem v57_at : res_main_v57 V0 (ix4 b h t s) = (Real.exp ((A.dil b h three).X t s) : EReal) := by
  unfold res_main_v57; pointwise
  simp only [v32_at H, v33_at H, ofBits_eighth, ← EReal.coe_mul, ← coe_sum, Ideal.exp_coe]
  exact congrArg _ (congrArg _ (A.X_dil b h t s three).symm)

theorem v58_1_at : res_main_v58_1 V0 (ix4 b h t s) = if near 128 1 t s then 1#1 else 0#1 := by
  unfold res_main_v58_1 res_main_v40 res_main_v35; pointwise
  exact mask_near tests1 t s

theorem v58_at : res_main_v58_0 V0 (ix4 b h t s) = ((A.dil b h (one 128 1)).w t s : EReal) := by
  unfold res_main_v58_0; pointwise
  rw [v58_1_at H, v57_at H]
  exact (congrArg (Scalar.select _ _) Ideal.ofBits_zero_f32).trans (select_weight (near 128 1 t s) _)

theorem v59_at : res_main_v59 V0 (ix3 b h t) = ((A.dil b h (one 128 1)).tot t : EReal) := by
  unfold res_main_v59; pointwise
  simp only [v58_at H, ← coe_sum]; rfl

theorem v60_at : res_main_v60 V0 (ix4 b h t i) = ((A.dil b h (one 128 1)).num t i : EReal) := by
  unfold res_main_v60; pointwise
  simp only [v58_at H, v34_at H, ← EReal.coe_mul, ← coe_sum]; rfl

theorem v61_at : res_main_v61 V0 (ix4 b h t 0) = ((A.dil b h (one 128 1)).tot t : EReal) := by
  unfold res_main_v61; pointwise; exact v59_at H ..

theorem v63_at : res_main_v63 V0 (ix4 b h t i) = ((A.dil b h (one 128 1)).o t i : EReal) := by
  unfold res_main_v63; pointwise
  rw [v60_at H, v61_at H]
  exact div_real ((A.one_pos b h 128 1).tot_ne t)

/-! ## The dilated pattern of window 512 and step 4 -/

theorem v83_at : res_main_v83 V0 (ix4 b h t s) = (Real.exp ((A.dil b h three).X t s) : EReal) := by
  unfold res_main_v83; pointwise
  simp only [v32_at H, v33_at H, ofBits_eighth, ← EReal.coe_mul, ← coe_sum, Ideal.exp_coe]
  exact congrArg _ (congrArg _ (A.X_dil b h t s three).symm)

theorem v84_1_at : res_main_v84_1 V0 (ix4 b h t s) = if near 512 4 t s then 1#1 else 0#1 := by
  unfold res_main_v84_1 res_main_v40 res_main_v35; pointwise
  exact mask_near tests2 t s

theorem v84_at : res_main_v84_0 V0 (ix4 b h t s) = ((A.dil b h (one 512 4)).w t s : EReal) := by
  unfold res_main_v84_0; pointwise
  rw [v84_1_at H, v83_at H]
  exact (congrArg (Scalar.select _ _) Ideal.ofBits_zero_f32).trans (select_weight (near 512 4 t s) _)

theorem v85_at : res_main_v85 V0 (ix3 b h t) = ((A.dil b h (one 512 4)).tot t : EReal) := by
  unfold res_main_v85; pointwise
  simp only [v84_at H, ← coe_sum]; rfl

theorem v86_at : res_main_v86 V0 (ix4 b h t i) = ((A.dil b h (one 512 4)).num t i : EReal) := by
  unfold res_main_v86; pointwise
  simp only [v84_at H, v34_at H, ← EReal.coe_mul, ← coe_sum]; rfl

theorem v87_at : res_main_v87 V0 (ix4 b h t 0) = ((A.dil b h (one 512 4)).tot t : EReal) := by
  unfold res_main_v87; pointwise; exact v85_at H ..

theorem v89_at : res_main_v89 V0 (ix4 b h t i) = ((A.dil b h (one 512 4)).o t i : EReal) := by
  unfold res_main_v89; pointwise
  rw [v86_at H, v87_at H]
  exact div_real ((A.one_pos b h 512 4).tot_ne t)

/-! ## The dilated pattern of window 2048 and step 16 -/

theorem v109_at : res_main_v109 V0 (ix4 b h t s) = (Real.exp ((A.dil b h three).X t s) : EReal) := by
  unfold res_main_v109; pointwise
  simp only [v32_at H, v33_at H, ofBits_eighth, ← EReal.coe_mul, ← coe_sum, Ideal.exp_coe]
  exact congrArg _ (congrArg _ (A.X_dil b h t s three).symm)

theorem v110_1_at : res_main_v110_1 V0 (ix4 b h t s) = if near 2048 16 t s then 1#1 else 0#1 := by
  unfold res_main_v110_1 res_main_v40 res_main_v35; pointwise
  exact mask_near tests3 t s

theorem v110_at : res_main_v110_0 V0 (ix4 b h t s) = ((A.dil b h (one 2048 16)).w t s : EReal) := by
  unfold res_main_v110_0; pointwise
  rw [v110_1_at H, v109_at H]
  exact (congrArg (Scalar.select _ _) Ideal.ofBits_zero_f32).trans (select_weight (near 2048 16 t s) _)

theorem v111_at : res_main_v111 V0 (ix3 b h t) = ((A.dil b h (one 2048 16)).tot t : EReal) := by
  unfold res_main_v111; pointwise
  simp only [v110_at H, ← coe_sum]; rfl

theorem v112_at : res_main_v112 V0 (ix4 b h t i) = ((A.dil b h (one 2048 16)).num t i : EReal) := by
  unfold res_main_v112; pointwise
  simp only [v110_at H, v34_at H, ← EReal.coe_mul, ← coe_sum]; rfl

theorem v113_at : res_main_v113 V0 (ix4 b h t 0) = ((A.dil b h (one 2048 16)).tot t : EReal) := by
  unfold res_main_v113; pointwise; exact v111_at H ..

theorem v115_at : res_main_v115 V0 (ix4 b h t i) = ((A.dil b h (one 2048 16)).o t i : EReal) := by
  unfold res_main_v115; pointwise
  rw [v112_at H, v113_at H]
  exact div_real ((A.one_pos b h 2048 16).tot_ne t)

/-! ## The three patterns together -/

theorem v122_at : res_main_v122 V0 (ix3 b h t) = ((A.dil b h three).tot t : EReal) := by
  unfold res_main_v122; pointwise
  rw [v59_at H, v85_at H, v111_at H, ← EReal.coe_add, ← EReal.coe_add]
  exact congrArg _ (A.tot_three b h t).symm

theorem v127_at : res_main_v127 V0 (ix4 b h t 0) = (((A.dil b h (one 128 1)).tot t / (A.dil b h three).tot t : ℝ) : EReal) := by
  unfold res_main_v127; pointwise
  rw [v59_at H, v122_at H]
  exact div_real ((A.three_pos b h).tot_ne t)

theorem v177_at : res_main_v177 V0 (ix4 b h t i)
    = (((A.dil b h (one 128 1)).tot t / (A.dil b h three).tot t * (A.dil b h three).d t i : ℝ) : EReal) := by
  unfold res_main_v177; pointwise
  rw [v127_at H, v154_at H, ← EReal.coe_mul]

theorem v181_at : res_main_v181 V0 (ix3 b h t) = ((A.dil b h (one 128 1)).del t : EReal) := by
  unfold res_main_v181; pointwise
  simp only [v154_at H, v63_at H, ← EReal.coe_mul, ← coe_sum]
  rw [Fin.sum_univ_one]; rfl

theorem v136_at : res_main_v136 V0 (ix4 b h t 0) = (((A.dil b h (one 512 4)).tot t / (A.dil b h three).tot t : ℝ) : EReal) := by
  unfold res_main_v136; pointwise
  rw [v85_at H, v122_at H]
  exact div_real ((A.three_pos b h).tot_ne t)

theorem v166_at : res_main_v166 V0 (ix4 b h t i)
    = (((A.dil b h (one 512 4)).tot t / (A.dil b h three).tot t * (A.dil b h three).d t i : ℝ) : EReal) := by
  unfold res_main_v166; pointwise
  rw [v136_at H, v154_at H, ← EReal.coe_mul]

theorem v170_at : res_main_v170 V0 (ix3 b h t) = ((A.dil b h (one 512 4)).del t : EReal) := by
  unfold res_main_v170; pointwise
  simp only [v154_at H, v89_at H, ← EReal.coe_mul, ← coe_sum]
  rw [Fin.sum_univ_one]; rfl

theorem v144_at : res_main_v144 V0 (ix4 b h t 0) = (((A.dil b h (one 2048 16)).tot t / (A.dil b h three).tot t : ℝ) : EReal) := by
  unfold res_main_v144; pointwise
  rw [v111_at H, v122_at H]
  exact div_real ((A.three_pos b h).tot_ne t)

theorem v156_at : res_main_v156 V0 (ix4 b h t i)
    = (((A.dil b h (one 2048 16)).tot t / (A.dil b h three).tot t * (A.dil b h three).d t i : ℝ) : EReal) := by
  unfold res_main_v156; pointwise
  rw [v144_at H, v154_at H, ← EReal.coe_mul]

theorem v160_at : res_main_v160 V0 (ix3 b h t) = ((A.dil b h (one 2048 16)).del t : EReal) := by
  unfold res_main_v160; pointwise
  simp only [v154_at H, v115_at H, ← EReal.coe_mul, ← coe_sum]
  rw [Fin.sum_univ_one]; rfl

theorem v185_at : res_main_v185 V0 (ix3 b h t) = ((-((A.dil b h three).del t / (A.dil b h three).tot t) : ℝ) : EReal) := by
  have T := (A.three_pos b h).tot_ne t
  unfold res_main_v185; pointwise
  simp only [v160_at H, v170_at H, v181_at H, v122_at H, v111_at H, v85_at H, v59_at H, one_coe, div_real (mul_ne_zero T T),
    ← EReal.coe_mul, ← EReal.coe_add, ← EReal.coe_neg]
  exact congrArg _ (A.del_three b h t)

theorem v246_at : res_main_v246 V0 (ix4 b h t i)
    = (((A.dil b h (one 128 1)).tot t / (A.dil b h three).tot t * (A.dil b h three).d t i / (A.dil b h (one 128 1)).tot t : ℝ) : EReal) := by
  unfold res_main_v246; pointwise
  rw [v177_at H, v61_at H]
  exact div_real ((A.one_pos b h 128 1).tot_ne t)

theorem v258_at : res_main_v258 V0 (ix4 b h t s)
    = ((1 / 8 * (one 128 1 t s * Real.exp ((A.dil b h three).X t s) / (A.dil b h three).tot t
        * ((A.dil b h three).g t s - (A.dil b h three).del t)) : ℝ) : EReal) := by
  have T := (A.three_pos b h).tot_ne t
  have R := (A.one_pos b h 128 1).tot_ne t
  unfold res_main_v258; pointwise
  simp only [v58_1_at H, v57_at H, v246_at H, v177_at H, v61_at H, v60_at H, v181_at H, v122_at H, v185_at H, v34_at H,
    one_coe, div_real T, div_real R, div_real (mul_ne_zero R R), ofBits_eighth, select_weight,
    ← EReal.coe_mul, ← EReal.coe_add, ← EReal.coe_neg, ← coe_sum]
  exact congrArg _ (A.ds_dil b h t s 128 1)

theorem v220_at : res_main_v220 V0 (ix4 b h t i)
    = (((A.dil b h (one 512 4)).tot t / (A.dil b h three).tot t * (A.dil b h three).d t i / (A.dil b h (one 512 4)).tot t : ℝ) : EReal) := by
  unfold res_main_v220; pointwise
  rw [v166_at H, v87_at H]
  exact div_real ((A.one_pos b h 512 4).tot_ne t)

theorem v232_at : res_main_v232 V0 (ix4 b h t s)
    = ((1 / 8 * (one 512 4 t s * Real.exp ((A.dil b h three).X t s) / (A.dil b h three).tot t
        * ((A.dil b h three).g t s - (A.dil b h three).del t)) : ℝ) : EReal) := by
  have T := (A.three_pos b h).tot_ne t
  have R := (A.one_pos b h 512 4).tot_ne t
  unfold res_main_v232; pointwise
  simp only [v84_1_at H, v83_at H, v220_at H, v166_at H, v87_at H, v86_at H, v170_at H, v122_at H, v185_at H, v34_at H,
    one_coe, div_real T, div_real R, div_real (mul_ne_zero R R), ofBits_eighth, select_weight,
    ← EReal.coe_mul, ← EReal.coe_add, ← EReal.coe_neg, ← coe_sum]
  exact congrArg _ (A.ds_dil b h t s 512 4)

theorem v197_at : res_main_v197 V0 (ix4 b h t i)
    = (((A.dil b h (one 2048 16)).tot t / (A.dil b h three).tot t * (A.dil b h three).d t i / (A.dil b h (one 2048 16)).tot t : ℝ) : EReal) := by
  unfold res_main_v197; pointwise
  rw [v156_at H, v113_at H]
  exact div_real ((A.one_pos b h 2048 16).tot_ne t)

theorem v208_at : res_main_v208 V0 (ix4 b h t s)
    = ((1 / 8 * (one 2048 16 t s * Real.exp ((A.dil b h three).X t s) / (A.dil b h three).tot t
        * ((A.dil b h three).g t s - (A.dil b h three).del t)) : ℝ) : EReal) := by
  have T := (A.three_pos b h).tot_ne t
  have R := (A.one_pos b h 2048 16).tot_ne t
  unfold res_main_v208; pointwise
  simp only [v110_1_at H, v109_at H, v197_at H, v156_at H, v113_at H, v112_at H, v160_at H, v122_at H, v185_at H, v34_at H,
    one_coe, div_real T, div_real R, div_real (mul_ne_zero R R), ofBits_eighth, select_weight,
    ← EReal.coe_mul, ← EReal.coe_add, ← EReal.coe_neg, ← coe_sum]
  exact congrArg _ (A.ds_dil b h t s 2048 16)

theorem dq_f : dq V0 (ix4 b t ⟨h, by omega⟩ i) = ((A.fox b h).dq t i : EReal) := by
  unfold dq; pointwise
  rw [dif_neg (by simp), zero_add]
  simp only [v285_at H, v1_at H, ← EReal.coe_mul, ← coe_sum]
  refine congrArg _ ?_
  unfold Head.dq; rw [Finset.sum_mul]
  exact Finset.sum_congr rfl fun _ _ => by ring

theorem dq_d : dq V0 (ix4 b t ⟨8 + h, by omega⟩ i) = ((A.dil b h three).dq t i : EReal) := by
  unfold dq; pointwise
  simp only [v208_at H, v232_at H, v258_at H, v33_at H, ← EReal.coe_mul, ← coe_sum, ← EReal.coe_add]
  refine congrArg _ ?_
  unfold Head.dq; rw [Finset.sum_mul, ← Finset.sum_add_distrib, ← Finset.sum_add_distrib]
  exact Finset.sum_congr rfl fun s _ => by linear_combination (-(A.dil b h three).k s i) * A.ds_three b h t s

theorem dk_f : dk V0 (ix4 b s ⟨h, by omega⟩ i) = ((A.fox b h).dk s i : EReal) := by
  unfold dk; pointwise
  rw [dif_neg (by simp), zero_add]
  simp only [v285_at H, v0_at H, ← EReal.coe_mul, ← coe_sum]
  refine congrArg _ ?_
  unfold Head.dk; rw [Finset.sum_mul]
  exact Finset.sum_congr rfl fun _ _ => by ring

theorem dk_d : dk V0 (ix4 b s ⟨8 + h, by omega⟩ i) = ((A.dil b h three).dk s i : EReal) := by
  unfold dk; pointwise
  simp only [v208_at H, v232_at H, v258_at H, v32_at H, ← EReal.coe_mul, ← coe_sum, ← EReal.coe_add]
  refine congrArg _ ?_
  unfold Head.dk; rw [Finset.sum_mul, ← Finset.sum_add_distrib, ← Finset.sum_add_distrib]
  exact Finset.sum_congr rfl fun t _ => by linear_combination (-(A.dil b h three).q t i) * A.ds_three b h t s

theorem dv_f : dv V0 (ix4 b s ⟨h, by omega⟩ i) = ((A.fox b h).dv s i : EReal) := by
  unfold dv; pointwise
  rw [dif_neg (by simp), zero_add]
  simp only [v275_at H, v23_at H, ← EReal.coe_mul, ← coe_sum]
  refine congrArg _ ?_
  unfold Head.dv
  exact Finset.sum_congr rfl fun _ _ => by ring

theorem dv_d : dv V0 (ix4 b s ⟨8 + h, by omega⟩ i) = ((A.dil b h three).dv s i : EReal) := by
  unfold dv; pointwise
  simp only [v197_at H, v220_at H, v246_at H, v58_at H, v84_at H, v110_at H, ← EReal.coe_mul, ← coe_sum, ← EReal.coe_add]
  refine congrArg _ ?_
  unfold Head.dv; rw [← Finset.sum_add_distrib, ← Finset.sum_add_distrib]
  refine Finset.sum_congr rfl fun t _ => ?_
  have T := (A.three_pos b h).tot_ne t
  have R1 := (A.one_pos b h 128 1).tot_ne t
  have R2 := (A.one_pos b h 512 4).tot_ne t
  have R3 := (A.one_pos b h 2048 16).tot_ne t
  rw [A.w_three b h t s]
  field_simp; ring

theorem dc_at : dc V0 (ix3 b t h) = ((A.fox b h).dc t : EReal) := by
  unfold dc; pointwise
  simp only [v283_at H, ← EReal.coe_neg, ← coe_sum, ← EReal.coe_add]
  refine congrArg _ ?_
  simp only [Fin.sum_univ_one, Finset.sum_neg_distrib]
  unfold Head.dc; ring

end Attn.Ref

end
-- ==== Proof.AttnClaim.lean ====
/-
  The attention's claim: from finite arguments the kernel and the plain backward end with equal gradients.
-/
module

public import proofs.«01_k».proof.Proof.AttnValue
public import proofs.«01_k».proof.Proof.AttnRefVal
public import proofs.«01_k».proof.Defs

@[expose] public section

set_option maxRecDepth 65536

noncomputable section

namespace Cert.Proof.AttnClaim

open Cert.Kernel2Ideal Cert.Kernel2Ideal.Gen
open Idealize.ShloMosaic Idealize.ShloMosaic.TcCoe Idealize.SL.Sem Attn Attn.Host

theorem bcast_rows : Cert.Pre_finite2.S_.BroadcastsInDim Cert.Pre_finite2.S4x2048x16x64 (![] : Fin 0 → Fin Cert.Pre_finite2.S4x2048x16x64.rank) := by decide
theorem reduces_rows : Cert.Pre_finite2.S4x2048x16x64.ReducesTo [0, 1, 2, 3] Cert.Pre_finite2.S_ := by decide
theorem one_element : 0 < Cert.Pre_finite2.S_.numel := by decide
theorem bcast_gates : Cert.Pre_finite2.S_.BroadcastsInDim Cert.Pre_finite2.S4x2048x8 (![] : Fin 0 → Fin Cert.Pre_finite2.S4x2048x8.rank) := by decide
theorem reduces_gates : Cert.Pre_finite2.S4x2048x8.ReducesTo [0, 1, 2] Cert.Pre_finite2.S_ := by decide

/-- The side conditions of the precondition's operations. -/
instance pre_facts : Cert.Pre_finite2.Facts where
  bcast_S_S4x2048x16x64 := bcast_rows
  reducesTo_S4x2048x16x64_S_d0_1_2_3 := reduces_rows
  h_S_ := one_element
  bcast_S_S4x2048x8 := bcast_gates
  reducesTo_S4x2048x8_S_d0_1_2 := reduces_gates

variable (m : (ℓ : Loc nD τ sig) → Buf (Elt Ideal) ℓ) (g : Dev nD → PrngReg)

abbrev aQ (c : Dev nD) : FVec Ideal S4x2048x16x64 .f32 := m ((c : Thread nD τ).loc main_arg0)
abbrev aK (c : Dev nD) : FVec Ideal S4x2048x16x64 .f32 := m ((c : Thread nD τ).loc main_arg1)
abbrev aV (c : Dev nD) : FVec Ideal S4x2048x16x64 .f32 := m ((c : Thread nD τ).loc main_arg2)
abbrev aC (c : Dev nD) : FVec Ideal S4x2048x8 .f32 := m ((c : Thread nD τ).loc main_arg3)
abbrev aD (c : Dev nD) : FVec Ideal S4x2048x16x64 .f32 := m ((c : Thread nD τ).loc main_arg4)

/-- Every element of the five arguments is a real number. -/
structure RealArgs (c : Dev nD) : Prop where
  q : ∀ i, IsReal (aQ m c i)
  k : ∀ i, IsReal (aK m c i)
  v : ∀ i, IsReal (aV m c i)
  g : ∀ i, IsReal (aC m c i)
  d : ∀ i, IsReal (aD m c i)

instance : Subsingleton Cert.Pre_finite2.S_.Idx := ⟨fun a b => funext fun i => i.elim0⟩

theorem real_of_pre (h : Cert.Pre_Kernel2Ideal_finite2 m) (c : Dev nD) : RealArgs m c := by
  have e := h c
  simp only [Cert.Pre_finite2.fn, Cert.Pre_finite2.fn_part1] at e
  have e := congrFun e (fun i => i.elim0)
  simp only [andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · have := Host.reduce_andi_all _ _ _ _ _ e0 i
    pointwise at this
    exact IsReal.of_cmp this
  · have := Host.reduce_andi_all _ _ _ _ _ e1 i
    pointwise at this
    exact IsReal.of_cmp this
  · have := Host.reduce_andi_all _ _ _ _ _ e2 i
    pointwise at this
    exact IsReal.of_cmp this
  · have := Host.reduce_andi_all _ _ _ _ _ e3 i
    pointwise at this
    exact IsReal.of_cmp this
  · have := Host.reduce_andi_all _ _ _ _ _ e4 i
    pointwise at this
    exact IsReal.of_cmp this

/-- The real arrays of the arguments. -/
def arrays (c : Dev nD) : Arrays where
  q b t h i := (aQ m c (ix4 b t h i)).toReal
  k b t h i := (aK m c (ix4 b t h i)).toReal
  v b t h i := (aV m c (ix4 b t h i)).toReal
  c b t h := (aC m c (ix3 b t h)).toReal
  d b t h i := (aD m c (ix4 b t h i)).toReal

theorem coe_toReal {x : EReal} (h : IsReal x) : x = (x.toReal : EReal) := by
  obtain ⟨r, rfl⟩ := h; rw [EReal.toReal_coe]

variable {m}

theorem at_kernel {c : Dev nD} (R : RealArgs m c) : Attn.Host.At m c (arrays m c) where
  q _ _ _ _ := coe_toReal (R.q _)
  k _ _ _ _ := coe_toReal (R.k _)
  v _ _ _ _ := coe_toReal (R.v _)
  g _ _ _ := coe_toReal (R.g _)
  d _ _ _ _ := coe_toReal (R.d _)

/-- The plain backward's gradients are the heads'. -/
theorem ref_hd {V0 : Valuation Cert.Reference2Ideal.τ Cert.Reference2Ideal.sig (Elt Ideal)} {A : Arrays} (H : Ref.At V0 A)
    (b : Fin 4) (t : Fin 2048) (h : Fin 16) (i : Fin 64) :
    Ref.dq V0 (ix4 b t h i) = ((A.hd b h).dq t i : EReal) ∧ Ref.dk V0 (ix4 b t h i) = ((A.hd b h).dk t i : EReal)
      ∧ Ref.dv V0 (ix4 b t h i) = ((A.hd b h).dv t i : EReal) := by
  by_cases hg : h.val < 8
  · rw [Arrays.hd_fox hg]
    exact ⟨Ref.dq_f H b ⟨h, hg⟩ t i, Ref.dk_f H b ⟨h, hg⟩ t i, Ref.dv_f H b ⟨h, hg⟩ t i⟩
  · rw [Arrays.hd_dil hg]
    have e : (⟨8 + (h.val - 8), by omega⟩ : Fin 16) = h := Fin.ext (by show 8 + (h.val - 8) = h.val; omega)
    have r0 := Ref.dq_d H b ⟨h - 8, by omega⟩ t i
    have r1 := Ref.dk_d H b ⟨h - 8, by omega⟩ t i
    have r2 := Ref.dv_d H b ⟨h - 8, by omega⟩ t i
    simp only [e] at r0 r1 r2
    exact ⟨r0, r1, r2⟩

abbrev Rows := FVec Ideal S4x2048x16x64 .f32
abbrev Gates := FVec Ideal S4x2048x8 .f32

/-- The four gradients as arrays of the results' shapes. -/
def gq (A : Arrays) : Rows := fun j => ((A.hd (j 0) (j 2)).dq (j 1) (j 3) : EReal)
def gk (A : Arrays) : Rows := fun j => ((A.hd (j 0) (j 2)).dk (j 1) (j 3) : EReal)
def gv (A : Arrays) : Rows := fun j => ((A.hd (j 0) (j 2)).dv (j 1) (j 3) : EReal)
def gc (A : Arrays) : Gates := fun j => ((A.fox (j 0) (j 2)).dc (j 1) : EReal)

theorem rows_ext {x : Rows} {f : Rows} (h : ∀ b t g i, x (ix4 b t g i) = f (ix4 b t g i)) : x = f := by
  funext j; idx_vars j; exact h ..
theorem gates_ext {x : Gates} {f : Gates} (h : ∀ b t g, x (ix3 b t g) = f (ix3 b t g)) : x = f := by
  funext j; idx_vars j; exact h ..

theorem run_kernel (A : Dev nD → Arrays) (H : ∀ c, Attn.Host.At m c (A c)) :
    θ_run defs (onTc (τ := τ) (main (F := Ideal))) ⟨m, fun _ => 0, g⟩ fun r => ∀ c : Dev nD,
      (r.2.mem ((c.tc : Thread nD τ).loc main_v278) : Rows) = gq (A c)
      ∧ (r.2.mem ((c.tc : Thread nD τ).loc main_v282) : Rows) = gk (A c)
      ∧ (r.2.mem ((c.tc : Thread nD τ).loc main_v284) : Rows) = gv (A c)
      ∧ (r.2.mem ((c.tc : Thread nD τ).loc main_v274) : Gates) = gc (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v278 (Pipeline.mem_restRefs_of main_v278 (by decide) (by decide))).trans (rows_ext fun b t g i => res_dq b t i (H c) g),
        ((h.1 c).2 main_v282 (Pipeline.mem_restRefs_of main_v282 (by decide) (by decide))).trans (rows_ext fun b t g i => res_dk b t i (H c) g),
        ((h.1 c).2 main_v284 (Pipeline.mem_restRefs_of main_v284 (by decide) (by decide))).trans (rows_ext fun b t g i => res_dv b t i (H c) g),
        ((h.1 c).2 main_v274 (Pipeline.mem_restRefs_of main_v274 (by decide) (by decide))).trans (gates_ext fun b t g => res_dc b t (H c) g), h.2 c⟩)
    (θ_run_and (AttnRun.run_main m g) (frame_of m g (AttnRun.dats m) (AttnRun.A_eq m) (AttnRun.run_main m g)))

end Cert.Proof.AttnClaim

namespace Cert.Proof.AttnClaim.Plain

open Cert.Reference2Ideal
open Idealize.ShloMosaic Idealize.ShloMosaic.TcCoe Idealize.ShloMosaic.StableHlo Idealize.SL.Sem Attn

variable (m : (ℓ : Loc nD τ sig) → Buf (Elt Ideal) ℓ) (g : Dev nD → PrngReg)

theorem run_plain (A : Dev nD → Arrays) (H : ∀ c, Ref.At (launchContents m c) (A c)) :
    θ_run defs (onTc (τ := τ) (main (F := Ideal))) ⟨m, fun _ => 0, g⟩ fun r => ∀ c : Dev nD,
      (r.2.mem ((c.tc : Thread nD τ).loc main_v304) : Rows) = gq (A c)
      ∧ (r.2.mem ((c.tc : Thread nD τ).loc main_v302) : Rows) = gk (A c)
      ∧ (r.2.mem ((c.tc : Thread nD τ).loc main_v300) : Rows) = gv (A c)
      ∧ (r.2.mem ((c.tc : Thread nD τ).loc main_v298) : Gates) = gc (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans (rows_ext (x := Ref.dq _) fun b t g i => (ref_hd (H c) b t g i).1),
        (h c).2.1.trans (rows_ext (x := Ref.dk _) fun b t g i => (ref_hd (H c) b t g i).2.1),
        (h c).2.2.1.trans (rows_ext (x := Ref.dv _) fun b t g i => (ref_hd (H c) b t g i).2.2),
        (h c).2.2.2.1.trans (gates_ext (x := Ref.dc _) fun b t g => Ref.dc_at (H c) b g t), (h c).2.2.2.2⟩)
    (Cert.Reference2Ideal.Value.run (F := Ideal) m g)

variable {m}

theorem at_plain {c : Dev nD} {q k v d : Rows} {w : Gates} {A : Arrays}
    (eq : (m ((c.tc : Thread nD τ).loc main_arg0) : Rows) = q) (ek : (m ((c.tc : Thread nD τ).loc main_arg1) : Rows) = k)
    (ev : (m ((c.tc : Thread nD τ).loc main_arg2) : Rows) = v) (ew : (m ((c.tc : Thread nD τ).loc main_arg3) : Gates) = w)
    (ed : (m ((c.tc : Thread nD τ).loc main_arg4) : Rows) = d)
    (hq : ∀ b t h i, q (ix4 b t h i) = (A.q b t h i : EReal)) (hk : ∀ b t h i, k (ix4 b t h i) = (A.k b t h i : EReal))
    (hv : ∀ b t h i, v (ix4 b t h i) = (A.v b t h i : EReal)) (hw : ∀ b t h, w (ix3 b t h) = (A.c b t h : EReal))
    (hd : ∀ b t h i, d (ix4 b t h i) = (A.d b t h i : EReal)) : Ref.At (launchContents m c) A where
  q b t h i := (congrFun eq _).trans (hq b t h i)
  k b t h i := (congrFun ek _).trans (hk b t h i)
  v b t h i := (congrFun ev _).trans (hv b t h i)
  c b t h := (congrFun ew _).trans (hw b t h)
  d b t h i := (congrFun ed _).trans (hd b t h i)

end Cert.Proof.AttnClaim.Plain

namespace Cert.Proof.AttnClaim

theorem algebraic : Cert.algebraic_Kernel2Ideal_Reference2Ideal_pre_finite2 := by
  intro m g m' g' hpre hagree
  have K := fun c => at_kernel (real_of_pre m hpre c)
  exact ⟨fun c => gq (arrays m c), fun c => gk (arrays m c), fun c => gv (arrays m c), fun c => gc (arrays m c),
    run_kernel g (arrays m) K,
    Plain.run_plain m' g' (arrays m) fun c => Plain.at_plain (hagree c).1 (hagree c).2.1 (hagree c).2.2.1 (hagree c).2.2.2.1 (hagree c).2.2.2.2
      (K c).q (K c).k (K c).v (K c).g (K c).d⟩

end Cert.Proof.AttnClaim

end
-- ==== Proof.NormReals.lean ====
/-
  One row of the root-mean-square norm's backward, over the extended reals: the form the kernels compute and the form the
  plain gradient computes, equal on real numbers.
-/
module

public import proofs.«01_k».proof.Proof.Reals

@[expose] public section

noncomputable section

namespace Cert.Proof.Norm

open Idealize.ShloMosaic

variable {n : ℕ}

/-- The mean square of a row plus the norm's small constant; `w` is the row's length. -/
def ms (w : EReal) (x : Fin n → EReal) : EReal := Ideal.div (∑ k, x k * x k) w + Ideal.ofBits .f32 0x358637BD#32

/-- The row's scale. -/
def inv (w : EReal) (x : Fin n → EReal) : EReal := Ideal.rsqrt (ms w x)

/-- The gradient in the row as the kernels compute it, from the row `x`, the gradient `h` of the normed row and the gain `a`. -/
def dxK (w : EReal) (x h a : Fin n → EReal) (j : Fin n) : EReal :=
  inv w x * (h j * a j - x j * inv w x * Ideal.div (∑ k, h k * a k * (x k * inv w x)) w)

/-- What the plain gradient sends through the mean square, per unit of `x`, once. -/
def via (w : EReal) (x h a : Fin n → EReal) : EReal :=
  Ideal.div ((∑ k, x k * (h k * a k)) * (Ideal.ofBits .f32 0xBF000000#32 * Ideal.div (inv w x) (ms w x))) w

theorem eps_pos : ∃ e : ℝ, 0 < e ∧ Ideal.ofBits .f32 0x358637BD#32 = (e : EReal) :=
  ⟨8796093 / 8796093022208, by norm_num, by simp [Ideal.ofBits, Ideal.ieee, -EReal.coe_mul]; norm_num⟩

theorem neg_half : Ideal.ofBits .f32 0xBF000000#32 = ((-(1 / 2) : ℝ) : EReal) := by
  simp [Ideal.ofBits, Ideal.ieee, -EReal.coe_mul]; norm_num

theorem f1024 : Ideal.ofBits .f32 0x44800000#32 = ((1024 : ℝ) : EReal) := by
  simp [Ideal.ofBits, Ideal.ieee, -EReal.coe_mul]; norm_num

theorem f512 : Ideal.ofBits .f32 0x44000000#32 = ((512 : ℝ) : EReal) := by
  simp [Ideal.ofBits, Ideal.ieee, -EReal.coe_mul]; norm_num

/-- On real rows the mean square is a positive real, and the scale the inverse of its root. -/
theorem ms_real {w : ℝ} (hw : 0 < w) (x : Fin n → ℝ) :
    ∃ s : ℝ, 0 < s ∧ ms (w : EReal) (fun k => (x k : EReal)) = (s : EReal)
      ∧ inv (w : EReal) (fun k => (x k : EReal)) = (((Real.sqrt s)⁻¹ : ℝ) : EReal) := by
  obtain ⟨e, he, hE⟩ := eps_pos
  have hs : 0 < (∑ k, x k * x k) / w + e := by
    have := Finset.sum_nonneg (s := Finset.univ) fun (k : Fin n) _ => mul_self_nonneg (x k)
    positivity
  have hm : ms (w : EReal) (fun k => (x k : EReal)) = (((∑ k, x k * x k) / w + e : ℝ) : EReal) := by
    simp only [ms, hE, ← EReal.coe_mul, ← coe_sum, div_real hw.ne', ← EReal.coe_add]
  refine ⟨_, hs, hm, ?_⟩
  rw [inv, hm, Ideal.rsqrt_coe, if_neg hs.not_gt, if_neg hs.ne']

/-- The two forms of the gradient in the row agree on real numbers. -/
theorem row {w : ℝ} (hw : 0 < w) {x h a : Fin n → EReal} {y : EReal} (hx : ∀ k, IsReal (x k)) (hh : ∀ k, IsReal (h k))
    (ha : ∀ k, IsReal (a k)) (hy : IsReal y) (j : Fin n) :
    y + dxK w x h a j = y + h j * a j * inv w x + x j * via w x h a + via w x h a * x j := by
  choose x' hx using hx
  choose h' hh using hh
  choose a' ha using ha
  obtain ⟨y', rfl⟩ := hy
  obtain rfl : x = fun k => (x' k : EReal) := funext hx
  obtain rfl : h = fun k => (h' k : EReal) := funext hh
  obtain rfl : a = fun k => (a' k : EReal) := funext ha
  obtain ⟨s, hs, hm, hi⟩ := ms_real hw x'
  have hr : Real.sqrt s ≠ 0 := (Real.sqrt_pos.2 hs).ne'
  simp only [dxK, via, hm, hi, neg_half, ← EReal.coe_mul, ← coe_sum, div_real hw.ne', div_real hs.ne', ← EReal.coe_add, ← EReal.coe_sub]
  norm_cast
  have e : ∀ k, h' k * a' k * (x' k * (Real.sqrt s)⁻¹) = x' k * (h' k * a' k) * (Real.sqrt s)⁻¹ := fun k => by ring
  simp only [e, ← Finset.sum_mul]
  generalize (∑ k, x' k * (h' k * a' k)) = S
  have hq : s = Real.sqrt s * Real.sqrt s := (Real.mul_self_sqrt hs.le).symm
  generalize Real.sqrt s = r at *
  subst hq
  field_simp
  ring

/-- The same without an addend. -/
theorem row' {w : ℝ} (hw : 0 < w) {x h a : Fin n → EReal} (hx : ∀ k, IsReal (x k)) (hh : ∀ k, IsReal (h k))
    (ha : ∀ k, IsReal (a k)) (j : Fin n) :
    dxK w x h a j = h j * a j * inv w x + x j * via w x h a + via w x h a * x j := by
  simpa using row hw hx hh ha (y := 0) ⟨0, rfl⟩ j

end Cert.Proof.Norm

end
-- ==== Proof.NormUp.lean ====
module

public import proofs.«01_k».proof.Defs
public import proofs.«01_k».proof.Proof.Gen.Pre_finite9
public import proofs.«01_k».proof.Proof.Gen.Kernel9Ideal.Value
public import proofs.«01_k».proof.Proof.Gen.Reference9Ideal.Run
public import proofs.«01_k».proof.Proof.NormReals
public import Idealize.ShloMosaic.Lib.Pointwise
public import Idealize.ShloMosaic.Lib.Claim
public import Idealize.ShloMosaic.Lib.ReduceAll
public import Idealize.ShloMosaic.Lib.Pipeline.Value
public import Idealize.ShloMosaic.Lib.Pipeline.ValueKit

/-! The backward of the FFN's up projection and the norm before it: each grid point takes 512 tokens in two halves, writes
their input gradients and adds its part of the gain's gradient to a row that stays on the chip over all points. -/

@[expose] public section

noncomputable section

open Idealize.ShloMosaic Idealize.ShloMosaic.TcCoe Idealize.SL.Sem

namespace Cert.Proof.NormUp

open Cert.Kernel9Ideal Cert.Kernel9Ideal.Gen

variable (m : (ℓ : Loc nD τ sig) → Buf (Elt Ideal) ℓ) (g : Dev nD → PrngReg)

abbrev aDu (c : Dev nD) : FVec Ideal S8192x2816 .bf16 := m ((c : Thread nD τ).loc main_arg0)
abbrev aW (c : Dev nD) : FVec Ideal S2816x1024 .bf16 := m ((c : Thread nD τ).loc main_arg1)
abbrev aX (c : Dev nD) : FVec Ideal S8192x1024 .bf16 := m ((c : Thread nD τ).loc main_arg2)
abbrev aG (c : Dev nD) : FVec Ideal S1x1024 .f32 := m ((c : Thread nD τ).loc main_arg3)
abbrev aDy (c : Dev nD) : FVec Ideal S8192x1024 .bf16 := m ((c : Thread nD τ).loc main_arg4)
abbrev aDh (c : Dev nD) : FVec Ideal S8192x1024 .bf16 := m ((c : Thread nD τ).loc main_arg5)

/-- The norm's row length. -/
abbrev width : EReal := Ideal.ofBits .f32 0x44800000#32

/-- One token's row of the norm's input, the gradient of its normed row, and the gain. -/
def rowX (x : FVec Ideal S8192x1024 .bf16) (r : Fin 8192) (k : Fin 1024) : EReal := x (ix2 r k)
def rowH (du : FVec Ideal S8192x2816 .bf16) (w : FVec Ideal S2816x1024 .bf16) (dh : FVec Ideal S8192x1024 .bf16)
    (r : Fin 8192) (k : Fin 1024) : EReal := dh (ix2 r k) + ∑ l : Fin 2816, du (ix2 r l) * w (ix2 l k)
def gain (a : FVec Ideal S1x1024 .f32) (k : Fin 1024) : EReal := a (ix2 0 k)

/-- The input's gradient. -/
def dx (c : Dev nD) : FVec Ideal S8192x1024 .bf16 := fun i =>
  aDy m c (ix2 (i 0) (i 1)) + Norm.dxK width (rowX (aX m c) (i 0)) (rowH (aDu m c) (aW m c) (aDh m c) (i 0)) (gain (aG m c)) (i 1)

/-- The gain's gradient: the sum over all tokens. -/
def dg (c : Dev nD) : FVec Ideal S1x1024 .f32 := fun i =>
  ∑ r : Fin 8192, rowH (aDu m c) (aW m c) (aDh m c) r (i 1) * (rowX (aX m c) r (i 1) * Norm.inv width (rowX (aX m c) r))

/-- The blocks a grid point reads. -/
abbrev bDu (c : Dev nD) (t : Fin cfg0.N) : FVec Ideal S512x2816 .bf16 := iblk m c 0 t
abbrev bW (c : Dev nD) (t : Fin cfg0.N) : FVec Ideal S2816x1024 .bf16 := iblk m c 1 t
abbrev bX (c : Dev nD) (t : Fin cfg0.N) : FVec Ideal S512x1024 .bf16 := iblk m c 2 t
abbrev bDh (c : Dev nD) (t : Fin cfg0.N) : FVec Ideal S512x1024 .bf16 := iblk m c 5 t

/-- A block's rows. -/
def blkX (x : FVec Ideal S512x1024 .bf16) (r : Fin 512) (k : Fin 1024) : EReal := x (ix2 r k)
def blkH (du : FVec Ideal S512x2816 .bf16) (w : FVec Ideal S2816x1024 .bf16) (dh : FVec Ideal S512x1024 .bf16)
    (r : Fin 512) (k : Fin 1024) : EReal := dh (ix2 r k) + ∑ l : Fin 2816, du (ix2 r l) * w (ix2 l k)

/-- One token's part of the gain's gradient. -/
def part1 (c : Dev nD) (t : Fin cfg0.N) (r : Fin 512) (k : Fin 1024) : EReal :=
  blkH (bDu m c t) (bW m c t) (bDh m c t) r k * (blkX (bX m c t) r k * Norm.inv width (blkX (bX m c t) r))

/-- What one grid point adds to the gain's gradient. -/
def part (c : Dev nD) (t : Fin cfg0.N) (j : S1x1024.Idx) : EReal := ∑ r : Fin 512, part1 m c t r (j 1)

theorem part_halves (c : Dev nD) (t : Fin cfg0.N) (j : S1x1024.Idx) :
    part m c t j = ∑ r : Fin 256, part1 m c t ⟨r.val, by omega⟩ (j 1) + ∑ r : Fin 256, part1 m c t ⟨256 + r.val, by omega⟩ (j 1) :=
  Fin.sum_univ_add (a := 256) (b := 256) fun r => part1 m c t r (j 1)

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- The row of the gain's gradient after the last point. -/
theorem acc (c : Dev nD) (t : Fin cfg0.N) (h : t.val % 16 = 16 - 1) (j : S1x1024.Idx) :
    (outsAt0 m c t.val t.isLt).2 j
      = 0 + ∑ s : Fin 16, part m c ⟨16 * (t.val / 16) + s.val, by have := t.isLt; have := s.isLt; omega⟩ j := by
  rw [Pipeline.eq_sum_fin_of_reset_step_apply_of_flush (fun n h => (outsAt0 m c n h).2) 16 (fun _ => (0 : EReal)) (part m c)
    (fun t h j => by
      rw [outsAt0_A m c t h, part_halves]
      frame_out
      pointwise [k0_pay2, k0_pay3, k0_pay4, k0_pay5, k0_pay6, k0_pay7, k0_pay8, k0_pay9, k0_pay10, k0_pay12, k0_pay13, k0_pay14, k0_pay15,
        part1, blkH, blkX, Norm.inv, Norm.ms])
    (fun t h j => by
      rw [outsAt0_B m c t h, part_halves]
      frame_out
      pointwise [k0_pay3, k0_pay4, k0_pay5, k0_pay6, k0_pay7, k0_pay8, k0_pay9, k0_pay10, k0_pay12, k0_pay13, k0_pay14, k0_pay15,
        part1, blkH, blkX, Norm.inv, Norm.ms]
      exact add_assoc _ _ _) t h j]

theorem final_dg (c : Dev nD) : (dats m 0 c).arrAt 7 (cfgs 0).N = dg m c := by
  refine (dats m 0 c).arrAt_eq_of_covers 7 _ (by decide +kernel) fun t hf y => ?_
  have h3 : t.val % 16 = 15 := (flush0_7 t).mp hf
  blk_simp
  rw [after0_7]
  dsimp only
  rw [acc m c t h3, zero_add]
  refine Fin.sum_mul_add_congr (S := 16) (n := 512) fun s k hl => ?_
  generalize hp : (⟨16 * (t.val / 16) + s.val, _⟩ : Fin cfg0.N) = p
  have hv : p.val = 16 * (t.val / 16) + s.val := by rw [← hp]
  have ht : t.val < 16 := lt_of_lt_of_eq t.isLt N_0
  pointwise [part1, blkH, blkX, rowH, rowX, Norm.inv, Norm.ms]
  blk_point [bX, bW, bDu, bDh, iblk, V, idx t, idx p, hv]

theorem final_dx (c : Dev nD) : (dats m 0 c).arrAt 6 (cfgs 0).N = dx m c := by
  refine (dats m 0 c).arrAt_eq_of_covers 6 _ (by decide +kernel) fun t hf y => ?_
  blk_simp
  rw [after0_6]
  by_cases h : t.val % 16 = 0
  · rw [outsAt0_A m c t h]
    frame_out
    canon_tiles x h
    · pointwise [k0_pay1, k0_pay4, k0_pay12, k0_pay13, k0_pay14, dx, Norm.dxK, rowX, rowH, gain, Norm.inv, Norm.ms]
      blk_point [iblk, V, idx t]
    · pointwise [k0_pay11, k0_pay3, k0_pay5, k0_pay6, k0_pay7, dx, Norm.dxK, rowX, rowH, gain, Norm.inv, Norm.ms]
      blk_point [iblk, V, idx t]
  · rw [outsAt0_B m c t h]
    frame_out
    canon_tiles x h
    · pointwise [k0_pay1, k0_pay4, k0_pay12, k0_pay13, k0_pay14, dx, Norm.dxK, rowX, rowH, gain, Norm.inv, Norm.ms]
      blk_point [iblk, V, idx t]
    · pointwise [k0_pay11, k0_pay3, k0_pay5, k0_pay6, k0_pay7, dx, Norm.dxK, rowX, rowH, gain, Norm.inv, Norm.ms]
      blk_point [iblk, V, idx t]

/-- Every element of the arguments is a real number. -/
structure RealArgs (c : Dev nD) : Prop where
  du : ∀ i, IsReal (aDu m c i)
  w : ∀ i, IsReal (aW m c i)
  x : ∀ i, IsReal (aX m c i)
  a : ∀ i, IsReal (aG m c i)
  dy : ∀ i, IsReal (aDy m c i)
  dh : ∀ i, IsReal (aDh m c i)

/-- The input's gradient as the plain backward spells it. -/
theorem dx_plain (c : Dev nD) (R : RealArgs m c) (i : S8192x1024.Idx) :
    dx m c i = aDy m c i + rowH (aDu m c) (aW m c) (aDh m c) (i 0) (i 1) * gain (aG m c) (i 1) * Norm.inv width (rowX (aX m c) (i 0))
      + rowX (aX m c) (i 0) (i 1) * Norm.via width (rowX (aX m c) (i 0)) (rowH (aDu m c) (aW m c) (aDh m c) (i 0)) (gain (aG m c))
      + Norm.via width (rowX (aX m c) (i 0)) (rowH (aDu m c) (aW m c) (aDh m c) (i 0)) (gain (aG m c)) * rowX (aX m c) (i 0) (i 1) := by
  have e : (ix2 (i 0) (i 1) : S8192x1024.Idx) = i := by funext k; fin_cases k <;> rfl
  rw [dx, e, width, Norm.f1024]
  exact Norm.row (by norm_num) (fun k => R.x _) (fun k => (R.dh _).add (IsReal.sum _ fun l => (R.du _).mul (R.w _))) (fun k => R.a _) (R.dy _) (i 1)

/-! ## The precondition -/

instance : Subsingleton Cert.Pre_finite9.S_.Idx := ⟨fun a b => funext fun i => i.elim0⟩

theorem real_of_pre (h : Cert.Pre_Kernel9Ideal_finite9 m) (c : Dev nD) : RealArgs m c := by
  have e := h c
  simp only [Cert.Pre_finite9.fn, Cert.Pre_finite9.fn_part1] at e
  have e := congrFun e (fun i => i.elim0)
  simp only [andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_, fun i => ?_⟩
  · have := Host.reduce_andi_all _ _ _ _ _ e0 i
    pointwise at this
    exact IsReal.of_cmp this
  · have := Host.reduce_andi_all _ _ _ _ _ e1 i
    pointwise at this
    exact IsReal.of_cmp this
  · have := Host.reduce_andi_all _ _ _ _ _ e2 i
    pointwise at this
    exact IsReal.of_cmp this
  · have := Host.reduce_andi_all _ _ _ _ _ e3 i
    pointwise at this
    exact IsReal.of_cmp this
  · have := Host.reduce_andi_all _ _ _ _ _ e4 i
    pointwise at this
    exact IsReal.of_cmp this
  · have := Host.reduce_andi_all _ _ _ _ _ e5 i
    pointwise at this
    exact IsReal.of_cmp this

/-! ## The claims -/

theorem run_kernel : θ_run defs (onTc (τ := τ) (main (F := Ideal))) ⟨m, fun _ => 0, g⟩ fun r => ∀ c : Dev nD,
      r.2.mem ((c : Thread nD τ).loc main_v0_0) = dx m c
      ∧ r.2.mem ((c : Thread nD τ).loc main_v0_1) = dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_dx m c), (h c).2.1.trans (final_dg m c), (h c).2.2⟩)
    (Cert.Kernel9Ideal.Value.run_blocks m g)

theorem algebraic : Cert.algebraic_Kernel9Ideal_Reference9Ideal_pre_finite9 := by
  intro m g m' g' hpre hagree
  refine ⟨fun c => dx m c, fun c => dg m c, run_kernel m g, ?_⟩
  refine (θ_run Cert.Reference9Ideal.defs _ _).mono (fun _ h c => ⟨(h c).1.trans ?_, (h c).2.1.trans ?_, (h c).2.2⟩)
    (Cert.Reference9Ideal.Value.run (F := Ideal) m' g')
  · obtain ⟨e0, e1, e2, e3, e4, e5⟩ := hagree c
    unfold Cert.Reference9Ideal.Value.res_main_v44
    rw [e0, e1, e2, e3, e4, e5]
    funext i
    refine Eq.trans ?_ (dx_plain m c (real_of_pre m hpre c) i).symm
    pointwise [rowH, rowX, gain, Norm.inv, Norm.ms, Norm.via]
    simp only [Fin.sum_univ_one]
  · obtain ⟨e0, e1, e2, e3, e4, e5⟩ := hagree c
    rw [e0, e1, e2, e5]
    funext i
    pointwise [dg, rowH, rowX, Norm.inv, Norm.ms]
    exact Finset.sum_congr rfl fun r _ => mul_comm _ _

theorem frame_ref (m : (ℓ : Loc Cert.Reference9Ideal.nD Cert.Reference9Ideal.τ Cert.Reference9Ideal.sig) → Buf (Elt Ideal) ℓ)
    (g : Dev Cert.Reference9Ideal.nD → PrngReg) :
    θ_run Cert.Reference9Ideal.defs (onTc (τ := Cert.Reference9Ideal.τ) (Cert.Reference9Ideal.main (F := Ideal))) ⟨m, fun _ => 0, g⟩
      fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
        ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
        ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
        ∧ r.2.sem = fun _ => 0 :=
  (θ_run Cert.Reference9Ideal.defs _ _).mono (fun r h => ⟨fun c => (h c).2.2,
      Idealize.ShloMosaic.sem_eq_zero_of_no_sems (by decide) r.2⟩)
    (Cert.Reference9Ideal.Value.run (F := Ideal) m g)

end Cert.Proof.NormUp

end
-- ==== Proof.NormIn.lean ====
module

public import proofs.«01_k».proof.Defs
public import proofs.«01_k».proof.Proof.Gen.Pre_finite10
public import proofs.«01_k».proof.Proof.Gen.Kernel10Ideal.Value
public import proofs.«01_k».proof.Proof.Gen.Reference10Ideal.Run
public import proofs.«01_k».proof.Proof.NormReals
public import Idealize.ShloMosaic.Lib.Pointwise
public import Idealize.ShloMosaic.Lib.Claim
public import Idealize.ShloMosaic.Lib.ReduceAll
public import Idealize.ShloMosaic.Lib.Pipeline.Value
public import Idealize.ShloMosaic.Lib.Pipeline.ValueKit

/-! The backward of the mixer's input projection and the norm before it, computed as in the FFN's up projection: 512 tokens
per grid point in two halves, the gain's gradient summed in a row that stays on the chip. -/

@[expose] public section

noncomputable section

open Idealize.ShloMosaic Idealize.ShloMosaic.TcCoe Idealize.SL.Sem

namespace Cert.Proof.NormIn

open Cert.Kernel10Ideal Cert.Kernel10Ideal.Gen

variable (m : (ℓ : Loc nD τ sig) → Buf (Elt Ideal) ℓ) (g : Dev nD → PrngReg)

abbrev aDu (c : Dev nD) : FVec Ideal S8192x3200 .bf16 := m ((c : Thread nD τ).loc main_arg0)
abbrev aW (c : Dev nD) : FVec Ideal S3200x1024 .bf16 := m ((c : Thread nD τ).loc main_arg1)
abbrev aX (c : Dev nD) : FVec Ideal S8192x1024 .bf16 := m ((c : Thread nD τ).loc main_arg2)
abbrev aG (c : Dev nD) : FVec Ideal S1x1024 .f32 := m ((c : Thread nD τ).loc main_arg3)
abbrev aDy (c : Dev nD) : FVec Ideal S8192x1024 .f32 := m ((c : Thread nD τ).loc main_arg4)

/-- The norm's row length. -/
abbrev width : EReal := Ideal.ofBits .f32 0x44800000#32

/-- One token's row of the norm's input, the gradient of its normed row, and the gain. -/
def rowX (x : FVec Ideal S8192x1024 .bf16) (r : Fin 8192) (k : Fin 1024) : EReal := x (ix2 r k)
def rowH (du : FVec Ideal S8192x3200 .bf16) (w : FVec Ideal S3200x1024 .bf16)
    (r : Fin 8192) (k : Fin 1024) : EReal := ∑ l : Fin 3200, du (ix2 r l) * w (ix2 l k)
def gain (a : FVec Ideal S1x1024 .f32) (k : Fin 1024) : EReal := a (ix2 0 k)

/-- The input's gradient. -/
def dx (c : Dev nD) : FVec Ideal S8192x1024 .f32 := fun i =>
  aDy m c (ix2 (i 0) (i 1)) + Norm.dxK width (rowX (aX m c) (i 0)) (rowH (aDu m c) (aW m c) (i 0)) (gain (aG m c)) (i 1)

/-- The gain's gradient: the sum over all tokens. -/
def dg (c : Dev nD) : FVec Ideal S1x1024 .f32 := fun i =>
  ∑ r : Fin 8192, rowH (aDu m c) (aW m c) r (i 1) * (rowX (aX m c) r (i 1) * Norm.inv width (rowX (aX m c) r))

/-- The blocks a grid point reads. -/
abbrev bDu (c : Dev nD) (t : Fin cfg0.N) : FVec Ideal S512x3200 .bf16 := iblk m c 0 t
abbrev bW (c : Dev nD) (t : Fin cfg0.N) : FVec Ideal S3200x1024 .bf16 := iblk m c 1 t
abbrev bX (c : Dev nD) (t : Fin cfg0.N) : FVec Ideal S512x1024 .bf16 := iblk m c 2 t

/-- A block's rows. -/
def blkX (x : FVec Ideal S512x1024 .bf16) (r : Fin 512) (k : Fin 1024) : EReal := x (ix2 r k)
def blkH (du : FVec Ideal S512x3200 .bf16) (w : FVec Ideal S3200x1024 .bf16)
    (r : Fin 512) (k : Fin 1024) : EReal := ∑ l : Fin 3200, du (ix2 r l) * w (ix2 l k)

/-- One token's part of the gain's gradient. -/
def part1 (c : Dev nD) (t : Fin cfg0.N) (r : Fin 512) (k : Fin 1024) : EReal :=
  blkH (bDu m c t) (bW m c t) r k * (blkX (bX m c t) r k * Norm.inv width (blkX (bX m c t) r))

/-- What one grid point adds to the gain's gradient. -/
def part (c : Dev nD) (t : Fin cfg0.N) (j : S1x1024.Idx) : EReal := ∑ r : Fin 512, part1 m c t r (j 1)

theorem part_halves (c : Dev nD) (t : Fin cfg0.N) (j : S1x1024.Idx) :
    part m c t j = ∑ r : Fin 256, part1 m c t ⟨r.val, by omega⟩ (j 1) + ∑ r : Fin 256, part1 m c t ⟨256 + r.val, by omega⟩ (j 1) :=
  Fin.sum_univ_add (a := 256) (b := 256) fun r => part1 m c t r (j 1)

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![0, 0] := by decide +kernel

/-- The row of the gain's gradient after the last point. -/
theorem acc (c : Dev nD) (t : Fin cfg0.N) (h : t.val % 16 = 16 - 1) (j : S1x1024.Idx) :
    (outsAt0 m c t.val t.isLt).2 j
      = 0 + ∑ s : Fin 16, part m c ⟨16 * (t.val / 16) + s.val, by have := t.isLt; have := s.isLt; omega⟩ j := by
  rw [Pipeline.eq_sum_fin_of_reset_step_apply_of_flush (fun n h => (outsAt0 m c n h).2) 16 (fun _ => (0 : EReal)) (part m c)
    (fun t h j => by
      rw [outsAt0_A m c t h, part_halves]
      frame_out
      pointwise [k0_pay2, k0_pay3, k0_pay4, k0_pay5, k0_pay6, k0_pay7, k0_pay8, k0_pay9, k0_pay10, k0_pay11, k0_pay12, k0_pay13, k0_pay14, k0_pay15,
        part1, blkH, blkX, Norm.inv, Norm.ms])
    (fun t h j => by
      rw [outsAt0_B m c t h, part_halves]
      frame_out
      pointwise [k0_pay3, k0_pay4, k0_pay5, k0_pay6, k0_pay7, k0_pay8, k0_pay9, k0_pay10, k0_pay11, k0_pay12, k0_pay13, k0_pay14, k0_pay15,
        part1, blkH, blkX, Norm.inv, Norm.ms]
      exact add_assoc _ _ _) t h j]

theorem final_dg (c : Dev nD) : (dats m 0 c).arrAt 6 (cfgs 0).N = dg m c := by
  refine (dats m 0 c).arrAt_eq_of_covers 6 _ (by decide +kernel) fun t hf y => ?_
  have h3 : t.val % 16 = 15 := (flush0_6 t).mp hf
  blk_simp
  rw [after0_6]
  dsimp only
  rw [acc m c t h3, zero_add]
  refine Fin.sum_mul_add_congr (S := 16) (n := 512) fun s k hl => ?_
  generalize hp : (⟨16 * (t.val / 16) + s.val, _⟩ : Fin cfg0.N) = p
  have hv : p.val = 16 * (t.val / 16) + s.val := by rw [← hp]
  have ht : t.val < 16 := lt_of_lt_of_eq t.isLt N_0
  pointwise [part1, blkH, blkX, rowH, rowX, Norm.inv, Norm.ms]
  blk_point [bX, bW, bDu, iblk, V, idx t, idx p, hv]

theorem final_dx (c : Dev nD) : (dats m 0 c).arrAt 5 (cfgs 0).N = dx m c := by
  refine (dats m 0 c).arrAt_eq_of_covers 5 _ (by decide +kernel) fun t hf y => ?_
  blk_simp
  rw [after0_5]
  by_cases h : t.val % 16 = 0
  · rw [outsAt0_A m c t h]
    frame_out
    canon_tiles x h
    · pointwise [k0_pay1, k0_pay2, k0_pay3, k0_pay4, k0_pay5, k0_pay6, k0_pay7, k0_pay8, k0_pay9, k0_pay10, k0_pay11, k0_pay12, k0_pay13, k0_pay14, k0_pay15,
        dx, Norm.dxK, rowX, rowH, gain, Norm.inv, Norm.ms]
      blk_point [iblk, V, idx t]
    · pointwise [k0_pay1, k0_pay2, k0_pay3, k0_pay4, k0_pay5, k0_pay6, k0_pay7, k0_pay8, k0_pay9, k0_pay10, k0_pay11, k0_pay12, k0_pay13, k0_pay14, k0_pay15,
        dx, Norm.dxK, rowX, rowH, gain, Norm.inv, Norm.ms]
      blk_point [iblk, V, idx t]
  · rw [outsAt0_B m c t h]
    frame_out
    canon_tiles x h
    · pointwise [k0_pay1, k0_pay2, k0_pay3, k0_pay4, k0_pay5, k0_pay6, k0_pay7, k0_pay8, k0_pay9, k0_pay10, k0_pay11, k0_pay12, k0_pay13, k0_pay14, k0_pay15,
        dx, Norm.dxK, rowX, rowH, gain, Norm.inv, Norm.ms]
      blk_point [iblk, V, idx t]
    · pointwise [k0_pay1, k0_pay2, k0_pay3, k0_pay4, k0_pay5, k0_pay6, k0_pay7, k0_pay8, k0_pay9, k0_pay10, k0_pay11, k0_pay12, k0_pay13, k0_pay14, k0_pay15,
        dx, Norm.dxK, rowX, rowH, gain, Norm.inv, Norm.ms]
      blk_point [iblk, V, idx t]

/-- Every element of the arguments is a real number. -/
structure RealArgs (c : Dev nD) : Prop where
  du : ∀ i, IsReal (aDu m c i)
  w : ∀ i, IsReal (aW m c i)
  x : ∀ i, IsReal (aX m c i)
  a : ∀ i, IsReal (aG m c i)
  dy : ∀ i, IsReal (aDy m c i)

/-- The input's gradient as the plain backward spells it. -/
theorem dx_plain (c : Dev nD) (R : RealArgs m c) (i : S8192x1024.Idx) :
    dx m c i = aDy m c i + rowH (aDu m c) (aW m c) (i 0) (i 1) * gain (aG m c) (i 1) * Norm.inv width (rowX (aX m c) (i 0))
      + rowX (aX m c) (i 0) (i 1) * Norm.via width (rowX (aX m c) (i 0)) (rowH (aDu m c) (aW m c) (i 0)) (gain (aG m c))
      + Norm.via width (rowX (aX m c) (i 0)) (rowH (aDu m c) (aW m c) (i 0)) (gain (aG m c)) * rowX (aX m c) (i 0) (i 1) := by
  have e : (ix2 (i 0) (i 1) : S8192x1024.Idx) = i := by funext k; fin_cases k <;> rfl
  rw [dx, e, width, Norm.f1024]
  exact Norm.row (by norm_num) (fun k => R.x _) (fun k => IsReal.sum _ fun l => (R.du _).mul (R.w _)) (fun k => R.a _) (R.dy _) (i 1)

/-! ## The precondition -/

instance : Subsingleton Cert.Pre_finite10.S_.Idx := ⟨fun a b => funext fun i => i.elim0⟩

theorem real_of_pre (h : Cert.Pre_Kernel10Ideal_finite10 m) (c : Dev nD) : RealArgs m c := by
  have e := h c
  simp only [Cert.Pre_finite10.fn, Cert.Pre_finite10.fn_part1] at e
  have e := congrFun e (fun i => i.elim0)
  simp only [andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · have := Host.reduce_andi_all _ _ _ _ _ e0 i
    pointwise at this
    exact IsReal.of_cmp this
  · have := Host.reduce_andi_all _ _ _ _ _ e1 i
    pointwise at this
    exact IsReal.of_cmp this
  · have := Host.reduce_andi_all _ _ _ _ _ e2 i
    pointwise at this
    exact IsReal.of_cmp this
  · have := Host.reduce_andi_all _ _ _ _ _ e3 i
    pointwise at this
    exact IsReal.of_cmp this
  · have := Host.reduce_andi_all _ _ _ _ _ e4 i
    pointwise at this
    exact IsReal.of_cmp this

/-! ## The claims -/

theorem run_kernel : θ_run defs (onTc (τ := τ) (main (F := Ideal))) ⟨m, fun _ => 0, g⟩ fun r => ∀ c : Dev nD,
      r.2.mem ((c : Thread nD τ).loc main_v0_0) = dx m c
      ∧ r.2.mem ((c : Thread nD τ).loc main_v0_1) = dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_dx m c), (h c).2.1.trans (final_dg m c), (h c).2.2⟩)
    (Cert.Kernel10Ideal.Value.run_blocks m g)

theorem algebraic : Cert.algebraic_Kernel10Ideal_Reference10Ideal_pre_finite10 := by
  intro m g m' g' hpre hagree
  refine ⟨fun c => dx m c, fun c => dg m c, run_kernel m g, ?_⟩
  refine (θ_run Cert.Reference10Ideal.defs _ _).mono (fun _ h c => ⟨(h c).1.trans ?_, (h c).2.1.trans ?_, (h c).2.2⟩)
    (Cert.Reference10Ideal.Value.run (F := Ideal) m' g')
  · obtain ⟨e0, e1, e2, e3, e4⟩ := hagree c
    unfold Cert.Reference10Ideal.Value.res_main_v41
    rw [e0, e1, e2, e3, e4]
    funext i
    refine Eq.trans ?_ (dx_plain m c (real_of_pre m hpre c) i).symm
    pointwise [rowH, rowX, gain, Norm.inv, Norm.ms, Norm.via]
    simp only [Fin.sum_univ_one]
  · obtain ⟨e0, e1, e2, e3, e4⟩ := hagree c
    rw [e0, e1, e2]
    funext i
    pointwise [dg, rowH, rowX, Norm.inv, Norm.ms]
    exact Finset.sum_congr rfl fun r _ => mul_comm _ _

theorem frame_ref (m : (ℓ : Loc Cert.Reference10Ideal.nD Cert.Reference10Ideal.τ Cert.Reference10Ideal.sig) → Buf (Elt Ideal) ℓ)
    (g : Dev Cert.Reference10Ideal.nD → PrngReg) :
    θ_run Cert.Reference10Ideal.defs (onTc (τ := Cert.Reference10Ideal.τ) (Cert.Reference10Ideal.main (F := Ideal))) ⟨m, fun _ => 0, g⟩
      fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
        ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
        ∧ r.2.sem = fun _ => 0 :=
  (θ_run Cert.Reference10Ideal.defs _ _).mono (fun r h => ⟨fun c => (h c).2.2,
      Idealize.ShloMosaic.sem_eq_zero_of_no_sems (by decide) r.2⟩)
    (Cert.Reference10Ideal.Value.run (F := Ideal) m g)

end Cert.Proof.NormIn

end
-- ==== Proof.NormOut.lean ====
module

public import proofs.«01_k».proof.Defs
public import proofs.«01_k».proof.Proof.Gen.Pre_finite11
public import proofs.«01_k».proof.Proof.Gen.Kernel11Ideal.Value
public import proofs.«01_k».proof.Proof.Gen.Reference11Ideal.Run
public import proofs.«01_k».proof.Proof.NormReals
public import Idealize.ShloMosaic.Lib.Pointwise
public import Idealize.ShloMosaic.Lib.Claim
public import Idealize.ShloMosaic.Lib.ReduceAll
public import Idealize.ShloMosaic.Lib.Pipeline.Value
public import Idealize.ShloMosaic.Lib.Pipeline.ValueKit
public import Idealize.ShloMosaic.Lib.Pipeline.ReadBack

/-! The backward of the mixer's output projection and the grouped norm before it: each grid point takes 1024 tokens in two
halves and the two groups of columns in turn, writes the input gradients and adds its part of the gain's gradient to a row that stays
on the chip over all points. -/

@[expose] public section

noncomputable section

open Idealize.ShloMosaic Idealize.ShloMosaic.TcCoe Idealize.SL.Sem

namespace Cert.Proof.NormOut

open Cert.Kernel11Ideal Cert.Kernel11Ideal.Gen

variable (m : (ℓ : Loc nD τ sig) → Buf (Elt Ideal) ℓ) (g : Dev nD → PrngReg)

abbrev aDy (c : Dev nD) : FVec Ideal S8192x1024 .bf16 := m ((c : Thread nD τ).loc main_arg0)
abbrev aW (c : Dev nD) : FVec Ideal S1024x1024 .bf16 := m ((c : Thread nD τ).loc main_arg1)
abbrev aX (c : Dev nD) : FVec Ideal S8192x1024 .bf16 := m ((c : Thread nD τ).loc main_arg2)
abbrev aG (c : Dev nD) : FVec Ideal S1x1024 .f32 := m ((c : Thread nD τ).loc main_arg3)

/-- The norm's group length. -/
abbrev width : EReal := Ideal.ofBits .f32 0x44000000#32

/-- The two groups of a row. -/
def lo (f : Fin 1024 → EReal) (l : Fin 512) : EReal := f ⟨l.val, by omega⟩
def hi (f : Fin 1024 → EReal) (l : Fin 512) : EReal := f ⟨512 + l.val, by omega⟩

/-- The scale of the group that holds a column. -/
def scale (f : Fin 1024 → EReal) (k : Fin 1024) : EReal :=
  if k.val < 512 then Norm.inv width (lo f) else Norm.inv width (hi f)

/-- One token's row of the norm's input, the gradient of its normed row, and the gain. -/
def rowX (x : FVec Ideal S8192x1024 .bf16) (r : Fin 8192) (k : Fin 1024) : EReal := x (ix2 r k)
def rowH (dy : FVec Ideal S8192x1024 .bf16) (w : FVec Ideal S1024x1024 .bf16)
    (r : Fin 8192) (k : Fin 1024) : EReal := ∑ l : Fin 1024, dy (ix2 r l) * w (ix2 k l)
def gain (a : FVec Ideal S1x1024 .f32) (k : Fin 1024) : EReal := a (ix2 0 k)

/-- The input's gradient, group by group. -/
def dx (c : Dev nD) : FVec Ideal S8192x1024 .bf16 := fun i =>
  if h : (i 1).val < 512 then
    Norm.dxK width (lo (rowX (aX m c) (i 0))) (lo (rowH (aDy m c) (aW m c) (i 0))) (lo (gain (aG m c))) ⟨(i 1).val, h⟩
  else
    Norm.dxK width (hi (rowX (aX m c) (i 0))) (hi (rowH (aDy m c) (aW m c) (i 0))) (hi (gain (aG m c)))
      ⟨(i 1).val - 512, by have : (i 1).val < 1024 := (i 1).isLt; omega⟩

/-- The gain's gradient: the sum over all tokens. -/
def dg (c : Dev nD) : FVec Ideal S1x1024 .f32 := fun i =>
  ∑ r : Fin 8192, rowH (aDy m c) (aW m c) r (i 1) * (rowX (aX m c) r (i 1) * scale (rowX (aX m c) r) (i 1))

/-- The blocks a grid point reads. -/
abbrev bDy (c : Dev nD) (t : Fin cfg0.N) : FVec Ideal S1024x1024 .bf16 := iblk m c 0 t
abbrev bW (c : Dev nD) (t : Fin cfg0.N) : FVec Ideal S1024x1024 .bf16 := iblk m c 1 t
abbrev bX (c : Dev nD) (t : Fin cfg0.N) : FVec Ideal S1024x1024 .bf16 := iblk m c 2 t

/-- A block's rows. -/
def blkX (x : FVec Ideal S1024x1024 .bf16) (r : Fin 1024) (k : Fin 1024) : EReal := x (ix2 r k)
def blkH (dy : FVec Ideal S1024x1024 .bf16) (w : FVec Ideal S1024x1024 .bf16)
    (r : Fin 1024) (k : Fin 1024) : EReal := ∑ l : Fin 1024, dy (ix2 r l) * w (ix2 k l)

/-- One token's part of the gain's gradient. -/
def part1 (c : Dev nD) (t : Fin cfg0.N) (r : Fin 1024) (k : Fin 1024) : EReal :=
  blkH (bDy m c t) (bW m c t) r k * (blkX (bX m c t) r k * scale (blkX (bX m c t) r) k)

/-- What one grid point adds to the gain's gradient. -/
def part (c : Dev nD) (t : Fin cfg0.N) (j : S1x1024.Idx) : EReal := ∑ r : Fin 1024, part1 m c t r (j 1)

theorem part_halves (c : Dev nD) (t : Fin cfg0.N) (j : S1x1024.Idx) :
    part m c t j = ∑ r : Fin 512, part1 m c t ⟨r.val, by omega⟩ (j 1) + ∑ r : Fin 512, part1 m c t ⟨512 + r.val, by omega⟩ (j 1) :=
  Fin.sum_univ_add (a := 512) (b := 512) fun r => part1 m c t r (j 1)

theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0] := by decide +kernel

/-- Under the last two writes, which cover the row, the earlier ones do not show. -/
theorem last_two {e : EltTy} (p q : View.Piece (Elt Ideal) S1x1024 e) (L : List (View.Piece (Elt Ideal) S1x1024 e))
    (y : S1x1024.Idx) (h : y ∈ p.1.set ∨ y ∈ q.1.set) : View.canon (p :: q :: L) y = View.canon [p, q] y := by
  by_cases hp : y ∈ p.1.set
  · obtain ⟨r, w⟩ := p
    obtain ⟨x, rfl⟩ := r.exists_idx_of_mem hp
    exact (View.canon_cons_emb r w _ x).trans (View.canon_cons_emb r w _ x).symm
  · have hq := h.resolve_left hp
    rw [View.canon_cons_of_not_mem _ _ hp, View.canon_cons_of_not_mem _ _ hp]
    obtain ⟨r, w⟩ := q
    obtain ⟨x, rfl⟩ := r.exists_idx_of_mem hq
    exact (View.canon_cons_emb r w _ x).trans (View.canon_cons_emb r w _ x).symm

theorem cover (y : S1x1024.Idx) : y ∈ (Rect.unit (s := S1x1024) ![0, 512] ![1, 512] inb_S1x1024_S1x512_0_512).set
    ∨ y ∈ (Rect.unit (s := S1x1024) ![0, 0] ![1, 512] inb_S1x1024_S1x512_0_0).set := by
  have h0 : (y 0).val < 1 := (y 0).isLt
  have h1 : (y 1).val < 1024 := (y 1).isLt
  by_cases h : (y 1).val < 512
  · exact .inr (Rect.mem_set_unit.mpr (Fin.forall_fin_two.mpr ⟨⟨Nat.zero_le _, h0⟩, ⟨Nat.zero_le _, by simpa using h⟩⟩))
  · exact .inl (Rect.mem_set_unit.mpr (Fin.forall_fin_two.mpr ⟨⟨Nat.zero_le _, h0⟩, ⟨by simpa using h, by simpa using h1⟩⟩))

theorem scale_lo {f : Fin 1024 → EReal} {k : Fin 1024} (h : k.val < 512) : scale f k = Norm.inv width (lo f) := if_pos h
theorem scale_hi {f : Fin 1024 → EReal} {k : Fin 1024} (h : ¬k.val < 512) : scale f k = Norm.inv width (hi f) := if_neg h

theorem step0 (c : Dev nD) (t : Fin cfg0.N) (h : t.val % 8 = 0) (j : S1x1024.Idx) :
    (outsAt0 m c t.val t.isLt).2 j = 0 + part m c t j := by
  rw [outsAt0_A m c t h, part_halves]
  frame_open
  simp (disch := decide) only [↓ View.readCov_skip, ↓ View.readCov_cons_toLoadRect, ↓ View.readCov_fill]
  frame_out
  refine (last_two _ _ _ j ?_).trans ?_
  · exact cover j
  canon_tiles x h
  · have hj : ¬(j 1).val < 512 := by omega
    simp only [part1, scale_hi hj]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
      blkH, blkX, Norm.inv, Norm.ms, hi]
    blk_point [iblk, V, idx t]
  · have hj : (j 1).val < 512 := by omega
    simp only [part1, scale_lo hj]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
      blkH, blkX, Norm.inv, Norm.ms, lo]
    blk_point [iblk, V, idx t]

theorem step1 (c : Dev nD) (t : Fin cfg0.N) (h : ¬t.val % 8 = 0) (j : S1x1024.Idx) :
    (outsAt0 m c t.val t.isLt).2 j = (outsAt0 m c (t.val - 1) (Nat.lt_of_le_of_lt (Nat.sub_le _ _) t.isLt)).2 j + part m c t j := by
  rw [outsAt0_B m c t h, part_halves]
  frame_open
  simp (disch := decide) only [↓ View.readCov_skip, ↓ View.readCov_cons_toLoadRect, ↓ View.readCov_fill]
  frame_out
  refine (last_two _ _ _ j ?_).trans ?_
  · exact cover j
  canon_tiles x h
  · have hj : ¬(j 1).val < 512 := by omega
    simp only [part1, scale_hi hj]
    pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
      blkH, blkX, Norm.inv, Norm.ms, hi]
    rw [add_assoc]
    blk_point [iblk, V, idx t]
  · have hj : (j 1).val < 512 := by omega
    simp only [part1, scale_lo hj]
    pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
      blkH, blkX, Norm.inv, Norm.ms, lo]
    rw [add_assoc]
    blk_point [iblk, V, idx t]

/-- The row of the gain's gradient after the last point. -/
theorem acc (c : Dev nD) (t : Fin cfg0.N) (h : t.val % 8 = 8 - 1) (j : S1x1024.Idx) :
    (outsAt0 m c t.val t.isLt).2 j
      = 0 + ∑ s : Fin 8, part m c ⟨8 * (t.val / 8) + s.val, by have := t.isLt; have := s.isLt; omega⟩ j := by
  rw [Pipeline.eq_sum_fin_of_reset_step_apply_of_flush (fun n h => (outsAt0 m c n h).2) 8 (fun _ => (0 : EReal)) (part m c)
    (fun t h j => step0 m c t h j) (fun t h j => step1 m c t h j) t h j]

theorem final_dg (c : Dev nD) : (dats m 0 c).arrAt 5 (cfgs 0).N = dg m c := by
  refine (dats m 0 c).arrAt_eq_of_covers 5 _ (by decide +kernel) fun t hf y => ?_
  have h3 : t.val % 8 = 7 := (flush0_5 t).mp hf
  blk_simp
  rw [after0_5]
  dsimp only
  rw [acc m c t h3, zero_add]
  refine Fin.sum_mul_add_congr (S := 8) (n := 1024) fun s k hl => ?_
  generalize hp : (⟨8 * (t.val / 8) + s.val, _⟩ : Fin cfg0.N) = p
  have hv : p.val = 8 * (t.val / 8) + s.val := by rw [← hp]
  have ht : t.val < 8 := lt_of_lt_of_eq t.isLt N_0
  pointwise [part1, blkH, blkX, rowH, rowX, scale, Norm.inv, Norm.ms, lo, hi]
  blk_point [bX, bW, bDy, iblk, V, idx t, idx p, hv]

theorem final_dx (c : Dev nD) : (dats m 0 c).arrAt 4 (cfgs 0).N = dx m c := by
  refine (dats m 0 c).arrAt_eq_of_covers 4 _ (by decide +kernel) fun t hf y => ?_
  blk_simp
  rw [after0_4]
  have i1 : win0_4.index t 1 = 0 := by rw [(idx t).2.2.2.2.1]; rfl
  by_cases h : t.val % 8 = 0
  · rw [outsAt0_A m c t h]
    frame_open
    simp (disch := decide) only [↓ View.readCov_skip, ↓ View.readCov_cons_toLoadRect, ↓ View.readCov_fill]
    frame_out
    canon_tiles x h
    · unfold dx
      rw [dif_neg (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, hi]
      blk_point [iblk, V, idx t]
    · unfold dx
      rw [dif_pos (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, lo]
      blk_point [iblk, V, idx t]
    · unfold dx
      rw [dif_neg (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, hi]
      blk_point [iblk, V, idx t]
    · unfold dx
      rw [dif_pos (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, lo]
      blk_point [iblk, V, idx t]
  · rw [outsAt0_B m c t h]
    frame_open
    simp (disch := decide) only [↓ View.readCov_skip, ↓ View.readCov_cons_toLoadRect, ↓ View.readCov_fill]
    frame_out
    canon_tiles x h
    · unfold dx
      rw [dif_neg (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, hi]
      blk_point [iblk, V, idx t]
    · unfold dx
      rw [dif_pos (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, lo]
      blk_point [iblk, V, idx t]
    · unfold dx
      rw [dif_neg (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, hi]
      blk_point [iblk, V, idx t]
    · unfold dx
      rw [dif_pos (by blk_simp; omega)]
      pointwise [k0_pay2, k0_pay3, k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        Norm.dxK, rowX, rowH, gain, Norm.inv, Norm.ms, lo]
      blk_point [iblk, V, idx t]

/-- Every element of the arguments is a real number. -/
structure RealArgs (c : Dev nD) : Prop where
  dy : ∀ i, IsReal (aDy m c i)
  w : ∀ i, IsReal (aW m c i)
  x : ∀ i, IsReal (aX m c i)
  a : ∀ i, IsReal (aG m c i)

theorem rowH_real (c : Dev nD) (R : RealArgs m c) (r : Fin 8192) (k : Fin 1024) : IsReal (rowH (aDy m c) (aW m c) r k) := by
  unfold rowH
  exact IsReal.sum _ fun l => (R.dy _).mul (R.w _)

/-- The input's gradient as the plain backward spells it, group by group. -/
theorem dx_lo (c : Dev nD) (R : RealArgs m c) (r : Fin 8192) (j : Fin 512) :
    Norm.dxK width (lo (rowX (aX m c) r)) (lo (rowH (aDy m c) (aW m c) r)) (lo (gain (aG m c))) j
      = lo (rowH (aDy m c) (aW m c) r) j * lo (gain (aG m c)) j * Norm.inv width (lo (rowX (aX m c) r))
        + lo (rowX (aX m c) r) j * Norm.via width (lo (rowX (aX m c) r)) (lo (rowH (aDy m c) (aW m c) r)) (lo (gain (aG m c)))
        + Norm.via width (lo (rowX (aX m c) r)) (lo (rowH (aDy m c) (aW m c) r)) (lo (gain (aG m c))) * lo (rowX (aX m c) r) j := by
  rw [width, Norm.f512]
  exact Norm.row' (w := (512 : ℝ)) (x := lo (rowX (aX m c) r)) (h := lo (rowH (aDy m c) (aW m c) r)) (a := lo (gain (aG m c))) (by norm_num)
     (fun k => R.x _) (fun k => by unfold lo; exact rowH_real m c R r _) (fun k => R.a _) j

theorem dx_hi (c : Dev nD) (R : RealArgs m c) (r : Fin 8192) (j : Fin 512) :
    Norm.dxK width (hi (rowX (aX m c) r)) (hi (rowH (aDy m c) (aW m c) r)) (hi (gain (aG m c))) j
      = hi (rowH (aDy m c) (aW m c) r) j * hi (gain (aG m c)) j * Norm.inv width (hi (rowX (aX m c) r))
        + hi (rowX (aX m c) r) j * Norm.via width (hi (rowX (aX m c) r)) (hi (rowH (aDy m c) (aW m c) r)) (hi (gain (aG m c)))
        + Norm.via width (hi (rowX (aX m c) r)) (hi (rowH (aDy m c) (aW m c) r)) (hi (gain (aG m c))) * hi (rowX (aX m c) r) j := by
  rw [width, Norm.f512]
  exact Norm.row' (w := (512 : ℝ)) (x := hi (rowX (aX m c) r)) (h := hi (rowH (aDy m c) (aW m c) r)) (a := hi (gain (aG m c))) (by norm_num)
     (fun k => R.x _) (fun k => by unfold hi; exact rowH_real m c R r _) (fun k => R.a _) j

/-! ## The precondition -/

instance : Subsingleton Cert.Pre_finite11.S_.Idx := ⟨fun a b => funext fun i => i.elim0⟩

theorem real_of_pre (h : Cert.Pre_Kernel11Ideal_finite11 m) (c : Dev nD) : RealArgs m c := by
  have e := h c
  simp only [Cert.Pre_finite11.fn, Cert.Pre_finite11.fn_part1] at e
  have e := congrFun e (fun i => i.elim0)
  simp only [andi] at e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_⟩
  · have := Host.reduce_andi_all _ _ _ _ _ e0 i
    pointwise at this
    exact IsReal.of_cmp this
  · have := Host.reduce_andi_all _ _ _ _ _ e1 i
    pointwise at this
    exact IsReal.of_cmp this
  · have := Host.reduce_andi_all _ _ _ _ _ e2 i
    pointwise at this
    exact IsReal.of_cmp this
  · have := Host.reduce_andi_all _ _ _ _ _ e3 i
    pointwise at this
    exact IsReal.of_cmp this

/-! ## The claims -/

theorem run_kernel : θ_run defs (onTc (τ := τ) (main (F := Ideal))) ⟨m, fun _ => 0, g⟩ fun r => ∀ c : Dev nD,
      r.2.mem ((c : Thread nD τ).loc main_v0_0) = dx m c
      ∧ r.2.mem ((c : Thread nD τ).loc main_v0_1) = dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_dx m c), (h c).2.1.trans (final_dg m c), (h c).2.2⟩)
    (Cert.Kernel11Ideal.Value.run_blocks m g)

theorem algebraic : Cert.algebraic_Kernel11Ideal_Reference11Ideal_pre_finite11 := by
  intro m g m' g' hpre hagree
  refine ⟨fun c => dx m c, fun c => dg m c, run_kernel m g, ?_⟩
  refine (θ_run Cert.Reference11Ideal.defs _ _).mono (fun _ h c => ⟨(h c).1.trans ?_, (h c).2.1.trans ?_, (h c).2.2⟩)
    (Cert.Reference11Ideal.Value.run (F := Ideal) m' g')
  · obtain ⟨e0, e1, e2, e3⟩ := hagree c
    have R := real_of_pre m hpre c
    unfold Cert.Reference11Ideal.Value.res_main_v86
    rw [e0, e1, e2, e3]
    funext i
    have h1 : (i 1).val < 1024 := (i 1).isLt
    by_cases h : (i 1).val < 512
    · refine Eq.trans ?_ ((dif_pos h).trans (dx_lo m c R (i 0) ⟨(i 1).val, h⟩)).symm
      pointwise [rowH, rowX, gain, Norm.inv, Norm.ms, Norm.via, lo]
      simp only [Fin.sum_univ_one, dif_pos h, dif_neg (show ¬(512 ≤ (i 1).val ∧ (i 1).val - 512 < 512) by omega), zero_add]
    · refine Eq.trans ?_ ((dif_neg h).trans (dx_hi m c R (i 0) _)).symm
      pointwise [rowH, rowX, gain, Norm.inv, Norm.ms, Norm.via, hi]
      simp only [Fin.sum_univ_one, dif_neg h, dif_pos (show 512 ≤ (i 1).val ∧ (i 1).val - 512 < 512 by omega), add_zero]
  · obtain ⟨e0, e1, e2, e3⟩ := hagree c
    rw [e0, e1, e2]
    funext i
    have h1 : (i 1).val < 1024 := (i 1).isLt
    by_cases h : (i 1).val < 512
    · pointwise [dg, rowH, rowX, scale, Norm.inv, Norm.ms, lo, hi]
      simp only [Fin.sum_univ_one, dif_pos h, if_pos h, dif_neg (show ¬(512 ≤ (i 1).val ∧ (i 1).val - 512 < 512) by omega), zero_add]
      exact Finset.sum_congr rfl fun r _ => mul_comm _ _
    · pointwise [dg, rowH, rowX, scale, Norm.inv, Norm.ms, lo, hi]
      simp only [Fin.sum_univ_one, dif_neg h, if_neg h, dif_pos (show 512 ≤ (i 1).val ∧ (i 1).val - 512 < 512 by omega), add_zero]
      have e : (⟨512 + ((i 1).val - 512), by omega⟩ : Fin 1024) = i 1 := Fin.ext (by simp only []; omega)
      simp only [e]
      exact Finset.sum_congr rfl fun r _ => mul_comm _ _

theorem frame_ref (m : (ℓ : Loc Cert.Reference11Ideal.nD Cert.Reference11Ideal.τ Cert.Reference11Ideal.sig) → Buf (Elt Ideal) ℓ)
    (g : Dev Cert.Reference11Ideal.nD → PrngReg) :
    θ_run Cert.Reference11Ideal.defs (onTc (τ := Cert.Reference11Ideal.τ) (Cert.Reference11Ideal.main (F := Ideal))) ⟨m, fun _ => 0, g⟩
      fun r => (∀ c : Dev Cert.Reference11Ideal.nD,
        r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
        ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
        ∧ r.2.sem = fun _ => 0 :=
  (θ_run Cert.Reference11Ideal.defs _ _).mono (fun r h => ⟨fun c => (h c).2.2,
      Idealize.ShloMosaic.sem_eq_zero_of_no_sems (by decide) r.2⟩)
    (Cert.Reference11Ideal.Value.run (F := Ideal) m g)

end Cert.Proof.NormOut

end
-- ==== Proof.AttnRef.lean ====
module

public import proofs.«01_k».proof.Defs
public import proofs.«01_k».proof.Proof.Gen.Reference2Ideal.Run
public import Idealize.ShloMosaic.Lib.Claim

/-! The run of the attention's plain backward. -/

@[expose] public section

noncomputable section

namespace Cert.Proof.AttnRef

open Idealize.ShloMosaic Idealize.ShloMosaic.TcCoe Idealize.SL.Sem
open Cert.Reference2Ideal

variable (m : (ℓ : Loc nD τ sig) → Buf (Elt Ideal) ℓ) (g : Dev nD → PrngReg)

theorem frame :
    θ_run defs (onTc (τ := τ) (main (F := Ideal))) ⟨m, fun _ => 0, g⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => (h c).2.2.2.2, sem_eq_zero_of_no_sems (by decide) r.2⟩)
    (Cert.Reference2Ideal.Value.run (F := Ideal) m g)

end Cert.Proof.AttnRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.FfnDown
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6.Skeleton
public import proofs.«01_k».proof.Proof.Gen.Kernel6Ideal.Skeleton
public import proofs.«01_k».proof.Proof.Gen.Kernel6.Launch
public import proofs.«01_k».proof.Proof.Gen.Kernel6Ideal.Launch
public import proofs.«01_k».proof.Proof.Gen.Kernel6.Points
public import proofs.«01_k».proof.Proof.Gen.Kernel6Ideal.Points
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Kernel7.Points
public import proofs.«01_k».proof.Proof.Gen.Kernel7Ideal.Points
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Kernel8.Points
public import proofs.«01_k».proof.Proof.Gen.Kernel8Ideal.Points
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9.Skeleton
public import proofs.«01_k».proof.Proof.Gen.Kernel9Ideal.Skeleton
public import proofs.«01_k».proof.Proof.Gen.Kernel9.Launch
public import proofs.«01_k».proof.Proof.Gen.Kernel9Ideal.Launch
public import proofs.«01_k».proof.Proof.Gen.Kernel9.Points
public import proofs.«01_k».proof.Proof.Gen.Kernel9Ideal.Points
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.Gen.Kernel10
public import proofs.«01_k».proof.Proof.Gen.Kernel10Ideal
public import proofs.«01_k».proof.Proof.Gen.Kernel10.Skeleton
public import proofs.«01_k».proof.Proof.Gen.Kernel10Ideal.Skeleton
public import proofs.«01_k».proof.Proof.Gen.Kernel10.Launch
public import proofs.«01_k».proof.Proof.Gen.Kernel10Ideal.Launch
public import proofs.«01_k».proof.Proof.Gen.Kernel10.Points
public import proofs.«01_k».proof.Proof.Gen.Kernel10Ideal.Points
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite10
public import proofs.«01_k».proof.Proof.Gen.Kernel11
public import proofs.«01_k».proof.Proof.Gen.Kernel11Ideal
public import proofs.«01_k».proof.Proof.Gen.Kernel11.Skeleton
public import proofs.«01_k».proof.Proof.Gen.Kernel11Ideal.Skeleton
public import proofs.«01_k».proof.Proof.Gen.Kernel11.Launch
public import proofs.«01_k».proof.Proof.Gen.Kernel11Ideal.Launch
public import proofs.«01_k».proof.Proof.Gen.Kernel11.Points
public import proofs.«01_k».proof.Proof.Gen.Kernel11Ideal.Points
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_finite11
public import proofs.«01_k».proof.Proof.AttnRun
public import proofs.«01_k».proof.Proof.Products
public import proofs.«01_k».proof.Proof.AttnRunBits
public import proofs.«01_k».proof.Proof.AttnClaim
public import proofs.«01_k».proof.Proof.NormUp
public import proofs.«01_k».proof.Proof.NormIn
public import proofs.«01_k».proof.Proof.NormOut
public import proofs.«01_k».proof.Proof.AttnRef
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite.Gen.facts, AttnClaim.pre_facts, Cert.Pre_finite9.Gen.facts, Cert.Pre_finite10.Gen.facts, Cert.Pre_finite11.Gen.facts,
    fun m g _ => Cert.Kernel.Gen.frame m g, fun m g _ => Cert.KernelIdeal.Gen.frame m g, fun m g _ => Cert.KernelIdeal.Gen.frame m g,
    fun m g _ => FfnDown.frame_ref m g, fun m g _ => FfnDown.frame_ref m g,
    fun m g _ => AttnRunBits.frame m g, fun m g _ => AttnRun.frame m g, fun m g _ => AttnRun.frame m g,
    fun m g _ => AttnRef.frame m g, fun m g _ => AttnRef.frame m g,
    fun m g _ => Cert.Kernel3.Gen.frame m g, fun m g _ => Cert.Kernel3Ideal.Gen.frame m g, fun m g _ => GwDown.frame_ref m g,
    fun m g _ => Cert.Kernel4.Gen.frame m g, fun m g _ => Cert.Kernel4Ideal.Gen.frame m g, fun m g _ => GwGate.frame_ref m g,
    fun m g _ => Cert.Kernel5.Gen.frame m g, fun m g _ => Cert.Kernel5Ideal.Gen.frame m g, fun m g _ => GwUp.frame_ref m g,
    fun m g _ => Cert.Kernel6.Gen.frame m g, fun m g _ => Cert.Kernel6Ideal.Gen.frame m g, fun m g _ => GwOut.frame_ref m g,
    fun m g _ => Cert.Kernel7.Gen.frame m g, fun m g _ => Cert.Kernel7Ideal.Gen.frame m g, fun m g _ => GwIn.frame_ref m g,
    fun m g _ => Cert.Kernel8.Gen.frame m g, fun m g _ => Cert.Kernel8Ideal.Gen.frame m g, fun m g _ => DGate.frame_ref m g,
    fun m g _ => Cert.Kernel9.Gen.frame m g, fun m g _ => Cert.Kernel9Ideal.Gen.frame m g, fun m g _ => Cert.Kernel9Ideal.Gen.frame m g,
    fun m g _ => NormUp.frame_ref m g, fun m g _ => NormUp.frame_ref m g,
    fun m g _ => Cert.Kernel10.Gen.frame m g, fun m g _ => Cert.Kernel10Ideal.Gen.frame m g, fun m g _ => Cert.Kernel10Ideal.Gen.frame m g,
    fun m g _ => NormIn.frame_ref m g, fun m g _ => NormIn.frame_ref m g,
    fun m g _ => Cert.Kernel11.Gen.frame m g, fun m g _ => Cert.Kernel11Ideal.Gen.frame m g, fun m g _ => Cert.Kernel11Ideal.Gen.frame m g,
    fun m g _ => NormOut.frame_ref m g, fun m g _ => NormOut.frame_ref m g,
    trivial, FfnDown.algebraic,
    trivial, AttnClaim.algebraic,
    trivial, GwDown.algebraic,
    trivial, GwGate.algebraic,
    trivial, GwUp.algebraic,
    trivial, GwOut.algebraic,
    trivial, GwIn.algebraic,
    trivial, DGate.algebraic,
    trivial, NormUp.algebraic,
    trivial, NormIn.algebraic,
    trivial, NormOut.algebraic⟩

end Cert.Proof

end
